-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_keys_finite [hPre_keys_finite : Cert.Pre_keys_finite.Facts] (m : (ℓ : Loc Cert.KernelIdeal.nD Cert.KernelIdeal.τ Cert.KernelIdeal.sig) → Buf (Elt Ideal) ℓ) : Prop :=
  ∀ c : Dev Cert.KernelIdeal.nD,
    (Cert.Pre_keys_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_keys_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_keys_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_keys_finite [hPre_keys_finite : Cert.Pre_keys_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_keys_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_keys_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_keys_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_keys_finite [hKernelIdeal : Cert.KernelIdeal.Facts] [hPre_keys_finite : Cert.Pre_keys_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_keys_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_keys_finite [hReferenceIdeal : Cert.ReferenceIdeal.Facts] [hPre_keys_finite : Cert.Pre_keys_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_keys_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  IdealRules.named_const.Statement Cert.KernelIdeal.κ "mask" .f32 0xFF7F0000#32 ⊥

def algebraic_KernelIdeal_ReferenceIdeal_pre_keys_finite [hKernelIdeal : Cert.KernelIdeal.Facts] [hReferenceIdeal : Cert.ReferenceIdeal.Facts] [hPre_keys_finite : Cert.Pre_keys_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_keys_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)) (v2 : (c : Dev Cert.KernelIdeal.nD) → Buf (Elt Ideal) ((c.tc : Thread Cert.KernelIdeal.nD Cert.KernelIdeal.τ).loc Cert.KernelIdeal.main_v17_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_v17_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v30) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v23) = v0 c
          ∧ r.2.mem ((c.tc : Thread Cert.Reference3Ideal.nD Cert.Reference3Ideal.τ).loc Cert.Reference3Ideal.main_v26) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v32) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v15) = v0 c
          ∧ r.2.mem ((c.tc : Thread Cert.Reference6Ideal.nD Cert.Reference6Ideal.τ).loc Cert.Reference6Ideal.main_v17) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_keys_finite : Cert.Pre_keys_finite.Facts),
    quiescent_Kernel (hKernel := hKernel)
    ∧ quiescent_KernelIdeal (hKernelIdeal := hKernelIdeal)
    ∧ quiescent_KernelIdeal_pre_keys_finite (hKernelIdeal := hKernelIdeal) (hPre_keys_finite := hPre_keys_finite)
    ∧ quiescent_ReferenceIdeal (hReferenceIdeal := hReferenceIdeal)
    ∧ quiescent_ReferenceIdeal_pre_keys_finite (hReferenceIdeal := hReferenceIdeal) (hPre_keys_finite := hPre_keys_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_keys_finite (hKernelIdeal := hKernelIdeal) (hReferenceIdeal := hReferenceIdeal) (hPre_keys_finite := hPre_keys_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_keys_finite.lean ====
abbrev S4x4096x16x192 : Shape := ⟨4, ![4, 4096, 16, 192]⟩
abbrev S4x4096x16x128 : Shape := ⟨4, ![4, 4096, 16, 128]⟩
abbrev S4x4096x64 : Shape := ⟨3, ![4, 4096, 64]⟩
abbrev S4096x11008 : Shape := ⟨2, ![4096, 11008]⟩
abbrev S_ : Shape := ⟨0, ![]⟩

class Facts : Prop where
  bcast_S_S4x4096x16x192 : S_.BroadcastsInDim S4x4096x16x192 (![] : Fin 0 → Fin S4x4096x16x192.rank)
  bcast_S_S4x4096x16x128 : S_.BroadcastsInDim S4x4096x16x128 (![] : Fin 0 → Fin S4x4096x16x128.rank)
  bcast_S_S4x4096x64 : S_.BroadcastsInDim S4x4096x64 (![] : Fin 0 → Fin S4x4096x64.rank)

variable [Facts]

def fn {F : FTy → Type} [FloatOps F] (main_arg0 : FVec F S4x4096x16x192 .f32) (main_arg1 : FVec F S4x4096x16x128 .f32) (main_arg2 : FVec F S4x4096x64 .f32) (main_arg3 : FVec F S4x4096x16x128 .f32) (main_arg4 : FVec F S4096x11008 .f32) (main_arg5 : FVec F S4096x11008 .f32) : IVec S4x4096x16x192 1 × IVec S4x4096x16x128 1 × IVec S4x4096x64 1 :=
  let main_v0 : FVec F S4x4096x16x192 .f32 := Host.absf main_arg0
  let main_cst : FVec F S_ .f32 := constant S_ .f32 0x7F800000#32
  let main_v1 : FVec F S4x4096x16x192 .f32 := broadcastInDim S4x4096x16x192 ![] bcast_S_S4x4096x16x192 main_cst
  let main_v2 : IVec S4x4096x16x192 1 := cmpf .olt main_v0 main_v1
  let main_v3 : FVec F S4x4096x16x128 .f32 := Host.absf main_arg1
  let main_cst_0 : FVec F S_ .f32 := constant S_ .f32 0x7F800000#32
  let main_v4 : FVec F S4x4096x16x128 .f32 := broadcastInDim S4x4096x16x128 ![] bcast_S_S4x4096x16x128 main_cst_0
  let main_v5 : IVec S4x4096x16x128 1 := cmpf .olt main_v3 main_v4
  let main_v6 : FVec F S4x4096x64 .f32 := Host.absf main_arg2
  let main_cst_1 : FVec F S_ .f32 := constant S_ .f32 0x7F800000#32
  let main_v7 : FVec F S4x4096x64 .f32 := broadcastInDim S4x4096x64 ![] bcast_S_S4x4096x64 main_cst_1
  let main_v8 : IVec S4x4096x64 1 := cmpf .olt main_v6 main_v7
  (main_v2, main_v5, main_v8)
-- ==== Kernel.lean ====
abbrev S4x4096x16x192 : Shape := ⟨4, ![4, 4096, 16, 192]⟩
abbrev S4x4096x16x128 : Shape := ⟨4, ![4, 4096, 16, 128]⟩
abbrev S4x4096x64 : Shape := ⟨3, ![4, 4096, 64]⟩
abbrev S4096x11008 : Shape := ⟨2, ![4096, 11008]⟩
abbrev S_ : Shape := ⟨0, ![]⟩
abbrev S4x4096x16x64 : Shape := ⟨4, ![4, 4096, 16, 64]⟩
abbrev S4x4096x16x256 : Shape := ⟨4, ![4, 4096, 16, 256]⟩
abbrev S16384x4096 : Shape := ⟨2, ![16384, 4096]⟩
abbrev S16384x2048 : Shape := ⟨2, ![16384, 2048]⟩
abbrev S16384x64 : Shape := ⟨2, ![16384, 64]⟩
abbrev S16384x128 : Shape := ⟨2, ![16384, 128]⟩
abbrev S1024x1024 : Shape := ⟨2, ![1024, 1024]⟩
abbrev S4096x512 : Shape := ⟨2, ![4096, 512]⟩
abbrev S4096x128 : Shape := ⟨2, ![4096, 128]⟩
abbrev S64x11008 : Shape := ⟨2, ![64, 11008]⟩
abbrev S1024x512 : Shape := ⟨2, ![1024, 512]⟩
abbrev S8x512x128 : Shape := ⟨3, ![8, 512, 128]⟩
abbrev S1024x128 : Shape := ⟨2, ![1024, 128]⟩
abbrev S1024x256 : Shape := ⟨2, ![1024, 256]⟩
abbrev S512x256 : Shape := ⟨2, ![512, 256]⟩
abbrev S512x1024 : Shape := ⟨2, ![512, 1024]⟩
abbrev S512x128 : Shape := ⟨2, ![512, 128]⟩
abbrev S1x512x128 : Shape := ⟨3, ![1, 512, 128]⟩
abbrev S512 : Shape := ⟨1, ![512]⟩
abbrev S512x1 : Shape := ⟨2, ![512, 1]⟩
abbrev S512x512 : Shape := ⟨2, ![512, 512]⟩

abbrev nBuf : Space → Nat
  | .hbm => 30
  | .vmem => 21
  | .smem => 0
  | _ => 0

abbrev bufTy : (tb : Table) → Fin (tcTables nBuf tb) → BufTy
  | .hbm, ⟨0, _⟩ => ⟨S4x4096x16x192, .f32⟩
  | .hbm, ⟨1, _⟩ => ⟨S4x4096x16x128, .f32⟩
  | .hbm, ⟨2, _⟩ => ⟨S4x4096x64, .f32⟩
  | .hbm, ⟨3, _⟩ => ⟨S4x4096x16x128, .f32⟩
  | .hbm, ⟨4, _⟩ => ⟨S4096x11008, .f32⟩
  | .hbm, ⟨5, _⟩ => ⟨S4096x11008, .f32⟩
  | .hbm, ⟨6, _⟩ => ⟨S_, .f32⟩
  | .hbm, ⟨7, _⟩ => ⟨S4x4096x16x64, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4x4096x16x192, .f32⟩
  | .hbm, ⟨14, _⟩ => ⟨S4x4096x16x192, .f32⟩
  | .hbm, ⟨15, _⟩ => ⟨S4x4096x16x256, .f32⟩
  | .hbm, ⟨16, _⟩ => ⟨S16384x4096, .f32⟩
  | .hbm, ⟨17, _⟩ => ⟨S16384x4096, .bf16⟩
  | .hbm, ⟨18, _⟩ => ⟨S16384x2048, .f32⟩
  | .hbm, ⟨19, _⟩ => ⟨S16384x2048, .f32⟩
  | .hbm, ⟨20, _⟩ => ⟨S16384x4096, .f32⟩
  | .hbm, ⟨21, _⟩ => ⟨S16384x4096, .bf16⟩
  | .hbm, ⟨22, _⟩ => ⟨S16384x64, .f32⟩
  | .hbm, ⟨23, _⟩ => ⟨S_, .f32⟩
  | .hbm, ⟨24, _⟩ => ⟨S16384x64, .f32⟩
  | .hbm, ⟨25, _⟩ => ⟨S16384x128, .f32⟩
  | .hbm, ⟨26, _⟩ => ⟨S16384x128, .bf16⟩
  | .hbm, ⟨27, _⟩ => ⟨S16384x2048, .bf16⟩
  | .hbm, ⟨28, _⟩ => ⟨S4096x11008, .bf16⟩
  | .hbm, ⟨29, _⟩ => ⟨S4096x11008, .bf16⟩
  | .local _ .vmem, ⟨0, _⟩ => ⟨S1024x1024, .bf16⟩
  | .local _ .vmem, ⟨1, _⟩ => ⟨S1024x1024, .bf16⟩
  | .local _ .vmem, ⟨2, _⟩ => ⟨S4096x512, .bf16⟩
  | .local _ .vmem, ⟨3, _⟩ => ⟨S4096x512, .bf16⟩
  | .local _ .vmem, ⟨4, _⟩ => ⟨S4096x128, .bf16⟩
  | .local _ .vmem, ⟨5, _⟩ => ⟨S4096x128, .bf16⟩
  | .local _ .vmem, ⟨6, _⟩ => ⟨S4096x512, .bf16⟩
  | .local _ .vmem, ⟨7, _⟩ => ⟨S4096x512, .bf16⟩
  | .local _ .vmem, ⟨8, _⟩ => ⟨S64x11008, .f32⟩
  | .local _ .vmem, ⟨9, _⟩ => ⟨S64x11008, .f32⟩
  | .local _ .vmem, ⟨10, _⟩ => ⟨S64x11008, .f32⟩
  | .local _ .vmem, ⟨11, _⟩ => ⟨S64x11008, .f32⟩
  | .local _ .vmem, ⟨12, _⟩ => ⟨S1024x512, .bf16⟩
  | .local _ .vmem, ⟨13, _⟩ => ⟨S1024x512, .bf16⟩
  | .local _ .vmem, ⟨14, _⟩ => ⟨S64x11008, .bf16⟩
  | .local _ .vmem, ⟨15, _⟩ => ⟨S64x11008, .bf16⟩
  | .local _ .vmem, ⟨16, _⟩ => ⟨S64x11008, .bf16⟩
  | .local _ .vmem, ⟨17, _⟩ => ⟨S64x11008, .bf16⟩
  | .local _ .vmem, ⟨18, _⟩ => ⟨S8x512x128, .f32⟩
  | .local _ .vmem, ⟨19, _⟩ => ⟨S8x512x128, .f32⟩
  | .local _ .vmem, ⟨20, _⟩ => ⟨S8x512x128, .f32⟩
  | _, _ => ⟨S4x4096x16x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17_0 : Ref sig .tc := ⟨.hbm, 27, rfl⟩
abbrev main_v17_1 : Ref sig .tc := ⟨.hbm, 28, rfl⟩
abbrev main_v17_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 4, 4], ![false, false, false]⟩

@[reducible] def k0_t1_loop (i : grid0.Coords) : Scf.Loop 32 :=
  let c0_i32_18 : BitVec 32 := 0#32
  let arg2 : BitVec 32 := BitVec.ofNat 32 (i 2).val
  let v18 : BitVec 32 := Scalar.subi arg2 c0_i32_18
  let c1_i32 : BitVec 32 := 1#32
  let v20 : BitVec 32 := Scalar.divsi v18 c1_i32
  let v21 : BitVec 32 := Scalar.muli v20 c1_i32
  let v22 : BitVec 32 := Scalar.addi c0_i32_18 v21
  let c1_i32_19 : BitVec 32 := 1#32
  ⟨c0_i32_18, v22, c1_i32_19⟩
def k0_mult1 (i : grid0.Coords) (k0_t1 : Fin (k0_t1_loop i).trips) : BitVec 32 :=
  let c0_i32_18 : BitVec 32 := 0#32
  let c1_i32_19 : BitVec 32 := 1#32
  let arg15 : BitVec 32 := Scf.iv c0_i32_18 c1_i32_19 k0_t1
  let c1024_i32_341 : BitVec 32 := 1024#32
  let v807 : BitVec 32 := Scalar.muli arg15 c1024_i32_341
  v807
def k0_off1 (i : grid0.Coords) (k0_t1 : Fin (k0_t1_loop i).trips) : Fin 2 → Nat :=
  let c0_i32_18 : BitVec 32 := 0#32
  let c1_i32_19 : BitVec 32 := 1#32
  let arg15 : BitVec 32 := Scf.iv c0_i32_18 c1_i32_19 k0_t1
  let c1024_i32_341 : BitVec 32 := 1024#32
  let v807 : BitVec 32 := Scalar.muli arg15 c1024_i32_341
  let v808 : BitVec 32 := v807
  let v809 : Index := Scalar.indexCast v808
  let c0_342 : Index := 0#32
  ![v809.toNat, 0]
def k0_off2 (i : grid0.Coords) (k0_t1 : Fin (k0_t1_loop i).trips) : Fin 2 → Nat :=
  let c0_i32_18 : BitVec 32 := 0#32
  let c1_i32_19 : BitVec 32 := 1#32
  let arg15 : BitVec 32 := Scf.iv c0_i32_18 c1_i32_19 k0_t1
  let c1024_i32_341 : BitVec 32 := 1024#32
  let v807 : BitVec 32 := Scalar.muli arg15 c1024_i32_341
  let v808 : BitVec 32 := v807
  let v812 : Index := Scalar.indexCast v808
  let c0_343 : Index := 0#32
  ![v812.toNat, 0]
def k0_mult2 (i : grid0.Coords) (k0_t1 : Fin (k0_t1_loop i).trips) : BitVec 32 :=
  let c0_i32_18 : BitVec 32 := 0#32
  let c1_i32_19 : BitVec 32 := 1#32
  let arg15 : BitVec 32 := Scf.iv c0_i32_18 c1_i32_19 k0_t1
  let c1024_i32_391 : BitVec 32 := 1024#32
  let v957 : BitVec 32 := Scalar.muli arg15 c1024_i32_391
  v957
def k0_off3 (i : grid0.Coords) (k0_t1 : Fin (k0_t1_loop i).trips) : Fin 2 → Nat :=
  let c0_i32_18 : BitVec 32 := 0#32
  let c1_i32_19 : BitVec 32 := 1#32
  let arg15 : BitVec 32 := Scf.iv c0_i32_18 c1_i32_19 k0_t1
  let c1024_i32_391 : BitVec 32 := 1024#32
  let v957 : BitVec 32 := Scalar.muli arg15 c1024_i32_391
  let v958 : BitVec 32 := v957
  let v959 : Index := Scalar.indexCast v958
  let c128_392 : Index := 128#32
  ![v959.toNat, 128]
def k0_mult3 (i : grid0.Coords) (k0_t1 : Fin (k0_t1_loop i).trips) : BitVec 32 :=
  let c0_i32_18 : BitVec 32 := 0#32
  let c1_i32_19 : BitVec 32 := 1#32
  let arg15 : BitVec 32 := Scf.iv c0_i32_18 c1_i32_19 k0_t1
  let c1024_i32_441 : BitVec 32 := 1024#32
  let v1107 : BitVec 32 := Scalar.muli arg15 c1024_i32_441
  v1107
def k0_off4 (i : grid0.Coords) (k0_t1 : Fin (k0_t1_loop i).trips) : Fin 2 → Nat :=
  let c0_i32_18 : BitVec 32 := 0#32
  let c1_i32_19 : BitVec 32 := 1#32
  let arg15 : BitVec 32 := Scf.iv c0_i32_18 c1_i32_19 k0_t1
  let c1024_i32_441 : BitVec 32 := 1024#32
  let v1107 : BitVec 32 := Scalar.muli arg15 c1024_i32_441
  let v1108 : BitVec 32 := v1107
  let v1109 : Index := Scalar.indexCast v1108
  let c256_442 : Index := 256#32
  ![v1109.toNat, 256]
def k0_mult4 (i : grid0.Coords) (k0_t1 : Fin (k0_t1_loop i).trips) : BitVec 32 :=
  let c0_i32_18 : BitVec 32 := 0#32
  let c1_i32_19 : BitVec 32 := 1#32
  let arg15 : BitVec 32 := Scf.iv c0_i32_18 c1_i32_19 k0_t1
  let c1024_i32_491 : BitVec 32 := 1024#32
  let v1257 : BitVec 32 := Scalar.muli arg15 c1024_i32_491
  v1257
def k0_off5 (i : grid0.Coords) (k0_t1 : Fin (k0_t1_loop i).trips) : Fin 2 → Nat :=
  let c0_i32_18 : BitVec 32 := 0#32
  let c1_i32_19 : BitVec 32 := 1#32
  let arg15 : BitVec 32 := Scf.iv c0_i32_18 c1_i32_19 k0_t1
  let c1024_i32_491 : BitVec 32 := 1024#32
  let v1257 : BitVec 32 := Scalar.muli arg15 c1024_i32_491
  let v1258 : BitVec 32 := v1257
  let v1259 : Index := Scalar.indexCast v1258
  let c384_492 : Index := 384#32
  ![v1259.toNat, 384]
@[reducible] def k0_t2_loop (i : grid0.Coords) : Scf.Loop 32 :=
  let c0_i32_18 : BitVec 32 := 0#32
  let arg2 : BitVec 32 := BitVec.ofNat 32 (i 2).val
  let v18 : BitVec 32 := Scalar.subi arg2 c0_i32_18
  let c1_i32 : BitVec 32 := 1#32
  let v20 : BitVec 32 := Scalar.divsi v18 c1_i32
  let v21 : BitVec 32 := Scalar.muli v20 c1_i32
  let v22 : BitVec 32 := Scalar.addi c0_i32_18 v21
  let v19 : BitVec 32 := Scalar.addi c0_i32_18 v18
  let c1_i32_20 : BitVec 32 := 1#32
  ⟨v22, v19, c1_i32_20⟩
def k0_mult5 (i : grid0.Coords) (k0_t2 : Fin (k0_t2_loop i).trips) : BitVec 32 :=
  let c0_i32_18 : BitVec 32 := 0#32
  let arg2 : BitVec 32 := BitVec.ofNat 32 (i 2).val
  let v18 : BitVec 32 := Scalar.subi arg2 c0_i32_18
  let c1_i32 : BitVec 32 := 1#32
  let v20 : BitVec 32 := Scalar.divsi v18 c1_i32
  let v21 : BitVec 32 := Scalar.muli v20 c1_i32
  let v22 : BitVec 32 := Scalar.addi c0_i32_18 v21
  let c1_i32_20 : BitVec 32 := 1#32
  let arg15 : BitVec 32 := Scf.iv v22 c1_i32_20 k0_t2
  let c1024_i32_341 : BitVec 32 := 1024#32
  let v807 : BitVec 32 := Scalar.muli arg15 c1024_i32_341
  v807
def k0_off6 (i : grid0.Coords) (k0_t2 : Fin (k0_t2_loop i).trips) : Fin 2 → Nat :=
  let c0_i32_18 : BitVec 32 := 0#32
  let arg2 : BitVec 32 := BitVec.ofNat 32 (i 2).val
  let v18 : BitVec 32 := Scalar.subi arg2 c0_i32_18
  let c1_i32 : BitVec 32 := 1#32
  let v20 : BitVec 32 := Scalar.divsi v18 c1_i32
  let v21 : BitVec 32 := Scalar.muli v20 c1_i32
  let v22 : BitVec 32 := Scalar.addi c0_i32_18 v21
  let c1_i32_20 : BitVec 32 := 1#32
  let arg15 : BitVec 32 := Scf.iv v22 c1_i32_20 k0_t2
  let c1024_i32_341 : BitVec 32 := 1024#32
  let v807 : BitVec 32 := Scalar.muli arg15 c1024_i32_341
  let v808 : BitVec 32 := v807
  let v809 : Index := Scalar.indexCast v808
  let c0_342 : Index := 0#32
  ![v809.toNat, 0]
def k0_off7 (i : grid0.Coords) (k0_t2 : Fin (k0_t2_loop i).trips) : Fin 2 → Nat :=
  let c0_i32_18 : BitVec 32 := 0#32
  let arg2 : BitVec 32 := BitVec.ofNat 32 (i 2).val
  let v18 : BitVec 32 := Scalar.subi arg2 c0_i32_18
  let c1_i32 : BitVec 32 := 1#32
  let v20 : BitVec 32 := Scalar.divsi v18 c1_i32
  let v21 : BitVec 32 := Scalar.muli v20 c1_i32
  let v22 : BitVec 32 := Scalar.addi c0_i32_18 v21
  let c1_i32_20 : BitVec 32 := 1#32
  let arg15 : BitVec 32 := Scf.iv v22 c1_i32_20 k0_t2
  let c1024_i32_341 : BitVec 32 := 1024#32
  let v807 : BitVec 32 := Scalar.muli arg15 c1024_i32_341
  let v808 : BitVec 32 := v807
  let v812 : Index := Scalar.indexCast v808
  let c0_343 : Index := 0#32
  ![v812.toNat, 0]
def k0_mult6 (i : grid0.Coords) (k0_t2 : Fin (k0_t2_loop i).trips) : BitVec 32 :=
  let c0_i32_18 : BitVec 32 := 0#32
  let arg2 : BitVec 32 := BitVec.ofNat 32 (i 2).val
  let v18 : BitVec 32 := Scalar.subi arg2 c0_i32_18
  let c1_i32 : BitVec 32 := 1#32
  let v20 : BitVec 32 := Scalar.divsi v18 c1_i32
  let v21 : BitVec 32 := Scalar.muli v20 c1_i32
  let v22 : BitVec 32 := Scalar.addi c0_i32_18 v21
  let c1_i32_20 : BitVec 32 := 1#32
  let arg15 : BitVec 32 := Scf.iv v22 c1_i32_20 k0_t2
  let c1024_i32_391 : BitVec 32 := 1024#32
  let v957 : BitVec 32 := Scalar.muli arg15 c1024_i32_391
  v957
def k0_off8 (i : grid0.Coords) (k0_t2 : Fin (k0_t2_loop i).trips) : Fin 2 → Nat :=
  let c0_i32_18 : BitVec 32 := 0#32
  let arg2 : BitVec 32 := BitVec.ofNat 32 (i 2).val
  let v18 : BitVec 32 := Scalar.subi arg2 c0_i32_18
  let c1_i32 : BitVec 32 := 1#32
  let v20 : BitVec 32 := Scalar.divsi v18 c1_i32
  let v21 : BitVec 32 := Scalar.muli v20 c1_i32
  let v22 : BitVec 32 := Scalar.addi c0_i32_18 v21
  let c1_i32_20 : BitVec 32 := 1#32
  let arg15 : BitVec 32 := Scf.iv v22 c1_i32_20 k0_t2
  let c1024_i32_391 : BitVec 32 := 1024#32
  let v957 : BitVec 32 := Scalar.muli arg15 c1024_i32_391
  let v958 : BitVec 32 := v957
  let v959 : Index := Scalar.indexCast v958
  let c128_392 : Index := 128#32
  ![v959.toNat, 128]
def k0_mult7 (i : grid0.Coords) (k0_t2 : Fin (k0_t2_loop i).trips) : BitVec 32 :=
  let c0_i32_18 : BitVec 32 := 0#32
  let arg2 : BitVec 32 := BitVec.ofNat 32 (i 2).val
  let v18 : BitVec 32 := Scalar.subi arg2 c0_i32_18
  let c1_i32 : BitVec 32 := 1#32
  let v20 : BitVec 32 := Scalar.divsi v18 c1_i32
  let v21 : BitVec 32 := Scalar.muli v20 c1_i32
  let v22 : BitVec 32 := Scalar.addi c0_i32_18 v21
  let c1_i32_20 : BitVec 32 := 1#32
  let arg15 : BitVec 32 := Scf.iv v22 c1_i32_20 k0_t2
  let c1024_i32_441 : BitVec 32 := 1024#32
  let v1107 : BitVec 32 := Scalar.muli arg15 c1024_i32_441
  v1107
def k0_off9 (i : grid0.Coords) (k0_t2 : Fin (k0_t2_loop i).trips) : Fin 2 → Nat :=
  let c0_i32_18 : BitVec 32 := 0#32
  let arg2 : BitVec 32 := BitVec.ofNat 32 (i 2).val
  let v18 : BitVec 32 := Scalar.subi arg2 c0_i32_18
  let c1_i32 : BitVec 32 := 1#32
  let v20 : BitVec 32 := Scalar.divsi v18 c1_i32
  let v21 : BitVec 32 := Scalar.muli v20 c1_i32
  let v22 : BitVec 32 := Scalar.addi c0_i32_18 v21
  let c1_i32_20 : BitVec 32 := 1#32
  let arg15 : BitVec 32 := Scf.iv v22 c1_i32_20 k0_t2
  let c1024_i32_441 : BitVec 32 := 1024#32
  let v1107 : BitVec 32 := Scalar.muli arg15 c1024_i32_441
  let v1108 : BitVec 32 := v1107
  let v1109 : Index := Scalar.indexCast v1108
  let c256_442 : Index := 256#32
  ![v1109.toNat, 256]
def k0_mult8 (i : grid0.Coords) (k0_t2 : Fin (k0_t2_loop i).trips) : BitVec 32 :=
  let c0_i32_18 : BitVec 32 := 0#32
  let arg2 : BitVec 32 := BitVec.ofNat 32 (i 2).val
  let v18 : BitVec 32 := Scalar.subi arg2 c0_i32_18
  let c1_i32 : BitVec 32 := 1#32
  let v20 : BitVec 32 := Scalar.divsi v18 c1_i32
  let v21 : BitVec 32 := Scalar.muli v20 c1_i32
  let v22 : BitVec 32 := Scalar.addi c0_i32_18 v21
  let c1_i32_20 : BitVec 32 := 1#32
  let arg15 : BitVec 32 := Scf.iv v22 c1_i32_20 k0_t2
  let c1024_i32_491 : BitVec 32 := 1024#32
  let v1257 : BitVec 32 := Scalar.muli arg15 c1024_i32_491
  v1257
def k0_off10 (i : grid0.Coords) (k0_t2 : Fin (k0_t2_loop i).trips) : Fin 2 → Nat :=
  let c0_i32_18 : BitVec 32 := 0#32
  let arg2 : BitVec 32 := BitVec.ofNat 32 (i 2).val
  let v18 : BitVec 32 := Scalar.subi arg2 c0_i32_18
  let c1_i32 : BitVec 32 := 1#32
  let v20 : BitVec 32 := Scalar.divsi v18 c1_i32
  let v21 : BitVec 32 := Scalar.muli v20 c1_i32
  let v22 : BitVec 32 := Scalar.addi c0_i32_18 v21
  let c1_i32_20 : BitVec 32 := 1#32
  let arg15 : BitVec 32 := Scf.iv v22 c1_i32_20 k0_t2
  let c1024_i32_491 : BitVec 32 := 1024#32
  let v1257 : BitVec 32 := Scalar.muli arg15 c1024_i32_491
  let v1258 : BitVec 32 := v1257
  let v1259 : Index := Scalar.indexCast v1258
  let c384_492 : Index := 384#32
  ![v1259.toNat, 384]
def k0_mult9 (i : grid0.Coords) : BitVec 32 :=
  let arg2 : BitVec 32 := BitVec.ofNat 32 (i 2).val
  let c1024_i32 : BitVec 32 := 1024#32
  let v23 : BitVec 32 := Scalar.muli arg2 c1024_i32
  v23
def k0_off11 (i : grid0.Coords) : Fin 2 → Nat :=
  let arg2 : BitVec 32 := BitVec.ofNat 32 (i 2).val
  let c1024_i32 : BitVec 32 := 1024#32
  let v23 : BitVec 32 := Scalar.muli arg2 c1024_i32
  let v24 : BitVec 32 := v23
  let v25 : Index := Scalar.indexCast v24
  let c0_21 : Index := 0#32
  ![v25.toNat, 0]
def k0_off12 (i : grid0.Coords) : Fin 2 → Nat :=
  let arg2 : BitVec 32 := BitVec.ofNat 32 (i 2).val
  let c1024_i32 : BitVec 32 := 1024#32
  let v23 : BitVec 32 := Scalar.muli arg2 c1024_i32
  let v24 : BitVec 32 := v23
  let v28 : Index := Scalar.indexCast v24
  let c0_22 : Index := 0#32
  ![v28.toNat, 0]
def k0_mult10 (i : grid0.Coords) : BitVec 32 :=
  let arg2 : BitVec 32 := BitVec.ofNat 32 (i 2).val
  let c1024_i32_81 : BitVec 32 := 1024#32
  let v199 : BitVec 32 := Scalar.muli arg2 c1024_i32_81
  v199
def k0_off13 (i : grid0.Coords) : Fin 2 → Nat :=
  let arg2 : BitVec 32 := BitVec.ofNat 32 (i 2).val
  let c1024_i32_81 : BitVec 32 := 1024#32
  let v199 : BitVec 32 := Scalar.muli arg2 c1024_i32_81
  let v200 : BitVec 32 := v199
  let v201 : Index := Scalar.indexCast v200
  let c128 : Index := 128#32
  ![v201.toNat, 128]
def k0_mult11 (i : grid0.Coords) : BitVec 32 :=
  let arg2 : BitVec 32 := BitVec.ofNat 32 (i 2).val
  let c1024_i32_143 : BitVec 32 := 1024#32
  let v375 : BitVec 32 := Scalar.muli arg2 c1024_i32_143
  v375
def k0_off14 (i : grid0.Coords) : Fin 2 → Nat :=
  let arg2 : BitVec 32 := BitVec.ofNat 32 (i 2).val
  let c1024_i32_143 : BitVec 32 := 1024#32
  let v375 : BitVec 32 := Scalar.muli arg2 c1024_i32_143
  let v376 : BitVec 32 := v375
  let v377 : Index := Scalar.indexCast v376
  let c256_144 : Index := 256#32
  ![v377.toNat, 256]
def k0_mult12 (i : grid0.Coords) : BitVec 32 :=
  let arg2 : BitVec 32 := BitVec.ofNat 32 (i 2).val
  let c1024_i32_207 : BitVec 32 := 1024#32
  let v551 : BitVec 32 := Scalar.muli arg2 c1024_i32_207
  v551
def k0_off15 (i : grid0.Coords) : Fin 2 → Nat :=
  let arg2 : BitVec 32 := BitVec.ofNat 32 (i 2).val
  let c1024_i32_207 : BitVec 32 := 1024#32
  let v551 : BitVec 32 := Scalar.muli arg2 c1024_i32_207
  let v552 : BitVec 32 := v551
  let v553 : Index := Scalar.indexCast v552
  let c384 : Index := 384#32
  ![v553.toNat, 384]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.muli v1 c4_i32_0
  let v3 : BitVec 32 := Scalar.addi v2 arg2
  let c0_i32 : BitVec 32 := 0#32
  let c0_i32_1 : BitVec 32 := 0#32
  ![v3.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.muli v1 c4_i32_0
  let v3 : BitVec 32 := Scalar.addi v2 arg2
  let c0_i32 : BitVec 32 := 0#32
  let c0_i32_1 : BitVec 32 := 0#32
  ![v3.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.muli v1 c4_i32_0
  let v3 : BitVec 32 := Scalar.addi v2 arg2
  let c0_i32 : BitVec 32 := 0#32
  let c0_i32_1 : BitVec 32 := 0#32
  ![v3.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.muli v1 c4_i32_0
  let v3 : BitVec 32 := Scalar.addi v2 arg2
  let c0_i32 : BitVec 32 := 0#32
  let c0_i32_1 : BitVec 32 := 0#32
  ![v3.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S64x11008 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S64x11008 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S64x11008 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S64x11008 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S4x4096x16x192 : Shape := ⟨4, ![4, 4096, 16, 192]⟩
abbrev S4x4096x16x128 : Shape := ⟨4, ![4, 4096, 16, 128]⟩
abbrev S4x4096x64 : Shape := ⟨3, ![4, 4096, 64]⟩
abbrev S4096x11008 : Shape := ⟨2, ![4096, 11008]⟩
abbrev S4x4096x1x64 : Shape := ⟨4, ![4, 4096, 1, 64]⟩
abbrev S4x4096x16x64 : Shape := ⟨4, ![4, 4096, 16, 64]⟩
abbrev S4x16x4096x4096 : Shape := ⟨4, ![4, 16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S4x16x4096 : Shape := ⟨3, ![4, 16, 4096]⟩
abbrev S4x16x4096x1 : Shape := ⟨4, ![4, 16, 4096, 1]⟩
abbrev S4x16x128x4096 : Shape := ⟨4, ![4, 16, 128, 4096]⟩
abbrev S16384x2048 : Shape := ⟨2, ![16384, 2048]⟩

abbrev nBuf : Space → Nat
  | .hbm => 45
  | .vmem => 0
  | .smem => 0
  | _ => 0

abbrev bufTy : (tb : Table) → Fin (tcTables nBuf tb) → BufTy
  | .hbm, ⟨0, _⟩ => ⟨S4x4096x16x192, .f32⟩
  | .hbm, ⟨1, _⟩ => ⟨S4x4096x16x128, .f32⟩
  | .hbm, ⟨2, _⟩ => ⟨S4x4096x64, .f32⟩
  | .hbm, ⟨3, _⟩ => ⟨S4x4096x16x128, .f32⟩
  | .hbm, ⟨4, _⟩ => ⟨S4096x11008, .f32⟩
  | .hbm, ⟨5, _⟩ => ⟨S4096x11008, .f32⟩
  | .hbm, ⟨6, _⟩ => ⟨S4x4096x1x64, .f32⟩
  | .hbm, ⟨7, _⟩ => ⟨S4x4096x16x64, .f32⟩
  | .hbm, ⟨8, _⟩ => ⟨S4x4096x16x192, .f32⟩
  | .hbm, ⟨9, _⟩ => ⟨S4x16x4096x4096, .f32⟩
  | .hbm, ⟨10, _⟩ => ⟨S_, .f32⟩
  | .hbm, ⟨11, _⟩ => ⟨S4x16x4096x4096, .f32⟩
  | .hbm, ⟨12, _⟩ => ⟨S4x16x4096x4096, .f32⟩
  | .hbm, ⟨13, _⟩ => ⟨S4096, .i32⟩
  | .hbm, ⟨14, _⟩ => ⟨S1x4096, .i32⟩
  | .hbm, ⟨15, _⟩ => ⟨S4096x1, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S1x1x4096x4096, .i1⟩
  | .hbm, ⟨20, _⟩ => ⟨S_, .f32⟩
  | .hbm, ⟨21, _⟩ => ⟨S_, .f32⟩
  | .hbm, ⟨22, _⟩ => ⟨S4x16x4096x4096, .i1⟩
  | .hbm, ⟨23, _⟩ => ⟨S4x16x4096x4096, .f32⟩
  | .hbm, ⟨24, _⟩ => ⟨S4x16x4096x4096, .f32⟩
  | .hbm, ⟨25, _⟩ => ⟨S_, .f32⟩
  | .hbm, ⟨26, _⟩ => ⟨S4x16x4096, .f32⟩
  | .hbm, ⟨27, _⟩ => ⟨S_, .f32⟩
  | .hbm, ⟨28, _⟩ => ⟨S4x16x4096, .f32⟩
  | .hbm, ⟨29, _⟩ => ⟨S4x16x4096, .f32⟩
  | .hbm, ⟨30, _⟩ => ⟨S4x16x4096x1, .f32⟩
  | .hbm, ⟨31, _⟩ => ⟨S4x16x4096x4096, .f32⟩
  | .hbm, ⟨32, _⟩ => ⟨S4x16x4096x4096, .f32⟩
  | .hbm, ⟨33, _⟩ => ⟨S4x16x4096x4096, .f32⟩
  | .hbm, ⟨34, _⟩ => ⟨S_, .f32⟩
  | .hbm, ⟨35, _⟩ => ⟨S4x16x4096, .f32⟩
  | .hbm, ⟨36, _⟩ => ⟨S4x16x4096x1, .f32⟩
  | .hbm, ⟨37, _⟩ => ⟨S4x16x4096x4096, .f32⟩
  | .hbm, ⟨38, _⟩ => ⟨S4x16x4096x4096, .f32⟩
  | .hbm, ⟨39, _⟩ => ⟨S4x16x128x4096, .f32⟩
  | .hbm, ⟨40, _⟩ => ⟨S4x4096x16x128, .f32⟩
  | .hbm, ⟨41, _⟩ => ⟨S16384x2048, .f32⟩
  | .hbm, ⟨42, _⟩ => ⟨S16384x2048, .bf16⟩
  | .hbm, ⟨43, _⟩ => ⟨S4096x11008, .bf16⟩
  | .hbm, ⟨44, _⟩ => ⟨S4096x11008, .bf16⟩
  | _, _ => ⟨S4x4096x16x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Kernel2.lean ====
abbrev S4x4096x4096 : Shape := ⟨3, ![4, 4096, 4096]⟩
abbrev S4096 : Shape := ⟨1, ![4096]⟩
abbrev S4096x11008 : Shape := ⟨2, ![4096, 11008]⟩
abbrev S11008x4096 : Shape := ⟨2, ![11008, 4096]⟩
abbrev S16384x4096 : Shape := ⟨2, ![16384, 4096]⟩
abbrev S1x4096 : Shape := ⟨2, ![1, 4096]⟩
abbrev S512x4096 : Shape := ⟨2, ![512, 4096]⟩
abbrev S4096x256 : Shape := ⟨2, ![4096, 256]⟩
abbrev S256x4096 : Shape := ⟨2, ![256, 4096]⟩
abbrev S64x4096 : Shape := ⟨2, ![64, 4096]⟩
abbrev S64 : Shape := ⟨1, ![64]⟩
abbrev S64x1 : Shape := ⟨2, ![64, 1]⟩
abbrev S512x256 : Shape := ⟨2, ![512, 256]⟩
abbrev S512x1024 : Shape := ⟨2, ![512, 1024]⟩
abbrev S256x1024 : Shape := ⟨2, ![256, 1024]⟩

abbrev nBuf : Space → Nat
  | .hbm => 13
  | .vmem => 13
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S4096x11008, .f32⟩
  | .hbm, ⟨3, _⟩ => ⟨S4096x11008, .f32⟩
  | .hbm, ⟨4, _⟩ => ⟨S11008x4096, .f32⟩
  | .hbm, ⟨5, _⟩ => ⟨S4096, .f32⟩
  | .hbm, ⟨6, _⟩ => ⟨S16384x4096, .f32⟩
  | .hbm, ⟨7, _⟩ => ⟨S1x4096, .f32⟩
  | .hbm, ⟨8, _⟩ => ⟨S4096x11008, .bf16⟩
  | .hbm, ⟨9, _⟩ => ⟨S4096x11008, .bf16⟩
  | .hbm, ⟨10, _⟩ => ⟨S11008x4096, .bf16⟩
  | .hbm, ⟨11, _⟩ => ⟨S1x4096, .f32⟩
  | .hbm, ⟨12, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S256x4096, .bf16⟩
  | .local _ .vmem, ⟨8, _⟩ => ⟨S256x4096, .bf16⟩
  | .local _ .vmem, ⟨9, _⟩ => ⟨S1x4096, .f32⟩
  | .local _ .vmem, ⟨10, _⟩ => ⟨S512x4096, .f32⟩
  | .local _ .vmem, ⟨11, _⟩ => ⟨S512x4096, .f32⟩
  | .local _ .vmem, ⟨12, _⟩ => ⟨S512x4096, .bf16⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 43], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_33 : BitVec 32 := 0#32
  let c8_i32 : BitVec 32 := 8#32
  let v45 : BitVec 32 := Scalar.addi c0_i32_33 c8_i32
  let c1_i32 : BitVec 32 := 1#32
  ⟨c0_i32_33, v45, c1_i32⟩
def k0_mult1 (k0_t1 : Fin k0_t1_loop.trips) : BitVec 32 :=
  let c0_i32_33 : BitVec 32 := 0#32
  let c1_i32 : BitVec 32 := 1#32
  let arg10 : BitVec 32 := Scf.iv c0_i32_33 c1_i32 k0_t1
  let c64_i32 : BitVec 32 := 64#32
  let v46 : BitVec 32 := Scalar.muli arg10 c64_i32
  v46
def k0_off1 (k0_t1 : Fin k0_t1_loop.trips) : Fin 2 → Nat :=
  let c0_i32_33 : BitVec 32 := 0#32
  let c1_i32 : BitVec 32 := 1#32
  let arg10 : BitVec 32 := Scf.iv c0_i32_33 c1_i32 k0_t1
  let c64_i32 : BitVec 32 := 64#32
  let v46 : BitVec 32 := Scalar.muli arg10 c64_i32
  let v47 : BitVec 32 := v46
  let v48 : Index := Scalar.indexCast v47
  let c0_35 : Index := 0#32
  ![v48.toNat, 0]
def k0_cond2 (i : grid0.Coords) : BitVec 1 :=
  let arg1 : BitVec 32 := BitVec.ofNat 32 (i 1).val
  let c42_i32 : BitVec 32 := 42#32
  let v42 : BitVec 1 := Scalar.cmpi .eq arg1 c42_i32
  let v43 : BitVec 32 := Scalar.extui v42
  let c0_i32_32 : BitVec 32 := 0#32
  let v44 : BitVec 1 := Scalar.cmpi .ne v43 c0_i32_32
  v44

@[reducible] def k0_t2_loop : Scf.Loop 32 :=
  let c0_i32_33 : BitVec 32 := 0#32
  let c8_i32 : BitVec 32 := 8#32
  let v45 : BitVec 32 := Scalar.addi c0_i32_33 c8_i32
  let c1_i32 : BitVec 32 := 1#32
  ⟨c0_i32_33, v45, c1_i32⟩
def k0_mult2 (k0_t2 : Fin k0_t2_loop.trips) : BitVec 32 :=
  let c0_i32_33 : BitVec 32 := 0#32
  let c1_i32 : BitVec 32 := 1#32
  let arg10 : BitVec 32 := Scf.iv c0_i32_33 c1_i32 k0_t2
  let c64_i32 : BitVec 32 := 64#32
  let v46 : BitVec 32 := Scalar.muli arg10 c64_i32
  v46
def k0_off2 (k0_t2 : Fin k0_t2_loop.trips) : Fin 2 → Nat :=
  let c0_i32_33 : BitVec 32 := 0#32
  let c1_i32 : BitVec 32 := 1#32
  let arg10 : BitVec 32 := Scf.iv c0_i32_33 c1_i32 k0_t2
  let c64_i32 : BitVec 32 := 64#32
  let v46 : BitVec 32 := Scalar.muli arg10 c64_i32
  let v47 : BitVec 32 := v46
  let v48 : Index := Scalar.indexCast v47
  let c0_35 : Index := 0#32
  ![v48.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S4x4096x4096 : Shape := ⟨3, ![4, 4096, 4096]⟩
abbrev S4096 : Shape := ⟨1, ![4096]⟩
abbrev S4096x11008 : Shape := ⟨2, ![4096, 11008]⟩
abbrev S11008x4096 : Shape := ⟨2, ![11008, 4096]⟩
abbrev S_ : Shape := ⟨0, ![]⟩
abbrev S4x4096 : Shape := ⟨2, ![4, 4096]⟩
abbrev S4x4096x1 : Shape := ⟨3, ![4, 4096, 1]⟩
abbrev S1x1x4096 : Shape := ⟨3, ![1, 1, 4096]⟩
abbrev S4x4096x11008 : Shape := ⟨3, ![4, 4096, 11008]⟩
abbrev S16384x4096 : Shape := ⟨2, ![16384, 4096]⟩

abbrev nBuf : Space → Nat
  | .hbm => 53
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S4096x11008, .f32⟩
  | .hbm, ⟨3, _⟩ => ⟨S4096x11008, .f32⟩
  | .hbm, ⟨4, _⟩ => ⟨S11008x4096, .f32⟩
  | .hbm, ⟨5, _⟩ => ⟨S4096, .f32⟩
  | .hbm, ⟨6, _⟩ => ⟨S4x4096x4096, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x1, .f32⟩
  | .hbm, ⟨17, _⟩ => ⟨S4x4096x4096, .f32⟩
  | .hbm, ⟨18, _⟩ => ⟨S4x4096x4096, .f32⟩
  | .hbm, ⟨19, _⟩ => ⟨S1x1x4096, .f32⟩
  | .hbm, ⟨20, _⟩ => ⟨S4x4096x4096, .f32⟩
  | .hbm, ⟨21, _⟩ => ⟨S4x4096x4096, .f32⟩
  | .hbm, ⟨22, _⟩ => ⟨S4x4096x11008, .f32⟩
  | .hbm, ⟨23, _⟩ => ⟨S4x4096x11008, .f32⟩
  | .hbm, ⟨24, _⟩ => ⟨S4x4096x11008, .f32⟩
  | .hbm, ⟨25, _⟩ => ⟨S_, .f32⟩
  | .hbm, ⟨26, _⟩ => ⟨S4x4096x11008, .f32⟩
  | .hbm, ⟨27, _⟩ => ⟨S4x4096x11008, .f32⟩
  | .hbm, ⟨28, _⟩ => ⟨S_, .f32⟩
  | .hbm, ⟨29, _⟩ => ⟨S4x4096x11008, .f32⟩
  | .hbm, ⟨30, _⟩ => ⟨S4x4096x11008, .f32⟩
  | .hbm, ⟨31, _⟩ => ⟨S4x4096x11008, .f32⟩
  | .hbm, ⟨32, _⟩ => ⟨S4x4096x11008, .f32⟩
  | .hbm, ⟨33, _⟩ => ⟨S4x4096x11008, .f32⟩
  | .hbm, ⟨34, _⟩ => ⟨S4x4096x4096, .f32⟩
  | .hbm, ⟨35, _⟩ => ⟨S4x4096x4096, .f32⟩
  | .hbm, ⟨36, _⟩ => ⟨S_, .f32⟩
  | .hbm, ⟨37, _⟩ => ⟨S4x4096, .f32⟩
  | .hbm, ⟨38, _⟩ => ⟨S4x4096x1, .f32⟩
  | .hbm, ⟨39, _⟩ => ⟨S_, .f32⟩
  | .hbm, ⟨40, _⟩ => ⟨S4x4096x1, .f32⟩
  | .hbm, ⟨41, _⟩ => ⟨S4x4096x1, .f32⟩
  | .hbm, ⟨42, _⟩ => ⟨S_, .f32⟩
  | .hbm, ⟨43, _⟩ => ⟨S4x4096x1, .f32⟩
  | .hbm, ⟨44, _⟩ => ⟨S4x4096x1, .f32⟩
  | .hbm, ⟨45, _⟩ => ⟨S4x4096x1, .f32⟩
  | .hbm, ⟨46, _⟩ => ⟨S4x4096x4096, .f32⟩
  | .hbm, ⟨47, _⟩ => ⟨S4x4096x4096, .f32⟩
  | .hbm, ⟨48, _⟩ => ⟨S1x1x4096, .f32⟩
  | .hbm, ⟨49, _⟩ => ⟨S4x4096x4096, .f32⟩
  | .hbm, ⟨50, _⟩ => ⟨S4x4096x4096, .f32⟩
  | .hbm, ⟨51, _⟩ => ⟨S4x4096x4096, .f32⟩
  | .hbm, ⟨52, _⟩ => ⟨S16384x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== Kernel3.lean ====
abbrev S4x4096x4096 : Shape := ⟨3, ![4, 4096, 4096]⟩
abbrev S4096 : Shape := ⟨1, ![4096]⟩
abbrev S4096x2048 : Shape := ⟨2, ![4096, 2048]⟩
abbrev S4096x1024 : Shape := ⟨2, ![4096, 1024]⟩
abbrev S4096x4096 : Shape := ⟨2, ![4096, 4096]⟩
abbrev S16384x4096 : Shape := ⟨2, ![16384, 4096]⟩
abbrev S1x4096 : Shape := ⟨2, ![1, 4096]⟩
abbrev S16384x3072 : Shape := ⟨2, ![16384, 3072]⟩
abbrev S256x4096 : Shape := ⟨2, ![256, 4096]⟩
abbrev S64x4096 : Shape := ⟨2, ![64, 4096]⟩
abbrev S256x3072 : Shape := ⟨2, ![256, 3072]⟩
abbrev S256 : Shape := ⟨1, ![256]⟩
abbrev S256x1 : Shape := ⟨2, ![256, 1]⟩
abbrev S256x1024 : Shape := ⟨2, ![256, 1024]⟩

abbrev nBuf : Space → Nat
  | .hbm => 11
  | .vmem => 11
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S4096x2048, .f32⟩
  | .hbm, ⟨3, _⟩ => ⟨S4096x1024, .f32⟩
  | .hbm, ⟨4, _⟩ => ⟨S4096x4096, .f32⟩
  | .hbm, ⟨5, _⟩ => ⟨S16384x4096, .f32⟩
  | .hbm, ⟨6, _⟩ => ⟨S1x4096, .f32⟩
  | .hbm, ⟨7, _⟩ => ⟨S4096x2048, .bf16⟩
  | .hbm, ⟨8, _⟩ => ⟨S4096x1024, .bf16⟩
  | .hbm, ⟨9, _⟩ => ⟨S16384x3072, .bf16⟩
  | .hbm, ⟨10, _⟩ => ⟨S4096x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S4096x2048, .bf16⟩
  | .local _ .vmem, ⟨4, _⟩ => ⟨S4096x1024, .bf16⟩
  | .local _ .vmem, ⟨5, _⟩ => ⟨S64x4096, .f32⟩
  | .local _ .vmem, ⟨6, _⟩ => ⟨S64x4096, .f32⟩
  | .local _ .vmem, ⟨7, _⟩ => ⟨S256x3072, .bf16⟩
  | .local _ .vmem, ⟨8, _⟩ => ⟨S256x3072, .bf16⟩
  | .local _ .vmem, ⟨9, _⟩ => ⟨S64x4096, .bf16⟩
  | .local _ .vmem, ⟨10, _⟩ => ⟨S64x4096, .bf16⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c32_i32_0 : BitVec 32 := 32#32
  let v2 : BitVec 1 := Scalar.cmpi .slt arg0 c32_i32_0
  let c4_i32 : BitVec 32 := 4#32
  let c0_i32_1 : BitVec 32 := 0#32
  let v3 : BitVec 1 := Scalar.cmpi .eq c4_i32 c0_i32_1
  let c1_i32 : BitVec 32 := 1#32
  let v4 : BitVec 32 := Scalar.select v3 c1_i32 c4_i32
  let v5 : BitVec 32 := Scalar.remsi v1 v4
  let c0_i32_2 : BitVec 32 := 0#32
  let v6 : BitVec 1 := Scalar.cmpi .ne v5 c0_i32_2
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let v10 : BitVec 1 := Scalar.andi v9 v6
  let v11 : BitVec 32 := Scalar.addi v5 v4
  let v12 : BitVec 32 := Scalar.select v10 v11 v5
  let c8_i32 : BitVec 32 := 8#32
  let v13 : BitVec 32 := Scalar.muli v12 c8_i32
  let c32_i32_5 : BitVec 32 := 32#32
  let v14 : BitVec 32 := Scalar.addi c32_i32_5 v13
  let c4_i32_6 : BitVec 32 := 4#32
  let v15 : BitVec 32 := Scalar.divsi v1 c4_i32_6
  let c0_i32_7 : BitVec 32 := 0#32
  let v16 : BitVec 1 := Scalar.cmpi .sgt v1 c0_i32_7
  let v17 : BitVec 32 := Scalar.extui v16
  let c0_i32_8 : BitVec 32 := 0#32
  let v18 : BitVec 1 := Scalar.cmpi .slt v1 c0_i32_8
  let v19 : BitVec 32 := Scalar.extui v18
  let v20 : BitVec 32 := Scalar.subi v17 v19
  let c0_i32_9 : BitVec 32 := 0#32
  let v21 : BitVec 1 := Scalar.cmpi .sgt c4_i32_6 c0_i32_9
  let v22 : BitVec 32 := Scalar.extui v21
  let c0_i32_10 : BitVec 32 := 0#32
  let v23 : BitVec 1 := Scalar.cmpi .slt c4_i32_6 c0_i32_10
  let v24 : BitVec 32 := Scalar.extui v23
  let v25 : BitVec 32 := Scalar.subi v22 v24
  let v26 : BitVec 1 := Scalar.cmpi .ne v20 v25
  let v27 : BitVec 32 := Scalar.remsi v1 c4_i32_6
  let c0_i32_11 : BitVec 32 := 0#32
  let v28 : BitVec 1 := Scalar.cmpi .ne v27 c0_i32_11
  let v29 : BitVec 1 := Scalar.andi v26 v28
  let c1_i32_12 : BitVec 32 := 1#32
  let v30 : BitVec 32 := Scalar.subi v15 c1_i32_12
  let v31 : BitVec 32 := Scalar.select v29 v30 v15
  let v32 : BitVec 32 := Scalar.addi v14 v31
  let v33 : BitVec 32 := Scalar.select v2 arg0 v32
  let c0_i32_13 : BitVec 32 := 0#32
  let c0_i32_14 : BitVec 32 := 0#32
  ![v33.toNat, c0_i32_13.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S4x4096x4096 : Shape := ⟨3, ![4, 4096, 4096]⟩
abbrev S4096 : Shape := ⟨1, ![4096]⟩
abbrev S4096x2048 : Shape := ⟨2, ![4096, 2048]⟩
abbrev S4096x1024 : Shape := ⟨2, ![4096, 1024]⟩
abbrev S4096x4096 : Shape := ⟨2, ![4096, 4096]⟩
abbrev S_ : Shape := ⟨0, ![]⟩
abbrev S4x4096 : Shape := ⟨2, ![4, 4096]⟩
abbrev S4x4096x1 : Shape := ⟨3, ![4, 4096, 1]⟩
abbrev S1x1x4096 : Shape := ⟨3, ![1, 1, 4096]⟩
abbrev S4x4096x2048 : Shape := ⟨3, ![4, 4096, 2048]⟩
abbrev S2048x4096 : Shape := ⟨2, ![2048, 4096]⟩
abbrev S8x4x64x4096 : Shape := ⟨4, ![8, 4, 64, 4096]⟩
abbrev S4x8x64x4096 : Shape := ⟨4, ![4, 8, 64, 4096]⟩
abbrev S4x4096x1024 : Shape := ⟨3, ![4, 4096, 1024]⟩
abbrev S4x4096x3072 : Shape := ⟨3, ![4, 4096, 3072]⟩
abbrev S16384x3072 : Shape := ⟨2, ![16384, 3072]⟩

abbrev nBuf : Space → Nat
  | .hbm => 36
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S4096x2048, .f32⟩
  | .hbm, ⟨3, _⟩ => ⟨S4096x1024, .f32⟩
  | .hbm, ⟨4, _⟩ => ⟨S4096x4096, .f32⟩
  | .hbm, ⟨5, _⟩ => ⟨S4x4096x4096, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x4096, .f32⟩
  | .hbm, ⟨17, _⟩ => ⟨S4x4096x4096, .f32⟩
  | .hbm, ⟨18, _⟩ => ⟨S1x1x4096, .f32⟩
  | .hbm, ⟨19, _⟩ => ⟨S4x4096x4096, .f32⟩
  | .hbm, ⟨20, _⟩ => ⟨S4x4096x4096, .f32⟩
  | .hbm, ⟨21, _⟩ => ⟨S4x4096x2048, .f32⟩
  | .hbm, ⟨22, _⟩ => ⟨S_, .f32⟩
  | .hbm, ⟨23, _⟩ => ⟨S4x4096x2048, .f32⟩
  | .hbm, ⟨24, _⟩ => ⟨S4x4096x2048, .f32⟩
  | .hbm, ⟨25, _⟩ => ⟨S2048x4096, .f32⟩
  | .hbm, ⟨26, _⟩ => ⟨S8x4x64x4096, .f32⟩
  | .hbm, ⟨27, _⟩ => ⟨S4x8x64x4096, .f32⟩
  | .hbm, ⟨28, _⟩ => ⟨S2048x4096, .f32⟩
  | .hbm, ⟨29, _⟩ => ⟨S4x4096x1024, .f32⟩
  | .hbm, ⟨30, _⟩ => ⟨S4x4096x3072, .f32⟩
  | .hbm, ⟨31, _⟩ => ⟨S16384x3072, .f32⟩
  | .hbm, ⟨32, _⟩ => ⟨S16384x3072, .bf16⟩
  | .hbm, ⟨33, _⟩ => ⟨S2048x4096, .f32⟩
  | .hbm, ⟨34, _⟩ => ⟨S4096x4096, .f32⟩
  | .hbm, ⟨35, _⟩ => ⟨S4096x4096, .bf16⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Kernel4.lean ====
abbrev S4x4096x2048 : Shape := ⟨3, ![4, 4096, 2048]⟩
abbrev S2048 : Shape := ⟨1, ![2048]⟩
abbrev S4096x4096 : Shape := ⟨2, ![4096, 4096]⟩
abbrev S16384x2048 : Shape := ⟨2, ![16384, 2048]⟩
abbrev S1x2048 : Shape := ⟨2, ![1, 2048]⟩
abbrev S16384x4096 : Shape := ⟨2, ![16384, 4096]⟩
abbrev S512x2048 : Shape := ⟨2, ![512, 2048]⟩
abbrev S2048x4096 : Shape := ⟨2, ![2048, 4096]⟩
abbrev S512x4096 : Shape := ⟨2, ![512, 4096]⟩
abbrev S512 : Shape := ⟨1, ![512]⟩
abbrev S512x1 : Shape := ⟨2, ![512, 1]⟩
abbrev S2048x1024 : Shape := ⟨2, ![2048, 1024]⟩
abbrev S512x1024 : Shape := ⟨2, ![512, 1024]⟩

abbrev nBuf : Space → Nat
  | .hbm => 8
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4096x4096, .f32⟩
  | .hbm, ⟨3, _⟩ => ⟨S16384x2048, .f32⟩
  | .hbm, ⟨4, _⟩ => ⟨S16384x2048, .bf16⟩
  | .hbm, ⟨5, _⟩ => ⟨S1x2048, .f32⟩
  | .hbm, ⟨6, _⟩ => ⟨S4096x4096, .bf16⟩
  | .hbm, ⟨7, _⟩ => ⟨S16384x4096, .f32⟩
  | .local _ .vmem, ⟨0, _⟩ => ⟨S512x2048, .bf16⟩
  | .local _ .vmem, ⟨1, _⟩ => ⟨S512x2048, .bf16⟩
  | .local _ .vmem, ⟨2, _⟩ => ⟨S1x2048, .f32⟩
  | .local _ .vmem, ⟨3, _⟩ => ⟨S2048x4096, .bf16⟩
  | .local _ .vmem, ⟨4, _⟩ => ⟨S512x4096, .f32⟩
  | .local _ .vmem, ⟨5, _⟩ => ⟨S512x4096, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S4x4096x2048 : Shape := ⟨3, ![4, 4096, 2048]⟩
abbrev S2048 : Shape := ⟨1, ![2048]⟩
abbrev S4096x4096 : Shape := ⟨2, ![4096, 4096]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S2048x4096 : Shape := ⟨2, ![2048, 4096]⟩
abbrev S4x4096x4096 : Shape := ⟨3, ![4, 4096, 4096]⟩
abbrev S16384x4096 : Shape := ⟨2, ![16384, 4096]⟩

abbrev nBuf : Space → Nat
  | .hbm => 22
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4096x4096, .f32⟩
  | .hbm, ⟨3, _⟩ => ⟨S4x4096x2048, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x2048, .f32⟩
  | .hbm, ⟨15, _⟩ => ⟨S4x4096x2048, .f32⟩
  | .hbm, ⟨16, _⟩ => ⟨S1x1x2048, .f32⟩
  | .hbm, ⟨17, _⟩ => ⟨S4x4096x2048, .f32⟩
  | .hbm, ⟨18, _⟩ => ⟨S4x4096x2048, .f32⟩
  | .hbm, ⟨19, _⟩ => ⟨S2048x4096, .f32⟩
  | .hbm, ⟨20, _⟩ => ⟨S4x4096x4096, .f32⟩
  | .hbm, ⟨21, _⟩ => ⟨S16384x4096, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel5.lean ====
abbrev S4x16384x512 : Shape := ⟨3, ![4, 16384, 512]⟩
abbrev S2048 : Shape := ⟨1, ![2048]⟩
abbrev S4096x4096 : Shape := ⟨2, ![4096, 4096]⟩
abbrev S4x4096x4096 : Shape := ⟨3, ![4, 4096, 4096]⟩
abbrev S4096 : Shape := ⟨1, ![4096]⟩
abbrev S1x2048 : Shape := ⟨2, ![1, 2048]⟩
abbrev S16384x4096 : Shape := ⟨2, ![16384, 4096]⟩
abbrev S1x4096 : Shape := ⟨2, ![1, 4096]⟩
abbrev S4x256x512 : Shape := ⟨3, ![4, 256, 512]⟩
abbrev S2048x4096 : Shape := ⟨2, ![2048, 4096]⟩
abbrev S256x4096 : Shape := ⟨2, ![256, 4096]⟩
abbrev S1x256x512 : Shape := ⟨3, ![1, 256, 512]⟩
abbrev S256x512 : Shape := ⟨2, ![256, 512]⟩
abbrev S256x2048 : Shape := ⟨2, ![256, 2048]⟩
abbrev S256 : Shape := ⟨1, ![256]⟩
abbrev S256x1 : Shape := ⟨2, ![256, 1]⟩
abbrev S256x1024 : Shape := ⟨2, ![256, 1024]⟩
abbrev S2048x1024 : Shape := ⟨2, ![2048, 1024]⟩
abbrev S1x1024 : Shape := ⟨2, ![1, 1024]⟩

abbrev nBuf : Space → Nat
  | .hbm => 13
  | .vmem => 11
  | .smem => 0
  | _ => 0

abbrev bufTy : (tb : Table) → Fin (tcTables nBuf tb) → BufTy
  | .hbm, ⟨0, _⟩ => ⟨S4x16384x512, .f32⟩
  | .hbm, ⟨1, _⟩ => ⟨S2048, .f32⟩
  | .hbm, ⟨2, _⟩ => ⟨S4096x4096, .f32⟩
  | .hbm, ⟨3, _⟩ => ⟨S4x4096x4096, .f32⟩
  | .hbm, ⟨4, _⟩ => ⟨S4x4096x4096, .f32⟩
  | .hbm, ⟨5, _⟩ => ⟨S4096, .f32⟩
  | .hbm, ⟨6, _⟩ => ⟨S4x16384x512, .bf16⟩
  | .hbm, ⟨7, _⟩ => ⟨S1x2048, .f32⟩
  | .hbm, ⟨8, _⟩ => ⟨S4096x4096, .bf16⟩
  | .hbm, ⟨9, _⟩ => ⟨S16384x4096, .f32⟩
  | .hbm, ⟨10, _⟩ => ⟨S16384x4096, .f32⟩
  | .hbm, ⟨11, _⟩ => ⟨S1x4096, .f32⟩
  | .hbm, ⟨12, _⟩ => ⟨S16384x4096, .f32⟩
  | .local _ .vmem, ⟨0, _⟩ => ⟨S4x256x512, .bf16⟩
  | .local _ .vmem, ⟨1, _⟩ => ⟨S4x256x512, .bf16⟩
  | .local _ .vmem, ⟨2, _⟩ => ⟨S1x2048, .f32⟩
  | .local _ .vmem, ⟨3, _⟩ => ⟨S2048x4096, .bf16⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | .local _ .vmem, ⟨8, _⟩ => ⟨S1x4096, .f32⟩
  | .local _ .vmem, ⟨9, _⟩ => ⟨S256x4096, .f32⟩
  | .local _ .vmem, ⟨10, _⟩ => ⟨S256x4096, .f32⟩
  | _, _ => ⟨S4x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S4x16384x512 : Shape := ⟨3, ![4, 16384, 512]⟩
abbrev S2048 : Shape := ⟨1, ![2048]⟩
abbrev S4096x4096 : Shape := ⟨2, ![4096, 4096]⟩
abbrev S4x4096x4096 : Shape := ⟨3, ![4, 4096, 4096]⟩
abbrev S4096 : Shape := ⟨1, ![4096]⟩
abbrev S16384x4x512 : Shape := ⟨3, ![16384, 4, 512]⟩
abbrev S4x4096x2048 : Shape := ⟨3, ![4, 4096, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S2048x4096 : Shape := ⟨2, ![2048, 4096]⟩
abbrev S1x1x4096 : Shape := ⟨3, ![1, 1, 4096]⟩
abbrev S16384x4096 : Shape := ⟨2, ![16384, 4096]⟩

abbrev nBuf : Space → Nat
  | .hbm => 45
  | .vmem => 0
  | .smem => 0
  | _ => 0

abbrev bufTy : (tb : Table) → Fin (tcTables nBuf tb) → BufTy
  | .hbm, ⟨0, _⟩ => ⟨S4x16384x512, .f32⟩
  | .hbm, ⟨1, _⟩ => ⟨S2048, .f32⟩
  | .hbm, ⟨2, _⟩ => ⟨S4096x4096, .f32⟩
  | .hbm, ⟨3, _⟩ => ⟨S4x4096x4096, .f32⟩
  | .hbm, ⟨4, _⟩ => ⟨S4x4096x4096, .f32⟩
  | .hbm, ⟨5, _⟩ => ⟨S4096, .f32⟩
  | .hbm, ⟨6, _⟩ => ⟨S16384x4x512, .f32⟩
  | .hbm, ⟨7, _⟩ => ⟨S4x4096x2048, .f32⟩
  | .hbm, ⟨8, _⟩ => ⟨S4x4096x2048, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x2048, .f32⟩
  | .hbm, ⟨20, _⟩ => ⟨S4x4096x2048, .f32⟩
  | .hbm, ⟨21, _⟩ => ⟨S1x1x2048, .f32⟩
  | .hbm, ⟨22, _⟩ => ⟨S4x4096x2048, .f32⟩
  | .hbm, ⟨23, _⟩ => ⟨S4x4096x2048, .f32⟩
  | .hbm, ⟨24, _⟩ => ⟨S2048x4096, .f32⟩
  | .hbm, ⟨25, _⟩ => ⟨S4x4096x4096, .f32⟩
  | .hbm, ⟨26, _⟩ => ⟨S4x4096x4096, .f32⟩
  | .hbm, ⟨27, _⟩ => ⟨S4x4096x4096, .f32⟩
  | .hbm, ⟨28, _⟩ => ⟨S_, .f32⟩
  | .hbm, ⟨29, _⟩ => ⟨S4x4096, .f32⟩
  | .hbm, ⟨30, _⟩ => ⟨S4x4096x1, .f32⟩
  | .hbm, ⟨31, _⟩ => ⟨S_, .f32⟩
  | .hbm, ⟨32, _⟩ => ⟨S4x4096x1, .f32⟩
  | .hbm, ⟨33, _⟩ => ⟨S4x4096x1, .f32⟩
  | .hbm, ⟨34, _⟩ => ⟨S_, .f32⟩
  | .hbm, ⟨35, _⟩ => ⟨S4x4096x1, .f32⟩
  | .hbm, ⟨36, _⟩ => ⟨S4x4096x1, .f32⟩
  | .hbm, ⟨37, _⟩ => ⟨S4x4096x1, .f32⟩
  | .hbm, ⟨38, _⟩ => ⟨S4x4096x4096, .f32⟩
  | .hbm, ⟨39, _⟩ => ⟨S4x4096x4096, .f32⟩
  | .hbm, ⟨40, _⟩ => ⟨S1x1x4096, .f32⟩
  | .hbm, ⟨41, _⟩ => ⟨S4x4096x4096, .f32⟩
  | .hbm, ⟨42, _⟩ => ⟨S4x4096x4096, .f32⟩
  | .hbm, ⟨43, _⟩ => ⟨S4x4096x4096, .f32⟩
  | .hbm, ⟨44, _⟩ => ⟨S16384x4096, .f32⟩
  | _, _ => ⟨S4x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel6.lean ====
abbrev S4x4096x4096 : Shape := ⟨3, ![4, 4096, 4096]⟩
abbrev S4096 : Shape := ⟨1, ![4096]⟩
abbrev S4096x1536 : Shape := ⟨2, ![4096, 1536]⟩
abbrev S4096x128 : Shape := ⟨2, ![4096, 128]⟩
abbrev S16384x4096 : Shape := ⟨2, ![16384, 4096]⟩
abbrev S1x4096 : Shape := ⟨2, ![1, 4096]⟩
abbrev S16384x1536 : Shape := ⟨2, ![16384, 1536]⟩
abbrev S16384x128 : Shape := ⟨2, ![16384, 128]⟩
abbrev S512x4096 : Shape := ⟨2, ![512, 4096]⟩
abbrev S512x1536 : Shape := ⟨2, ![512, 1536]⟩
abbrev S512x128 : Shape := ⟨2, ![512, 128]⟩
abbrev S512 : Shape := ⟨1, ![512]⟩
abbrev S512x1 : Shape := ⟨2, ![512, 1]⟩

abbrev nBuf : Space → Nat
  | .hbm => 10
  | .vmem => 9
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S4096x1536, .f32⟩
  | .hbm, ⟨3, _⟩ => ⟨S4096x128, .f32⟩
  | .hbm, ⟨4, _⟩ => ⟨S16384x4096, .f32⟩
  | .hbm, ⟨5, _⟩ => ⟨S1x4096, .f32⟩
  | .hbm, ⟨6, _⟩ => ⟨S4096x1536, .bf16⟩
  | .hbm, ⟨7, _⟩ => ⟨S4096x128, .bf16⟩
  | .hbm, ⟨8, _⟩ => ⟨S16384x1536, .bf16⟩
  | .hbm, ⟨9, _⟩ => ⟨S16384x128, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S4096x1536, .bf16⟩
  | .local _ .vmem, ⟨4, _⟩ => ⟨S4096x128, .bf16⟩
  | .local _ .vmem, ⟨5, _⟩ => ⟨S512x1536, .bf16⟩
  | .local _ .vmem, ⟨6, _⟩ => ⟨S512x1536, .bf16⟩
  | .local _ .vmem, ⟨7, _⟩ => ⟨S512x128, .f32⟩
  | .local _ .vmem, ⟨8, _⟩ => ⟨S512x128, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S4x4096x4096 : Shape := ⟨3, ![4, 4096, 4096]⟩
abbrev S4096 : Shape := ⟨1, ![4096]⟩
abbrev S4096x1536 : Shape := ⟨2, ![4096, 1536]⟩
abbrev S4096x128 : Shape := ⟨2, ![4096, 128]⟩
abbrev S_ : Shape := ⟨0, ![]⟩
abbrev S4x4096 : Shape := ⟨2, ![4, 4096]⟩
abbrev S4x4096x1 : Shape := ⟨3, ![4, 4096, 1]⟩
abbrev S1x1x4096 : Shape := ⟨3, ![1, 1, 4096]⟩
abbrev S4x4096x1536 : Shape := ⟨3, ![4, 4096, 1536]⟩
abbrev S16384x1536 : Shape := ⟨2, ![16384, 1536]⟩
abbrev S4x4096x128 : Shape := ⟨3, ![4, 4096, 128]⟩
abbrev S16384x128 : Shape := ⟨2, ![16384, 128]⟩

abbrev nBuf : Space → Nat
  | .hbm => 25
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S4096x1536, .f32⟩
  | .hbm, ⟨3, _⟩ => ⟨S4096x128, .f32⟩
  | .hbm, ⟨4, _⟩ => ⟨S4x4096x4096, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x4096, .f32⟩
  | .hbm, ⟨16, _⟩ => ⟨S4x4096x4096, .f32⟩
  | .hbm, ⟨17, _⟩ => ⟨S1x1x4096, .f32⟩
  | .hbm, ⟨18, _⟩ => ⟨S4x4096x4096, .f32⟩
  | .hbm, ⟨19, _⟩ => ⟨S4x4096x4096, .f32⟩
  | .hbm, ⟨20, _⟩ => ⟨S4x4096x1536, .f32⟩
  | .hbm, ⟨21, _⟩ => ⟨S16384x1536, .f32⟩
  | .hbm, ⟨22, _⟩ => ⟨S16384x1536, .bf16⟩
  | .hbm, ⟨23, _⟩ => ⟨S4x4096x128, .f32⟩
  | .hbm, ⟨24, _⟩ => ⟨S16384x128, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Proof.Softmax.lean ====
/-
  The mathematics of the online softmax on the extended reals, with no kernel in it.

  A row of scores `s : ι → EReal` (a masked score is `⊥`) is visited block by block. After the columns of a
  finite set `A` the kernel keeps the maximum `A.sup s` and, for a weight `w` of the columns, the sum
  `∑ c ∈ A, 2 ^ (s c - A.sup s) * w c`. `osum_union` is the step by a further block, `osum_final` the quotient
  at the end, which is the softmax of the scores (in base `e`) against the values.
-/
module

public import Idealize.ShloMosaic.PureOps.Ideal

@[expose] public section

namespace Cert.Softmax

open Idealize.ShloMosaic

variable {ι : Type*}

/-- `2 ^ x` of an extended real that is not `⊤` is a nonnegative real. -/
theorem exp2_real {x : EReal} (hx : x ≠ ⊤) : ∃ a : ℝ, 0 ≤ a ∧ Ideal.exp2 x = (a : EReal) := by
  induction x with
  | bot => exact ⟨0, le_refl _, rfl⟩
  | top => exact absurd rfl hx
  | coe r => exact ⟨Real.rpow 2 r, Real.rpow_nonneg (by norm_num) r, rfl⟩

/-- A nonnegative real factor goes into a finite sum of extended reals. -/
theorem mul_sum_real (a : ℝ) (ha : 0 ≤ a) (A : Finset ι) (f : ι → EReal) :
    (a : EReal) * ∑ c ∈ A, f c = ∑ c ∈ A, (a : EReal) * f c := by
  classical
  induction A using Finset.induction_on with
  | empty => simp
  | insert b A hb ih =>
    rw [Finset.sum_insert hb, Finset.sum_insert hb,
      EReal.left_distrib_of_nonneg_of_ne_top (by exact_mod_cast ha) (EReal.coe_ne_top a), ih]

/-- A nonnegative real factor on the right goes into a finite sum of extended reals. -/
theorem sum_mul_real (a : ℝ) (ha : 0 ≤ a) (A : Finset ι) (f : ι → EReal) :
    (∑ c ∈ A, f c) * (a : EReal) = ∑ c ∈ A, f c * (a : EReal) := by
  rw [mul_comm, mul_sum_real a ha]
  exact Finset.sum_congr rfl fun c _ => mul_comm _ _

theorem bot_sub' (x : EReal) : (⊥ : EReal) - x = ⊥ := by rw [sub_eq_add_neg, EReal.bot_add]

/-- Rescaling one exponential from the maximum `m` to a later real maximum `r`. -/
theorem exp2_rescale {s m : EReal} {r : ℝ} (h : s ≤ m) (hm : m ≠ ⊤) :
    Ideal.exp2 (m - r) * Ideal.exp2 (s - m) = Ideal.exp2 (s - r) := by
  induction s with
  | bot => rw [bot_sub', bot_sub']; simp
  | top => exact absurd (top_le_iff.mp h) hm
  | coe s =>
    induction m with
    | bot => exact absurd (le_bot_iff.mp h) (EReal.coe_ne_bot s)
    | top => exact absurd rfl hm
    | coe m =>
      rw [← EReal.coe_sub, ← EReal.coe_sub, ← EReal.coe_sub, Ideal.exp2_coe, Ideal.exp2_coe, Ideal.exp2_coe, ← EReal.coe_mul]
      congr 1
      change (2 : ℝ) ^ (m - r) * (2 : ℝ) ^ (s - m) = (2 : ℝ) ^ (s - r)
      rw [← Real.rpow_add (by norm_num)]
      congr 1; ring

/-- The weighted sum of exponentials the kernel keeps after the columns of `A`. -/
noncomputable def osum (A : Finset ι) (s w : ι → EReal) : EReal :=
  ∑ c ∈ A, Ideal.exp2 (s c - A.sup s) * w c

theorem osum_empty (s w : ι → EReal) : osum ∅ s w = 0 := by simp [osum]

/-- The supremum of scores none of which is `⊤` is not `⊤`. -/
theorem sup_ne_top (A : Finset ι) (s : ι → EReal) (hs : ∀ c ∈ A, s c ≠ ⊤) : A.sup s ≠ ⊤ := by
  have : A.sup s < ⊤ := (Finset.sup_lt_iff (bot_lt_top)).mpr fun c hc => lt_top_iff_ne_top.mpr (hs c hc)
  exact this.ne

/-- ONE STEP: a further block `B` of columns rescales the sum and adds the block's terms. -/
theorem osum_union [DecidableEq ι] {A B : Finset ι} (hd : Disjoint A B) (s w : ι → EReal) (hs : ∀ c, s c ≠ ⊤)
    (hne : ∃ c ∈ B, s c ≠ ⊥) :
    osum (A ∪ B) s w = Ideal.exp2 (A.sup s - (A ∪ B).sup s) * osum A s w
      + ∑ c ∈ B, Ideal.exp2 (s c - (A ∪ B).sup s) * w c := by
  have ht : (A ∪ B).sup s ≠ ⊤ := sup_ne_top _ _ fun c _ => hs c
  have hb : (A ∪ B).sup s ≠ ⊥ := by
    obtain ⟨c, hc, h⟩ := hne
    intro h0
    exact h (le_bot_iff.mp (h0 ▸ Finset.le_sup (f := s) (Finset.mem_union_right A hc)))
  unfold osum
  rw [Finset.sum_union hd]
  congr 1
  generalize (A ∪ B).sup s = M at ht hb
  lift M to ℝ using ⟨ht, hb⟩
  have hA : A.sup s ≠ ⊤ := sup_ne_top _ _ fun c _ => hs c
  obtain ⟨a, ha, hae⟩ := exp2_real (x := A.sup s - (M : EReal)) (by
    intro h
    induction hx : A.sup s with
    | bot => rw [hx, bot_sub'] at h; exact absurd h (by simp)
    | top => exact hA hx
    | coe r => rw [hx, ← EReal.coe_sub] at h; exact EReal.coe_ne_top _ h)
  rw [hae, mul_sum_real a ha, ← hae]
  refine Finset.sum_congr rfl fun c hc => ?_
  rw [← mul_assoc, exp2_rescale (Finset.le_sup hc) hA]

/-- Columns whose score is `⊥` change neither the maximum nor the sum. -/
theorem sup_extend {A B : Finset ι} (h : A ⊆ B) (s : ι → EReal) (hs : ∀ c ∈ B, c ∉ A → s c = ⊥) : A.sup s = B.sup s := by
  refine le_antisymm (Finset.sup_mono h) (Finset.sup_le fun c hc => ?_)
  by_cases hA : c ∈ A
  · exact Finset.le_sup hA
  · rw [hs c hc hA]; exact bot_le

theorem osum_extend {A B : Finset ι} (h : A ⊆ B) (s w : ι → EReal) (hs : ∀ c ∈ B, c ∉ A → s c = ⊥) :
    osum A s w = osum B s w := by
  unfold osum
  rw [sup_extend h s hs]
  refine Finset.sum_subset h fun c hc hA => ?_
  rw [hs c hc hA, bot_sub', Ideal.exp2_bot, zero_mul]

/-- `2 ^ (x / log 2 - m / log 2) = e ^ (x - m)` for a score that is real or `⊥`. -/
theorem exp2_div_log (x : EReal) (hx : x ≠ ⊤) (m : ℝ) :
    Ideal.exp2 (x * ((1 / Real.log 2 : ℝ) : EReal) - ((m : EReal) * ((1 / Real.log 2 : ℝ) : EReal))) = Ideal.exp (x - m) := by
  have hl : 0 < Real.log 2 := Real.log_pos (by norm_num)
  induction x with
  | bot =>
    rw [EReal.bot_mul_coe_of_pos (by positivity), bot_sub', bot_sub']; rfl
  | top => exact absurd rfl hx
  | coe x =>
    rw [← EReal.coe_mul, ← EReal.coe_mul, ← EReal.coe_sub, ← EReal.coe_sub, Ideal.exp2_coe, Ideal.exp_coe]
    congr 1
    change (2 : ℝ) ^ (x * (1 / Real.log 2) - m * (1 / Real.log 2)) = _
    rw [Real.rpow_def_of_pos (by norm_num)]
    congr 1
    field_simp

/-- The factor `1 / log 2` goes through the maximum of a row. -/
theorem sup_mul_log (A : Finset ι) (x : ι → EReal) :
    A.sup (fun c => x c * ((1 / Real.log 2 : ℝ) : EReal)) = A.sup x * ((1 / Real.log 2 : ℝ) : EReal) := by
  classical
  have hl : 0 < 1 / Real.log 2 := one_div_pos.mpr (Real.log_pos (by norm_num))
  have hmono : Monotone fun y : EReal => y * ((1 / Real.log 2 : ℝ) : EReal) := fun a b h =>
    mul_le_mul_of_nonneg_right h (by exact_mod_cast hl.le)
  induction A using Finset.induction_on with
  | empty => rw [Finset.sup_empty, Finset.sup_empty, EReal.bot_mul_coe_of_pos hl]
  | insert b A hb ih => rw [Finset.sup_insert, Finset.sup_insert, ih]; exact (hmono.map_max).symm

/-- THE END: the kernel's quotient is the softmax of the row `x` (each exponential divided by the sum of all) summed
    against the values `v`. The row's scores are real or `⊥` and one of them is real. -/
theorem osum_final [Fintype ι] (x v : ι → EReal) (hx : ∀ c, x c ≠ ⊤) (hne : ∃ c, x c ≠ ⊥) :
    Ideal.div (osum Finset.univ (fun c => x c * ((1 / Real.log 2 : ℝ) : EReal)) v)
        (osum Finset.univ (fun c => x c * ((1 / Real.log 2 : ℝ) : EReal)) fun _ => 1)
      = ∑ c, v c * Ideal.div (Ideal.exp (x c - Finset.univ.sup x)) (∑ c', Ideal.exp (x c' - Finset.univ.sup x)) := by
  classical
  have ht : Finset.univ.sup x ≠ ⊤ := sup_ne_top _ _ fun c _ => hx c
  have hb : Finset.univ.sup x ≠ ⊥ := by
    obtain ⟨c, h⟩ := hne
    intro h0
    exact h (le_bot_iff.mp (h0 ▸ Finset.le_sup (f := x) (Finset.mem_univ c)))
  unfold osum
  rw [sup_mul_log]
  generalize hM : Finset.univ.sup x = M at ht hb
  lift M to ℝ using ⟨ht, hb⟩
  have he : ∀ c, Ideal.exp2 (x c * ((1 / Real.log 2 : ℝ) : EReal) - ((M : EReal) * ((1 / Real.log 2 : ℝ) : EReal)))
      = Ideal.exp (x c - M) := fun c => exp2_div_log _ (hx c) M
  simp only [he, mul_one]
  have hreal : ∀ c, ∃ a : ℝ, 0 ≤ a ∧ Ideal.exp (x c - M) = (a : EReal) := fun c => by
    rw [← he]
    refine exp2_real ?_
    have := hx c
    induction h : x c with
    | bot => rw [EReal.bot_mul_coe_of_pos (one_div_pos.mpr (Real.log_pos (by norm_num))), bot_sub']; simp
    | top => exact absurd h this
    | coe r => rw [← EReal.coe_mul, ← EReal.coe_mul, ← EReal.coe_sub]; exact EReal.coe_ne_top _
  choose p hp0 hp using hreal
  have hsum : ∑ c, Ideal.exp (x c - M) = ((∑ c, p c : ℝ) : EReal) := by
    rw [Finset.sum_congr rfl fun c _ => hp c]
    induction (Finset.univ : Finset ι) using Finset.induction_on with
    | empty => simp
    | insert b A hb ih => rw [Finset.sum_insert hb, Finset.sum_insert hb, ih, EReal.coe_add]
  have hpos : 0 < ∑ c, p c := by
    obtain ⟨c0, h0⟩ := hne
    refine Finset.sum_pos' (fun c _ => hp0 c) ⟨c0, Finset.mem_univ _, ?_⟩
    have h1 := hp c0
    have h2 := hx c0
    lift x c0 to ℝ using ⟨h2, h0⟩ with y
    rw [← EReal.coe_sub, Ideal.exp_coe] at h1
    rw [← EReal.coe_eq_coe_iff.mp h1]
    exact Real.exp_pos _
  rw [hsum, Ideal.div_coe hpos.ne', sum_mul_real _ (by positivity)]
  refine Finset.sum_congr rfl fun c _ => ?_
  rw [Ideal.div_coe hpos.ne', mul_comm (Ideal.exp _) (v c), mul_assoc]

end Cert.Softmax
-- ==== Proof.Core.lean ====
/-
  One update of one chain (a head and a half of the query tile) of the attention kernel, as functions of the
  chunks of scores, the values and the chain's three buffers, and what each is at an index.
-/
module

public import proofs.«01_k».proof.Proof.Gen.KernelIdeal
public import proofs.«01_k».proof.Proof.Softmax
public import Idealize.ShloMosaic.Lib.Pointwise

set_option maxRecDepth 16384

@[expose] public section

noncomputable section

namespace Cert.KernelIdeal.Mla

open Idealize.ShloMosaic Idealize.ShloMosaic.TcCoe Cert.KernelIdeal Facts₀ Facts Cert.Softmax

abbrev M := FVec Ideal S512x128 .f32

/-- The row maximum of a chunk, spread along the lanes. -/
def rowMax (x : M) : M :=
  broadcastTo S512x128 (shapeCast S512x1 (multiReduction .maximumf [1] S512 x 0xFF800000#32 reduces_S512x128_S512 (.inl rfl) rfl)
    shapeCasts_S512_S512x1) broadcasts_S512x1_S512x128

/-- The exponentials of a chunk under a maximum. -/
def ex (c m : M) : M := exp2 (subf c m)

/-- The new maximum over 8 chunks. -/
def m8 (c : Fin 8 → M) (m : M) : M := maximumf m (rowMax (maximumf (maximumf (maximumf (maximumf (maximumf (maximumf (maximumf (c 0) (c 1)) (c 2)) (c 3)) (c 4)) (c 5)) (c 6)) (c 7)))

/-- The new lane sums over 8 chunks. -/
def l8 (c : Fin 8 → M) (m m' l : M) : M :=
  addf (mulf (ex m m') l) (addf (addf (addf (addf (addf (addf (addf (ex (c 0) m') (ex (c 1) m')) (ex (c 2) m')) (ex (c 3) m')) (ex (c 4) m')) (ex (c 5) m')) (ex (c 6) m')) (ex (c 7) m'))

/-- The new accumulator over 8 chunks. -/
def a8 (c : Fin 8 → M) (m m' a : M) (v : FVec Ideal S1024x128 .bf16) : M :=
  addf (mulf (ex m m') a) (matmul dot_S512x1024_S1024x128_S512x128_1_0_0_1_n_n none
    (truncf .bf16 (concatenate S512x1024 1 [⟨S512x128, ex (c 0) m'⟩, ⟨S512x128, ex (c 1) m'⟩, ⟨S512x128, ex (c 2) m'⟩, ⟨S512x128, ex (c 3) m'⟩, ⟨S512x128, ex (c 4) m'⟩, ⟨S512x128, ex (c 5) m'⟩, ⟨S512x128, ex (c 6) m'⟩, ⟨S512x128, ex (c 7) m'⟩]
      concatenates_S512x128_S512x128_S512x128_S512x128_S512x128_S512x128_S512x128_S512x128_S512x1024_d1) bitsLt_bf16_f32) v
    (constant S512x128 .f32 0x00000000#32))

/-- The new maximum over 4 chunks. -/
def m4 (c : Fin 4 → M) (m : M) : M := maximumf m (rowMax (maximumf (maximumf (maximumf (c 0) (c 1)) (c 2)) (c 3)))

/-- The new lane sums over 4 chunks. -/
def l4 (c : Fin 4 → M) (m m' l : M) : M :=
  addf (mulf (ex m m') l) (addf (addf (addf (ex (c 0) m') (ex (c 1) m')) (ex (c 2) m')) (ex (c 3) m'))

/-- The new accumulator over 4 chunks. -/
def a4 (c : Fin 4 → M) (m m' a : M) (v : FVec Ideal S512x128 .bf16) : M :=
  addf (mulf (ex m m') a) (matmul dot_S512x512_S512x128_S512x128_1_0_0_1_n_n none
    (truncf .bf16 (concatenate S512x512 1 [⟨S512x128, ex (c 0) m'⟩, ⟨S512x128, ex (c 1) m'⟩, ⟨S512x128, ex (c 2) m'⟩, ⟨S512x128, ex (c 3) m'⟩]
      concatenates_S512x128_S512x128_S512x128_S512x128_S512x512_d1) bitsLt_bf16_f32) v
    (constant S512x128 .f32 0x00000000#32))

/-- What the three buffers of a chain hold at row `r` after the columns below `A`: the scores' maximum, each lane's sum of
the exponentials of its columns, and the sum of the exponentials times the values. -/
structure St (S : ℕ → EReal) (V : ℕ → Fin 128 → EReal) (A : ℕ) (m l a : M) (r : Fin 512) : Prop where
  max : ∀ n : Fin 128, m (ix2 r n) = (Finset.range A).sup S
  sum : ∀ n : Fin 128, l (ix2 r n) = osum (Finset.range A) S fun c => if c % 128 = n.val then 1 else 0
  acc : ∀ n : Fin 128, a (ix2 r n) = osum (Finset.range A) S fun c => V c n

/-- The row maximum at an index. -/
theorem rowMax_apply (x : M) (r : Fin 512) (n : Fin 128) : rowMax x (ix2 r n) = Finset.univ.sup fun k : Fin 128 => x (ix2 r k) := by
  pointwise [rowMax]
  rw [show Ideal.ofBits FTy.f32 4286578688#32 = (⊥ : EReal) from by simp [Ideal.ofBits, Ideal.ieee]]
  rfl

theorem floatOps_exp2 (x : EReal) : FloatOps.exp2 (F := Ideal) (φ := .f32) x = Ideal.exp2 x := rfl

/-- Lane `n` of `128 k` columns in turn: one column of each chunk. -/
theorem sum_lane (f : ℕ → EReal) (n : Fin 128) : ∀ k : ℕ,
    ∑ i ∈ Finset.range (128 * k), f i * (if i % 128 = n.val then 1 else 0) = ∑ g ∈ Finset.range k, f (128 * g + n)
  | 0 => by simp
  | k + 1 => by
    rw [Finset.sum_range_succ, Nat.mul_succ, Finset.sum_range_add, sum_lane f n k]
    congr 1
    rw [Finset.sum_eq_single n.val]
    · rw [if_pos (by omega), mul_one]
    · intro b hb hne
      rw [if_neg (by have := Finset.mem_range.1 hb; omega), mul_zero]
    · intro h
      exact absurd (Finset.mem_range.2 n.isLt) h

/-- The columns of a block, counted from its first. -/
theorem sum_block (b k : ℕ) (f : ℕ → EReal) : ∑ c ∈ Finset.Ico b (b + k), f c = ∑ i ∈ Finset.range k, f (b + i) := by
  rw [Finset.sum_Ico_eq_sum_range, Nat.add_sub_cancel_left]

theorem range_add (b k : ℕ) : Finset.range (b + k) = Finset.range b ∪ Finset.Ico b (b + k) := by
  ext c
  simp only [Finset.mem_range, Finset.mem_union, Finset.mem_Ico]
  omega

theorem disj (b k : ℕ) : Disjoint (Finset.range b) (Finset.Ico b (b + k)) := by
  rw [Finset.disjoint_left]
  intro c h1 h2
  have := Finset.mem_range.1 h1
  have := (Finset.mem_Ico.1 h2).1
  omega

/-- The online sum after a further block of `k` columns. -/
theorem osum_add {b k : ℕ} {S : ℕ → EReal} (hs : ∀ c, S c ≠ ⊤) (hne : ∃ c ∈ Finset.Ico b (b + k), S c ≠ ⊥) (w : ℕ → EReal) :
    osum (Finset.range (b + k)) S w = Ideal.exp2 ((Finset.range b).sup S - (Finset.range (b + k)).sup S) * osum (Finset.range b) S w
      + ∑ i ∈ Finset.range k, Ideal.exp2 (S (b + i) - (Finset.range (b + k)).sup S) * w (b + i) := by
  rw [range_add, osum_union (disj b k) S w hs hne, sum_block]

theorem m8_spec {c : Fin 8 → M} {m : M} {r : Fin 512} {S : ℕ → EReal} {b : ℕ}
    (hm : ∀ n : Fin 128, m (ix2 r n) = (Finset.range b).sup S)
    (hc : ∀ (g : Fin 8) (n : Fin 128), c g (ix2 r n) = S (b + (128 * g.val + n.val))) (n : Fin 128) :
    m8 c m (ix2 r n) = (Finset.range (b + 1024)).sup S := by
  unfold m8
  rw [show ∀ x y : M, maximumf x y (ix2 r n) = max (x (ix2 r n)) (y (ix2 r n)) from fun _ _ => rfl, hm, rowMax_apply, range_add, Finset.sup_union]
  congr 1
  apply le_antisymm
  · apply Finset.sup_le
    intro k _
    pointwise
    simp only [hc]
    simp only [max_le_iff]
    have hk := k.isLt
    refine ⟨⟨⟨⟨⟨⟨⟨?_, ?_⟩, ?_⟩, ?_⟩, ?_⟩, ?_⟩, ?_⟩, ?_⟩ <;>
      exact Finset.le_sup (f := S) (Finset.mem_Ico.2 ⟨by omega, by simp; omega⟩)
  · apply Finset.sup_le
    intro k hk
    obtain ⟨h1, h2⟩ := Finset.mem_Ico.1 hk
    refine le_trans ?_ (Finset.le_sup (Finset.mem_univ (⟨(k - b) % 128, Nat.mod_lt _ (by norm_num)⟩ : Fin 128)))
    pointwise
    simp only [hc]
    have hd : (k - b) / 128 < 8 := by omega
    have hk' : S k = S (b + (128 * ((k - b) / 128) + (k - b) % 128)) := by congr 1; omega
    rw [hk']
    generalize (k - b) % 128 = x
    generalize (k - b) / 128 = g at hd
    interval_cases g <;> simp [le_max_iff]

/-- The state after a further block of 1024 columns. -/
theorem St.step8 {S : ℕ → EReal} {V : ℕ → Fin 128 → EReal} {b : ℕ} {m l a : M} {r : Fin 512} (h : St S V b m l a r)
    {c : Fin 8 → M} {v : FVec Ideal S1024x128 .bf16}
    (hc : ∀ (g : Fin 8) (n : Fin 128), c g (ix2 r n) = S (b + (128 * g.val + n.val)))
    (hv : ∀ (k : Fin 1024) (n : Fin 128), v (ix2 k n) = V (b + k.val) n)
    (hb : b % 128 = 0) (hs : ∀ c, S c ≠ ⊤) (hne : ∃ c ∈ Finset.Ico b (b + 1024), S c ≠ ⊥) :
    St S V (b + 1024) (m8 c m) (l8 c m (m8 c m) l) (a8 c m (m8 c m) a v) r := by
  have hm := m8_spec h.max hc
  refine ⟨hm, fun n => ?_, fun n => ?_⟩
  · generalize m8 c m = m' at hm
    rw [osum_add hs hne]
    have e : ∀ i : ℕ, (if (b + i) % 128 = n.val then (1 : EReal) else 0) = if i % 128 = n.val then 1 else 0 := by
      intro i
      congr 1
      simp only [eq_iff_iff]
      omega
    simp only [e]
    rw [show Finset.range 1024 = Finset.range (128 * 8) from rfl, sum_lane (fun i => Ideal.exp2 (S (b + i) - (Finset.range (b + 1024)).sup S)) n 8]
    pointwise [l8, ex]
    simp only [floatOps_exp2]
    simp only [hc, hm, h.max, h.sum, Finset.sum_range_succ, Finset.sum_range_zero, zero_add]
    rfl
  · generalize m8 c m = m' at hm
    rw [osum_add hs hne, Finset.sum_range]
    pointwise [a8, ex]
    simp only [floatOps_exp2]
    simp only [hc, hm, hv, h.max, h.acc]
    refine congrArg₂ (· + ·) rfl (Finset.sum_congr rfl fun x _ => congrArg₂ (· * ·) ?_ rfl)
    split_ifs <;> (congr 3; first | omega | (simp; omega))

theorem m4_spec {c : Fin 4 → M} {m : M} {r : Fin 512} {S : ℕ → EReal} {b : ℕ}
    (hm : ∀ n : Fin 128, m (ix2 r n) = (Finset.range b).sup S)
    (hc : ∀ (g : Fin 4) (n : Fin 128), c g (ix2 r n) = S (b + (128 * g.val + n.val))) (n : Fin 128) :
    m4 c m (ix2 r n) = (Finset.range (b + 512)).sup S := by
  unfold m4
  rw [show ∀ x y : M, maximumf x y (ix2 r n) = max (x (ix2 r n)) (y (ix2 r n)) from fun _ _ => rfl, hm, rowMax_apply, range_add, Finset.sup_union]
  congr 1
  apply le_antisymm
  · apply Finset.sup_le
    intro k _
    pointwise
    simp only [hc]
    simp only [max_le_iff]
    have hk := k.isLt
    refine ⟨⟨⟨?_, ?_⟩, ?_⟩, ?_⟩ <;>
      exact Finset.le_sup (f := S) (Finset.mem_Ico.2 ⟨by omega, by simp; omega⟩)
  · apply Finset.sup_le
    intro k hk
    obtain ⟨h1, h2⟩ := Finset.mem_Ico.1 hk
    refine le_trans ?_ (Finset.le_sup (Finset.mem_univ (⟨(k - b) % 128, Nat.mod_lt _ (by norm_num)⟩ : Fin 128)))
    pointwise
    simp only [hc]
    have hd : (k - b) / 128 < 4 := by omega
    have hk' : S k = S (b + (128 * ((k - b) / 128) + (k - b) % 128)) := by congr 1; omega
    rw [hk']
    generalize (k - b) % 128 = x
    generalize (k - b) / 128 = g at hd
    interval_cases g <;> simp [le_max_iff]

/-- The state after a further block of 512 columns. -/
theorem St.step4 {S : ℕ → EReal} {V : ℕ → Fin 128 → EReal} {b : ℕ} {m l a : M} {r : Fin 512} (h : St S V b m l a r)
    {c : Fin 4 → M} {v : FVec Ideal S512x128 .bf16}
    (hc : ∀ (g : Fin 4) (n : Fin 128), c g (ix2 r n) = S (b + (128 * g.val + n.val)))
    (hv : ∀ (k : Fin 512) (n : Fin 128), v (ix2 k n) = V (b + k.val) n)
    (hb : b % 128 = 0) (hs : ∀ c, S c ≠ ⊤) (hne : ∃ c ∈ Finset.Ico b (b + 512), S c ≠ ⊥) :
    St S V (b + 512) (m4 c m) (l4 c m (m4 c m) l) (a4 c m (m4 c m) a v) r := by
  have hm := m4_spec h.max hc
  refine ⟨hm, fun n => ?_, fun n => ?_⟩
  · generalize m4 c m = m' at hm
    rw [osum_add hs hne]
    have e : ∀ i : ℕ, (if (b + i) % 128 = n.val then (1 : EReal) else 0) = if i % 128 = n.val then 1 else 0 := by
      intro i
      congr 1
      simp only [eq_iff_iff]
      omega
    simp only [e]
    rw [show Finset.range 512 = Finset.range (128 * 4) from rfl, sum_lane (fun i => Ideal.exp2 (S (b + i) - (Finset.range (b + 512)).sup S)) n 4]
    pointwise [l4, ex]
    simp only [floatOps_exp2]
    simp only [hc, hm, h.max, h.sum, Finset.sum_range_succ, Finset.sum_range_zero, zero_add]
    rfl
  · generalize m4 c m = m' at hm
    rw [osum_add hs hne, Finset.sum_range]
    pointwise [a4, ex]
    simp only [floatOps_exp2]
    simp only [hc, hm, hv, h.max, h.acc]
    refine congrArg₂ (· + ·) rfl (Finset.sum_congr rfl fun x _ => congrArg₂ (· * ·) ?_ rfl)
    split_ifs <;> (congr 3; first | omega | (simp; omega))

end Cert.KernelIdeal.Mla
-- ==== Proof.Chain.lean ====
/-
  A chain's update as the attention kernel's body makes it: the scores of a half of the query tile against a
  block of keys, cut in chunks of 128 columns, masked above the diagonal in the last block, and the three
  buffers of the chain after it.
-/
module

public import proofs.«01_k».proof.Proof.Core

@[expose] public section

set_option maxRecDepth 16384

noncomputable section

namespace Cert.KernelIdeal.Mla

open Idealize.ShloMosaic Idealize.ShloMosaic.TcCoe Cert.KernelIdeal Facts₀ Facts Cert.Softmax

abbrev Q := Vec Ideal S512x256 .bf16
abbrev K := Vec Ideal S1024x128 .bf16
abbrev B := Vec Ideal S1x512x128 .f32

/-- A chain's buffer as a matrix. -/
def un (x : B) : M := shapeCast S512x128 x shapeCasts_S1x512x128_S512x128

/-- A matrix as a chain's buffer. -/
def ln (x : M) : B := shapeCast S1x512x128 x shapeCasts_S512x128_S1x512x128

/-- The keys of a block: the head's own part, then the shared part. -/
def kcat (a p : K) : FVec Ideal S1024x256 .bf16 :=
  concatenate S1024x256 1 [⟨S1024x128, shapeCast S1024x128 a shapeCasts_S1024x128_S1024x128⟩, ⟨S1024x128, shapeCast S1024x128 p shapeCasts_S1024x128_S1024x128⟩]
    concatenates_S1024x128_S1024x128_S1024x256_d1

/-- The values of a block. -/
def vals (v : K) : FVec Ideal S1024x128 .bf16 := shapeCast S1024x128 v shapeCasts_S1024x128_S1024x128

/-- The scores against a whole block of keys. -/
def sc8 (q : Q) (a p : K) : FVec Ideal S512x1024 .f32 :=
  matmul dot_S512x256_S1024x256_S512x1024_1_1_0_0_n_n none (shapeCast S512x256 q shapeCasts_S512x256_S512x256 : FVec Ideal S512x256 .bf16) (kcat a p)
    (constant S512x1024 .f32 0x00000000#32)

/-- The scores against the first half of a block of keys. -/
def sc4 (q : Q) (a p : K) : FVec Ideal S512x512 .f32 :=
  matmul dot_S512x256_S512x256_S512x512_1_1_0_0_n_n none (shapeCast S512x256 q shapeCasts_S512x256_S512x256 : FVec Ideal S512x256 .bf16)
    (extractStridedSlice S512x256 ![0, 0] (kcat a p) slices_S1024x256_o0_0_S512x256) (constant S512x512 .f32 0x00000000#32)

/-- The values of the first half of a block. -/
def vals4 (v : K) : FVec Ideal S512x128 .bf16 := extractStridedSlice S512x128 ![0, 0] (vals v) slices_S1024x128_o0_0_S512x128

/-- The eight chunks of the scores. -/
def ck8 (s : FVec Ideal S512x1024 .f32) : Fin 8 → M :=
  ![extractStridedSlice S512x128 ![0, 0] s slices_S512x1024_o0_0_S512x128, extractStridedSlice S512x128 ![0, 128] s slices_S512x1024_o0_128_S512x128, extractStridedSlice S512x128 ![0, 256] s slices_S512x1024_o0_256_S512x128, extractStridedSlice S512x128 ![0, 384] s slices_S512x1024_o0_384_S512x128, extractStridedSlice S512x128 ![0, 512] s slices_S512x1024_o0_512_S512x128, extractStridedSlice S512x128 ![0, 640] s slices_S512x1024_o0_640_S512x128, extractStridedSlice S512x128 ![0, 768] s slices_S512x1024_o0_768_S512x128, extractStridedSlice S512x128 ![0, 896] s slices_S512x1024_o0_896_S512x128]

/-- The four chunks of the scores. -/
def ck4 (s : FVec Ideal S512x512 .f32) : Fin 4 → M :=
  ![extractStridedSlice S512x128 ![0, 0] s slices_S512x512_o0_0_S512x128, extractStridedSlice S512x128 ![0, 128] s slices_S512x512_o0_128_S512x128, extractStridedSlice S512x128 ![0, 256] s slices_S512x512_o0_256_S512x128, extractStridedSlice S512x128 ![0, 384] s slices_S512x512_o0_384_S512x128]

/-- A chunk masked above the diagonal that begins `w` columns before it. -/
def mask (w : BitVec 32) (x : M) : M :=
  select (cmpi .sle (addi (iota .tc S512x128 32 [1] iota_S512x128_d1_w32) (broadcast S512x128 w)) (iota .tc S512x128 32 [0] iota_S512x128_d0_w32)) x
    (broadcast S512x128 (Named.named κ "mask" 0xFF7F0000#32 : Ideal .f32))

/-- The last block's chunks for the first half of the query tile: all on the diagonal. -/
def ckd4 (s : FVec Ideal S512x512 .f32) : Fin 4 → M :=
  ![mask 0#32 (ck4 s 0), mask 128#32 (ck4 s 1), mask 256#32 (ck4 s 2), mask 384#32 (ck4 s 3)]

/-- The last block's chunks for the second half of the query tile: the last four on the diagonal. -/
def ckd8 (s : FVec Ideal S512x1024 .f32) : Fin 8 → M :=
  ![ck8 s 0, ck8 s 1, ck8 s 2, ck8 s 3, mask 0#32 (ck8 s 4), mask 128#32 (ck8 s 5), mask 256#32 (ck8 s 6), mask 384#32 (ck8 s 7)]

/-- The chain's maximum after a block. -/
def newM (c : Fin 8 → M) (m : B) : B := ln (m8 c (un m))

/-- The chain's lane sums after a block. -/
def newL (c : Fin 8 → M) (m l : B) : B := ln (l8 c (un m) (m8 c (un m)) (un l))

/-- The chain's accumulator after a block. -/
def newA (c : Fin 8 → M) (v : K) (m a : B) : B := ln (a8 c (un m) (m8 c (un m)) (un a) (vals v))

/-- The chain's maximum after a half block. -/
def newM4 (c : Fin 4 → M) (m : B) : B := ln (m4 c (un m))

/-- The chain's lane sums after a half block. -/
def newL4 (c : Fin 4 → M) (m l : B) : B := ln (l4 c (un m) (m4 c (un m)) (un l))

/-- The chain's accumulator after a half block. -/
def newA4 (c : Fin 4 → M) (v : K) (m a : B) : B := ln (a4 c (un m) (m4 c (un m)) (un a) (vals4 v))

end Cert.KernelIdeal.Mla
-- ==== Proof.Trip.lean ====
/-
  One trip of the attention kernel's loop over the full blocks of keys, stored piece by piece: each of the
  eight chains' buffers is the update of `Chain` by the trip's block of keys.
-/
module

public import proofs.«01_k».proof.Proof.Chain
public import proofs.«01_k».proof.Proof.Gen.KernelIdeal.Frame

@[expose] public section

set_option maxRecDepth 16384

noncomputable section

namespace Cert.KernelIdeal.Mla

open Idealize.ShloMosaic Idealize.ShloMosaic.TcCoe Cert.KernelIdeal Cert.KernelIdeal.Gen

variable (𝒱 : Variants) (c : Dev nD) (bd : Option 𝒱.V) (i : grid0.Coords) (arg3 : Memref sig .tc .vmem S1024x1024 .bf16) (harg3 : arg3.IsWhole) (arg4 : Memref sig .tc .vmem S4096x512 .bf16) (harg4 : arg4.IsWhole) (arg5 : Memref sig .tc .vmem S4096x128 .bf16) (harg5 : arg5.IsWhole) (arg6 : Memref sig .tc .vmem S4096x512 .bf16) (harg6 : arg6.IsWhole) (arg7 : Memref sig .tc .vmem S64x11008 .f32) (harg7 : arg7.IsWhole) (arg8 : Memref sig .tc .vmem S64x11008 .f32) (harg8 : arg8.IsWhole) (arg9 : Memref sig .tc .vmem S1024x512 .bf16) (harg9 : arg9.IsWhole) (arg10 : Memref sig .tc .vmem S64x11008 .bf16) (harg10 : arg10.IsWhole) (arg11 : Memref sig .tc .vmem S64x11008 .bf16) (harg11 : arg11.IsWhole) (arg12 : Memref sig .tc .vmem S8x512x128 .f32) (harg12 : arg12.IsWhole) (arg13 : Memref sig .tc .vmem S8x512x128 .f32) (harg13 : arg13.IsWhole) (arg14 : Memref sig .tc .vmem S8x512x128 .f32) (harg14 : arg14.IsWhole) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (k : Fin (k0_t1_loop i).trips)
  (f12 : BufTy.Contents (Elt Ideal) arg12.view.ty) (f13 : BufTy.Contents (Elt Ideal) arg13.view.ty) (f14 : BufTy.Contents (Elt Ideal) arg14.view.ty)

unseal trip_k0_t1 in
theorem trip_m : (trip_k0_t1 (F := Ideal) 𝒱 c bd i arg3 harg3 arg4 harg4 arg5 harg5 arg6 harg6 arg7 harg7 arg8 harg8 arg9 harg9 arg10 harg10 arg11 harg11 arg12 harg12 arg13 harg13 arg14 harg14 X_arg3 X_arg4 X_arg5 X_arg6 k).1 f12 f13 f14 =
    [⟨Rect.unit (s := S8x512x128) ![7, 0, 0] ![1, 512, 128] inb_S8x512x128_S1x512x128_7_0_0, newM (ck8 (sc8 (View.readAt (Elt Ideal) arg3.view (Rect.unit (s := S1024x1024) ![512, 768] S512x256.size inb_S1024x1024_S512x256_512_768).toLoadRect X_arg3) (View.readAt (Elt Ideal) arg4.view (Rect.unit (s := S4096x512) (k0_off5 i k) S1024x128.size (k0_off5_inb i k)).toLoadRect X_arg4) (View.readAt (Elt Ideal) arg5.view (Rect.unit (s := S4096x128) (k0_off2 i k) S1024x128.size (k0_off2_inb i k)).toLoadRect X_arg5))) (View.readAt (Elt Ideal) arg12.view (Rect.unit (s := S8x512x128) ![7, 0, 0] ![1, 512, 128] inb_S8x512x128_S1x512x128_7_0_0).toLoadRect f12)⟩,
     ⟨Rect.unit (s := S8x512x128) ![6, 0, 0] ![1, 512, 128] inb_S8x512x128_S1x512x128_6_0_0, newM (ck8 (sc8 (View.readAt (Elt Ideal) arg3.view (Rect.unit (s := S1024x1024) ![0, 768] S512x256.size inb_S1024x1024_S512x256_0_768).toLoadRect X_arg3) (View.readAt (Elt Ideal) arg4.view (Rect.unit (s := S4096x512) (k0_off5 i k) S1024x128.size (k0_off5_inb i k)).toLoadRect X_arg4) (View.readAt (Elt Ideal) arg5.view (Rect.unit (s := S4096x128) (k0_off2 i k) S1024x128.size (k0_off2_inb i k)).toLoadRect X_arg5))) (View.readAt (Elt Ideal) arg12.view (Rect.unit (s := S8x512x128) ![6, 0, 0] ![1, 512, 128] inb_S8x512x128_S1x512x128_6_0_0).toLoadRect f12)⟩,
     ⟨Rect.unit (s := S8x512x128) ![5, 0, 0] ![1, 512, 128] inb_S8x512x128_S1x512x128_5_0_0, newM (ck8 (sc8 (View.readAt (Elt Ideal) arg3.view (Rect.unit (s := S1024x1024) ![512, 512] S512x256.size inb_S1024x1024_S512x256_512_512).toLoadRect X_arg3) (View.readAt (Elt Ideal) arg4.view (Rect.unit (s := S4096x512) (k0_off4 i k) S1024x128.size (k0_off4_inb i k)).toLoadRect X_arg4) (View.readAt (Elt Ideal) arg5.view (Rect.unit (s := S4096x128) (k0_off2 i k) S1024x128.size (k0_off2_inb i k)).toLoadRect X_arg5))) (View.readAt (Elt Ideal) arg12.view (Rect.unit (s := S8x512x128) ![5, 0, 0] ![1, 512, 128] inb_S8x512x128_S1x512x128_5_0_0).toLoadRect f12)⟩,
     ⟨Rect.unit (s := S8x512x128) ![4, 0, 0] ![1, 512, 128] inb_S8x512x128_S1x512x128_4_0_0, newM (ck8 (sc8 (View.readAt (Elt Ideal) arg3.view (Rect.unit (s := S1024x1024) ![0, 512] S512x256.size inb_S1024x1024_S512x256_0_512).toLoadRect X_arg3) (View.readAt (Elt Ideal) arg4.view (Rect.unit (s := S4096x512) (k0_off4 i k) S1024x128.size (k0_off4_inb i k)).toLoadRect X_arg4) (View.readAt (Elt Ideal) arg5.view (Rect.unit (s := S4096x128) (k0_off2 i k) S1024x128.size (k0_off2_inb i k)).toLoadRect X_arg5))) (View.readAt (Elt Ideal) arg12.view (Rect.unit (s := S8x512x128) ![4, 0, 0] ![1, 512, 128] inb_S8x512x128_S1x512x128_4_0_0).toLoadRect f12)⟩,
     ⟨Rect.unit (s := S8x512x128) ![3, 0, 0] ![1, 512, 128] inb_S8x512x128_S1x512x128_3_0_0, newM (ck8 (sc8 (View.readAt (Elt Ideal) arg3.view (Rect.unit (s := S1024x1024) ![512, 256] S512x256.size inb_S1024x1024_S512x256_512_256).toLoadRect X_arg3) (View.readAt (Elt Ideal) arg4.view (Rect.unit (s := S4096x512) (k0_off3 i k) S1024x128.size (k0_off3_inb i k)).toLoadRect X_arg4) (View.readAt (Elt Ideal) arg5.view (Rect.unit (s := S4096x128) (k0_off2 i k) S1024x128.size (k0_off2_inb i k)).toLoadRect X_arg5))) (View.readAt (Elt Ideal) arg12.view (Rect.unit (s := S8x512x128) ![3, 0, 0] ![1, 512, 128] inb_S8x512x128_S1x512x128_3_0_0).toLoadRect f12)⟩,
     ⟨Rect.unit (s := S8x512x128) ![2, 0, 0] ![1, 512, 128] inb_S8x512x128_S1x512x128_2_0_0, newM (ck8 (sc8 (View.readAt (Elt Ideal) arg3.view (Rect.unit (s := S1024x1024) ![0, 256] S512x256.size inb_S1024x1024_S512x256_0_256).toLoadRect X_arg3) (View.readAt (Elt Ideal) arg4.view (Rect.unit (s := S4096x512) (k0_off3 i k) S1024x128.size (k0_off3_inb i k)).toLoadRect X_arg4) (View.readAt (Elt Ideal) arg5.view (Rect.unit (s := S4096x128) (k0_off2 i k) S1024x128.size (k0_off2_inb i k)).toLoadRect X_arg5))) (View.readAt (Elt Ideal) arg12.view (Rect.unit (s := S8x512x128) ![2, 0, 0] ![1, 512, 128] inb_S8x512x128_S1x512x128_2_0_0).toLoadRect f12)⟩,
     ⟨Rect.unit (s := S8x512x128) ![1, 0, 0] ![1, 512, 128] inb_S8x512x128_S1x512x128_1_0_0, newM (ck8 (sc8 (View.readAt (Elt Ideal) arg3.view (Rect.unit (s := S1024x1024) ![512, 0] S512x256.size inb_S1024x1024_S512x256_512_0).toLoadRect X_arg3) (View.readAt (Elt Ideal) arg4.view (Rect.unit (s := S4096x512) (k0_off1 i k) S1024x128.size (k0_off1_inb i k)).toLoadRect X_arg4) (View.readAt (Elt Ideal) arg5.view (Rect.unit (s := S4096x128) (k0_off2 i k) S1024x128.size (k0_off2_inb i k)).toLoadRect X_arg5))) (View.readAt (Elt Ideal) arg12.view (Rect.unit (s := S8x512x128) ![1, 0, 0] ![1, 512, 128] inb_S8x512x128_S1x512x128_1_0_0).toLoadRect f12)⟩,
     ⟨Rect.unit (s := S8x512x128) ![0, 0, 0] ![1, 512, 128] inb_S8x512x128_S1x512x128_0_0_0, newM (ck8 (sc8 (View.readAt (Elt Ideal) arg3.view (Rect.unit (s := S1024x1024) ![0, 0] S512x256.size inb_S1024x1024_S512x256_0_0).toLoadRect X_arg3) (View.readAt (Elt Ideal) arg4.view (Rect.unit (s := S4096x512) (k0_off1 i k) S1024x128.size (k0_off1_inb i k)).toLoadRect X_arg4) (View.readAt (Elt Ideal) arg5.view (Rect.unit (s := S4096x128) (k0_off2 i k) S1024x128.size (k0_off2_inb i k)).toLoadRect X_arg5))) (View.readAt (Elt Ideal) arg12.view (Rect.unit (s := S8x512x128) ![0, 0, 0] ![1, 512, 128] inb_S8x512x128_S1x512x128_0_0_0).toLoadRect f12)⟩] := by
  unfold trip_k0_t1; dsimp only; rfl

unseal trip_k0_t1 in
theorem trip_l : (trip_k0_t1 (F := Ideal) 𝒱 c bd i arg3 harg3 arg4 harg4 arg5 harg5 arg6 harg6 arg7 harg7 arg8 harg8 arg9 harg9 arg10 harg10 arg11 harg11 arg12 harg12 arg13 harg13 arg14 harg14 X_arg3 X_arg4 X_arg5 X_arg6 k).2.1 f12 f13 f14 =
    [⟨Rect.unit (s := S8x512x128) ![7, 0, 0] ![1, 512, 128] inb_S8x512x128_S1x512x128_7_0_0, newL (ck8 (sc8 (View.readAt (Elt Ideal) arg3.view (Rect.unit (s := S1024x1024) ![512, 768] S512x256.size inb_S1024x1024_S512x256_512_768).toLoadRect X_arg3) (View.readAt (Elt Ideal) arg4.view (Rect.unit (s := S4096x512) (k0_off5 i k) S1024x128.size (k0_off5_inb i k)).toLoadRect X_arg4) (View.readAt (Elt Ideal) arg5.view (Rect.unit (s := S4096x128) (k0_off2 i k) S1024x128.size (k0_off2_inb i k)).toLoadRect X_arg5))) (View.readAt (Elt Ideal) arg12.view (Rect.unit (s := S8x512x128) ![7, 0, 0] ![1, 512, 128] inb_S8x512x128_S1x512x128_7_0_0).toLoadRect f12) (View.readAt (Elt Ideal) arg13.view (Rect.unit (s := S8x512x128) ![7, 0, 0] ![1, 512, 128] inb_S8x512x128_S1x512x128_7_0_0).toLoadRect f13)⟩,
     ⟨Rect.unit (s := S8x512x128) ![6, 0, 0] ![1, 512, 128] inb_S8x512x128_S1x512x128_6_0_0, newL (ck8 (sc8 (View.readAt (Elt Ideal) arg3.view (Rect.unit (s := S1024x1024) ![0, 768] S512x256.size inb_S1024x1024_S512x256_0_768).toLoadRect X_arg3) (View.readAt (Elt Ideal) arg4.view (Rect.unit (s := S4096x512) (k0_off5 i k) S1024x128.size (k0_off5_inb i k)).toLoadRect X_arg4) (View.readAt (Elt Ideal) arg5.view (Rect.unit (s := S4096x128) (k0_off2 i k) S1024x128.size (k0_off2_inb i k)).toLoadRect X_arg5))) (View.readAt (Elt Ideal) arg12.view (Rect.unit (s := S8x512x128) ![6, 0, 0] ![1, 512, 128] inb_S8x512x128_S1x512x128_6_0_0).toLoadRect f12) (View.readAt (Elt Ideal) arg13.view (Rect.unit (s := S8x512x128) ![6, 0, 0] ![1, 512, 128] inb_S8x512x128_S1x512x128_6_0_0).toLoadRect f13)⟩,
     ⟨Rect.unit (s := S8x512x128) ![5, 0, 0] ![1, 512, 128] inb_S8x512x128_S1x512x128_5_0_0, newL (ck8 (sc8 (View.readAt (Elt Ideal) arg3.view (Rect.unit (s := S1024x1024) ![512, 512] S512x256.size inb_S1024x1024_S512x256_512_512).toLoadRect X_arg3) (View.readAt (Elt Ideal) arg4.view (Rect.unit (s := S4096x512) (k0_off4 i k) S1024x128.size (k0_off4_inb i k)).toLoadRect X_arg4) (View.readAt (Elt Ideal) arg5.view (Rect.unit (s := S4096x128) (k0_off2 i k) S1024x128.size (k0_off2_inb i k)).toLoadRect X_arg5))) (View.readAt (Elt Ideal) arg12.view (Rect.unit (s := S8x512x128) ![5, 0, 0] ![1, 512, 128] inb_S8x512x128_S1x512x128_5_0_0).toLoadRect f12) (View.readAt (Elt Ideal) arg13.view (Rect.unit (s := S8x512x128) ![5, 0, 0] ![1, 512, 128] inb_S8x512x128_S1x512x128_5_0_0).toLoadRect f13)⟩,
     ⟨Rect.unit (s := S8x512x128) ![4, 0, 0] ![1, 512, 128] inb_S8x512x128_S1x512x128_4_0_0, newL (ck8 (sc8 (View.readAt (Elt Ideal) arg3.view (Rect.unit (s := S1024x1024) ![0, 512] S512x256.size inb_S1024x1024_S512x256_0_512).toLoadRect X_arg3) (View.readAt (Elt Ideal) arg4.view (Rect.unit (s := S4096x512) (k0_off4 i k) S1024x128.size (k0_off4_inb i k)).toLoadRect X_arg4) (View.readAt (Elt Ideal) arg5.view (Rect.unit (s := S4096x128) (k0_off2 i k) S1024x128.size (k0_off2_inb i k)).toLoadRect X_arg5))) (View.readAt (Elt Ideal) arg12.view (Rect.unit (s := S8x512x128) ![4, 0, 0] ![1, 512, 128] inb_S8x512x128_S1x512x128_4_0_0).toLoadRect f12) (View.readAt (Elt Ideal) arg13.view (Rect.unit (s := S8x512x128) ![4, 0, 0] ![1, 512, 128] inb_S8x512x128_S1x512x128_4_0_0).toLoadRect f13)⟩,
     ⟨Rect.unit (s := S8x512x128) ![3, 0, 0] ![1, 512, 128] inb_S8x512x128_S1x512x128_3_0_0, newL (ck8 (sc8 (View.readAt (Elt Ideal) arg3.view (Rect.unit (s := S1024x1024) ![512, 256] S512x256.size inb_S1024x1024_S512x256_512_256).toLoadRect X_arg3) (View.readAt (Elt Ideal) arg4.view (Rect.unit (s := S4096x512) (k0_off3 i k) S1024x128.size (k0_off3_inb i k)).toLoadRect X_arg4) (View.readAt (Elt Ideal) arg5.view (Rect.unit (s := S4096x128) (k0_off2 i k) S1024x128.size (k0_off2_inb i k)).toLoadRect X_arg5))) (View.readAt (Elt Ideal) arg12.view (Rect.unit (s := S8x512x128) ![3, 0, 0] ![1, 512, 128] inb_S8x512x128_S1x512x128_3_0_0).toLoadRect f12) (View.readAt (Elt Ideal) arg13.view (Rect.unit (s := S8x512x128) ![3, 0, 0] ![1, 512, 128] inb_S8x512x128_S1x512x128_3_0_0).toLoadRect f13)⟩,
     ⟨Rect.unit (s := S8x512x128) ![2, 0, 0] ![1, 512, 128] inb_S8x512x128_S1x512x128_2_0_0, newL (ck8 (sc8 (View.readAt (Elt Ideal) arg3.view (Rect.unit (s := S1024x1024) ![0, 256] S512x256.size inb_S1024x1024_S512x256_0_256).toLoadRect X_arg3) (View.readAt (Elt Ideal) arg4.view (Rect.unit (s := S4096x512) (k0_off3 i k) S1024x128.size (k0_off3_inb i k)).toLoadRect X_arg4) (View.readAt (Elt Ideal) arg5.view (Rect.unit (s := S4096x128) (k0_off2 i k) S1024x128.size (k0_off2_inb i k)).toLoadRect X_arg5))) (View.readAt (Elt Ideal) arg12.view (Rect.unit (s := S8x512x128) ![2, 0, 0] ![1, 512, 128] inb_S8x512x128_S1x512x128_2_0_0).toLoadRect f12) (View.readAt (Elt Ideal) arg13.view (Rect.unit (s := S8x512x128) ![2, 0, 0] ![1, 512, 128] inb_S8x512x128_S1x512x128_2_0_0).toLoadRect f13)⟩,
     ⟨Rect.unit (s := S8x512x128) ![1, 0, 0] ![1, 512, 128] inb_S8x512x128_S1x512x128_1_0_0, newL (ck8 (sc8 (View.readAt (Elt Ideal) arg3.view (Rect.unit (s := S1024x1024) ![512, 0] S512x256.size inb_S1024x1024_S512x256_512_0).toLoadRect X_arg3) (View.readAt (Elt Ideal) arg4.view (Rect.unit (s := S4096x512) (k0_off1 i k) S1024x128.size (k0_off1_inb i k)).toLoadRect X_arg4) (View.readAt (Elt Ideal) arg5.view (Rect.unit (s := S4096x128) (k0_off2 i k) S1024x128.size (k0_off2_inb i k)).toLoadRect X_arg5))) (View.readAt (Elt Ideal) arg12.view (Rect.unit (s := S8x512x128) ![1, 0, 0] ![1, 512, 128] inb_S8x512x128_S1x512x128_1_0_0).toLoadRect f12) (View.readAt (Elt Ideal) arg13.view (Rect.unit (s := S8x512x128) ![1, 0, 0] ![1, 512, 128] inb_S8x512x128_S1x512x128_1_0_0).toLoadRect f13)⟩,
     ⟨Rect.unit (s := S8x512x128) ![0, 0, 0] ![1, 512, 128] inb_S8x512x128_S1x512x128_0_0_0, newL (ck8 (sc8 (View.readAt (Elt Ideal) arg3.view (Rect.unit (s := S1024x1024) ![0, 0] S512x256.size inb_S1024x1024_S512x256_0_0).toLoadRect X_arg3) (View.readAt (Elt Ideal) arg4.view (Rect.unit (s := S4096x512) (k0_off1 i k) S1024x128.size (k0_off1_inb i k)).toLoadRect X_arg4) (View.readAt (Elt Ideal) arg5.view (Rect.unit (s := S4096x128) (k0_off2 i k) S1024x128.size (k0_off2_inb i k)).toLoadRect X_arg5))) (View.readAt (Elt Ideal) arg12.view (Rect.unit (s := S8x512x128) ![0, 0, 0] ![1, 512, 128] inb_S8x512x128_S1x512x128_0_0_0).toLoadRect f12) (View.readAt (Elt Ideal) arg13.view (Rect.unit (s := S8x512x128) ![0, 0, 0] ![1, 512, 128] inb_S8x512x128_S1x512x128_0_0_0).toLoadRect f13)⟩] := by
  unfold trip_k0_t1; dsimp only; rfl

unseal trip_k0_t1 in
theorem trip_a : (trip_k0_t1 (F := Ideal) 𝒱 c bd i arg3 harg3 arg4 harg4 arg5 harg5 arg6 harg6 arg7 harg7 arg8 harg8 arg9 harg9 arg10 harg10 arg11 harg11 arg12 harg12 arg13 harg13 arg14 harg14 X_arg3 X_arg4 X_arg5 X_arg6 k).2.2.1 f12 f13 f14 =
    [⟨Rect.unit (s := S8x512x128) ![7, 0, 0] ![1, 512, 128] inb_S8x512x128_S1x512x128_7_0_0, newA (ck8 (sc8 (View.readAt (Elt Ideal) arg3.view (Rect.unit (s := S1024x1024) ![512, 768] S512x256.size inb_S1024x1024_S512x256_512_768).toLoadRect X_arg3) (View.readAt (Elt Ideal) arg4.view (Rect.unit (s := S4096x512) (k0_off5 i k) S1024x128.size (k0_off5_inb i k)).toLoadRect X_arg4) (View.readAt (Elt Ideal) arg5.view (Rect.unit (s := S4096x128) (k0_off2 i k) S1024x128.size (k0_off2_inb i k)).toLoadRect X_arg5))) (View.readAt (Elt Ideal) arg6.view (Rect.unit (s := S4096x512) (k0_off5 i k) S1024x128.size (k0_off5_inb i k)).toLoadRect X_arg6) (View.readAt (Elt Ideal) arg12.view (Rect.unit (s := S8x512x128) ![7, 0, 0] ![1, 512, 128] inb_S8x512x128_S1x512x128_7_0_0).toLoadRect f12) (View.readAt (Elt Ideal) arg14.view (Rect.unit (s := S8x512x128) ![7, 0, 0] ![1, 512, 128] inb_S8x512x128_S1x512x128_7_0_0).toLoadRect f14)⟩,
     ⟨Rect.unit (s := S8x512x128) ![6, 0, 0] ![1, 512, 128] inb_S8x512x128_S1x512x128_6_0_0, newA (ck8 (sc8 (View.readAt (Elt Ideal) arg3.view (Rect.unit (s := S1024x1024) ![0, 768] S512x256.size inb_S1024x1024_S512x256_0_768).toLoadRect X_arg3) (View.readAt (Elt Ideal) arg4.view (Rect.unit (s := S4096x512) (k0_off5 i k) S1024x128.size (k0_off5_inb i k)).toLoadRect X_arg4) (View.readAt (Elt Ideal) arg5.view (Rect.unit (s := S4096x128) (k0_off2 i k) S1024x128.size (k0_off2_inb i k)).toLoadRect X_arg5))) (View.readAt (Elt Ideal) arg6.view (Rect.unit (s := S4096x512) (k0_off5 i k) S1024x128.size (k0_off5_inb i k)).toLoadRect X_arg6) (View.readAt (Elt Ideal) arg12.view (Rect.unit (s := S8x512x128) ![6, 0, 0] ![1, 512, 128] inb_S8x512x128_S1x512x128_6_0_0).toLoadRect f12) (View.readAt (Elt Ideal) arg14.view (Rect.unit (s := S8x512x128) ![6, 0, 0] ![1, 512, 128] inb_S8x512x128_S1x512x128_6_0_0).toLoadRect f14)⟩,
     ⟨Rect.unit (s := S8x512x128) ![5, 0, 0] ![1, 512, 128] inb_S8x512x128_S1x512x128_5_0_0, newA (ck8 (sc8 (View.readAt (Elt Ideal) arg3.view (Rect.unit (s := S1024x1024) ![512, 512] S512x256.size inb_S1024x1024_S512x256_512_512).toLoadRect X_arg3) (View.readAt (Elt Ideal) arg4.view (Rect.unit (s := S4096x512) (k0_off4 i k) S1024x128.size (k0_off4_inb i k)).toLoadRect X_arg4) (View.readAt (Elt Ideal) arg5.view (Rect.unit (s := S4096x128) (k0_off2 i k) S1024x128.size (k0_off2_inb i k)).toLoadRect X_arg5))) (View.readAt (Elt Ideal) arg6.view (Rect.unit (s := S4096x512) (k0_off4 i k) S1024x128.size (k0_off4_inb i k)).toLoadRect X_arg6) (View.readAt (Elt Ideal) arg12.view (Rect.unit (s := S8x512x128) ![5, 0, 0] ![1, 512, 128] inb_S8x512x128_S1x512x128_5_0_0).toLoadRect f12) (View.readAt (Elt Ideal) arg14.view (Rect.unit (s := S8x512x128) ![5, 0, 0] ![1, 512, 128] inb_S8x512x128_S1x512x128_5_0_0).toLoadRect f14)⟩,
     ⟨Rect.unit (s := S8x512x128) ![4, 0, 0] ![1, 512, 128] inb_S8x512x128_S1x512x128_4_0_0, newA (ck8 (sc8 (View.readAt (Elt Ideal) arg3.view (Rect.unit (s := S1024x1024) ![0, 512] S512x256.size inb_S1024x1024_S512x256_0_512).toLoadRect X_arg3) (View.readAt (Elt Ideal) arg4.view (Rect.unit (s := S4096x512) (k0_off4 i k) S1024x128.size (k0_off4_inb i k)).toLoadRect X_arg4) (View.readAt (Elt Ideal) arg5.view (Rect.unit (s := S4096x128) (k0_off2 i k) S1024x128.size (k0_off2_inb i k)).toLoadRect X_arg5))) (View.readAt (Elt Ideal) arg6.view (Rect.unit (s := S4096x512) (k0_off4 i k) S1024x128.size (k0_off4_inb i k)).toLoadRect X_arg6) (View.readAt (Elt Ideal) arg12.view (Rect.unit (s := S8x512x128) ![4, 0, 0] ![1, 512, 128] inb_S8x512x128_S1x512x128_4_0_0).toLoadRect f12) (View.readAt (Elt Ideal) arg14.view (Rect.unit (s := S8x512x128) ![4, 0, 0] ![1, 512, 128] inb_S8x512x128_S1x512x128_4_0_0).toLoadRect f14)⟩,
     ⟨Rect.unit (s := S8x512x128) ![3, 0, 0] ![1, 512, 128] inb_S8x512x128_S1x512x128_3_0_0, newA (ck8 (sc8 (View.readAt (Elt Ideal) arg3.view (Rect.unit (s := S1024x1024) ![512, 256] S512x256.size inb_S1024x1024_S512x256_512_256).toLoadRect X_arg3) (View.readAt (Elt Ideal) arg4.view (Rect.unit (s := S4096x512) (k0_off3 i k) S1024x128.size (k0_off3_inb i k)).toLoadRect X_arg4) (View.readAt (Elt Ideal) arg5.view (Rect.unit (s := S4096x128) (k0_off2 i k) S1024x128.size (k0_off2_inb i k)).toLoadRect X_arg5))) (View.readAt (Elt Ideal) arg6.view (Rect.unit (s := S4096x512) (k0_off3 i k) S1024x128.size (k0_off3_inb i k)).toLoadRect X_arg6) (View.readAt (Elt Ideal) arg12.view (Rect.unit (s := S8x512x128) ![3, 0, 0] ![1, 512, 128] inb_S8x512x128_S1x512x128_3_0_0).toLoadRect f12) (View.readAt (Elt Ideal) arg14.view (Rect.unit (s := S8x512x128) ![3, 0, 0] ![1, 512, 128] inb_S8x512x128_S1x512x128_3_0_0).toLoadRect f14)⟩,
     ⟨Rect.unit (s := S8x512x128) ![2, 0, 0] ![1, 512, 128] inb_S8x512x128_S1x512x128_2_0_0, newA (ck8 (sc8 (View.readAt (Elt Ideal) arg3.view (Rect.unit (s := S1024x1024) ![0, 256] S512x256.size inb_S1024x1024_S512x256_0_256).toLoadRect X_arg3) (View.readAt (Elt Ideal) arg4.view (Rect.unit (s := S4096x512) (k0_off3 i k) S1024x128.size (k0_off3_inb i k)).toLoadRect X_arg4) (View.readAt (Elt Ideal) arg5.view (Rect.unit (s := S4096x128) (k0_off2 i k) S1024x128.size (k0_off2_inb i k)).toLoadRect X_arg5))) (View.readAt (Elt Ideal) arg6.view (Rect.unit (s := S4096x512) (k0_off3 i k) S1024x128.size (k0_off3_inb i k)).toLoadRect X_arg6) (View.readAt (Elt Ideal) arg12.view (Rect.unit (s := S8x512x128) ![2, 0, 0] ![1, 512, 128] inb_S8x512x128_S1x512x128_2_0_0).toLoadRect f12) (View.readAt (Elt Ideal) arg14.view (Rect.unit (s := S8x512x128) ![2, 0, 0] ![1, 512, 128] inb_S8x512x128_S1x512x128_2_0_0).toLoadRect f14)⟩,
     ⟨Rect.unit (s := S8x512x128) ![1, 0, 0] ![1, 512, 128] inb_S8x512x128_S1x512x128_1_0_0, newA (ck8 (sc8 (View.readAt (Elt Ideal) arg3.view (Rect.unit (s := S1024x1024) ![512, 0] S512x256.size inb_S1024x1024_S512x256_512_0).toLoadRect X_arg3) (View.readAt (Elt Ideal) arg4.view (Rect.unit (s := S4096x512) (k0_off1 i k) S1024x128.size (k0_off1_inb i k)).toLoadRect X_arg4) (View.readAt (Elt Ideal) arg5.view (Rect.unit (s := S4096x128) (k0_off2 i k) S1024x128.size (k0_off2_inb i k)).toLoadRect X_arg5))) (View.readAt (Elt Ideal) arg6.view (Rect.unit (s := S4096x512) (k0_off1 i k) S1024x128.size (k0_off1_inb i k)).toLoadRect X_arg6) (View.readAt (Elt Ideal) arg12.view (Rect.unit (s := S8x512x128) ![1, 0, 0] ![1, 512, 128] inb_S8x512x128_S1x512x128_1_0_0).toLoadRect f12) (View.readAt (Elt Ideal) arg14.view (Rect.unit (s := S8x512x128) ![1, 0, 0] ![1, 512, 128] inb_S8x512x128_S1x512x128_1_0_0).toLoadRect f14)⟩,
     ⟨Rect.unit (s := S8x512x128) ![0, 0, 0] ![1, 512, 128] inb_S8x512x128_S1x512x128_0_0_0, newA (ck8 (sc8 (View.readAt (Elt Ideal) arg3.view (Rect.unit (s := S1024x1024) ![0, 0] S512x256.size inb_S1024x1024_S512x256_0_0).toLoadRect X_arg3) (View.readAt (Elt Ideal) arg4.view (Rect.unit (s := S4096x512) (k0_off1 i k) S1024x128.size (k0_off1_inb i k)).toLoadRect X_arg4) (View.readAt (Elt Ideal) arg5.view (Rect.unit (s := S4096x128) (k0_off2 i k) S1024x128.size (k0_off2_inb i k)).toLoadRect X_arg5))) (View.readAt (Elt Ideal) arg6.view (Rect.unit (s := S4096x512) (k0_off1 i k) S1024x128.size (k0_off1_inb i k)).toLoadRect X_arg6) (View.readAt (Elt Ideal) arg12.view (Rect.unit (s := S8x512x128) ![0, 0, 0] ![1, 512, 128] inb_S8x512x128_S1x512x128_0_0_0).toLoadRect f12) (View.readAt (Elt Ideal) arg14.view (Rect.unit (s := S8x512x128) ![0, 0, 0] ![1, 512, 128] inb_S8x512x128_S1x512x128_0_0_0).toLoadRect f14)⟩] := by
  unfold trip_k0_t1; dsimp only; rfl

end Cert.KernelIdeal.Mla
-- ==== Proof.Block.lean ====
/-
  What a chain's update is at an index, and the online softmax's state carried through it: `step8` for a full
  block of keys, `stepD4` and `stepD8` for the last block (the first and the second half of the query tile).
-/
module

public import proofs.«01_k».proof.Proof.Chain

@[expose] public section

set_option maxRecDepth 16384

noncomputable section

namespace Cert.KernelIdeal.Mla

open Idealize.ShloMosaic Idealize.ShloMosaic.TcCoe Cert.KernelIdeal Facts₀ Facts Cert.Softmax

/-- A matrix read at two numbers (zero outside of it). -/
def at2 {n m : ℕ} (X : (⟨2, ![n, m]⟩ : Shape).Idx → EReal) (i j : ℕ) : EReal :=
  if h : i < n ∧ j < m then X (ix2 ⟨i, h.1⟩ ⟨j, h.2⟩) else 0

theorem at2_ix2 {n m : ℕ} (X : (⟨2, ![n, m]⟩ : Shape).Idx → EReal) (i : Fin n) (j : Fin m) : at2 X i j = X (ix2 i j) :=
  dif_pos ⟨i.isLt, j.isLt⟩

theorem un_ln (x : M) : un (ln x) = x := by
  funext j
  idx_vars j
  pointwise [un, ln]

/-- The score of head `h` of a tile at row `row` of the query tile and column `c` of the keys. -/
def raw (x0 : Vec Ideal S1024x1024 .bf16) (x1 : Vec Ideal S4096x512 .bf16) (x2 : Vec Ideal S4096x128 .bf16) (h row c : ℕ) : EReal :=
  ∑ k : Fin 256, at2 x0 row (256 * h + k) * if k.val < 128 then at2 x1 c (128 * h + k) else at2 x2 c (k - 128)

/-- The score under the causal mask, in query tile `qi`. -/
def scr (x0 : Vec Ideal S1024x1024 .bf16) (x1 : Vec Ideal S4096x512 .bf16) (x2 : Vec Ideal S4096x128 .bf16) (qi h row c : ℕ) : EReal :=
  if c ≤ 1024 * qi + row then raw x0 x1 x2 h row c else ⊥

theorem kcat_apply (a p : K) (c : Fin 1024) (k : Fin 256) :
    kcat a p (ix2 c k) = if h : k.val < 128 then a (ix2 c ⟨k, h⟩) else p (ix2 c ⟨k - 128, by omega⟩) := by
  pointwise [kcat]

theorem vals_apply (v : K) (c : Fin 1024) (n : Fin 128) : vals v (ix2 c n) = v (ix2 c n) := by
  pointwise [vals]

theorem vals4_apply (v : K) (c : Fin 512) (n : Fin 128) : vals4 v (ix2 c n) = v (ix2 ⟨c, by omega⟩ n) := by
  pointwise [vals4]
  rw [vals_apply]

theorem sc8_apply (q : Q) (a p : K) (r : Fin 512) (c : Fin 1024) : sc8 q a p (ix2 r c) = ∑ k : Fin 256, q (ix2 r k) * kcat a p (ix2 c k) := by
  pointwise [sc8]

theorem sc4_apply (q : Q) (a p : K) (r : Fin 512) (c : Fin 512) :
    sc4 q a p (ix2 r c) = ∑ k : Fin 256, q (ix2 r k) * kcat a p (ix2 ⟨c, by omega⟩ k) := by
  pointwise [sc4]

theorem ck8_apply (s : FVec Ideal S512x1024 .f32) (g : Fin 8) (r : Fin 512) (n : Fin 128) :
    ck8 s g (ix2 r n) = s (ix2 r ⟨128 * g.val + n.val, by omega⟩) := by
  unfold ck8
  fin_cases g <;> (simp only [Matrix.cons_val]; pointwise)

theorem ck4_apply (s : FVec Ideal S512x512 .f32) (g : Fin 4) (r : Fin 512) (n : Fin 128) :
    ck4 s g (ix2 r n) = s (ix2 r ⟨128 * g.val + n.val, by omega⟩) := by
  unfold ck4
  fin_cases g <;> (simp only [Matrix.cons_val]; pointwise)

theorem mask_apply (w : BitVec 32) (hw : w.toNat ≤ 384) (x : M) (r : Fin 512) (n : Fin 128) :
    mask w x (ix2 r n) = if n.val + w.toNat ≤ r.val then x (ix2 r n) else ⊥ := by
  pointwise [mask]
  rw [show (Named.named κ "mask" 4286513152#32 : Ideal .f32) = ⊥ from IdealRules.named_const.ideal_named_scalar _ _ _ _ rfl]
  have e : (IntOp.cmpi CmpIPredicate.sle (IntOp.addi (BitVec.ofNat 32 n.val) w) (BitVec.ofNat 32 r.val))
      = BitVec.ofBool (decide (n.val + w.toNat ≤ r.val)) := by
    show BitVec.ofBool (BitVec.sle (BitVec.ofNat 32 n.val + w) (BitVec.ofNat 32 r.val)) = _
    congr 1
    have h1 : (BitVec.ofNat 32 n.val + w).toNat = n.val + w.toNat := by
      rw [BitVec.toNat_add, BitVec.toNat_ofNat]; omega
    have h2 : (BitVec.ofNat 32 r.val).toNat = r.val := by rw [BitVec.toNat_ofNat]; omega
    rw [BitVec.sle_eq_decide, BitVec.toInt_eq_toNat_of_lt (by omega), BitVec.toInt_eq_toNat_of_lt (by omega), h1, h2]
    simp only [Nat.cast_le]
  rw [e]
  by_cases h : n.val + w.toNat ≤ r.val
  · rw [if_pos h, decide_eq_true h]; rfl
  · rw [if_neg h, decide_eq_false h]; rfl

theorem vec4 (a0 a1 a2 a3 : M) : (![a0, a1, a2, a3] : Fin 4 → M) 0 = a0 ∧ (![a0, a1, a2, a3] : Fin 4 → M) 1 = a1 ∧ (![a0, a1, a2, a3] : Fin 4 → M) 2 = a2 ∧ (![a0, a1, a2, a3] : Fin 4 → M) 3 = a3 :=
  ⟨rfl, rfl, rfl, rfl⟩

theorem vec8 (a0 a1 a2 a3 a4 a5 a6 a7 : M) :
    (![a0, a1, a2, a3, a4, a5, a6, a7] : Fin 8 → M) 0 = a0 ∧ (![a0, a1, a2, a3, a4, a5, a6, a7] : Fin 8 → M) 1 = a1 ∧ (![a0, a1, a2, a3, a4, a5, a6, a7] : Fin 8 → M) 2 = a2 ∧ (![a0, a1, a2, a3, a4, a5, a6, a7] : Fin 8 → M) 3 = a3 ∧ (![a0, a1, a2, a3, a4, a5, a6, a7] : Fin 8 → M) 4 = a4 ∧ (![a0, a1, a2, a3, a4, a5, a6, a7] : Fin 8 → M) 5 = a5 ∧ (![a0, a1, a2, a3, a4, a5, a6, a7] : Fin 8 → M) 6 = a6 ∧ (![a0, a1, a2, a3, a4, a5, a6, a7] : Fin 8 → M) 7 = a7 :=
  ⟨rfl, rfl, rfl, rfl, rfl, rfl, rfl, rfl⟩

theorem ckd4_vec (s : FVec Ideal S512x512 .f32) : ckd4 s 0 = mask 0#32 (ck4 s 0) ∧ ckd4 s 1 = mask 128#32 (ck4 s 1)
    ∧ ckd4 s 2 = mask 256#32 (ck4 s 2) ∧ ckd4 s 3 = mask 384#32 (ck4 s 3) := by
  unfold ckd4
  exact vec4 _ _ _ _

theorem ckd8_vec (s : FVec Ideal S512x1024 .f32) : ckd8 s 0 = ck8 s 0 ∧ ckd8 s 1 = ck8 s 1 ∧ ckd8 s 2 = ck8 s 2 ∧ ckd8 s 3 = ck8 s 3
    ∧ ckd8 s 4 = mask 0#32 (ck8 s 4) ∧ ckd8 s 5 = mask 128#32 (ck8 s 5) ∧ ckd8 s 6 = mask 256#32 (ck8 s 6) ∧ ckd8 s 7 = mask 384#32 (ck8 s 7) := by
  unfold ckd8
  exact vec8 _ _ _ _ _ _ _ _

theorem ckd4_apply (s : FVec Ideal S512x512 .f32) (g : Fin 4) (r : Fin 512) (n : Fin 128) :
    ckd4 s g (ix2 r n) = if n.val + 128 * g.val ≤ r.val then s (ix2 r ⟨128 * g.val + n.val, by omega⟩) else ⊥ := by
  rw [← ck4_apply s g r n]
  obtain ⟨h0, h1, h2, h3⟩ := ckd4_vec s
  generalize ckd4 s = x at *
  generalize ck4 s = y at *
  match g with
  | 0 => rw [h0, mask_apply _ (by decide)]; exact if_congr (by simp) rfl rfl
  | 1 => rw [h1, mask_apply _ (by decide)]; exact if_congr (by simp) rfl rfl
  | 2 => rw [h2, mask_apply _ (by decide)]; exact if_congr (by simp) rfl rfl
  | 3 => rw [h3, mask_apply _ (by decide)]; exact if_congr (by simp) rfl rfl

theorem ckd8_apply (s : FVec Ideal S512x1024 .f32) (g : Fin 8) (r : Fin 512) (n : Fin 128) :
    ckd8 s g (ix2 r n) = if n.val + 128 * g.val ≤ r.val + 512 then s (ix2 r ⟨128 * g.val + n.val, by omega⟩) else ⊥ := by
  rw [← ck8_apply s g r n]
  obtain ⟨h0, h1, h2, h3, h4, h5, h6, h7⟩ := ckd8_vec s
  generalize ckd8 s = x at *
  generalize ck8 s = y at *
  match g with
  | 0 => rw [h0, if_pos (by simp; omega)]
  | 1 => rw [h1, if_pos (by simp; omega)]
  | 2 => rw [h2, if_pos (by simp; omega)]
  | 3 => rw [h3, if_pos (by simp; omega)]
  | 4 => rw [h4, mask_apply _ (by decide)]; exact if_congr (by simp <;> omega) rfl rfl
  | 5 => rw [h5, mask_apply _ (by decide)]; exact if_congr (by simp <;> omega) rfl rfl
  | 6 => rw [h6, mask_apply _ (by decide)]; exact if_congr (by simp <;> omega) rfl rfl
  | 7 => rw [h7, mask_apply _ (by decide)]; exact if_congr (by simp <;> omega) rfl rfl

section Step

variable {x0 : Vec Ideal S1024x1024 .bf16} {x1 : Vec Ideal S4096x512 .bf16} {x2 : Vec Ideal S4096x128 .bf16} {x3 : Vec Ideal S4096x512 .bf16}

/-- The scores of a chain against a block of keys are the head's scores. -/
theorem score_raw {h t b : ℕ} {q : Q} {a p : K}
    (hq : ∀ r k, q (ix2 r k) = at2 x0 (512 * t + r.val) (256 * h + k.val))
    (ha : ∀ c k, a (ix2 c k) = at2 x1 (b + c.val) (128 * h + k.val))
    (hp : ∀ c k, p (ix2 c k) = at2 x2 (b + c.val) k.val) (r : Fin 512) (c : Fin 1024) :
    ∑ k : Fin 256, q (ix2 r k) * kcat a p (ix2 c k) = raw x0 x1 x2 h (512 * t + r.val) (b + c.val) := by
  unfold raw
  refine Finset.sum_congr rfl fun k _ => ?_
  rw [kcat_apply, hq]
  congr 1
  split_ifs
  · rw [ha]
  · rw [hp]

/-- The scores at which the online softmax's facts hold: every score of the tile is finite. -/
def Fine (x0 : Vec Ideal S1024x1024 .bf16) (x1 : Vec Ideal S4096x512 .bf16) (x2 : Vec Ideal S4096x128 .bf16) : Prop :=
  ∀ h row c, h < 4 → row < 1024 → c < 4096 → raw x0 x1 x2 h row c ≠ ⊤ ∧ raw x0 x1 x2 h row c ≠ ⊥

theorem scr_ne_top (hf : Fine x0 x1 x2) {qi h row : ℕ} (hqi : qi < 4) (hh : h < 4) (hr : row < 1024) (c : ℕ) : scr x0 x1 x2 qi h row c ≠ ⊤ := by
  unfold scr
  split_ifs with hc
  · exact (hf h row c hh hr (by omega)).1
  · exact bot_ne_top

theorem scr_ne_bot (hf : Fine x0 x1 x2) {qi h row : ℕ} (hqi : qi < 4) (hh : h < 4) (hr : row < 1024) {c : ℕ} (hc : c ≤ 1024 * qi + row) :
    scr x0 x1 x2 qi h row c ≠ ⊥ := by
  unfold scr
  rw [if_pos hc]
  exact (hf h row c hh hr (by omega)).2

/-- A chain's state after the columns below `A`, its buffers given as stored. -/
def Ch (x0 : Vec Ideal S1024x1024 .bf16) (x1 : Vec Ideal S4096x512 .bf16) (x2 : Vec Ideal S4096x128 .bf16) (x3 : Vec Ideal S4096x512 .bf16)
    (qi h t A : ℕ) (m l a : B) : Prop :=
  ∀ r : Fin 512, St (scr x0 x1 x2 qi h (512 * t + r.val)) (fun c n => at2 x3 c (128 * h + n.val)) A (un m) (un l) (un a) r

variable (hf : Fine x0 x1 x2) {qi h t b : ℕ} (hqi : qi < 4) (hh : h < 4) (ht : t < 2) (hb : b % 1024 = 0)
  {q : Q} {a p v : K}
  (hq : ∀ r k, q (ix2 r k) = at2 x0 (512 * t + r.val) (256 * h + k.val))
  (ha : ∀ c k, a (ix2 c k) = at2 x1 (b + c.val) (128 * h + k.val))
  (hp : ∀ c k, p (ix2 c k) = at2 x2 (b + c.val) k.val)
  (hv : ∀ c k, v (ix2 c k) = at2 x3 (b + c.val) (128 * h + k.val))
  {m l acc : B} (hst : Ch x0 x1 x2 x3 qi h t b m l acc)

include hf hqi hh ht hb hq ha hp hv hst

/-- A full block: all of its columns are below the diagonal. -/
theorem step8 (hbq : b + 1024 ≤ 1024 * qi) :
    Ch x0 x1 x2 x3 qi h t (b + 1024) (newM (ck8 (sc8 q a p)) m) (newL (ck8 (sc8 q a p)) m l) (newA (ck8 (sc8 q a p)) v m acc) := by
  intro r
  unfold newM newL newA
  rw [un_ln, un_ln, un_ln]
  refine (hst r).step8 (fun g n => ?_) (fun k n => ?_) (by omega) (scr_ne_top hf hqi hh (by omega))
    ⟨b, Finset.mem_Ico.2 ⟨le_rfl, by omega⟩, scr_ne_bot hf hqi hh (by omega) (by omega)⟩
  · rw [ck8_apply, sc8_apply, score_raw hq ha hp]
    unfold scr
    rw [if_pos (by omega)]
  · rw [vals_apply, hv]

/-- The last block, second half of the query tile: the last four chunks are masked. -/
theorem stepD8 (ht1 : t = 1) (hbq : b = 1024 * qi) :
    Ch x0 x1 x2 x3 qi h t (b + 1024) (newM (ckd8 (sc8 q a p)) m) (newL (ckd8 (sc8 q a p)) m l) (newA (ckd8 (sc8 q a p)) v m acc) := by
  intro r
  unfold newM newL newA
  rw [un_ln, un_ln, un_ln]
  refine (hst r).step8 (fun g n => ?_) (fun k n => ?_) (by omega) (scr_ne_top hf hqi hh (by omega))
    ⟨b, Finset.mem_Ico.2 ⟨le_rfl, by omega⟩, scr_ne_bot hf hqi hh (by omega) (by omega)⟩
  · rw [ckd8_apply, sc8_apply, score_raw hq ha hp]
    exact if_congr (by omega) rfl rfl
  · rw [vals_apply, hv]

/-- The last block, first half of the query tile: half of the block, all of it masked. -/
theorem stepD4 (ht0 : t = 0) (hbq : b = 1024 * qi) :
    Ch x0 x1 x2 x3 qi h t (b + 512) (newM4 (ckd4 (sc4 q a p)) m) (newL4 (ckd4 (sc4 q a p)) m l) (newA4 (ckd4 (sc4 q a p)) v m acc) := by
  intro r
  unfold newM4 newL4 newA4
  rw [un_ln, un_ln, un_ln]
  refine (hst r).step4 (fun g n => ?_) (fun k n => ?_) (by omega) (scr_ne_top hf hqi hh (by omega))
    ⟨b, Finset.mem_Ico.2 ⟨le_rfl, by omega⟩, scr_ne_bot hf hqi hh (by omega) (by omega)⟩
  · rw [ckd4_apply, sc4_apply, score_raw hq ha hp]
    exact if_congr (by omega) rfl rfl
  · rw [vals4_apply, hv]

end Step

/-- What the kernel stores of a chain at the end. -/
def fin (l a : B) : FVec Ideal S512x128 .bf16 :=
  truncf .bf16 (divf (un a) (broadcastTo S512x128 (shapeCast S512x1
    (multiReduction .add [1] S512 (un l) 0x00000000#32 reduces_S512x128_S512 (.inl rfl) rfl) shapeCasts_S512_S512x1) broadcasts_S512x1_S512x128)) bitsLt_bf16_f32

/-- The stored quotient: the sum of the exponentials times the values over the sum of the exponentials. -/
theorem fin_apply {S : ℕ → EReal} {V : ℕ → Fin 128 → EReal} {A : ℕ} {m : M} {l a : B} {r : Fin 512} (h : St S V A m (un l) (un a) r) (n : Fin 128) :
    fin l a (ix2 r n) = Ideal.div (osum (Finset.range A) S fun c => V c n) (osum (Finset.range A) S fun _ => 1) := by
  unfold fin
  generalize un l = l, un a = a at h
  pointwise
  rw [h.acc, Finset.sum_congr rfl fun k _ => h.sum k]
  congr 1
  unfold osum
  rw [Finset.sum_comm]
  refine Finset.sum_congr rfl fun c _ => ?_
  rw [mul_one, Finset.sum_eq_single ⟨c % 128, Nat.mod_lt _ (by norm_num)⟩]
  · simp
  · intro b _ hb
    simp only
    rw [if_neg (fun e => hb (Fin.ext (Eq.symm e))), mul_zero]
  · intro h
    exact absurd (Finset.mem_univ _) h

end Cert.KernelIdeal.Mla
-- ==== Proof.Inv.lean ====
/-
  The loop over the full blocks of keys keeps the state of the online softmax: before trip `k` the eight chains'
  buffers hold the state after the first `1024 k` columns.
-/
module

public import proofs.«01_k».proof.Proof.Trip
public import proofs.«01_k».proof.Proof.Block
public import Idealize.ShloMosaic.Lib.Pipeline.ReadBack
public import Idealize.ShloMosaic.Lib.Pipeline.ValueKit.Tiles

@[expose] public section

set_option maxRecDepth 16384

noncomputable section

namespace Cert.KernelIdeal.Mla

open Idealize.ShloMosaic Idealize.ShloMosaic.TcCoe Cert.KernelIdeal Cert.KernelIdeal.Gen

variable {arg : Memref sig .tc .vmem S8x512x128 .f32}

/-- The stored pieces, read at chain `ch`'s rows. -/
abbrev rd (arg : Memref sig .tc .vmem S8x512x128 .f32) (ch : ℕ) (h : ∀ a, (![ch, 0, 0] : Fin 3 → ℕ) a + S1x512x128.size a ≤ S8x512x128.size a)
    (L : List (View.Piece (Elt Ideal) S8x512x128 .f32)) : B :=
  arg.view.readCov L (Rect.unit (s := S8x512x128) ![ch, 0, 0] ![1, 512, 128] h).toLoadRect

/-- Of the eight chains' stores a load of one chain reads its own. -/
theorem rc8 (arg : Memref sig .tc .vmem S8x512x128 .f32) (w0 w1 w2 w3 w4 w5 w6 w7 : B) (L : List (View.Piece (Elt Ideal) S8x512x128 .f32)) :
    rd arg 0 inb_S8x512x128_S1x512x128_0_0_0 (⟨Rect.unit (s := S8x512x128) ![7, 0, 0] ![1, 512, 128] inb_S8x512x128_S1x512x128_7_0_0, w7⟩ :: ⟨Rect.unit (s := S8x512x128) ![6, 0, 0] ![1, 512, 128] inb_S8x512x128_S1x512x128_6_0_0, w6⟩ :: ⟨Rect.unit (s := S8x512x128) ![5, 0, 0] ![1, 512, 128] inb_S8x512x128_S1x512x128_5_0_0, w5⟩ :: ⟨Rect.unit (s := S8x512x128) ![4, 0, 0] ![1, 512, 128] inb_S8x512x128_S1x512x128_4_0_0, w4⟩ :: ⟨Rect.unit (s := S8x512x128) ![3, 0, 0] ![1, 512, 128] inb_S8x512x128_S1x512x128_3_0_0, w3⟩ :: ⟨Rect.unit (s := S8x512x128) ![2, 0, 0] ![1, 512, 128] inb_S8x512x128_S1x512x128_2_0_0, w2⟩ :: ⟨Rect.unit (s := S8x512x128) ![1, 0, 0] ![1, 512, 128] inb_S8x512x128_S1x512x128_1_0_0, w1⟩ :: ⟨Rect.unit (s := S8x512x128) ![0, 0, 0] ![1, 512, 128] inb_S8x512x128_S1x512x128_0_0_0, w0⟩ :: L) = w0
    ∧ rd arg 1 inb_S8x512x128_S1x512x128_1_0_0 (⟨Rect.unit (s := S8x512x128) ![7, 0, 0] ![1, 512, 128] inb_S8x512x128_S1x512x128_7_0_0, w7⟩ :: ⟨Rect.unit (s := S8x512x128) ![6, 0, 0] ![1, 512, 128] inb_S8x512x128_S1x512x128_6_0_0, w6⟩ :: ⟨Rect.unit (s := S8x512x128) ![5, 0, 0] ![1, 512, 128] inb_S8x512x128_S1x512x128_5_0_0, w5⟩ :: ⟨Rect.unit (s := S8x512x128) ![4, 0, 0] ![1, 512, 128] inb_S8x512x128_S1x512x128_4_0_0, w4⟩ :: ⟨Rect.unit (s := S8x512x128) ![3, 0, 0] ![1, 512, 128] inb_S8x512x128_S1x512x128_3_0_0, w3⟩ :: ⟨Rect.unit (s := S8x512x128) ![2, 0, 0] ![1, 512, 128] inb_S8x512x128_S1x512x128_2_0_0, w2⟩ :: ⟨Rect.unit (s := S8x512x128) ![1, 0, 0] ![1, 512, 128] inb_S8x512x128_S1x512x128_1_0_0, w1⟩ :: ⟨Rect.unit (s := S8x512x128) ![0, 0, 0] ![1, 512, 128] inb_S8x512x128_S1x512x128_0_0_0, w0⟩ :: L) = w1
    ∧ rd arg 2 inb_S8x512x128_S1x512x128_2_0_0 (⟨Rect.unit (s := S8x512x128) ![7, 0, 0] ![1, 512, 128] inb_S8x512x128_S1x512x128_7_0_0, w7⟩ :: ⟨Rect.unit (s := S8x512x128) ![6, 0, 0] ![1, 512, 128] inb_S8x512x128_S1x512x128_6_0_0, w6⟩ :: ⟨Rect.unit (s := S8x512x128) ![5, 0, 0] ![1, 512, 128] inb_S8x512x128_S1x512x128_5_0_0, w5⟩ :: ⟨Rect.unit (s := S8x512x128) ![4, 0, 0] ![1, 512, 128] inb_S8x512x128_S1x512x128_4_0_0, w4⟩ :: ⟨Rect.unit (s := S8x512x128) ![3, 0, 0] ![1, 512, 128] inb_S8x512x128_S1x512x128_3_0_0, w3⟩ :: ⟨Rect.unit (s := S8x512x128) ![2, 0, 0] ![1, 512, 128] inb_S8x512x128_S1x512x128_2_0_0, w2⟩ :: ⟨Rect.unit (s := S8x512x128) ![1, 0, 0] ![1, 512, 128] inb_S8x512x128_S1x512x128_1_0_0, w1⟩ :: ⟨Rect.unit (s := S8x512x128) ![0, 0, 0] ![1, 512, 128] inb_S8x512x128_S1x512x128_0_0_0, w0⟩ :: L) = w2
    ∧ rd arg 3 inb_S8x512x128_S1x512x128_3_0_0 (⟨Rect.unit (s := S8x512x128) ![7, 0, 0] ![1, 512, 128] inb_S8x512x128_S1x512x128_7_0_0, w7⟩ :: ⟨Rect.unit (s := S8x512x128) ![6, 0, 0] ![1, 512, 128] inb_S8x512x128_S1x512x128_6_0_0, w6⟩ :: ⟨Rect.unit (s := S8x512x128) ![5, 0, 0] ![1, 512, 128] inb_S8x512x128_S1x512x128_5_0_0, w5⟩ :: ⟨Rect.unit (s := S8x512x128) ![4, 0, 0] ![1, 512, 128] inb_S8x512x128_S1x512x128_4_0_0, w4⟩ :: ⟨Rect.unit (s := S8x512x128) ![3, 0, 0] ![1, 512, 128] inb_S8x512x128_S1x512x128_3_0_0, w3⟩ :: ⟨Rect.unit (s := S8x512x128) ![2, 0, 0] ![1, 512, 128] inb_S8x512x128_S1x512x128_2_0_0, w2⟩ :: ⟨Rect.unit (s := S8x512x128) ![1, 0, 0] ![1, 512, 128] inb_S8x512x128_S1x512x128_1_0_0, w1⟩ :: ⟨Rect.unit (s := S8x512x128) ![0, 0, 0] ![1, 512, 128] inb_S8x512x128_S1x512x128_0_0_0, w0⟩ :: L) = w3
    ∧ rd arg 4 inb_S8x512x128_S1x512x128_4_0_0 (⟨Rect.unit (s := S8x512x128) ![7, 0, 0] ![1, 512, 128] inb_S8x512x128_S1x512x128_7_0_0, w7⟩ :: ⟨Rect.unit (s := S8x512x128) ![6, 0, 0] ![1, 512, 128] inb_S8x512x128_S1x512x128_6_0_0, w6⟩ :: ⟨Rect.unit (s := S8x512x128) ![5, 0, 0] ![1, 512, 128] inb_S8x512x128_S1x512x128_5_0_0, w5⟩ :: ⟨Rect.unit (s := S8x512x128) ![4, 0, 0] ![1, 512, 128] inb_S8x512x128_S1x512x128_4_0_0, w4⟩ :: ⟨Rect.unit (s := S8x512x128) ![3, 0, 0] ![1, 512, 128] inb_S8x512x128_S1x512x128_3_0_0, w3⟩ :: ⟨Rect.unit (s := S8x512x128) ![2, 0, 0] ![1, 512, 128] inb_S8x512x128_S1x512x128_2_0_0, w2⟩ :: ⟨Rect.unit (s := S8x512x128) ![1, 0, 0] ![1, 512, 128] inb_S8x512x128_S1x512x128_1_0_0, w1⟩ :: ⟨Rect.unit (s := S8x512x128) ![0, 0, 0] ![1, 512, 128] inb_S8x512x128_S1x512x128_0_0_0, w0⟩ :: L) = w4
    ∧ rd arg 5 inb_S8x512x128_S1x512x128_5_0_0 (⟨Rect.unit (s := S8x512x128) ![7, 0, 0] ![1, 512, 128] inb_S8x512x128_S1x512x128_7_0_0, w7⟩ :: ⟨Rect.unit (s := S8x512x128) ![6, 0, 0] ![1, 512, 128] inb_S8x512x128_S1x512x128_6_0_0, w6⟩ :: ⟨Rect.unit (s := S8x512x128) ![5, 0, 0] ![1, 512, 128] inb_S8x512x128_S1x512x128_5_0_0, w5⟩ :: ⟨Rect.unit (s := S8x512x128) ![4, 0, 0] ![1, 512, 128] inb_S8x512x128_S1x512x128_4_0_0, w4⟩ :: ⟨Rect.unit (s := S8x512x128) ![3, 0, 0] ![1, 512, 128] inb_S8x512x128_S1x512x128_3_0_0, w3⟩ :: ⟨Rect.unit (s := S8x512x128) ![2, 0, 0] ![1, 512, 128] inb_S8x512x128_S1x512x128_2_0_0, w2⟩ :: ⟨Rect.unit (s := S8x512x128) ![1, 0, 0] ![1, 512, 128] inb_S8x512x128_S1x512x128_1_0_0, w1⟩ :: ⟨Rect.unit (s := S8x512x128) ![0, 0, 0] ![1, 512, 128] inb_S8x512x128_S1x512x128_0_0_0, w0⟩ :: L) = w5
    ∧ rd arg 6 inb_S8x512x128_S1x512x128_6_0_0 (⟨Rect.unit (s := S8x512x128) ![7, 0, 0] ![1, 512, 128] inb_S8x512x128_S1x512x128_7_0_0, w7⟩ :: ⟨Rect.unit (s := S8x512x128) ![6, 0, 0] ![1, 512, 128] inb_S8x512x128_S1x512x128_6_0_0, w6⟩ :: ⟨Rect.unit (s := S8x512x128) ![5, 0, 0] ![1, 512, 128] inb_S8x512x128_S1x512x128_5_0_0, w5⟩ :: ⟨Rect.unit (s := S8x512x128) ![4, 0, 0] ![1, 512, 128] inb_S8x512x128_S1x512x128_4_0_0, w4⟩ :: ⟨Rect.unit (s := S8x512x128) ![3, 0, 0] ![1, 512, 128] inb_S8x512x128_S1x512x128_3_0_0, w3⟩ :: ⟨Rect.unit (s := S8x512x128) ![2, 0, 0] ![1, 512, 128] inb_S8x512x128_S1x512x128_2_0_0, w2⟩ :: ⟨Rect.unit (s := S8x512x128) ![1, 0, 0] ![1, 512, 128] inb_S8x512x128_S1x512x128_1_0_0, w1⟩ :: ⟨Rect.unit (s := S8x512x128) ![0, 0, 0] ![1, 512, 128] inb_S8x512x128_S1x512x128_0_0_0, w0⟩ :: L) = w6
    ∧ rd arg 7 inb_S8x512x128_S1x512x128_7_0_0 (⟨Rect.unit (s := S8x512x128) ![7, 0, 0] ![1, 512, 128] inb_S8x512x128_S1x512x128_7_0_0, w7⟩ :: ⟨Rect.unit (s := S8x512x128) ![6, 0, 0] ![1, 512, 128] inb_S8x512x128_S1x512x128_6_0_0, w6⟩ :: ⟨Rect.unit (s := S8x512x128) ![5, 0, 0] ![1, 512, 128] inb_S8x512x128_S1x512x128_5_0_0, w5⟩ :: ⟨Rect.unit (s := S8x512x128) ![4, 0, 0] ![1, 512, 128] inb_S8x512x128_S1x512x128_4_0_0, w4⟩ :: ⟨Rect.unit (s := S8x512x128) ![3, 0, 0] ![1, 512, 128] inb_S8x512x128_S1x512x128_3_0_0, w3⟩ :: ⟨Rect.unit (s := S8x512x128) ![2, 0, 0] ![1, 512, 128] inb_S8x512x128_S1x512x128_2_0_0, w2⟩ :: ⟨Rect.unit (s := S8x512x128) ![1, 0, 0] ![1, 512, 128] inb_S8x512x128_S1x512x128_1_0_0, w1⟩ :: ⟨Rect.unit (s := S8x512x128) ![0, 0, 0] ![1, 512, 128] inb_S8x512x128_S1x512x128_0_0_0, w0⟩ :: L) = w7 := by
  refine ⟨?_, ?_, ?_, ?_, ?_, ?_, ?_, ?_⟩ <;> unfold rd
  · rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)]; exact View.readCov_cons_toLoadRect _ _ _ _
  · rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)]; exact View.readCov_cons_toLoadRect _ _ _ _
  · rw [View.readCov_skip _ _ _ _ _ (by rfl)]; rw [View.readCov_skip _ _ _ _ _ (by rfl)]; rw [View.readCov_skip _ _ _ _ _ (by rfl)]; rw [View.readCov_skip _ _ _ _ _ (by rfl)]; rw [View.readCov_skip _ _ _ _ _ (by rfl)]; exact View.readCov_cons_toLoadRect _ _ _ _
  · rw [View.readCov_skip _ _ _ _ _ (by rfl)]; rw [View.readCov_skip _ _ _ _ _ (by rfl)]; rw [View.readCov_skip _ _ _ _ _ (by rfl)]; rw [View.readCov_skip _ _ _ _ _ (by rfl)]; exact View.readCov_cons_toLoadRect _ _ _ _
  · rw [View.readCov_skip _ _ _ _ _ (by rfl)]; rw [View.readCov_skip _ _ _ _ _ (by rfl)]; rw [View.readCov_skip _ _ _ _ _ (by rfl)]; exact View.readCov_cons_toLoadRect _ _ _ _
  · rw [View.readCov_skip _ _ _ _ _ (by rfl)]; rw [View.readCov_skip _ _ _ _ _ (by rfl)]; exact View.readCov_cons_toLoadRect _ _ _ _
  · rw [View.readCov_skip _ _ _ _ _ (by rfl)]; exact View.readCov_cons_toLoadRect _ _ _ _
  · exact View.readCov_cons_toLoadRect _ _ _ _

/-- A block loaded from an input's buffer, at an index. -/
theorem load_at2 {n m n' m' : ℕ} (arg : Memref sig .tc .vmem ⟨2, ![n, m]⟩ .bf16) (h : arg.IsWhole) (x : Vec Ideal ⟨2, ![n, m]⟩ .bf16) (off : Fin 2 → ℕ)
    (inb : ∀ a, off a + (![n', m'] : Fin 2 → ℕ) a ≤ (⟨2, ![n, m]⟩ : Shape).size a) (r : Fin n') (c : Fin m') :
    View.readAt (Elt Ideal) arg.view (Rect.unit (s := ⟨2, ![n, m]⟩) off ![n', m'] inb).toLoadRect (h.unread x) (ix2 r c) = at2 x (off 0 + r.val) (off 1 + c.val) := by
  have h0 : off 0 + n' ≤ n := inb 0
  have h1 : off 1 + m' ≤ m := inb 1
  have e : View.readAt (Elt Ideal) arg.view (Rect.unit (s := ⟨2, ![n, m]⟩) off ![n', m'] inb).toLoadRect (h.unread x)
      = View.ld x (Rect.unit (s := ⟨2, ![n, m]⟩) off ![n', m'] inb) := by
    rw [View.readAt_eq_ld, h.read_unread]
  rw [e]
  have e2 : at2 x (off 0 + r.val) (off 1 + c.val) = x (ix2 ⟨off 0 + r.val, by omega⟩ ⟨off 1 + c.val, by omega⟩) := dif_pos ⟨by omega, by omega⟩
  rw [e2]
  exact View.ld_unit_apply_of x _ _ _ _ _ fun a => by fin_cases a <;> rfl

/-- The state of all eight chains: `P` of each head and half of the query tile, and its three buffers. -/
def All (arg12 arg13 arg14 : Memref sig .tc .vmem S8x512x128 .f32) (P : ℕ → ℕ → B → B → B → Prop) (L0 L1 L2 : List (View.Piece (Elt Ideal) S8x512x128 .f32)) : Prop :=
  P 0 0 (rd arg12 0 inb_S8x512x128_S1x512x128_0_0_0 L0) (rd arg13 0 inb_S8x512x128_S1x512x128_0_0_0 L1) (rd arg14 0 inb_S8x512x128_S1x512x128_0_0_0 L2)
  ∧ P 0 1 (rd arg12 1 inb_S8x512x128_S1x512x128_1_0_0 L0) (rd arg13 1 inb_S8x512x128_S1x512x128_1_0_0 L1) (rd arg14 1 inb_S8x512x128_S1x512x128_1_0_0 L2)
  ∧ P 1 0 (rd arg12 2 inb_S8x512x128_S1x512x128_2_0_0 L0) (rd arg13 2 inb_S8x512x128_S1x512x128_2_0_0 L1) (rd arg14 2 inb_S8x512x128_S1x512x128_2_0_0 L2)
  ∧ P 1 1 (rd arg12 3 inb_S8x512x128_S1x512x128_3_0_0 L0) (rd arg13 3 inb_S8x512x128_S1x512x128_3_0_0 L1) (rd arg14 3 inb_S8x512x128_S1x512x128_3_0_0 L2)
  ∧ P 2 0 (rd arg12 4 inb_S8x512x128_S1x512x128_4_0_0 L0) (rd arg13 4 inb_S8x512x128_S1x512x128_4_0_0 L1) (rd arg14 4 inb_S8x512x128_S1x512x128_4_0_0 L2)
  ∧ P 2 1 (rd arg12 5 inb_S8x512x128_S1x512x128_5_0_0 L0) (rd arg13 5 inb_S8x512x128_S1x512x128_5_0_0 L1) (rd arg14 5 inb_S8x512x128_S1x512x128_5_0_0 L2)
  ∧ P 3 0 (rd arg12 6 inb_S8x512x128_S1x512x128_6_0_0 L0) (rd arg13 6 inb_S8x512x128_S1x512x128_6_0_0 L1) (rd arg14 6 inb_S8x512x128_S1x512x128_6_0_0 L2)
  ∧ P 3 1 (rd arg12 7 inb_S8x512x128_S1x512x128_7_0_0 L0) (rd arg13 7 inb_S8x512x128_S1x512x128_7_0_0 L1) (rd arg14 7 inb_S8x512x128_S1x512x128_7_0_0 L2)

/-- Reading a buffer left by stores over junk is reading the stores. -/
theorem readAt_rd (arg : Memref sig .tc .vmem S8x512x128 .f32) (ch : ℕ) (h : ∀ a, (![ch, 0, 0] : Fin 3 → ℕ) a + S1x512x128.size a ≤ S8x512x128.size a)
    (L L' : List (View.Piece (Elt Ideal) S8x512x128 .f32)) :
    View.readAt (Elt Ideal) arg.view (Rect.unit (s := S8x512x128) ![ch, 0, 0] ![1, 512, 128] h).toLoadRect
      (arg.view.writes (Elt Ideal) (arg.view.writes (Elt Ideal) arg.view.junk L') L) = rd arg ch h (L ++ L') := by
  rw [← View.writes_append]
  rfl

theorem trips1 : ∀ i : grid0.Coords, (k0_t1_loop i).trips = (i 2).val := by decide +kernel

theorem trips2 : ∀ i : grid0.Coords, (k0_t2_loop i).trips = 0 := by decide +kernel

variable (c : Dev nD) (i : grid0.Coords) (arg3 : Memref sig .tc .vmem S1024x1024 .bf16) (harg3 : arg3.IsWhole) (arg4 : Memref sig .tc .vmem S4096x512 .bf16) (harg4 : arg4.IsWhole) (arg5 : Memref sig .tc .vmem S4096x128 .bf16) (harg5 : arg5.IsWhole) (arg6 : Memref sig .tc .vmem S4096x512 .bf16) (harg6 : arg6.IsWhole) (arg7 : Memref sig .tc .vmem S64x11008 .f32) (harg7 : arg7.IsWhole) (arg8 : Memref sig .tc .vmem S64x11008 .f32) (harg8 : arg8.IsWhole) (arg9 : Memref sig .tc .vmem S1024x512 .bf16) (harg9 : arg9.IsWhole) (arg10 : Memref sig .tc .vmem S64x11008 .bf16) (harg10 : arg10.IsWhole) (arg11 : Memref sig .tc .vmem S64x11008 .bf16) (harg11 : arg11.IsWhole) (arg12 : Memref sig .tc .vmem S8x512x128 .f32) (harg12 : arg12.IsWhole) (arg13 : Memref sig .tc .vmem S8x512x128 .f32) (harg13 : arg13.IsWhole) (arg14 : Memref sig .tc .vmem S8x512x128 .f32) (harg14 : arg14.IsWhole)
    (x0 : Vec Ideal S1024x1024 .bf16) (x1 : Vec Ideal S4096x512 .bf16) (x2 : Vec Ideal S4096x128 .bf16) (x3 : Vec Ideal S4096x512 .bf16)

/-- What the loop has stored before trip `k`. -/
def pbk (k : ℕ) := pb_k0_t1 (F := Ideal) Variants.none c none i arg3 harg3 arg4 harg4 arg5 harg5 arg6 harg6 arg7 harg7 arg8 harg8 arg9 harg9 arg10 harg10 arg11 harg11 arg12 harg12 arg13 harg13 arg14 harg14 (harg3.unread x0) (harg4.unread x1) (harg5.unread x2) (harg6.unread x3) (arg12.view.writes (Elt Ideal) arg12.view.junk (kernelRun0_A.sl.HS0_1 (F := Ideal))) (arg13.view.writes (Elt Ideal) arg13.view.junk (kernelRun0_A.sl.HS1_1 (F := Ideal))) (arg14.view.writes (Elt Ideal) arg14.view.junk (kernelRun0_A.sl.HS2_1 (F := Ideal))) k

variable (hf : Fine x0 x1 x2)
include hf

/-- One trip of the loop. -/
theorem trip_step (k : Fin (k0_t1_loop i).trips) (hk : k.val < (i 2).val) (L0 L1 L2 L0' L1' L2' : List (View.Piece (Elt Ideal) S8x512x128 .f32))
    (h : All arg12 arg13 arg14 (fun h t => Ch x0 x1 x2 x3 (i 2).val h t (1024 * k.val)) (L0 ++ L0') (L1 ++ L1') (L2 ++ L2')) :
    All arg12 arg13 arg14 (fun h t => Ch x0 x1 x2 x3 (i 2).val h t (1024 * k.val + 1024))
      ((trip_k0_t1 (F := Ideal) Variants.none c none i arg3 harg3 arg4 harg4 arg5 harg5 arg6 harg6 arg7 harg7 arg8 harg8 arg9 harg9 arg10 harg10 arg11 harg11 arg12 harg12 arg13 harg13 arg14 harg14 (harg3.unread x0) (harg4.unread x1) (harg5.unread x2) (harg6.unread x3) k).1 (arg12.view.writes (Elt Ideal) (arg12.view.writes (Elt Ideal) arg12.view.junk L0') L0) (arg13.view.writes (Elt Ideal) (arg13.view.writes (Elt Ideal) arg13.view.junk L1') L1) (arg14.view.writes (Elt Ideal) (arg14.view.writes (Elt Ideal) arg14.view.junk L2') L2) ++ (L0 ++ L0'))
      ((trip_k0_t1 (F := Ideal) Variants.none c none i arg3 harg3 arg4 harg4 arg5 harg5 arg6 harg6 arg7 harg7 arg8 harg8 arg9 harg9 arg10 harg10 arg11 harg11 arg12 harg12 arg13 harg13 arg14 harg14 (harg3.unread x0) (harg4.unread x1) (harg5.unread x2) (harg6.unread x3) k).2.1 (arg12.view.writes (Elt Ideal) (arg12.view.writes (Elt Ideal) arg12.view.junk L0') L0) (arg13.view.writes (Elt Ideal) (arg13.view.writes (Elt Ideal) arg13.view.junk L1') L1) (arg14.view.writes (Elt Ideal) (arg14.view.writes (Elt Ideal) arg14.view.junk L2') L2) ++ (L1 ++ L1'))
      ((trip_k0_t1 (F := Ideal) Variants.none c none i arg3 harg3 arg4 harg4 arg5 harg5 arg6 harg6 arg7 harg7 arg8 harg8 arg9 harg9 arg10 harg10 arg11 harg11 arg12 harg12 arg13 harg13 arg14 harg14 (harg3.unread x0) (harg4.unread x1) (harg5.unread x2) (harg6.unread x3) k).2.2.1 (arg12.view.writes (Elt Ideal) (arg12.view.writes (Elt Ideal) arg12.view.junk L0') L0) (arg13.view.writes (Elt Ideal) (arg13.view.writes (Elt Ideal) arg13.view.junk L1') L1) (arg14.view.writes (Elt Ideal) (arg14.view.writes (Elt Ideal) arg14.view.junk L2') L2) ++ (L2 ++ L2')) := by
  have hi : (i 2).val < 4 := (i 2).isLt
  rw [trip_m, trip_l, trip_a]
  simp only [List.cons_append, List.nil_append]
  obtain ⟨h0, h1, h2, h3, h4, h5, h6, h7⟩ := h
  unfold All
  obtain ⟨e00, e01, e02, e03, e04, e05, e06, e07⟩ := rc8 arg12 _ _ _ _ _ _ _ _ (L0 ++ L0')
  obtain ⟨e10, e11, e12, e13, e14, e15, e16, e17⟩ := rc8 arg13 _ _ _ _ _ _ _ _ (L1 ++ L1')
  obtain ⟨e20, e21, e22, e23, e24, e25, e26, e27⟩ := rc8 arg14 _ _ _ _ _ _ _ _ (L2 ++ L2')
  refine ⟨?_, ?_, ?_, ?_, ?_, ?_, ?_, ?_⟩
  · rw [e00, e10, e20, readAt_rd, readAt_rd, readAt_rd]
    refine step8 hf hi (by decide) (by decide) (by omega) ?_ ?_ ?_ ?_ h0 (by omega)
    · intro r k; rw [load_at2]; rfl
    · intro c n; rw [load_at2, k0_off1_eq]; rfl
    · intro c n; rw [load_at2, k0_off2_eq]; exact congrArg _ (Nat.zero_add _)
    · intro c n; rw [load_at2, k0_off1_eq]; rfl
  · rw [e01, e11, e21, readAt_rd, readAt_rd, readAt_rd]
    refine step8 hf hi (by decide) (by decide) (by omega) ?_ ?_ ?_ ?_ h1 (by omega)
    · intro r k; rw [load_at2]; rfl
    · intro c n; rw [load_at2, k0_off1_eq]; rfl
    · intro c n; rw [load_at2, k0_off2_eq]; exact congrArg _ (Nat.zero_add _)
    · intro c n; rw [load_at2, k0_off1_eq]; rfl
  · rw [e02, e12, e22, readAt_rd, readAt_rd, readAt_rd]
    refine step8 hf hi (by decide) (by decide) (by omega) ?_ ?_ ?_ ?_ h2 (by omega)
    · intro r k; rw [load_at2]; rfl
    · intro c n; rw [load_at2, k0_off3_eq]; rfl
    · intro c n; rw [load_at2, k0_off2_eq]; exact congrArg _ (Nat.zero_add _)
    · intro c n; rw [load_at2, k0_off3_eq]; rfl
  · rw [e03, e13, e23, readAt_rd, readAt_rd, readAt_rd]
    refine step8 hf hi (by decide) (by decide) (by omega) ?_ ?_ ?_ ?_ h3 (by omega)
    · intro r k; rw [load_at2]; rfl
    · intro c n; rw [load_at2, k0_off3_eq]; rfl
    · intro c n; rw [load_at2, k0_off2_eq]; exact congrArg _ (Nat.zero_add _)
    · intro c n; rw [load_at2, k0_off3_eq]; rfl
  · rw [e04, e14, e24, readAt_rd, readAt_rd, readAt_rd]
    refine step8 hf hi (by decide) (by decide) (by omega) ?_ ?_ ?_ ?_ h4 (by omega)
    · intro r k; rw [load_at2]; rfl
    · intro c n; rw [load_at2, k0_off4_eq]; rfl
    · intro c n; rw [load_at2, k0_off2_eq]; exact congrArg _ (Nat.zero_add _)
    · intro c n; rw [load_at2, k0_off4_eq]; rfl
  · rw [e05, e15, e25, readAt_rd, readAt_rd, readAt_rd]
    refine step8 hf hi (by decide) (by decide) (by omega) ?_ ?_ ?_ ?_ h5 (by omega)
    · intro r k; rw [load_at2]; rfl
    · intro c n; rw [load_at2, k0_off4_eq]; rfl
    · intro c n; rw [load_at2, k0_off2_eq]; exact congrArg _ (Nat.zero_add _)
    · intro c n; rw [load_at2, k0_off4_eq]; rfl
  · rw [e06, e16, e26, readAt_rd, readAt_rd, readAt_rd]
    refine step8 hf hi (by decide) (by decide) (by omega) ?_ ?_ ?_ ?_ h6 (by omega)
    · intro r k; rw [load_at2]; rfl
    · intro c n; rw [load_at2, k0_off5_eq]; rfl
    · intro c n; rw [load_at2, k0_off2_eq]; exact congrArg _ (Nat.zero_add _)
    · intro c n; rw [load_at2, k0_off5_eq]; rfl
  · rw [e07, e17, e27, readAt_rd, readAt_rd, readAt_rd]
    refine step8 hf hi (by decide) (by decide) (by omega) ?_ ?_ ?_ ?_ h7 (by omega)
    · intro r k; rw [load_at2]; rfl
    · intro c n; rw [load_at2, k0_off5_eq]; rfl
    · intro c n; rw [load_at2, k0_off2_eq]; exact congrArg _ (Nat.zero_add _)
    · intro c n; rw [load_at2, k0_off5_eq]; rfl

omit hf in
/-- Before the loop every chain's state is that of no columns. -/
theorem init_step : All arg12 arg13 arg14 (fun h t => Ch x0 x1 x2 x3 (i 2).val h t 0) (kernelRun0_A.sl.HS0_1 (F := Ideal)) (kernelRun0_A.sl.HS1_1 (F := Ideal)) (kernelRun0_A.sl.HS2_1 (F := Ideal)) := by
  have e0 : ∀ ch h, rd arg12 ch h (kernelRun0_A.sl.HS0_1 (F := Ideal)) = fun _ => (⊥ : EReal) := by
    intro ch h
    unfold rd kernelRun0_A.sl.HS0_1
    rw [View.readCov_fill _ _ _ _ _ (by decide)]
    funext j
    exact IdealRules.named_const.ideal_named_scalar _ _ _ _ rfl
  have e1 : ∀ ch h, rd arg13 ch h (kernelRun0_A.sl.HS1_1 (F := Ideal)) = fun _ => (0 : EReal) := by
    intro ch h
    unfold rd kernelRun0_A.sl.HS1_1
    rw [View.readCov_fill _ _ _ _ _ (by decide)]
    funext j
    exact (by simp [Ideal.ofBits, Ideal.ieee] : Ideal.ofBits .f32 0x00000000#32 = 0)
  have e2 : ∀ ch h, rd arg14 ch h (kernelRun0_A.sl.HS2_1 (F := Ideal)) = fun _ => (0 : EReal) := by
    intro ch h
    unfold rd kernelRun0_A.sl.HS2_1
    rw [View.readCov_fill _ _ _ _ _ (by decide)]
    funext j
    exact (by simp [Ideal.ofBits, Ideal.ieee] : Ideal.ofBits .f32 0x00000000#32 = 0)
  have st : ∀ h t, Ch x0 x1 x2 x3 (i 2).val h t 0 (fun _ => (⊥ : EReal)) (fun _ => (0 : EReal)) (fun _ => (0 : EReal)) := by
    intro h t r
    refine ⟨fun n => ?_, fun n => ?_, fun n => ?_⟩
    · rw [Finset.range_zero, Finset.sup_empty]; rfl
    · rw [Finset.range_zero, Cert.Softmax.osum_empty]; rfl
    · rw [Finset.range_zero, Cert.Softmax.osum_empty]; rfl
  unfold All
  rw [e0, e0, e0, e0, e0, e0, e0, e0, e1, e1, e1, e1, e1, e1, e1, e1, e2, e2, e2, e2, e2, e2, e2, e2]
  exact ⟨st _ _, st _ _, st _ _, st _ _, st _ _, st _ _, st _ _, st _ _⟩

/-- The loop's invariant. -/
theorem inv (k : ℕ) (hk : k ≤ (k0_t1_loop i).trips) : All arg12 arg13 arg14 (fun h t => Ch x0 x1 x2 x3 (i 2).val h t (1024 * k))
    (((pbk c i arg3 harg3 arg4 harg4 arg5 harg5 arg6 harg6 arg7 harg7 arg8 harg8 arg9 harg9 arg10 harg10 arg11 harg11 arg12 harg12 arg13 harg13 arg14 harg14 x0 x1 x2 x3) k).1 ++ (kernelRun0_A.sl.HS0_1 (F := Ideal))) (((pbk c i arg3 harg3 arg4 harg4 arg5 harg5 arg6 harg6 arg7 harg7 arg8 harg8 arg9 harg9 arg10 harg10 arg11 harg11 arg12 harg12 arg13 harg13 arg14 harg14 x0 x1 x2 x3) k).2.1 ++ (kernelRun0_A.sl.HS1_1 (F := Ideal))) (((pbk c i arg3 harg3 arg4 harg4 arg5 harg5 arg6 harg6 arg7 harg7 arg8 harg8 arg9 harg9 arg10 harg10 arg11 harg11 arg12 harg12 arg13 harg13 arg14 harg14 x0 x1 x2 x3) k).2.2 ++ (kernelRun0_A.sl.HS2_1 (F := Ideal))) := by
  induction k with
  | zero => apply init_step
  | succ k ih =>
    have hk' : k < (i 2).val := by rw [← trips1 i]; exact hk
    have h := trip_step (c := c) (harg3 := harg3) (harg4 := harg4) (harg5 := harg5) (harg6 := harg6) (harg7 := harg7) (harg8 := harg8) (harg9 := harg9) (harg10 := harg10) (harg11 := harg11) (harg12 := harg12) (harg13 := harg13) (harg14 := harg14) (hf := hf) (k := ⟨k, hk⟩) (hk := hk') (h := ih (by omega))
    have e := pb_k0_t1_succ (F := Ideal) Variants.none c none i arg3 harg3 arg4 harg4 arg5 harg5 arg6 harg6 arg7 harg7 arg8 harg8 arg9 harg9 arg10 harg10 arg11 harg11 arg12 harg12 arg13 harg13 arg14 harg14 (harg3.unread x0) (harg4.unread x1) (harg5.unread x2) (harg6.unread x3)  (arg12.view.writes (Elt Ideal) arg12.view.junk (kernelRun0_A.sl.HS0_1 (F := Ideal))) (arg13.view.writes (Elt Ideal) arg13.view.junk (kernelRun0_A.sl.HS1_1 (F := Ideal))) (arg14.view.writes (Elt Ideal) arg14.view.junk (kernelRun0_A.sl.HS2_1 (F := Ideal))) ⟨k, hk⟩
    have e' : (pbk c i arg3 harg3 arg4 harg4 arg5 harg5 arg6 harg6 arg7 harg7 arg8 harg8 arg9 harg9 arg10 harg10 arg11 harg11 arg12 harg12 arg13 harg13 arg14 harg14 x0 x1 x2 x3) (k + 1) = _ := e
    rw [e', List.append_assoc, List.append_assoc, List.append_assoc]
    exact h

end Cert.KernelIdeal.Mla
-- ==== Proof.Diag.lean ====
/-
  The last block of keys of a query tile: the chains' buffers after it and the quotients stored in the output
  tile, piece by piece, over what the loop over the full blocks left.
-/
module

public import proofs.«01_k».proof.Proof.Chain
public import proofs.«01_k».proof.Proof.Gen.KernelIdeal.Frame

@[expose] public section

set_option maxRecDepth 16384

noncomputable section

namespace Cert.KernelIdeal.Mla

open Idealize.ShloMosaic Idealize.ShloMosaic.TcCoe Cert.KernelIdeal Cert.KernelIdeal.Gen

variable (c : Dev nD) (i : grid0.Coords) (arg3 : Memref sig .tc .vmem S1024x1024 .bf16) (harg3 : arg3.IsWhole) (arg4 : Memref sig .tc .vmem S4096x512 .bf16) (harg4 : arg4.IsWhole) (arg5 : Memref sig .tc .vmem S4096x128 .bf16) (harg5 : arg5.IsWhole) (arg6 : Memref sig .tc .vmem S4096x512 .bf16) (harg6 : arg6.IsWhole) (arg7 : Memref sig .tc .vmem S64x11008 .f32) (harg7 : arg7.IsWhole) (arg8 : Memref sig .tc .vmem S64x11008 .f32) (harg8 : arg8.IsWhole) (arg9 : Memref sig .tc .vmem S1024x512 .bf16) (harg9 : arg9.IsWhole) (arg10 : Memref sig .tc .vmem S64x11008 .bf16) (harg10 : arg10.IsWhole) (arg11 : Memref sig .tc .vmem S64x11008 .bf16) (harg11 : arg11.IsWhole) (arg12 : Memref sig .tc .vmem S8x512x128 .f32) (harg12 : arg12.IsWhole) (arg13 : Memref sig .tc .vmem S8x512x128 .f32) (harg13 : arg13.IsWhole) (arg14 : Memref sig .tc .vmem S8x512x128 .f32) (harg14 : arg14.IsWhole)
    (x0 : Vec Ideal S1024x1024 .bf16) (x1 : Vec Ideal S4096x512 .bf16) (x2 : Vec Ideal S4096x128 .bf16) (x3 : Vec Ideal S4096x512 .bf16) (x4 : Vec Ideal S64x11008 .f32) (x5 : Vec Ideal S64x11008 .f32)

/-- What buffer 12 was stored before the last block. -/
def base0 : List (View.Piece (Elt Ideal) S8x512x128 .f32) := (kernelRun0_A.sl.HS0_1_1 (F := Ideal) c i arg3 harg3 arg4 harg4 arg5 harg5 arg6 harg6 arg7 harg7 arg8 harg8 arg9 harg9 arg10 harg10 arg11 harg11 arg12 harg12 arg13 harg13 arg14 harg14 x0 x1 x2 x3).tail

/-- What buffer 13 was stored before the last block. -/
def base1 : List (View.Piece (Elt Ideal) S8x512x128 .f32) := (kernelRun0_A.sl.HS1_1_1 (F := Ideal) c i arg3 harg3 arg4 harg4 arg5 harg5 arg6 harg6 arg7 harg7 arg8 harg8 arg9 harg9 arg10 harg10 arg11 harg11 arg12 harg12 arg13 harg13 arg14 harg14 x0 x1 x2 x3).tail

/-- What buffer 14 was stored before the last block. -/
def base2 : List (View.Piece (Elt Ideal) S8x512x128 .f32) := (kernelRun0_A.sl.HS2_1_1 (F := Ideal) c i arg3 harg3 arg4 harg4 arg5 harg5 arg6 harg6 arg7 harg7 arg8 harg8 arg9 harg9 arg10 harg10 arg11 harg11 arg12 harg12 arg13 harg13 arg14 harg14 x0 x1 x2 x3).tail

theorem diag0_0 : (kernelRun0_A.sl.HS0_1_1 (F := Ideal) c i arg3 harg3 arg4 harg4 arg5 harg5 arg6 harg6 arg7 harg7 arg8 harg8 arg9 harg9 arg10 harg10 arg11 harg11 arg12 harg12 arg13 harg13 arg14 harg14 x0 x1 x2 x3) =
    ⟨Rect.unit (s := S8x512x128) ![0, 0, 0] ![1, 512, 128] inb_S8x512x128_S1x512x128_0_0_0, newM4 (ckd4 (sc4 (View.readAt (Elt Ideal) arg3.view (Rect.unit (s := S1024x1024) ![0, 0] S512x256.size inb_S1024x1024_S512x256_0_0).toLoadRect (harg3.unread x0)) (View.readAt (Elt Ideal) arg4.view (Rect.unit (s := S4096x512) (k0_off11 i) S1024x128.size (k0_off11_inb i)).toLoadRect (harg4.unread x1)) (View.readAt (Elt Ideal) arg5.view (Rect.unit (s := S4096x128) (k0_off12 i) S1024x128.size (k0_off12_inb i)).toLoadRect (harg5.unread x2)))) (arg12.view.readCov (base0 c i arg3 harg3 arg4 harg4 arg5 harg5 arg6 harg6 arg7 harg7 arg8 harg8 arg9 harg9 arg10 harg10 arg11 harg11 arg12 harg12 arg13 harg13 arg14 harg14 x0 x1 x2 x3) (Rect.unit (s := S8x512x128) ![0, 0, 0] ![1, 512, 128] inb_S8x512x128_S1x512x128_0_0_0).toLoadRect)⟩ :: (base0 c i arg3 harg3 arg4 harg4 arg5 harg5 arg6 harg6 arg7 harg7 arg8 harg8 arg9 harg9 arg10 harg10 arg11 harg11 arg12 harg12 arg13 harg13 arg14 harg14 x0 x1 x2 x3) := rfl

theorem diag0_1 : (kernelRun0_A.sl.HS0_2 (F := Ideal) c i arg3 harg3 arg4 harg4 arg5 harg5 arg6 harg6 arg7 harg7 arg8 harg8 arg9 harg9 arg10 harg10 arg11 harg11 arg12 harg12 arg13 harg13 arg14 harg14 x0 x1 x2 x3) =
    ⟨Rect.unit (s := S8x512x128) ![1, 0, 0] ![1, 512, 128] inb_S8x512x128_S1x512x128_1_0_0, newM (ckd8 (sc8 (View.readAt (Elt Ideal) arg3.view (Rect.unit (s := S1024x1024) ![512, 0] S512x256.size inb_S1024x1024_S512x256_512_0).toLoadRect (harg3.unread x0)) (View.readAt (Elt Ideal) arg4.view (Rect.unit (s := S4096x512) (k0_off11 i) S1024x128.size (k0_off11_inb i)).toLoadRect (harg4.unread x1)) (View.readAt (Elt Ideal) arg5.view (Rect.unit (s := S4096x128) (k0_off12 i) S1024x128.size (k0_off12_inb i)).toLoadRect (harg5.unread x2)))) (arg12.view.readCov (kernelRun0_A.sl.HS0_1_1 (F := Ideal) c i arg3 harg3 arg4 harg4 arg5 harg5 arg6 harg6 arg7 harg7 arg8 harg8 arg9 harg9 arg10 harg10 arg11 harg11 arg12 harg12 arg13 harg13 arg14 harg14 x0 x1 x2 x3) (Rect.unit (s := S8x512x128) ![1, 0, 0] ![1, 512, 128] inb_S8x512x128_S1x512x128_1_0_0).toLoadRect)⟩ :: (kernelRun0_A.sl.HS0_1_1 (F := Ideal) c i arg3 harg3 arg4 harg4 arg5 harg5 arg6 harg6 arg7 harg7 arg8 harg8 arg9 harg9 arg10 harg10 arg11 harg11 arg12 harg12 arg13 harg13 arg14 harg14 x0 x1 x2 x3) := rfl

theorem diag0_2 : (kernelRun0_A.sl.HS0_3 (F := Ideal) c i arg3 harg3 arg4 harg4 arg5 harg5 arg6 harg6 arg7 harg7 arg8 harg8 arg9 harg9 arg10 harg10 arg11 harg11 arg12 harg12 arg13 harg13 arg14 harg14 x0 x1 x2 x3) =
    ⟨Rect.unit (s := S8x512x128) ![2, 0, 0] ![1, 512, 128] inb_S8x512x128_S1x512x128_2_0_0, newM4 (ckd4 (sc4 (View.readAt (Elt Ideal) arg3.view (Rect.unit (s := S1024x1024) ![0, 256] S512x256.size inb_S1024x1024_S512x256_0_256).toLoadRect (harg3.unread x0)) (View.readAt (Elt Ideal) arg4.view (Rect.unit (s := S4096x512) (k0_off13 i) S1024x128.size (k0_off13_inb i)).toLoadRect (harg4.unread x1)) (View.readAt (Elt Ideal) arg5.view (Rect.unit (s := S4096x128) (k0_off12 i) S1024x128.size (k0_off12_inb i)).toLoadRect (harg5.unread x2)))) (arg12.view.readCov (kernelRun0_A.sl.HS0_2 (F := Ideal) c i arg3 harg3 arg4 harg4 arg5 harg5 arg6 harg6 arg7 harg7 arg8 harg8 arg9 harg9 arg10 harg10 arg11 harg11 arg12 harg12 arg13 harg13 arg14 harg14 x0 x1 x2 x3) (Rect.unit (s := S8x512x128) ![2, 0, 0] ![1, 512, 128] inb_S8x512x128_S1x512x128_2_0_0).toLoadRect)⟩ :: (kernelRun0_A.sl.HS0_2 (F := Ideal) c i arg3 harg3 arg4 harg4 arg5 harg5 arg6 harg6 arg7 harg7 arg8 harg8 arg9 harg9 arg10 harg10 arg11 harg11 arg12 harg12 arg13 harg13 arg14 harg14 x0 x1 x2 x3) := rfl

theorem diag0_3 : (kernelRun0_A.sl.HS0_4 (F := Ideal) c i arg3 harg3 arg4 harg4 arg5 harg5 arg6 harg6 arg7 harg7 arg8 harg8 arg9 harg9 arg10 harg10 arg11 harg11 arg12 harg12 arg13 harg13 arg14 harg14 x0 x1 x2 x3) =
    ⟨Rect.unit (s := S8x512x128) ![3, 0, 0] ![1, 512, 128] inb_S8x512x128_S1x512x128_3_0_0, newM (ckd8 (sc8 (View.readAt (Elt Ideal) arg3.view (Rect.unit (s := S1024x1024) ![512, 256] S512x256.size inb_S1024x1024_S512x256_512_256).toLoadRect (harg3.unread x0)) (View.readAt (Elt Ideal) arg4.view (Rect.unit (s := S4096x512) (k0_off13 i) S1024x128.size (k0_off13_inb i)).toLoadRect (harg4.unread x1)) (View.readAt (Elt Ideal) arg5.view (Rect.unit (s := S4096x128) (k0_off12 i) S1024x128.size (k0_off12_inb i)).toLoadRect (harg5.unread x2)))) (arg12.view.readCov (kernelRun0_A.sl.HS0_3 (F := Ideal) c i arg3 harg3 arg4 harg4 arg5 harg5 arg6 harg6 arg7 harg7 arg8 harg8 arg9 harg9 arg10 harg10 arg11 harg11 arg12 harg12 arg13 harg13 arg14 harg14 x0 x1 x2 x3) (Rect.unit (s := S8x512x128) ![3, 0, 0] ![1, 512, 128] inb_S8x512x128_S1x512x128_3_0_0).toLoadRect)⟩ :: (kernelRun0_A.sl.HS0_3 (F := Ideal) c i arg3 harg3 arg4 harg4 arg5 harg5 arg6 harg6 arg7 harg7 arg8 harg8 arg9 harg9 arg10 harg10 arg11 harg11 arg12 harg12 arg13 harg13 arg14 harg14 x0 x1 x2 x3) := rfl

theorem diag0_4 : (kernelRun0_A.sl.HS0_5 (F := Ideal) c i arg3 harg3 arg4 harg4 arg5 harg5 arg6 harg6 arg7 harg7 arg8 harg8 arg9 harg9 arg10 harg10 arg11 harg11 arg12 harg12 arg13 harg13 arg14 harg14 x0 x1 x2 x3) =
    ⟨Rect.unit (s := S8x512x128) ![4, 0, 0] ![1, 512, 128] inb_S8x512x128_S1x512x128_4_0_0, newM4 (ckd4 (sc4 (View.readAt (Elt Ideal) arg3.view (Rect.unit (s := S1024x1024) ![0, 512] S512x256.size inb_S1024x1024_S512x256_0_512).toLoadRect (harg3.unread x0)) (View.readAt (Elt Ideal) arg4.view (Rect.unit (s := S4096x512) (k0_off14 i) S1024x128.size (k0_off14_inb i)).toLoadRect (harg4.unread x1)) (View.readAt (Elt Ideal) arg5.view (Rect.unit (s := S4096x128) (k0_off12 i) S1024x128.size (k0_off12_inb i)).toLoadRect (harg5.unread x2)))) (arg12.view.readCov (kernelRun0_A.sl.HS0_4 (F := Ideal) c i arg3 harg3 arg4 harg4 arg5 harg5 arg6 harg6 arg7 harg7 arg8 harg8 arg9 harg9 arg10 harg10 arg11 harg11 arg12 harg12 arg13 harg13 arg14 harg14 x0 x1 x2 x3) (Rect.unit (s := S8x512x128) ![4, 0, 0] ![1, 512, 128] inb_S8x512x128_S1x512x128_4_0_0).toLoadRect)⟩ :: (kernelRun0_A.sl.HS0_4 (F := Ideal) c i arg3 harg3 arg4 harg4 arg5 harg5 arg6 harg6 arg7 harg7 arg8 harg8 arg9 harg9 arg10 harg10 arg11 harg11 arg12 harg12 arg13 harg13 arg14 harg14 x0 x1 x2 x3) := rfl

theorem diag0_5 : (kernelRun0_A.sl.HS0_6 (F := Ideal) c i arg3 harg3 arg4 harg4 arg5 harg5 arg6 harg6 arg7 harg7 arg8 harg8 arg9 harg9 arg10 harg10 arg11 harg11 arg12 harg12 arg13 harg13 arg14 harg14 x0 x1 x2 x3) =
    ⟨Rect.unit (s := S8x512x128) ![5, 0, 0] ![1, 512, 128] inb_S8x512x128_S1x512x128_5_0_0, newM (ckd8 (sc8 (View.readAt (Elt Ideal) arg3.view (Rect.unit (s := S1024x1024) ![512, 512] S512x256.size inb_S1024x1024_S512x256_512_512).toLoadRect (harg3.unread x0)) (View.readAt (Elt Ideal) arg4.view (Rect.unit (s := S4096x512) (k0_off14 i) S1024x128.size (k0_off14_inb i)).toLoadRect (harg4.unread x1)) (View.readAt (Elt Ideal) arg5.view (Rect.unit (s := S4096x128) (k0_off12 i) S1024x128.size (k0_off12_inb i)).toLoadRect (harg5.unread x2)))) (arg12.view.readCov (kernelRun0_A.sl.HS0_5 (F := Ideal) c i arg3 harg3 arg4 harg4 arg5 harg5 arg6 harg6 arg7 harg7 arg8 harg8 arg9 harg9 arg10 harg10 arg11 harg11 arg12 harg12 arg13 harg13 arg14 harg14 x0 x1 x2 x3) (Rect.unit (s := S8x512x128) ![5, 0, 0] ![1, 512, 128] inb_S8x512x128_S1x512x128_5_0_0).toLoadRect)⟩ :: (kernelRun0_A.sl.HS0_5 (F := Ideal) c i arg3 harg3 arg4 harg4 arg5 harg5 arg6 harg6 arg7 harg7 arg8 harg8 arg9 harg9 arg10 harg10 arg11 harg11 arg12 harg12 arg13 harg13 arg14 harg14 x0 x1 x2 x3) := rfl

theorem diag0_6 : (kernelRun0_A.sl.HS0_7 (F := Ideal) c i arg3 harg3 arg4 harg4 arg5 harg5 arg6 harg6 arg7 harg7 arg8 harg8 arg9 harg9 arg10 harg10 arg11 harg11 arg12 harg12 arg13 harg13 arg14 harg14 x0 x1 x2 x3) =
    ⟨Rect.unit (s := S8x512x128) ![6, 0, 0] ![1, 512, 128] inb_S8x512x128_S1x512x128_6_0_0, newM4 (ckd4 (sc4 (View.readAt (Elt Ideal) arg3.view (Rect.unit (s := S1024x1024) ![0, 768] S512x256.size inb_S1024x1024_S512x256_0_768).toLoadRect (harg3.unread x0)) (View.readAt (Elt Ideal) arg4.view (Rect.unit (s := S4096x512) (k0_off15 i) S1024x128.size (k0_off15_inb i)).toLoadRect (harg4.unread x1)) (View.readAt (Elt Ideal) arg5.view (Rect.unit (s := S4096x128) (k0_off12 i) S1024x128.size (k0_off12_inb i)).toLoadRect (harg5.unread x2)))) (arg12.view.readCov (kernelRun0_A.sl.HS0_6 (F := Ideal) c i arg3 harg3 arg4 harg4 arg5 harg5 arg6 harg6 arg7 harg7 arg8 harg8 arg9 harg9 arg10 harg10 arg11 harg11 arg12 harg12 arg13 harg13 arg14 harg14 x0 x1 x2 x3) (Rect.unit (s := S8x512x128) ![6, 0, 0] ![1, 512, 128] inb_S8x512x128_S1x512x128_6_0_0).toLoadRect)⟩ :: (kernelRun0_A.sl.HS0_6 (F := Ideal) c i arg3 harg3 arg4 harg4 arg5 harg5 arg6 harg6 arg7 harg7 arg8 harg8 arg9 harg9 arg10 harg10 arg11 harg11 arg12 harg12 arg13 harg13 arg14 harg14 x0 x1 x2 x3) := rfl

theorem diag1_0 : (kernelRun0_A.sl.HS1_1_1 (F := Ideal) c i arg3 harg3 arg4 harg4 arg5 harg5 arg6 harg6 arg7 harg7 arg8 harg8 arg9 harg9 arg10 harg10 arg11 harg11 arg12 harg12 arg13 harg13 arg14 harg14 x0 x1 x2 x3) =
    ⟨Rect.unit (s := S8x512x128) ![0, 0, 0] ![1, 512, 128] inb_S8x512x128_S1x512x128_0_0_0, newL4 (ckd4 (sc4 (View.readAt (Elt Ideal) arg3.view (Rect.unit (s := S1024x1024) ![0, 0] S512x256.size inb_S1024x1024_S512x256_0_0).toLoadRect (harg3.unread x0)) (View.readAt (Elt Ideal) arg4.view (Rect.unit (s := S4096x512) (k0_off11 i) S1024x128.size (k0_off11_inb i)).toLoadRect (harg4.unread x1)) (View.readAt (Elt Ideal) arg5.view (Rect.unit (s := S4096x128) (k0_off12 i) S1024x128.size (k0_off12_inb i)).toLoadRect (harg5.unread x2)))) (arg12.view.readCov (base0 c i arg3 harg3 arg4 harg4 arg5 harg5 arg6 harg6 arg7 harg7 arg8 harg8 arg9 harg9 arg10 harg10 arg11 harg11 arg12 harg12 arg13 harg13 arg14 harg14 x0 x1 x2 x3) (Rect.unit (s := S8x512x128) ![0, 0, 0] ![1, 512, 128] inb_S8x512x128_S1x512x128_0_0_0).toLoadRect) (arg13.view.readCov (base1 c i arg3 harg3 arg4 harg4 arg5 harg5 arg6 harg6 arg7 harg7 arg8 harg8 arg9 harg9 arg10 harg10 arg11 harg11 arg12 harg12 arg13 harg13 arg14 harg14 x0 x1 x2 x3) (Rect.unit (s := S8x512x128) ![0, 0, 0] ![1, 512, 128] inb_S8x512x128_S1x512x128_0_0_0).toLoadRect)⟩ :: (base1 c i arg3 harg3 arg4 harg4 arg5 harg5 arg6 harg6 arg7 harg7 arg8 harg8 arg9 harg9 arg10 harg10 arg11 harg11 arg12 harg12 arg13 harg13 arg14 harg14 x0 x1 x2 x3) := rfl

theorem diag1_1 : (kernelRun0_A.sl.HS1_2 (F := Ideal) c i arg3 harg3 arg4 harg4 arg5 harg5 arg6 harg6 arg7 harg7 arg8 harg8 arg9 harg9 arg10 harg10 arg11 harg11 arg12 harg12 arg13 harg13 arg14 harg14 x0 x1 x2 x3) =
    ⟨Rect.unit (s := S8x512x128) ![1, 0, 0] ![1, 512, 128] inb_S8x512x128_S1x512x128_1_0_0, newL (ckd8 (sc8 (View.readAt (Elt Ideal) arg3.view (Rect.unit (s := S1024x1024) ![512, 0] S512x256.size inb_S1024x1024_S512x256_512_0).toLoadRect (harg3.unread x0)) (View.readAt (Elt Ideal) arg4.view (Rect.unit (s := S4096x512) (k0_off11 i) S1024x128.size (k0_off11_inb i)).toLoadRect (harg4.unread x1)) (View.readAt (Elt Ideal) arg5.view (Rect.unit (s := S4096x128) (k0_off12 i) S1024x128.size (k0_off12_inb i)).toLoadRect (harg5.unread x2)))) (arg12.view.readCov (kernelRun0_A.sl.HS0_1_1 (F := Ideal) c i arg3 harg3 arg4 harg4 arg5 harg5 arg6 harg6 arg7 harg7 arg8 harg8 arg9 harg9 arg10 harg10 arg11 harg11 arg12 harg12 arg13 harg13 arg14 harg14 x0 x1 x2 x3) (Rect.unit (s := S8x512x128) ![1, 0, 0] ![1, 512, 128] inb_S8x512x128_S1x512x128_1_0_0).toLoadRect) (arg13.view.readCov (kernelRun0_A.sl.HS1_1_1 (F := Ideal) c i arg3 harg3 arg4 harg4 arg5 harg5 arg6 harg6 arg7 harg7 arg8 harg8 arg9 harg9 arg10 harg10 arg11 harg11 arg12 harg12 arg13 harg13 arg14 harg14 x0 x1 x2 x3) (Rect.unit (s := S8x512x128) ![1, 0, 0] ![1, 512, 128] inb_S8x512x128_S1x512x128_1_0_0).toLoadRect)⟩ :: (kernelRun0_A.sl.HS1_1_1 (F := Ideal) c i arg3 harg3 arg4 harg4 arg5 harg5 arg6 harg6 arg7 harg7 arg8 harg8 arg9 harg9 arg10 harg10 arg11 harg11 arg12 harg12 arg13 harg13 arg14 harg14 x0 x1 x2 x3) := rfl

theorem diag1_2 : (kernelRun0_A.sl.HS1_3 (F := Ideal) c i arg3 harg3 arg4 harg4 arg5 harg5 arg6 harg6 arg7 harg7 arg8 harg8 arg9 harg9 arg10 harg10 arg11 harg11 arg12 harg12 arg13 harg13 arg14 harg14 x0 x1 x2 x3) =
    ⟨Rect.unit (s := S8x512x128) ![2, 0, 0] ![1, 512, 128] inb_S8x512x128_S1x512x128_2_0_0, newL4 (ckd4 (sc4 (View.readAt (Elt Ideal) arg3.view (Rect.unit (s := S1024x1024) ![0, 256] S512x256.size inb_S1024x1024_S512x256_0_256).toLoadRect (harg3.unread x0)) (View.readAt (Elt Ideal) arg4.view (Rect.unit (s := S4096x512) (k0_off13 i) S1024x128.size (k0_off13_inb i)).toLoadRect (harg4.unread x1)) (View.readAt (Elt Ideal) arg5.view (Rect.unit (s := S4096x128) (k0_off12 i) S1024x128.size (k0_off12_inb i)).toLoadRect (harg5.unread x2)))) (arg12.view.readCov (kernelRun0_A.sl.HS0_2 (F := Ideal) c i arg3 harg3 arg4 harg4 arg5 harg5 arg6 harg6 arg7 harg7 arg8 harg8 arg9 harg9 arg10 harg10 arg11 harg11 arg12 harg12 arg13 harg13 arg14 harg14 x0 x1 x2 x3) (Rect.unit (s := S8x512x128) ![2, 0, 0] ![1, 512, 128] inb_S8x512x128_S1x512x128_2_0_0).toLoadRect) (arg13.view.readCov (kernelRun0_A.sl.HS1_2 (F := Ideal) c i arg3 harg3 arg4 harg4 arg5 harg5 arg6 harg6 arg7 harg7 arg8 harg8 arg9 harg9 arg10 harg10 arg11 harg11 arg12 harg12 arg13 harg13 arg14 harg14 x0 x1 x2 x3) (Rect.unit (s := S8x512x128) ![2, 0, 0] ![1, 512, 128] inb_S8x512x128_S1x512x128_2_0_0).toLoadRect)⟩ :: (kernelRun0_A.sl.HS1_2 (F := Ideal) c i arg3 harg3 arg4 harg4 arg5 harg5 arg6 harg6 arg7 harg7 arg8 harg8 arg9 harg9 arg10 harg10 arg11 harg11 arg12 harg12 arg13 harg13 arg14 harg14 x0 x1 x2 x3) := rfl

theorem diag1_3 : (kernelRun0_A.sl.HS1_4 (F := Ideal) c i arg3 harg3 arg4 harg4 arg5 harg5 arg6 harg6 arg7 harg7 arg8 harg8 arg9 harg9 arg10 harg10 arg11 harg11 arg12 harg12 arg13 harg13 arg14 harg14 x0 x1 x2 x3) =
    ⟨Rect.unit (s := S8x512x128) ![3, 0, 0] ![1, 512, 128] inb_S8x512x128_S1x512x128_3_0_0, newL (ckd8 (sc8 (View.readAt (Elt Ideal) arg3.view (Rect.unit (s := S1024x1024) ![512, 256] S512x256.size inb_S1024x1024_S512x256_512_256).toLoadRect (harg3.unread x0)) (View.readAt (Elt Ideal) arg4.view (Rect.unit (s := S4096x512) (k0_off13 i) S1024x128.size (k0_off13_inb i)).toLoadRect (harg4.unread x1)) (View.readAt (Elt Ideal) arg5.view (Rect.unit (s := S4096x128) (k0_off12 i) S1024x128.size (k0_off12_inb i)).toLoadRect (harg5.unread x2)))) (arg12.view.readCov (kernelRun0_A.sl.HS0_3 (F := Ideal) c i arg3 harg3 arg4 harg4 arg5 harg5 arg6 harg6 arg7 harg7 arg8 harg8 arg9 harg9 arg10 harg10 arg11 harg11 arg12 harg12 arg13 harg13 arg14 harg14 x0 x1 x2 x3) (Rect.unit (s := S8x512x128) ![3, 0, 0] ![1, 512, 128] inb_S8x512x128_S1x512x128_3_0_0).toLoadRect) (arg13.view.readCov (kernelRun0_A.sl.HS1_3 (F := Ideal) c i arg3 harg3 arg4 harg4 arg5 harg5 arg6 harg6 arg7 harg7 arg8 harg8 arg9 harg9 arg10 harg10 arg11 harg11 arg12 harg12 arg13 harg13 arg14 harg14 x0 x1 x2 x3) (Rect.unit (s := S8x512x128) ![3, 0, 0] ![1, 512, 128] inb_S8x512x128_S1x512x128_3_0_0).toLoadRect)⟩ :: (kernelRun0_A.sl.HS1_3 (F := Ideal) c i arg3 harg3 arg4 harg4 arg5 harg5 arg6 harg6 arg7 harg7 arg8 harg8 arg9 harg9 arg10 harg10 arg11 harg11 arg12 harg12 arg13 harg13 arg14 harg14 x0 x1 x2 x3) := rfl

theorem diag1_4 : (kernelRun0_A.sl.HS1_5 (F := Ideal) c i arg3 harg3 arg4 harg4 arg5 harg5 arg6 harg6 arg7 harg7 arg8 harg8 arg9 harg9 arg10 harg10 arg11 harg11 arg12 harg12 arg13 harg13 arg14 harg14 x0 x1 x2 x3) =
    ⟨Rect.unit (s := S8x512x128) ![4, 0, 0] ![1, 512, 128] inb_S8x512x128_S1x512x128_4_0_0, newL4 (ckd4 (sc4 (View.readAt (Elt Ideal) arg3.view (Rect.unit (s := S1024x1024) ![0, 512] S512x256.size inb_S1024x1024_S512x256_0_512).toLoadRect (harg3.unread x0)) (View.readAt (Elt Ideal) arg4.view (Rect.unit (s := S4096x512) (k0_off14 i) S1024x128.size (k0_off14_inb i)).toLoadRect (harg4.unread x1)) (View.readAt (Elt Ideal) arg5.view (Rect.unit (s := S4096x128) (k0_off12 i) S1024x128.size (k0_off12_inb i)).toLoadRect (harg5.unread x2)))) (arg12.view.readCov (kernelRun0_A.sl.HS0_4 (F := Ideal) c i arg3 harg3 arg4 harg4 arg5 harg5 arg6 harg6 arg7 harg7 arg8 harg8 arg9 harg9 arg10 harg10 arg11 harg11 arg12 harg12 arg13 harg13 arg14 harg14 x0 x1 x2 x3) (Rect.unit (s := S8x512x128) ![4, 0, 0] ![1, 512, 128] inb_S8x512x128_S1x512x128_4_0_0).toLoadRect) (arg13.view.readCov (kernelRun0_A.sl.HS1_4 (F := Ideal) c i arg3 harg3 arg4 harg4 arg5 harg5 arg6 harg6 arg7 harg7 arg8 harg8 arg9 harg9 arg10 harg10 arg11 harg11 arg12 harg12 arg13 harg13 arg14 harg14 x0 x1 x2 x3) (Rect.unit (s := S8x512x128) ![4, 0, 0] ![1, 512, 128] inb_S8x512x128_S1x512x128_4_0_0).toLoadRect)⟩ :: (kernelRun0_A.sl.HS1_4 (F := Ideal) c i arg3 harg3 arg4 harg4 arg5 harg5 arg6 harg6 arg7 harg7 arg8 harg8 arg9 harg9 arg10 harg10 arg11 harg11 arg12 harg12 arg13 harg13 arg14 harg14 x0 x1 x2 x3) := rfl

theorem diag1_5 : (kernelRun0_A.sl.HS1_6 (F := Ideal) c i arg3 harg3 arg4 harg4 arg5 harg5 arg6 harg6 arg7 harg7 arg8 harg8 arg9 harg9 arg10 harg10 arg11 harg11 arg12 harg12 arg13 harg13 arg14 harg14 x0 x1 x2 x3) =
    ⟨Rect.unit (s := S8x512x128) ![5, 0, 0] ![1, 512, 128] inb_S8x512x128_S1x512x128_5_0_0, newL (ckd8 (sc8 (View.readAt (Elt Ideal) arg3.view (Rect.unit (s := S1024x1024) ![512, 512] S512x256.size inb_S1024x1024_S512x256_512_512).toLoadRect (harg3.unread x0)) (View.readAt (Elt Ideal) arg4.view (Rect.unit (s := S4096x512) (k0_off14 i) S1024x128.size (k0_off14_inb i)).toLoadRect (harg4.unread x1)) (View.readAt (Elt Ideal) arg5.view (Rect.unit (s := S4096x128) (k0_off12 i) S1024x128.size (k0_off12_inb i)).toLoadRect (harg5.unread x2)))) (arg12.view.readCov (kernelRun0_A.sl.HS0_5 (F := Ideal) c i arg3 harg3 arg4 harg4 arg5 harg5 arg6 harg6 arg7 harg7 arg8 harg8 arg9 harg9 arg10 harg10 arg11 harg11 arg12 harg12 arg13 harg13 arg14 harg14 x0 x1 x2 x3) (Rect.unit (s := S8x512x128) ![5, 0, 0] ![1, 512, 128] inb_S8x512x128_S1x512x128_5_0_0).toLoadRect) (arg13.view.readCov (kernelRun0_A.sl.HS1_5 (F := Ideal) c i arg3 harg3 arg4 harg4 arg5 harg5 arg6 harg6 arg7 harg7 arg8 harg8 arg9 harg9 arg10 harg10 arg11 harg11 arg12 harg12 arg13 harg13 arg14 harg14 x0 x1 x2 x3) (Rect.unit (s := S8x512x128) ![5, 0, 0] ![1, 512, 128] inb_S8x512x128_S1x512x128_5_0_0).toLoadRect)⟩ :: (kernelRun0_A.sl.HS1_5 (F := Ideal) c i arg3 harg3 arg4 harg4 arg5 harg5 arg6 harg6 arg7 harg7 arg8 harg8 arg9 harg9 arg10 harg10 arg11 harg11 arg12 harg12 arg13 harg13 arg14 harg14 x0 x1 x2 x3) := rfl

theorem diag1_6 : (kernelRun0_A.sl.HS1_7 (F := Ideal) c i arg3 harg3 arg4 harg4 arg5 harg5 arg6 harg6 arg7 harg7 arg8 harg8 arg9 harg9 arg10 harg10 arg11 harg11 arg12 harg12 arg13 harg13 arg14 harg14 x0 x1 x2 x3) =
    ⟨Rect.unit (s := S8x512x128) ![6, 0, 0] ![1, 512, 128] inb_S8x512x128_S1x512x128_6_0_0, newL4 (ckd4 (sc4 (View.readAt (Elt Ideal) arg3.view (Rect.unit (s := S1024x1024) ![0, 768] S512x256.size inb_S1024x1024_S512x256_0_768).toLoadRect (harg3.unread x0)) (View.readAt (Elt Ideal) arg4.view (Rect.unit (s := S4096x512) (k0_off15 i) S1024x128.size (k0_off15_inb i)).toLoadRect (harg4.unread x1)) (View.readAt (Elt Ideal) arg5.view (Rect.unit (s := S4096x128) (k0_off12 i) S1024x128.size (k0_off12_inb i)).toLoadRect (harg5.unread x2)))) (arg12.view.readCov (kernelRun0_A.sl.HS0_6 (F := Ideal) c i arg3 harg3 arg4 harg4 arg5 harg5 arg6 harg6 arg7 harg7 arg8 harg8 arg9 harg9 arg10 harg10 arg11 harg11 arg12 harg12 arg13 harg13 arg14 harg14 x0 x1 x2 x3) (Rect.unit (s := S8x512x128) ![6, 0, 0] ![1, 512, 128] inb_S8x512x128_S1x512x128_6_0_0).toLoadRect) (arg13.view.readCov (kernelRun0_A.sl.HS1_6 (F := Ideal) c i arg3 harg3 arg4 harg4 arg5 harg5 arg6 harg6 arg7 harg7 arg8 harg8 arg9 harg9 arg10 harg10 arg11 harg11 arg12 harg12 arg13 harg13 arg14 harg14 x0 x1 x2 x3) (Rect.unit (s := S8x512x128) ![6, 0, 0] ![1, 512, 128] inb_S8x512x128_S1x512x128_6_0_0).toLoadRect)⟩ :: (kernelRun0_A.sl.HS1_6 (F := Ideal) c i arg3 harg3 arg4 harg4 arg5 harg5 arg6 harg6 arg7 harg7 arg8 harg8 arg9 harg9 arg10 harg10 arg11 harg11 arg12 harg12 arg13 harg13 arg14 harg14 x0 x1 x2 x3) := rfl

theorem diag1_7 : (kernelRun0_A.sl.HS1_8 (F := Ideal) c i arg3 harg3 arg4 harg4 arg5 harg5 arg6 harg6 arg7 harg7 arg8 harg8 arg9 harg9 arg10 harg10 arg11 harg11 arg12 harg12 arg13 harg13 arg14 harg14 x0 x1 x2 x3) =
    ⟨Rect.unit (s := S8x512x128) ![7, 0, 0] ![1, 512, 128] inb_S8x512x128_S1x512x128_7_0_0, newL (ckd8 (sc8 (View.readAt (Elt Ideal) arg3.view (Rect.unit (s := S1024x1024) ![512, 768] S512x256.size inb_S1024x1024_S512x256_512_768).toLoadRect (harg3.unread x0)) (View.readAt (Elt Ideal) arg4.view (Rect.unit (s := S4096x512) (k0_off15 i) S1024x128.size (k0_off15_inb i)).toLoadRect (harg4.unread x1)) (View.readAt (Elt Ideal) arg5.view (Rect.unit (s := S4096x128) (k0_off12 i) S1024x128.size (k0_off12_inb i)).toLoadRect (harg5.unread x2)))) (arg12.view.readCov (kernelRun0_A.sl.HS0_7 (F := Ideal) c i arg3 harg3 arg4 harg4 arg5 harg5 arg6 harg6 arg7 harg7 arg8 harg8 arg9 harg9 arg10 harg10 arg11 harg11 arg12 harg12 arg13 harg13 arg14 harg14 x0 x1 x2 x3) (Rect.unit (s := S8x512x128) ![7, 0, 0] ![1, 512, 128] inb_S8x512x128_S1x512x128_7_0_0).toLoadRect) (arg13.view.readCov (kernelRun0_A.sl.HS1_7 (F := Ideal) c i arg3 harg3 arg4 harg4 arg5 harg5 arg6 harg6 arg7 harg7 arg8 harg8 arg9 harg9 arg10 harg10 arg11 harg11 arg12 harg12 arg13 harg13 arg14 harg14 x0 x1 x2 x3) (Rect.unit (s := S8x512x128) ![7, 0, 0] ![1, 512, 128] inb_S8x512x128_S1x512x128_7_0_0).toLoadRect)⟩ :: (kernelRun0_A.sl.HS1_7 (F := Ideal) c i arg3 harg3 arg4 harg4 arg5 harg5 arg6 harg6 arg7 harg7 arg8 harg8 arg9 harg9 arg10 harg10 arg11 harg11 arg12 harg12 arg13 harg13 arg14 harg14 x0 x1 x2 x3) := rfl

theorem diag2_0 : (kernelRun0_A.sl.HS2_1_1 (F := Ideal) c i arg3 harg3 arg4 harg4 arg5 harg5 arg6 harg6 arg7 harg7 arg8 harg8 arg9 harg9 arg10 harg10 arg11 harg11 arg12 harg12 arg13 harg13 arg14 harg14 x0 x1 x2 x3) =
    ⟨Rect.unit (s := S8x512x128) ![0, 0, 0] ![1, 512, 128] inb_S8x512x128_S1x512x128_0_0_0, newA4 (ckd4 (sc4 (View.readAt (Elt Ideal) arg3.view (Rect.unit (s := S1024x1024) ![0, 0] S512x256.size inb_S1024x1024_S512x256_0_0).toLoadRect (harg3.unread x0)) (View.readAt (Elt Ideal) arg4.view (Rect.unit (s := S4096x512) (k0_off11 i) S1024x128.size (k0_off11_inb i)).toLoadRect (harg4.unread x1)) (View.readAt (Elt Ideal) arg5.view (Rect.unit (s := S4096x128) (k0_off12 i) S1024x128.size (k0_off12_inb i)).toLoadRect (harg5.unread x2)))) (View.readAt (Elt Ideal) arg6.view (Rect.unit (s := S4096x512) (k0_off11 i) S1024x128.size (k0_off11_inb i)).toLoadRect (harg6.unread x3)) (arg12.view.readCov (base0 c i arg3 harg3 arg4 harg4 arg5 harg5 arg6 harg6 arg7 harg7 arg8 harg8 arg9 harg9 arg10 harg10 arg11 harg11 arg12 harg12 arg13 harg13 arg14 harg14 x0 x1 x2 x3) (Rect.unit (s := S8x512x128) ![0, 0, 0] ![1, 512, 128] inb_S8x512x128_S1x512x128_0_0_0).toLoadRect) (arg14.view.readCov (base2 c i arg3 harg3 arg4 harg4 arg5 harg5 arg6 harg6 arg7 harg7 arg8 harg8 arg9 harg9 arg10 harg10 arg11 harg11 arg12 harg12 arg13 harg13 arg14 harg14 x0 x1 x2 x3) (Rect.unit (s := S8x512x128) ![0, 0, 0] ![1, 512, 128] inb_S8x512x128_S1x512x128_0_0_0).toLoadRect)⟩ :: (base2 c i arg3 harg3 arg4 harg4 arg5 harg5 arg6 harg6 arg7 harg7 arg8 harg8 arg9 harg9 arg10 harg10 arg11 harg11 arg12 harg12 arg13 harg13 arg14 harg14 x0 x1 x2 x3) := rfl

theorem diag2_1 : (kernelRun0_A.sl.HS2_2 (F := Ideal) c i arg3 harg3 arg4 harg4 arg5 harg5 arg6 harg6 arg7 harg7 arg8 harg8 arg9 harg9 arg10 harg10 arg11 harg11 arg12 harg12 arg13 harg13 arg14 harg14 x0 x1 x2 x3) =
    ⟨Rect.unit (s := S8x512x128) ![1, 0, 0] ![1, 512, 128] inb_S8x512x128_S1x512x128_1_0_0, newA (ckd8 (sc8 (View.readAt (Elt Ideal) arg3.view (Rect.unit (s := S1024x1024) ![512, 0] S512x256.size inb_S1024x1024_S512x256_512_0).toLoadRect (harg3.unread x0)) (View.readAt (Elt Ideal) arg4.view (Rect.unit (s := S4096x512) (k0_off11 i) S1024x128.size (k0_off11_inb i)).toLoadRect (harg4.unread x1)) (View.readAt (Elt Ideal) arg5.view (Rect.unit (s := S4096x128) (k0_off12 i) S1024x128.size (k0_off12_inb i)).toLoadRect (harg5.unread x2)))) (View.readAt (Elt Ideal) arg6.view (Rect.unit (s := S4096x512) (k0_off11 i) S1024x128.size (k0_off11_inb i)).toLoadRect (harg6.unread x3)) (arg12.view.readCov (kernelRun0_A.sl.HS0_1_1 (F := Ideal) c i arg3 harg3 arg4 harg4 arg5 harg5 arg6 harg6 arg7 harg7 arg8 harg8 arg9 harg9 arg10 harg10 arg11 harg11 arg12 harg12 arg13 harg13 arg14 harg14 x0 x1 x2 x3) (Rect.unit (s := S8x512x128) ![1, 0, 0] ![1, 512, 128] inb_S8x512x128_S1x512x128_1_0_0).toLoadRect) (arg14.view.readCov (kernelRun0_A.sl.HS2_1_1 (F := Ideal) c i arg3 harg3 arg4 harg4 arg5 harg5 arg6 harg6 arg7 harg7 arg8 harg8 arg9 harg9 arg10 harg10 arg11 harg11 arg12 harg12 arg13 harg13 arg14 harg14 x0 x1 x2 x3) (Rect.unit (s := S8x512x128) ![1, 0, 0] ![1, 512, 128] inb_S8x512x128_S1x512x128_1_0_0).toLoadRect)⟩ :: (kernelRun0_A.sl.HS2_1_1 (F := Ideal) c i arg3 harg3 arg4 harg4 arg5 harg5 arg6 harg6 arg7 harg7 arg8 harg8 arg9 harg9 arg10 harg10 arg11 harg11 arg12 harg12 arg13 harg13 arg14 harg14 x0 x1 x2 x3) := rfl

theorem diag2_2 : (kernelRun0_A.sl.HS2_3 (F := Ideal) c i arg3 harg3 arg4 harg4 arg5 harg5 arg6 harg6 arg7 harg7 arg8 harg8 arg9 harg9 arg10 harg10 arg11 harg11 arg12 harg12 arg13 harg13 arg14 harg14 x0 x1 x2 x3) =
    ⟨Rect.unit (s := S8x512x128) ![2, 0, 0] ![1, 512, 128] inb_S8x512x128_S1x512x128_2_0_0, newA4 (ckd4 (sc4 (View.readAt (Elt Ideal) arg3.view (Rect.unit (s := S1024x1024) ![0, 256] S512x256.size inb_S1024x1024_S512x256_0_256).toLoadRect (harg3.unread x0)) (View.readAt (Elt Ideal) arg4.view (Rect.unit (s := S4096x512) (k0_off13 i) S1024x128.size (k0_off13_inb i)).toLoadRect (harg4.unread x1)) (View.readAt (Elt Ideal) arg5.view (Rect.unit (s := S4096x128) (k0_off12 i) S1024x128.size (k0_off12_inb i)).toLoadRect (harg5.unread x2)))) (View.readAt (Elt Ideal) arg6.view (Rect.unit (s := S4096x512) (k0_off13 i) S1024x128.size (k0_off13_inb i)).toLoadRect (harg6.unread x3)) (arg12.view.readCov (kernelRun0_A.sl.HS0_2 (F := Ideal) c i arg3 harg3 arg4 harg4 arg5 harg5 arg6 harg6 arg7 harg7 arg8 harg8 arg9 harg9 arg10 harg10 arg11 harg11 arg12 harg12 arg13 harg13 arg14 harg14 x0 x1 x2 x3) (Rect.unit (s := S8x512x128) ![2, 0, 0] ![1, 512, 128] inb_S8x512x128_S1x512x128_2_0_0).toLoadRect) (arg14.view.readCov (kernelRun0_A.sl.HS2_2 (F := Ideal) c i arg3 harg3 arg4 harg4 arg5 harg5 arg6 harg6 arg7 harg7 arg8 harg8 arg9 harg9 arg10 harg10 arg11 harg11 arg12 harg12 arg13 harg13 arg14 harg14 x0 x1 x2 x3) (Rect.unit (s := S8x512x128) ![2, 0, 0] ![1, 512, 128] inb_S8x512x128_S1x512x128_2_0_0).toLoadRect)⟩ :: (kernelRun0_A.sl.HS2_2 (F := Ideal) c i arg3 harg3 arg4 harg4 arg5 harg5 arg6 harg6 arg7 harg7 arg8 harg8 arg9 harg9 arg10 harg10 arg11 harg11 arg12 harg12 arg13 harg13 arg14 harg14 x0 x1 x2 x3) := rfl

theorem diag2_3 : (kernelRun0_A.sl.HS2_4 (F := Ideal) c i arg3 harg3 arg4 harg4 arg5 harg5 arg6 harg6 arg7 harg7 arg8 harg8 arg9 harg9 arg10 harg10 arg11 harg11 arg12 harg12 arg13 harg13 arg14 harg14 x0 x1 x2 x3) =
    ⟨Rect.unit (s := S8x512x128) ![3, 0, 0] ![1, 512, 128] inb_S8x512x128_S1x512x128_3_0_0, newA (ckd8 (sc8 (View.readAt (Elt Ideal) arg3.view (Rect.unit (s := S1024x1024) ![512, 256] S512x256.size inb_S1024x1024_S512x256_512_256).toLoadRect (harg3.unread x0)) (View.readAt (Elt Ideal) arg4.view (Rect.unit (s := S4096x512) (k0_off13 i) S1024x128.size (k0_off13_inb i)).toLoadRect (harg4.unread x1)) (View.readAt (Elt Ideal) arg5.view (Rect.unit (s := S4096x128) (k0_off12 i) S1024x128.size (k0_off12_inb i)).toLoadRect (harg5.unread x2)))) (View.readAt (Elt Ideal) arg6.view (Rect.unit (s := S4096x512) (k0_off13 i) S1024x128.size (k0_off13_inb i)).toLoadRect (harg6.unread x3)) (arg12.view.readCov (kernelRun0_A.sl.HS0_3 (F := Ideal) c i arg3 harg3 arg4 harg4 arg5 harg5 arg6 harg6 arg7 harg7 arg8 harg8 arg9 harg9 arg10 harg10 arg11 harg11 arg12 harg12 arg13 harg13 arg14 harg14 x0 x1 x2 x3) (Rect.unit (s := S8x512x128) ![3, 0, 0] ![1, 512, 128] inb_S8x512x128_S1x512x128_3_0_0).toLoadRect) (arg14.view.readCov (kernelRun0_A.sl.HS2_3 (F := Ideal) c i arg3 harg3 arg4 harg4 arg5 harg5 arg6 harg6 arg7 harg7 arg8 harg8 arg9 harg9 arg10 harg10 arg11 harg11 arg12 harg12 arg13 harg13 arg14 harg14 x0 x1 x2 x3) (Rect.unit (s := S8x512x128) ![3, 0, 0] ![1, 512, 128] inb_S8x512x128_S1x512x128_3_0_0).toLoadRect)⟩ :: (kernelRun0_A.sl.HS2_3 (F := Ideal) c i arg3 harg3 arg4 harg4 arg5 harg5 arg6 harg6 arg7 harg7 arg8 harg8 arg9 harg9 arg10 harg10 arg11 harg11 arg12 harg12 arg13 harg13 arg14 harg14 x0 x1 x2 x3) := rfl

theorem diag2_4 : (kernelRun0_A.sl.HS2_5 (F := Ideal) c i arg3 harg3 arg4 harg4 arg5 harg5 arg6 harg6 arg7 harg7 arg8 harg8 arg9 harg9 arg10 harg10 arg11 harg11 arg12 harg12 arg13 harg13 arg14 harg14 x0 x1 x2 x3) =
    ⟨Rect.unit (s := S8x512x128) ![4, 0, 0] ![1, 512, 128] inb_S8x512x128_S1x512x128_4_0_0, newA4 (ckd4 (sc4 (View.readAt (Elt Ideal) arg3.view (Rect.unit (s := S1024x1024) ![0, 512] S512x256.size inb_S1024x1024_S512x256_0_512).toLoadRect (harg3.unread x0)) (View.readAt (Elt Ideal) arg4.view (Rect.unit (s := S4096x512) (k0_off14 i) S1024x128.size (k0_off14_inb i)).toLoadRect (harg4.unread x1)) (View.readAt (Elt Ideal) arg5.view (Rect.unit (s := S4096x128) (k0_off12 i) S1024x128.size (k0_off12_inb i)).toLoadRect (harg5.unread x2)))) (View.readAt (Elt Ideal) arg6.view (Rect.unit (s := S4096x512) (k0_off14 i) S1024x128.size (k0_off14_inb i)).toLoadRect (harg6.unread x3)) (arg12.view.readCov (kernelRun0_A.sl.HS0_4 (F := Ideal) c i arg3 harg3 arg4 harg4 arg5 harg5 arg6 harg6 arg7 harg7 arg8 harg8 arg9 harg9 arg10 harg10 arg11 harg11 arg12 harg12 arg13 harg13 arg14 harg14 x0 x1 x2 x3) (Rect.unit (s := S8x512x128) ![4, 0, 0] ![1, 512, 128] inb_S8x512x128_S1x512x128_4_0_0).toLoadRect) (arg14.view.readCov (kernelRun0_A.sl.HS2_4 (F := Ideal) c i arg3 harg3 arg4 harg4 arg5 harg5 arg6 harg6 arg7 harg7 arg8 harg8 arg9 harg9 arg10 harg10 arg11 harg11 arg12 harg12 arg13 harg13 arg14 harg14 x0 x1 x2 x3) (Rect.unit (s := S8x512x128) ![4, 0, 0] ![1, 512, 128] inb_S8x512x128_S1x512x128_4_0_0).toLoadRect)⟩ :: (kernelRun0_A.sl.HS2_4 (F := Ideal) c i arg3 harg3 arg4 harg4 arg5 harg5 arg6 harg6 arg7 harg7 arg8 harg8 arg9 harg9 arg10 harg10 arg11 harg11 arg12 harg12 arg13 harg13 arg14 harg14 x0 x1 x2 x3) := rfl

theorem diag2_5 : (kernelRun0_A.sl.HS2_6 (F := Ideal) c i arg3 harg3 arg4 harg4 arg5 harg5 arg6 harg6 arg7 harg7 arg8 harg8 arg9 harg9 arg10 harg10 arg11 harg11 arg12 harg12 arg13 harg13 arg14 harg14 x0 x1 x2 x3) =
    ⟨Rect.unit (s := S8x512x128) ![5, 0, 0] ![1, 512, 128] inb_S8x512x128_S1x512x128_5_0_0, newA (ckd8 (sc8 (View.readAt (Elt Ideal) arg3.view (Rect.unit (s := S1024x1024) ![512, 512] S512x256.size inb_S1024x1024_S512x256_512_512).toLoadRect (harg3.unread x0)) (View.readAt (Elt Ideal) arg4.view (Rect.unit (s := S4096x512) (k0_off14 i) S1024x128.size (k0_off14_inb i)).toLoadRect (harg4.unread x1)) (View.readAt (Elt Ideal) arg5.view (Rect.unit (s := S4096x128) (k0_off12 i) S1024x128.size (k0_off12_inb i)).toLoadRect (harg5.unread x2)))) (View.readAt (Elt Ideal) arg6.view (Rect.unit (s := S4096x512) (k0_off14 i) S1024x128.size (k0_off14_inb i)).toLoadRect (harg6.unread x3)) (arg12.view.readCov (kernelRun0_A.sl.HS0_5 (F := Ideal) c i arg3 harg3 arg4 harg4 arg5 harg5 arg6 harg6 arg7 harg7 arg8 harg8 arg9 harg9 arg10 harg10 arg11 harg11 arg12 harg12 arg13 harg13 arg14 harg14 x0 x1 x2 x3) (Rect.unit (s := S8x512x128) ![5, 0, 0] ![1, 512, 128] inb_S8x512x128_S1x512x128_5_0_0).toLoadRect) (arg14.view.readCov (kernelRun0_A.sl.HS2_5 (F := Ideal) c i arg3 harg3 arg4 harg4 arg5 harg5 arg6 harg6 arg7 harg7 arg8 harg8 arg9 harg9 arg10 harg10 arg11 harg11 arg12 harg12 arg13 harg13 arg14 harg14 x0 x1 x2 x3) (Rect.unit (s := S8x512x128) ![5, 0, 0] ![1, 512, 128] inb_S8x512x128_S1x512x128_5_0_0).toLoadRect)⟩ :: (kernelRun0_A.sl.HS2_5 (F := Ideal) c i arg3 harg3 arg4 harg4 arg5 harg5 arg6 harg6 arg7 harg7 arg8 harg8 arg9 harg9 arg10 harg10 arg11 harg11 arg12 harg12 arg13 harg13 arg14 harg14 x0 x1 x2 x3) := rfl

theorem diag2_6 : (kernelRun0_A.sl.HS2_7 (F := Ideal) c i arg3 harg3 arg4 harg4 arg5 harg5 arg6 harg6 arg7 harg7 arg8 harg8 arg9 harg9 arg10 harg10 arg11 harg11 arg12 harg12 arg13 harg13 arg14 harg14 x0 x1 x2 x3) =
    ⟨Rect.unit (s := S8x512x128) ![6, 0, 0] ![1, 512, 128] inb_S8x512x128_S1x512x128_6_0_0, newA4 (ckd4 (sc4 (View.readAt (Elt Ideal) arg3.view (Rect.unit (s := S1024x1024) ![0, 768] S512x256.size inb_S1024x1024_S512x256_0_768).toLoadRect (harg3.unread x0)) (View.readAt (Elt Ideal) arg4.view (Rect.unit (s := S4096x512) (k0_off15 i) S1024x128.size (k0_off15_inb i)).toLoadRect (harg4.unread x1)) (View.readAt (Elt Ideal) arg5.view (Rect.unit (s := S4096x128) (k0_off12 i) S1024x128.size (k0_off12_inb i)).toLoadRect (harg5.unread x2)))) (View.readAt (Elt Ideal) arg6.view (Rect.unit (s := S4096x512) (k0_off15 i) S1024x128.size (k0_off15_inb i)).toLoadRect (harg6.unread x3)) (arg12.view.readCov (kernelRun0_A.sl.HS0_6 (F := Ideal) c i arg3 harg3 arg4 harg4 arg5 harg5 arg6 harg6 arg7 harg7 arg8 harg8 arg9 harg9 arg10 harg10 arg11 harg11 arg12 harg12 arg13 harg13 arg14 harg14 x0 x1 x2 x3) (Rect.unit (s := S8x512x128) ![6, 0, 0] ![1, 512, 128] inb_S8x512x128_S1x512x128_6_0_0).toLoadRect) (arg14.view.readCov (kernelRun0_A.sl.HS2_6 (F := Ideal) c i arg3 harg3 arg4 harg4 arg5 harg5 arg6 harg6 arg7 harg7 arg8 harg8 arg9 harg9 arg10 harg10 arg11 harg11 arg12 harg12 arg13 harg13 arg14 harg14 x0 x1 x2 x3) (Rect.unit (s := S8x512x128) ![6, 0, 0] ![1, 512, 128] inb_S8x512x128_S1x512x128_6_0_0).toLoadRect)⟩ :: (kernelRun0_A.sl.HS2_6 (F := Ideal) c i arg3 harg3 arg4 harg4 arg5 harg5 arg6 harg6 arg7 harg7 arg8 harg8 arg9 harg9 arg10 harg10 arg11 harg11 arg12 harg12 arg13 harg13 arg14 harg14 x0 x1 x2 x3) := rfl

theorem diag2_7 : (kernelRun0_A.sl.HS2_8 (F := Ideal) c i arg3 harg3 arg4 harg4 arg5 harg5 arg6 harg6 arg7 harg7 arg8 harg8 arg9 harg9 arg10 harg10 arg11 harg11 arg12 harg12 arg13 harg13 arg14 harg14 x0 x1 x2 x3) =
    ⟨Rect.unit (s := S8x512x128) ![7, 0, 0] ![1, 512, 128] inb_S8x512x128_S1x512x128_7_0_0, newA (ckd8 (sc8 (View.readAt (Elt Ideal) arg3.view (Rect.unit (s := S1024x1024) ![512, 768] S512x256.size inb_S1024x1024_S512x256_512_768).toLoadRect (harg3.unread x0)) (View.readAt (Elt Ideal) arg4.view (Rect.unit (s := S4096x512) (k0_off15 i) S1024x128.size (k0_off15_inb i)).toLoadRect (harg4.unread x1)) (View.readAt (Elt Ideal) arg5.view (Rect.unit (s := S4096x128) (k0_off12 i) S1024x128.size (k0_off12_inb i)).toLoadRect (harg5.unread x2)))) (View.readAt (Elt Ideal) arg6.view (Rect.unit (s := S4096x512) (k0_off15 i) S1024x128.size (k0_off15_inb i)).toLoadRect (harg6.unread x3)) (arg12.view.readCov (kernelRun0_A.sl.HS0_7 (F := Ideal) c i arg3 harg3 arg4 harg4 arg5 harg5 arg6 harg6 arg7 harg7 arg8 harg8 arg9 harg9 arg10 harg10 arg11 harg11 arg12 harg12 arg13 harg13 arg14 harg14 x0 x1 x2 x3) (Rect.unit (s := S8x512x128) ![7, 0, 0] ![1, 512, 128] inb_S8x512x128_S1x512x128_7_0_0).toLoadRect) (arg14.view.readCov (kernelRun0_A.sl.HS2_7 (F := Ideal) c i arg3 harg3 arg4 harg4 arg5 harg5 arg6 harg6 arg7 harg7 arg8 harg8 arg9 harg9 arg10 harg10 arg11 harg11 arg12 harg12 arg13 harg13 arg14 harg14 x0 x1 x2 x3) (Rect.unit (s := S8x512x128) ![7, 0, 0] ![1, 512, 128] inb_S8x512x128_S1x512x128_7_0_0).toLoadRect)⟩ :: (kernelRun0_A.sl.HS2_7 (F := Ideal) c i arg3 harg3 arg4 harg4 arg5 harg5 arg6 harg6 arg7 harg7 arg8 harg8 arg9 harg9 arg10 harg10 arg11 harg11 arg12 harg12 arg13 harg13 arg14 harg14 x0 x1 x2 x3) := rfl

end Cert.KernelIdeal.Mla
-- ==== Proof.Fin.lean ====
/-
  The state after the last block of keys and the quotients the kernel stores.
-/
module

public import proofs.«01_k».proof.Proof.Inv
public import proofs.«01_k».proof.Proof.Diag
public import Idealize.ShloMosaic.Lib.Pipeline.ReadBack
public import Idealize.ShloMosaic.Lib.Pipeline.ValueKit.Tiles

@[expose] public section

set_option maxRecDepth 16384

noncomputable section

namespace Cert.KernelIdeal.Mla

open Idealize.ShloMosaic Idealize.ShloMosaic.TcCoe Cert.KernelIdeal Cert.KernelIdeal.Gen

variable (c : Dev nD) (i : grid0.Coords) (arg3 : Memref sig .tc .vmem S1024x1024 .bf16) (harg3 : arg3.IsWhole) (arg4 : Memref sig .tc .vmem S4096x512 .bf16) (harg4 : arg4.IsWhole) (arg5 : Memref sig .tc .vmem S4096x128 .bf16) (harg5 : arg5.IsWhole) (arg6 : Memref sig .tc .vmem S4096x512 .bf16) (harg6 : arg6.IsWhole) (arg7 : Memref sig .tc .vmem S64x11008 .f32) (harg7 : arg7.IsWhole) (arg8 : Memref sig .tc .vmem S64x11008 .f32) (harg8 : arg8.IsWhole) (arg9 : Memref sig .tc .vmem S1024x512 .bf16) (harg9 : arg9.IsWhole) (arg10 : Memref sig .tc .vmem S64x11008 .bf16) (harg10 : arg10.IsWhole) (arg11 : Memref sig .tc .vmem S64x11008 .bf16) (harg11 : arg11.IsWhole) (arg12 : Memref sig .tc .vmem S8x512x128 .f32) (harg12 : arg12.IsWhole) (arg13 : Memref sig .tc .vmem S8x512x128 .f32) (harg13 : arg13.IsWhole) (arg14 : Memref sig .tc .vmem S8x512x128 .f32) (harg14 : arg14.IsWhole)
    (x0 : Vec Ideal S1024x1024 .bf16) (x1 : Vec Ideal S4096x512 .bf16) (x2 : Vec Ideal S4096x128 .bf16) (x3 : Vec Ideal S4096x512 .bf16)

theorem base0_eq : base0 c i arg3 harg3 arg4 harg4 arg5 harg5 arg6 harg6 arg7 harg7 arg8 harg8 arg9 harg9 arg10 harg10 arg11 harg11 arg12 harg12 arg13 harg13 arg14 harg14 x0 x1 x2 x3 = (pbk c i arg3 harg3 arg4 harg4 arg5 harg5 arg6 harg6 arg7 harg7 arg8 harg8 arg9 harg9 arg10 harg10 arg11 harg11 arg12 harg12 arg13 harg13 arg14 harg14 x0 x1 x2 x3 (k0_t1_loop i).trips).1 ++ (kernelRun0_A.sl.HS0_1 (F := Ideal)) := by
  unfold base0 kernelRun0_A.sl.HS0_1_1
  dsimp only [List.tail]
  rw [show (Scf.trips (Scalar.addi (0#32) (Scalar.muli (Scalar.divsi (Scalar.subi (BitVec.ofNat 32 (i 2).val) 0#32) 1#32) 1#32))
    (Scalar.addi (0#32) (Scalar.subi (BitVec.ofNat 32 (i 2).val) 0#32)) 1#32) = 0 from trips2 i]
  rfl

theorem base1_eq : base1 c i arg3 harg3 arg4 harg4 arg5 harg5 arg6 harg6 arg7 harg7 arg8 harg8 arg9 harg9 arg10 harg10 arg11 harg11 arg12 harg12 arg13 harg13 arg14 harg14 x0 x1 x2 x3 = (pbk c i arg3 harg3 arg4 harg4 arg5 harg5 arg6 harg6 arg7 harg7 arg8 harg8 arg9 harg9 arg10 harg10 arg11 harg11 arg12 harg12 arg13 harg13 arg14 harg14 x0 x1 x2 x3 (k0_t1_loop i).trips).2.1 ++ (kernelRun0_A.sl.HS1_1 (F := Ideal)) := by
  unfold base1 kernelRun0_A.sl.HS1_1_1
  dsimp only [List.tail]
  rw [show (Scf.trips (Scalar.addi (0#32) (Scalar.muli (Scalar.divsi (Scalar.subi (BitVec.ofNat 32 (i 2).val) 0#32) 1#32) 1#32))
    (Scalar.addi (0#32) (Scalar.subi (BitVec.ofNat 32 (i 2).val) 0#32)) 1#32) = 0 from trips2 i]
  rfl

theorem base2_eq : base2 c i arg3 harg3 arg4 harg4 arg5 harg5 arg6 harg6 arg7 harg7 arg8 harg8 arg9 harg9 arg10 harg10 arg11 harg11 arg12 harg12 arg13 harg13 arg14 harg14 x0 x1 x2 x3 = (pbk c i arg3 harg3 arg4 harg4 arg5 harg5 arg6 harg6 arg7 harg7 arg8 harg8 arg9 harg9 arg10 harg10 arg11 harg11 arg12 harg12 arg13 harg13 arg14 harg14 x0 x1 x2 x3 (k0_t1_loop i).trips).2.2 ++ (kernelRun0_A.sl.HS2_1 (F := Ideal)) := by
  unfold base2 kernelRun0_A.sl.HS2_1_1
  dsimp only [List.tail]
  rw [show (Scf.trips (Scalar.addi (0#32) (Scalar.muli (Scalar.divsi (Scalar.subi (BitVec.ofNat 32 (i 2).val) 0#32) 1#32) 1#32))
    (Scalar.addi (0#32) (Scalar.subi (BitVec.ofNat 32 (i 2).val) 0#32)) 1#32) = 0 from trips2 i]
  rfl

variable (hf : Fine x0 x1 x2)
include hf

/-- The state before the last block. -/
theorem base_all : All arg12 arg13 arg14 (fun h t => Ch x0 x1 x2 x3 (i 2).val h t (1024 * (i 2).val)) (base0 c i arg3 harg3 arg4 harg4 arg5 harg5 arg6 harg6 arg7 harg7 arg8 harg8 arg9 harg9 arg10 harg10 arg11 harg11 arg12 harg12 arg13 harg13 arg14 harg14 x0 x1 x2 x3) (base1 c i arg3 harg3 arg4 harg4 arg5 harg5 arg6 harg6 arg7 harg7 arg8 harg8 arg9 harg9 arg10 harg10 arg11 harg11 arg12 harg12 arg13 harg13 arg14 harg14 x0 x1 x2 x3) (base2 c i arg3 harg3 arg4 harg4 arg5 harg5 arg6 harg6 arg7 harg7 arg8 harg8 arg9 harg9 arg10 harg10 arg11 harg11 arg12 harg12 arg13 harg13 arg14 harg14 x0 x1 x2 x3) := by
  rw [base0_eq, base1_eq, base2_eq]
  have h := inv c i arg3 harg3 arg4 harg4 arg5 harg5 arg6 harg6 arg7 harg7 arg8 harg8 arg9 harg9 arg10 harg10 arg11 harg11 arg12 harg12 arg13 harg13 arg14 harg14 x0 x1 x2 x3 hf (k0_t1_loop i).trips le_rfl
  simp only [trips1] at h ⊢
  exact h

/-- Chain 0 after the last block. -/
theorem end_0 : ∃ m, Ch x0 x1 x2 x3 (i 2).val 0 0 (1024 * (i 2).val + 512) m (rd arg13 0 inb_S8x512x128_S1x512x128_0_0_0 (kernelRun0_A.sl.HS1_8 (F := Ideal) c i arg3 harg3 arg4 harg4 arg5 harg5 arg6 harg6 arg7 harg7 arg8 harg8 arg9 harg9 arg10 harg10 arg11 harg11 arg12 harg12 arg13 harg13 arg14 harg14 x0 x1 x2 x3)) (rd arg14 0 inb_S8x512x128_S1x512x128_0_0_0 (kernelRun0_A.sl.HS2_8 (F := Ideal) c i arg3 harg3 arg4 harg4 arg5 harg5 arg6 harg6 arg7 harg7 arg8 harg8 arg9 harg9 arg10 harg10 arg11 harg11 arg12 harg12 arg13 harg13 arg14 harg14 x0 x1 x2 x3)) := by
  have hi : (i 2).val < 4 := (i 2).isLt
  obtain ⟨h0, h1, h2, h3, h4, h5, h6, h7⟩ := base_all c i arg3 harg3 arg4 harg4 arg5 harg5 arg6 harg6 arg7 harg7 arg8 harg8 arg9 harg9 arg10 harg10 arg11 harg11 arg12 harg12 arg13 harg13 arg14 harg14 x0 x1 x2 x3 hf
  have s0 : rd arg12 0 inb_S8x512x128_S1x512x128_0_0_0 (base0 c i arg3 harg3 arg4 harg4 arg5 harg5 arg6 harg6 arg7 harg7 arg8 harg8 arg9 harg9 arg10 harg10 arg11 harg11 arg12 harg12 arg13 harg13 arg14 harg14 x0 x1 x2 x3) = rd arg12 0 inb_S8x512x128_S1x512x128_0_0_0 (base0 c i arg3 harg3 arg4 harg4 arg5 harg5 arg6 harg6 arg7 harg7 arg8 harg8 arg9 harg9 arg10 harg10 arg11 harg11 arg12 harg12 arg13 harg13 arg14 harg14 x0 x1 x2 x3) := rfl
  have s1 : rd arg13 0 inb_S8x512x128_S1x512x128_0_0_0 (base1 c i arg3 harg3 arg4 harg4 arg5 harg5 arg6 harg6 arg7 harg7 arg8 harg8 arg9 harg9 arg10 harg10 arg11 harg11 arg12 harg12 arg13 harg13 arg14 harg14 x0 x1 x2 x3) = rd arg13 0 inb_S8x512x128_S1x512x128_0_0_0 (base1 c i arg3 harg3 arg4 harg4 arg5 harg5 arg6 harg6 arg7 harg7 arg8 harg8 arg9 harg9 arg10 harg10 arg11 harg11 arg12 harg12 arg13 harg13 arg14 harg14 x0 x1 x2 x3) := rfl
  have s2 : rd arg14 0 inb_S8x512x128_S1x512x128_0_0_0 (base2 c i arg3 harg3 arg4 harg4 arg5 harg5 arg6 harg6 arg7 harg7 arg8 harg8 arg9 harg9 arg10 harg10 arg11 harg11 arg12 harg12 arg13 harg13 arg14 harg14 x0 x1 x2 x3) = rd arg14 0 inb_S8x512x128_S1x512x128_0_0_0 (base2 c i arg3 harg3 arg4 harg4 arg5 harg5 arg6 harg6 arg7 harg7 arg8 harg8 arg9 harg9 arg10 harg10 arg11 harg11 arg12 harg12 arg13 harg13 arg14 harg14 x0 x1 x2 x3) := rfl
  have e1 : rd arg13 0 inb_S8x512x128_S1x512x128_0_0_0 (kernelRun0_A.sl.HS1_8 (F := Ideal) c i arg3 harg3 arg4 harg4 arg5 harg5 arg6 harg6 arg7 harg7 arg8 harg8 arg9 harg9 arg10 harg10 arg11 harg11 arg12 harg12 arg13 harg13 arg14 harg14 x0 x1 x2 x3) = rd arg13 0 inb_S8x512x128_S1x512x128_0_0_0 (kernelRun0_A.sl.HS1_1_1 (F := Ideal) c i arg3 harg3 arg4 harg4 arg5 harg5 arg6 harg6 arg7 harg7 arg8 harg8 arg9 harg9 arg10 harg10 arg11 harg11 arg12 harg12 arg13 harg13 arg14 harg14 x0 x1 x2 x3) := by
    unfold rd
    rw [diag1_7, View.readCov_skip _ _ _ _ _ (by rfl)]
    rw [diag1_6, View.readCov_skip _ _ _ _ _ (by rfl)]
    rw [diag1_5, View.readCov_skip _ _ _ _ _ (by rfl)]
    rw [diag1_4, View.readCov_skip _ _ _ _ _ (by rfl)]
    rw [diag1_3, View.readCov_skip _ _ _ _ _ (by rfl)]
    rw [diag1_2, View.readCov_skip _ _ _ _ _ (by rfl)]
    rw [diag1_1, View.readCov_skip _ _ _ _ _ (by rfl)]
  have e2 : rd arg14 0 inb_S8x512x128_S1x512x128_0_0_0 (kernelRun0_A.sl.HS2_8 (F := Ideal) c i arg3 harg3 arg4 harg4 arg5 harg5 arg6 harg6 arg7 harg7 arg8 harg8 arg9 harg9 arg10 harg10 arg11 harg11 arg12 harg12 arg13 harg13 arg14 harg14 x0 x1 x2 x3) = rd arg14 0 inb_S8x512x128_S1x512x128_0_0_0 (kernelRun0_A.sl.HS2_1_1 (F := Ideal) c i arg3 harg3 arg4 harg4 arg5 harg5 arg6 harg6 arg7 harg7 arg8 harg8 arg9 harg9 arg10 harg10 arg11 harg11 arg12 harg12 arg13 harg13 arg14 harg14 x0 x1 x2 x3) := by
    unfold rd
    rw [diag2_7, View.readCov_skip _ _ _ _ _ (by rfl)]
    rw [diag2_6, View.readCov_skip _ _ _ _ _ (by rfl)]
    rw [diag2_5, View.readCov_skip _ _ _ _ _ (by rfl)]
    rw [diag2_4, View.readCov_skip _ _ _ _ _ (by rfl)]
    rw [diag2_3, View.readCov_skip _ _ _ _ _ (by rfl)]
    rw [diag2_2, View.readCov_skip _ _ _ _ _ (by rfl)]
    rw [diag2_1, View.readCov_skip _ _ _ _ _ (by rfl)]
  rw [e1, e2, diag1_0, diag2_0]
  unfold rd at s0 s1 s2 ⊢
  rw [View.readCov_cons_toLoadRect, View.readCov_cons_toLoadRect, s0, s1, s2]
  refine ⟨_, stepD4 hf hi (by decide) (by decide) (by omega) ?_ ?_ ?_ ?_ h0 rfl rfl⟩
  · intro r k; rw [load_at2]; rfl
  · intro c n; rw [load_at2, k0_off11_eq]; rfl
  · intro c n; rw [load_at2, k0_off12_eq]; exact congrArg _ (Nat.zero_add _)
  · intro c n; rw [load_at2, k0_off11_eq]; rfl

/-- Chain 1 after the last block. -/
theorem end_1 : ∃ m, Ch x0 x1 x2 x3 (i 2).val 0 1 (1024 * (i 2).val + 1024) m (rd arg13 1 inb_S8x512x128_S1x512x128_1_0_0 (kernelRun0_A.sl.HS1_8 (F := Ideal) c i arg3 harg3 arg4 harg4 arg5 harg5 arg6 harg6 arg7 harg7 arg8 harg8 arg9 harg9 arg10 harg10 arg11 harg11 arg12 harg12 arg13 harg13 arg14 harg14 x0 x1 x2 x3)) (rd arg14 1 inb_S8x512x128_S1x512x128_1_0_0 (kernelRun0_A.sl.HS2_8 (F := Ideal) c i arg3 harg3 arg4 harg4 arg5 harg5 arg6 harg6 arg7 harg7 arg8 harg8 arg9 harg9 arg10 harg10 arg11 harg11 arg12 harg12 arg13 harg13 arg14 harg14 x0 x1 x2 x3)) := by
  have hi : (i 2).val < 4 := (i 2).isLt
  obtain ⟨h0, h1, h2, h3, h4, h5, h6, h7⟩ := base_all c i arg3 harg3 arg4 harg4 arg5 harg5 arg6 harg6 arg7 harg7 arg8 harg8 arg9 harg9 arg10 harg10 arg11 harg11 arg12 harg12 arg13 harg13 arg14 harg14 x0 x1 x2 x3 hf
  have s0 : rd arg12 1 inb_S8x512x128_S1x512x128_1_0_0 (kernelRun0_A.sl.HS0_1_1 (F := Ideal) c i arg3 harg3 arg4 harg4 arg5 harg5 arg6 harg6 arg7 harg7 arg8 harg8 arg9 harg9 arg10 harg10 arg11 harg11 arg12 harg12 arg13 harg13 arg14 harg14 x0 x1 x2 x3) = rd arg12 1 inb_S8x512x128_S1x512x128_1_0_0 (base0 c i arg3 harg3 arg4 harg4 arg5 harg5 arg6 harg6 arg7 harg7 arg8 harg8 arg9 harg9 arg10 harg10 arg11 harg11 arg12 harg12 arg13 harg13 arg14 harg14 x0 x1 x2 x3) := by
    unfold rd
    rw [diag0_0, View.readCov_skip _ _ _ _ _ (by rfl)]
  have s1 : rd arg13 1 inb_S8x512x128_S1x512x128_1_0_0 (kernelRun0_A.sl.HS1_1_1 (F := Ideal) c i arg3 harg3 arg4 harg4 arg5 harg5 arg6 harg6 arg7 harg7 arg8 harg8 arg9 harg9 arg10 harg10 arg11 harg11 arg12 harg12 arg13 harg13 arg14 harg14 x0 x1 x2 x3) = rd arg13 1 inb_S8x512x128_S1x512x128_1_0_0 (base1 c i arg3 harg3 arg4 harg4 arg5 harg5 arg6 harg6 arg7 harg7 arg8 harg8 arg9 harg9 arg10 harg10 arg11 harg11 arg12 harg12 arg13 harg13 arg14 harg14 x0 x1 x2 x3) := by
    unfold rd
    rw [diag1_0, View.readCov_skip _ _ _ _ _ (by rfl)]
  have s2 : rd arg14 1 inb_S8x512x128_S1x512x128_1_0_0 (kernelRun0_A.sl.HS2_1_1 (F := Ideal) c i arg3 harg3 arg4 harg4 arg5 harg5 arg6 harg6 arg7 harg7 arg8 harg8 arg9 harg9 arg10 harg10 arg11 harg11 arg12 harg12 arg13 harg13 arg14 harg14 x0 x1 x2 x3) = rd arg14 1 inb_S8x512x128_S1x512x128_1_0_0 (base2 c i arg3 harg3 arg4 harg4 arg5 harg5 arg6 harg6 arg7 harg7 arg8 harg8 arg9 harg9 arg10 harg10 arg11 harg11 arg12 harg12 arg13 harg13 arg14 harg14 x0 x1 x2 x3) := by
    unfold rd
    rw [diag2_0, View.readCov_skip _ _ _ _ _ (by rfl)]
  have e1 : rd arg13 1 inb_S8x512x128_S1x512x128_1_0_0 (kernelRun0_A.sl.HS1_8 (F := Ideal) c i arg3 harg3 arg4 harg4 arg5 harg5 arg6 harg6 arg7 harg7 arg8 harg8 arg9 harg9 arg10 harg10 arg11 harg11 arg12 harg12 arg13 harg13 arg14 harg14 x0 x1 x2 x3) = rd arg13 1 inb_S8x512x128_S1x512x128_1_0_0 (kernelRun0_A.sl.HS1_2 (F := Ideal) c i arg3 harg3 arg4 harg4 arg5 harg5 arg6 harg6 arg7 harg7 arg8 harg8 arg9 harg9 arg10 harg10 arg11 harg11 arg12 harg12 arg13 harg13 arg14 harg14 x0 x1 x2 x3) := by
    unfold rd
    rw [diag1_7, View.readCov_skip _ _ _ _ _ (by rfl)]
    rw [diag1_6, View.readCov_skip _ _ _ _ _ (by rfl)]
    rw [diag1_5, View.readCov_skip _ _ _ _ _ (by rfl)]
    rw [diag1_4, View.readCov_skip _ _ _ _ _ (by rfl)]
    rw [diag1_3, View.readCov_skip _ _ _ _ _ (by rfl)]
    rw [diag1_2, View.readCov_skip _ _ _ _ _ (by rfl)]
  have e2 : rd arg14 1 inb_S8x512x128_S1x512x128_1_0_0 (kernelRun0_A.sl.HS2_8 (F := Ideal) c i arg3 harg3 arg4 harg4 arg5 harg5 arg6 harg6 arg7 harg7 arg8 harg8 arg9 harg9 arg10 harg10 arg11 harg11 arg12 harg12 arg13 harg13 arg14 harg14 x0 x1 x2 x3) = rd arg14 1 inb_S8x512x128_S1x512x128_1_0_0 (kernelRun0_A.sl.HS2_2 (F := Ideal) c i arg3 harg3 arg4 harg4 arg5 harg5 arg6 harg6 arg7 harg7 arg8 harg8 arg9 harg9 arg10 harg10 arg11 harg11 arg12 harg12 arg13 harg13 arg14 harg14 x0 x1 x2 x3) := by
    unfold rd
    rw [diag2_7, View.readCov_skip _ _ _ _ _ (by rfl)]
    rw [diag2_6, View.readCov_skip _ _ _ _ _ (by rfl)]
    rw [diag2_5, View.readCov_skip _ _ _ _ _ (by rfl)]
    rw [diag2_4, View.readCov_skip _ _ _ _ _ (by rfl)]
    rw [diag2_3, View.readCov_skip _ _ _ _ _ (by rfl)]
    rw [diag2_2, View.readCov_skip _ _ _ _ _ (by rfl)]
  rw [e1, e2, diag1_1, diag2_1]
  unfold rd at s0 s1 s2 ⊢
  rw [View.readCov_cons_toLoadRect, View.readCov_cons_toLoadRect, s0, s1, s2]
  refine ⟨_, stepD8 hf hi (by decide) (by decide) (by omega) ?_ ?_ ?_ ?_ h1 rfl rfl⟩
  · intro r k; rw [load_at2]; rfl
  · intro c n; rw [load_at2, k0_off11_eq]; rfl
  · intro c n; rw [load_at2, k0_off12_eq]; exact congrArg _ (Nat.zero_add _)
  · intro c n; rw [load_at2, k0_off11_eq]; rfl

/-- Chain 2 after the last block. -/
theorem end_2 : ∃ m, Ch x0 x1 x2 x3 (i 2).val 1 0 (1024 * (i 2).val + 512) m (rd arg13 2 inb_S8x512x128_S1x512x128_2_0_0 (kernelRun0_A.sl.HS1_8 (F := Ideal) c i arg3 harg3 arg4 harg4 arg5 harg5 arg6 harg6 arg7 harg7 arg8 harg8 arg9 harg9 arg10 harg10 arg11 harg11 arg12 harg12 arg13 harg13 arg14 harg14 x0 x1 x2 x3)) (rd arg14 2 inb_S8x512x128_S1x512x128_2_0_0 (kernelRun0_A.sl.HS2_8 (F := Ideal) c i arg3 harg3 arg4 harg4 arg5 harg5 arg6 harg6 arg7 harg7 arg8 harg8 arg9 harg9 arg10 harg10 arg11 harg11 arg12 harg12 arg13 harg13 arg14 harg14 x0 x1 x2 x3)) := by
  have hi : (i 2).val < 4 := (i 2).isLt
  obtain ⟨h0, h1, h2, h3, h4, h5, h6, h7⟩ := base_all c i arg3 harg3 arg4 harg4 arg5 harg5 arg6 harg6 arg7 harg7 arg8 harg8 arg9 harg9 arg10 harg10 arg11 harg11 arg12 harg12 arg13 harg13 arg14 harg14 x0 x1 x2 x3 hf
  have s0 : rd arg12 2 inb_S8x512x128_S1x512x128_2_0_0 (kernelRun0_A.sl.HS0_2 (F := Ideal) c i arg3 harg3 arg4 harg4 arg5 harg5 arg6 harg6 arg7 harg7 arg8 harg8 arg9 harg9 arg10 harg10 arg11 harg11 arg12 harg12 arg13 harg13 arg14 harg14 x0 x1 x2 x3) = rd arg12 2 inb_S8x512x128_S1x512x128_2_0_0 (base0 c i arg3 harg3 arg4 harg4 arg5 harg5 arg6 harg6 arg7 harg7 arg8 harg8 arg9 harg9 arg10 harg10 arg11 harg11 arg12 harg12 arg13 harg13 arg14 harg14 x0 x1 x2 x3) := by
    unfold rd
    rw [diag0_1, View.readCov_skip _ _ _ _ _ (by rfl)]
    rw [diag0_0, View.readCov_skip _ _ _ _ _ (by rfl)]
  have s1 : rd arg13 2 inb_S8x512x128_S1x512x128_2_0_0 (kernelRun0_A.sl.HS1_2 (F := Ideal) c i arg3 harg3 arg4 harg4 arg5 harg5 arg6 harg6 arg7 harg7 arg8 harg8 arg9 harg9 arg10 harg10 arg11 harg11 arg12 harg12 arg13 harg13 arg14 harg14 x0 x1 x2 x3) = rd arg13 2 inb_S8x512x128_S1x512x128_2_0_0 (base1 c i arg3 harg3 arg4 harg4 arg5 harg5 arg6 harg6 arg7 harg7 arg8 harg8 arg9 harg9 arg10 harg10 arg11 harg11 arg12 harg12 arg13 harg13 arg14 harg14 x0 x1 x2 x3) := by
    unfold rd
    rw [diag1_1, View.readCov_skip _ _ _ _ _ (by rfl)]
    rw [diag1_0, View.readCov_skip _ _ _ _ _ (by rfl)]
  have s2 : rd arg14 2 inb_S8x512x128_S1x512x128_2_0_0 (kernelRun0_A.sl.HS2_2 (F := Ideal) c i arg3 harg3 arg4 harg4 arg5 harg5 arg6 harg6 arg7 harg7 arg8 harg8 arg9 harg9 arg10 harg10 arg11 harg11 arg12 harg12 arg13 harg13 arg14 harg14 x0 x1 x2 x3) = rd arg14 2 inb_S8x512x128_S1x512x128_2_0_0 (base2 c i arg3 harg3 arg4 harg4 arg5 harg5 arg6 harg6 arg7 harg7 arg8 harg8 arg9 harg9 arg10 harg10 arg11 harg11 arg12 harg12 arg13 harg13 arg14 harg14 x0 x1 x2 x3) := by
    unfold rd
    rw [diag2_1, View.readCov_skip _ _ _ _ _ (by rfl)]
    rw [diag2_0, View.readCov_skip _ _ _ _ _ (by rfl)]
  have e1 : rd arg13 2 inb_S8x512x128_S1x512x128_2_0_0 (kernelRun0_A.sl.HS1_8 (F := Ideal) c i arg3 harg3 arg4 harg4 arg5 harg5 arg6 harg6 arg7 harg7 arg8 harg8 arg9 harg9 arg10 harg10 arg11 harg11 arg12 harg12 arg13 harg13 arg14 harg14 x0 x1 x2 x3) = rd arg13 2 inb_S8x512x128_S1x512x128_2_0_0 (kernelRun0_A.sl.HS1_3 (F := Ideal) c i arg3 harg3 arg4 harg4 arg5 harg5 arg6 harg6 arg7 harg7 arg8 harg8 arg9 harg9 arg10 harg10 arg11 harg11 arg12 harg12 arg13 harg13 arg14 harg14 x0 x1 x2 x3) := by
    unfold rd
    rw [diag1_7, View.readCov_skip _ _ _ _ _ (by rfl)]
    rw [diag1_6, View.readCov_skip _ _ _ _ _ (by rfl)]
    rw [diag1_5, View.readCov_skip _ _ _ _ _ (by rfl)]
    rw [diag1_4, View.readCov_skip _ _ _ _ _ (by rfl)]
    rw [diag1_3, View.readCov_skip _ _ _ _ _ (by rfl)]
  have e2 : rd arg14 2 inb_S8x512x128_S1x512x128_2_0_0 (kernelRun0_A.sl.HS2_8 (F := Ideal) c i arg3 harg3 arg4 harg4 arg5 harg5 arg6 harg6 arg7 harg7 arg8 harg8 arg9 harg9 arg10 harg10 arg11 harg11 arg12 harg12 arg13 harg13 arg14 harg14 x0 x1 x2 x3) = rd arg14 2 inb_S8x512x128_S1x512x128_2_0_0 (kernelRun0_A.sl.HS2_3 (F := Ideal) c i arg3 harg3 arg4 harg4 arg5 harg5 arg6 harg6 arg7 harg7 arg8 harg8 arg9 harg9 arg10 harg10 arg11 harg11 arg12 harg12 arg13 harg13 arg14 harg14 x0 x1 x2 x3) := by
    unfold rd
    rw [diag2_7, View.readCov_skip _ _ _ _ _ (by rfl)]
    rw [diag2_6, View.readCov_skip _ _ _ _ _ (by rfl)]
    rw [diag2_5, View.readCov_skip _ _ _ _ _ (by rfl)]
    rw [diag2_4, View.readCov_skip _ _ _ _ _ (by rfl)]
    rw [diag2_3, View.readCov_skip _ _ _ _ _ (by rfl)]
  rw [e1, e2, diag1_2, diag2_2]
  unfold rd at s0 s1 s2 ⊢
  rw [View.readCov_cons_toLoadRect, View.readCov_cons_toLoadRect, s0, s1, s2]
  refine ⟨_, stepD4 hf hi (by decide) (by decide) (by omega) ?_ ?_ ?_ ?_ h2 rfl rfl⟩
  · intro r k; rw [load_at2]; rfl
  · intro c n; rw [load_at2, k0_off13_eq]; rfl
  · intro c n; rw [load_at2, k0_off12_eq]; exact congrArg _ (Nat.zero_add _)
  · intro c n; rw [load_at2, k0_off13_eq]; rfl

/-- Chain 3 after the last block. -/
theorem end_3 : ∃ m, Ch x0 x1 x2 x3 (i 2).val 1 1 (1024 * (i 2).val + 1024) m (rd arg13 3 inb_S8x512x128_S1x512x128_3_0_0 (kernelRun0_A.sl.HS1_8 (F := Ideal) c i arg3 harg3 arg4 harg4 arg5 harg5 arg6 harg6 arg7 harg7 arg8 harg8 arg9 harg9 arg10 harg10 arg11 harg11 arg12 harg12 arg13 harg13 arg14 harg14 x0 x1 x2 x3)) (rd arg14 3 inb_S8x512x128_S1x512x128_3_0_0 (kernelRun0_A.sl.HS2_8 (F := Ideal) c i arg3 harg3 arg4 harg4 arg5 harg5 arg6 harg6 arg7 harg7 arg8 harg8 arg9 harg9 arg10 harg10 arg11 harg11 arg12 harg12 arg13 harg13 arg14 harg14 x0 x1 x2 x3)) := by
  have hi : (i 2).val < 4 := (i 2).isLt
  obtain ⟨h0, h1, h2, h3, h4, h5, h6, h7⟩ := base_all c i arg3 harg3 arg4 harg4 arg5 harg5 arg6 harg6 arg7 harg7 arg8 harg8 arg9 harg9 arg10 harg10 arg11 harg11 arg12 harg12 arg13 harg13 arg14 harg14 x0 x1 x2 x3 hf
  have s0 : rd arg12 3 inb_S8x512x128_S1x512x128_3_0_0 (kernelRun0_A.sl.HS0_3 (F := Ideal) c i arg3 harg3 arg4 harg4 arg5 harg5 arg6 harg6 arg7 harg7 arg8 harg8 arg9 harg9 arg10 harg10 arg11 harg11 arg12 harg12 arg13 harg13 arg14 harg14 x0 x1 x2 x3) = rd arg12 3 inb_S8x512x128_S1x512x128_3_0_0 (base0 c i arg3 harg3 arg4 harg4 arg5 harg5 arg6 harg6 arg7 harg7 arg8 harg8 arg9 harg9 arg10 harg10 arg11 harg11 arg12 harg12 arg13 harg13 arg14 harg14 x0 x1 x2 x3) := by
    unfold rd
    rw [diag0_2, View.readCov_skip _ _ _ _ _ (by rfl)]
    rw [diag0_1, View.readCov_skip _ _ _ _ _ (by rfl)]
    rw [diag0_0, View.readCov_skip _ _ _ _ _ (by rfl)]
  have s1 : rd arg13 3 inb_S8x512x128_S1x512x128_3_0_0 (kernelRun0_A.sl.HS1_3 (F := Ideal) c i arg3 harg3 arg4 harg4 arg5 harg5 arg6 harg6 arg7 harg7 arg8 harg8 arg9 harg9 arg10 harg10 arg11 harg11 arg12 harg12 arg13 harg13 arg14 harg14 x0 x1 x2 x3) = rd arg13 3 inb_S8x512x128_S1x512x128_3_0_0 (base1 c i arg3 harg3 arg4 harg4 arg5 harg5 arg6 harg6 arg7 harg7 arg8 harg8 arg9 harg9 arg10 harg10 arg11 harg11 arg12 harg12 arg13 harg13 arg14 harg14 x0 x1 x2 x3) := by
    unfold rd
    rw [diag1_2, View.readCov_skip _ _ _ _ _ (by rfl)]
    rw [diag1_1, View.readCov_skip _ _ _ _ _ (by rfl)]
    rw [diag1_0, View.readCov_skip _ _ _ _ _ (by rfl)]
  have s2 : rd arg14 3 inb_S8x512x128_S1x512x128_3_0_0 (kernelRun0_A.sl.HS2_3 (F := Ideal) c i arg3 harg3 arg4 harg4 arg5 harg5 arg6 harg6 arg7 harg7 arg8 harg8 arg9 harg9 arg10 harg10 arg11 harg11 arg12 harg12 arg13 harg13 arg14 harg14 x0 x1 x2 x3) = rd arg14 3 inb_S8x512x128_S1x512x128_3_0_0 (base2 c i arg3 harg3 arg4 harg4 arg5 harg5 arg6 harg6 arg7 harg7 arg8 harg8 arg9 harg9 arg10 harg10 arg11 harg11 arg12 harg12 arg13 harg13 arg14 harg14 x0 x1 x2 x3) := by
    unfold rd
    rw [diag2_2, View.readCov_skip _ _ _ _ _ (by rfl)]
    rw [diag2_1, View.readCov_skip _ _ _ _ _ (by rfl)]
    rw [diag2_0, View.readCov_skip _ _ _ _ _ (by rfl)]
  have e1 : rd arg13 3 inb_S8x512x128_S1x512x128_3_0_0 (kernelRun0_A.sl.HS1_8 (F := Ideal) c i arg3 harg3 arg4 harg4 arg5 harg5 arg6 harg6 arg7 harg7 arg8 harg8 arg9 harg9 arg10 harg10 arg11 harg11 arg12 harg12 arg13 harg13 arg14 harg14 x0 x1 x2 x3) = rd arg13 3 inb_S8x512x128_S1x512x128_3_0_0 (kernelRun0_A.sl.HS1_4 (F := Ideal) c i arg3 harg3 arg4 harg4 arg5 harg5 arg6 harg6 arg7 harg7 arg8 harg8 arg9 harg9 arg10 harg10 arg11 harg11 arg12 harg12 arg13 harg13 arg14 harg14 x0 x1 x2 x3) := by
    unfold rd
    rw [diag1_7, View.readCov_skip _ _ _ _ _ (by rfl)]
    rw [diag1_6, View.readCov_skip _ _ _ _ _ (by rfl)]
    rw [diag1_5, View.readCov_skip _ _ _ _ _ (by rfl)]
    rw [diag1_4, View.readCov_skip _ _ _ _ _ (by rfl)]
  have e2 : rd arg14 3 inb_S8x512x128_S1x512x128_3_0_0 (kernelRun0_A.sl.HS2_8 (F := Ideal) c i arg3 harg3 arg4 harg4 arg5 harg5 arg6 harg6 arg7 harg7 arg8 harg8 arg9 harg9 arg10 harg10 arg11 harg11 arg12 harg12 arg13 harg13 arg14 harg14 x0 x1 x2 x3) = rd arg14 3 inb_S8x512x128_S1x512x128_3_0_0 (kernelRun0_A.sl.HS2_4 (F := Ideal) c i arg3 harg3 arg4 harg4 arg5 harg5 arg6 harg6 arg7 harg7 arg8 harg8 arg9 harg9 arg10 harg10 arg11 harg11 arg12 harg12 arg13 harg13 arg14 harg14 x0 x1 x2 x3) := by
    unfold rd
    rw [diag2_7, View.readCov_skip _ _ _ _ _ (by rfl)]
    rw [diag2_6, View.readCov_skip _ _ _ _ _ (by rfl)]
    rw [diag2_5, View.readCov_skip _ _ _ _ _ (by rfl)]
    rw [diag2_4, View.readCov_skip _ _ _ _ _ (by rfl)]
  rw [e1, e2, diag1_3, diag2_3]
  unfold rd at s0 s1 s2 ⊢
  rw [View.readCov_cons_toLoadRect, View.readCov_cons_toLoadRect, s0, s1, s2]
  refine ⟨_, stepD8 hf hi (by decide) (by decide) (by omega) ?_ ?_ ?_ ?_ h3 rfl rfl⟩
  · intro r k; rw [load_at2]; rfl
  · intro c n; rw [load_at2, k0_off13_eq]; rfl
  · intro c n; rw [load_at2, k0_off12_eq]; exact congrArg _ (Nat.zero_add _)
  · intro c n; rw [load_at2, k0_off13_eq]; rfl

/-- Chain 4 after the last block. -/
theorem end_4 : ∃ m, Ch x0 x1 x2 x3 (i 2).val 2 0 (1024 * (i 2).val + 512) m (rd arg13 4 inb_S8x512x128_S1x512x128_4_0_0 (kernelRun0_A.sl.HS1_8 (F := Ideal) c i arg3 harg3 arg4 harg4 arg5 harg5 arg6 harg6 arg7 harg7 arg8 harg8 arg9 harg9 arg10 harg10 arg11 harg11 arg12 harg12 arg13 harg13 arg14 harg14 x0 x1 x2 x3)) (rd arg14 4 inb_S8x512x128_S1x512x128_4_0_0 (kernelRun0_A.sl.HS2_8 (F := Ideal) c i arg3 harg3 arg4 harg4 arg5 harg5 arg6 harg6 arg7 harg7 arg8 harg8 arg9 harg9 arg10 harg10 arg11 harg11 arg12 harg12 arg13 harg13 arg14 harg14 x0 x1 x2 x3)) := by
  have hi : (i 2).val < 4 := (i 2).isLt
  obtain ⟨h0, h1, h2, h3, h4, h5, h6, h7⟩ := base_all c i arg3 harg3 arg4 harg4 arg5 harg5 arg6 harg6 arg7 harg7 arg8 harg8 arg9 harg9 arg10 harg10 arg11 harg11 arg12 harg12 arg13 harg13 arg14 harg14 x0 x1 x2 x3 hf
  have s0 : rd arg12 4 inb_S8x512x128_S1x512x128_4_0_0 (kernelRun0_A.sl.HS0_4 (F := Ideal) c i arg3 harg3 arg4 harg4 arg5 harg5 arg6 harg6 arg7 harg7 arg8 harg8 arg9 harg9 arg10 harg10 arg11 harg11 arg12 harg12 arg13 harg13 arg14 harg14 x0 x1 x2 x3) = rd arg12 4 inb_S8x512x128_S1x512x128_4_0_0 (base0 c i arg3 harg3 arg4 harg4 arg5 harg5 arg6 harg6 arg7 harg7 arg8 harg8 arg9 harg9 arg10 harg10 arg11 harg11 arg12 harg12 arg13 harg13 arg14 harg14 x0 x1 x2 x3) := by
    unfold rd
    rw [diag0_3, View.readCov_skip _ _ _ _ _ (by rfl)]
    rw [diag0_2, View.readCov_skip _ _ _ _ _ (by rfl)]
    rw [diag0_1, View.readCov_skip _ _ _ _ _ (by rfl)]
    rw [diag0_0, View.readCov_skip _ _ _ _ _ (by rfl)]
  have s1 : rd arg13 4 inb_S8x512x128_S1x512x128_4_0_0 (kernelRun0_A.sl.HS1_4 (F := Ideal) c i arg3 harg3 arg4 harg4 arg5 harg5 arg6 harg6 arg7 harg7 arg8 harg8 arg9 harg9 arg10 harg10 arg11 harg11 arg12 harg12 arg13 harg13 arg14 harg14 x0 x1 x2 x3) = rd arg13 4 inb_S8x512x128_S1x512x128_4_0_0 (base1 c i arg3 harg3 arg4 harg4 arg5 harg5 arg6 harg6 arg7 harg7 arg8 harg8 arg9 harg9 arg10 harg10 arg11 harg11 arg12 harg12 arg13 harg13 arg14 harg14 x0 x1 x2 x3) := by
    unfold rd
    rw [diag1_3, View.readCov_skip _ _ _ _ _ (by rfl)]
    rw [diag1_2, View.readCov_skip _ _ _ _ _ (by rfl)]
    rw [diag1_1, View.readCov_skip _ _ _ _ _ (by rfl)]
    rw [diag1_0, View.readCov_skip _ _ _ _ _ (by rfl)]
  have s2 : rd arg14 4 inb_S8x512x128_S1x512x128_4_0_0 (kernelRun0_A.sl.HS2_4 (F := Ideal) c i arg3 harg3 arg4 harg4 arg5 harg5 arg6 harg6 arg7 harg7 arg8 harg8 arg9 harg9 arg10 harg10 arg11 harg11 arg12 harg12 arg13 harg13 arg14 harg14 x0 x1 x2 x3) = rd arg14 4 inb_S8x512x128_S1x512x128_4_0_0 (base2 c i arg3 harg3 arg4 harg4 arg5 harg5 arg6 harg6 arg7 harg7 arg8 harg8 arg9 harg9 arg10 harg10 arg11 harg11 arg12 harg12 arg13 harg13 arg14 harg14 x0 x1 x2 x3) := by
    unfold rd
    rw [diag2_3, View.readCov_skip _ _ _ _ _ (by rfl)]
    rw [diag2_2, View.readCov_skip _ _ _ _ _ (by rfl)]
    rw [diag2_1, View.readCov_skip _ _ _ _ _ (by rfl)]
    rw [diag2_0, View.readCov_skip _ _ _ _ _ (by rfl)]
  have e1 : rd arg13 4 inb_S8x512x128_S1x512x128_4_0_0 (kernelRun0_A.sl.HS1_8 (F := Ideal) c i arg3 harg3 arg4 harg4 arg5 harg5 arg6 harg6 arg7 harg7 arg8 harg8 arg9 harg9 arg10 harg10 arg11 harg11 arg12 harg12 arg13 harg13 arg14 harg14 x0 x1 x2 x3) = rd arg13 4 inb_S8x512x128_S1x512x128_4_0_0 (kernelRun0_A.sl.HS1_5 (F := Ideal) c i arg3 harg3 arg4 harg4 arg5 harg5 arg6 harg6 arg7 harg7 arg8 harg8 arg9 harg9 arg10 harg10 arg11 harg11 arg12 harg12 arg13 harg13 arg14 harg14 x0 x1 x2 x3) := by
    unfold rd
    rw [diag1_7, View.readCov_skip _ _ _ _ _ (by rfl)]
    rw [diag1_6, View.readCov_skip _ _ _ _ _ (by rfl)]
    rw [diag1_5, View.readCov_skip _ _ _ _ _ (by rfl)]
  have e2 : rd arg14 4 inb_S8x512x128_S1x512x128_4_0_0 (kernelRun0_A.sl.HS2_8 (F := Ideal) c i arg3 harg3 arg4 harg4 arg5 harg5 arg6 harg6 arg7 harg7 arg8 harg8 arg9 harg9 arg10 harg10 arg11 harg11 arg12 harg12 arg13 harg13 arg14 harg14 x0 x1 x2 x3) = rd arg14 4 inb_S8x512x128_S1x512x128_4_0_0 (kernelRun0_A.sl.HS2_5 (F := Ideal) c i arg3 harg3 arg4 harg4 arg5 harg5 arg6 harg6 arg7 harg7 arg8 harg8 arg9 harg9 arg10 harg10 arg11 harg11 arg12 harg12 arg13 harg13 arg14 harg14 x0 x1 x2 x3) := by
    unfold rd
    rw [diag2_7, View.readCov_skip _ _ _ _ _ (by rfl)]
    rw [diag2_6, View.readCov_skip _ _ _ _ _ (by rfl)]
    rw [diag2_5, View.readCov_skip _ _ _ _ _ (by rfl)]
  rw [e1, e2, diag1_4, diag2_4]
  unfold rd at s0 s1 s2 ⊢
  rw [View.readCov_cons_toLoadRect, View.readCov_cons_toLoadRect, s0, s1, s2]
  refine ⟨_, stepD4 hf hi (by decide) (by decide) (by omega) ?_ ?_ ?_ ?_ h4 rfl rfl⟩
  · intro r k; rw [load_at2]; rfl
  · intro c n; rw [load_at2, k0_off14_eq]; rfl
  · intro c n; rw [load_at2, k0_off12_eq]; exact congrArg _ (Nat.zero_add _)
  · intro c n; rw [load_at2, k0_off14_eq]; rfl

/-- Chain 5 after the last block. -/
theorem end_5 : ∃ m, Ch x0 x1 x2 x3 (i 2).val 2 1 (1024 * (i 2).val + 1024) m (rd arg13 5 inb_S8x512x128_S1x512x128_5_0_0 (kernelRun0_A.sl.HS1_8 (F := Ideal) c i arg3 harg3 arg4 harg4 arg5 harg5 arg6 harg6 arg7 harg7 arg8 harg8 arg9 harg9 arg10 harg10 arg11 harg11 arg12 harg12 arg13 harg13 arg14 harg14 x0 x1 x2 x3)) (rd arg14 5 inb_S8x512x128_S1x512x128_5_0_0 (kernelRun0_A.sl.HS2_8 (F := Ideal) c i arg3 harg3 arg4 harg4 arg5 harg5 arg6 harg6 arg7 harg7 arg8 harg8 arg9 harg9 arg10 harg10 arg11 harg11 arg12 harg12 arg13 harg13 arg14 harg14 x0 x1 x2 x3)) := by
  have hi : (i 2).val < 4 := (i 2).isLt
  obtain ⟨h0, h1, h2, h3, h4, h5, h6, h7⟩ := base_all c i arg3 harg3 arg4 harg4 arg5 harg5 arg6 harg6 arg7 harg7 arg8 harg8 arg9 harg9 arg10 harg10 arg11 harg11 arg12 harg12 arg13 harg13 arg14 harg14 x0 x1 x2 x3 hf
  have s0 : rd arg12 5 inb_S8x512x128_S1x512x128_5_0_0 (kernelRun0_A.sl.HS0_5 (F := Ideal) c i arg3 harg3 arg4 harg4 arg5 harg5 arg6 harg6 arg7 harg7 arg8 harg8 arg9 harg9 arg10 harg10 arg11 harg11 arg12 harg12 arg13 harg13 arg14 harg14 x0 x1 x2 x3) = rd arg12 5 inb_S8x512x128_S1x512x128_5_0_0 (base0 c i arg3 harg3 arg4 harg4 arg5 harg5 arg6 harg6 arg7 harg7 arg8 harg8 arg9 harg9 arg10 harg10 arg11 harg11 arg12 harg12 arg13 harg13 arg14 harg14 x0 x1 x2 x3) := by
    unfold rd
    rw [diag0_4, View.readCov_skip _ _ _ _ _ (by rfl)]
    rw [diag0_3, View.readCov_skip _ _ _ _ _ (by rfl)]
    rw [diag0_2, View.readCov_skip _ _ _ _ _ (by rfl)]
    rw [diag0_1, View.readCov_skip _ _ _ _ _ (by rfl)]
    rw [diag0_0, View.readCov_skip _ _ _ _ _ (by rfl)]
  have s1 : rd arg13 5 inb_S8x512x128_S1x512x128_5_0_0 (kernelRun0_A.sl.HS1_5 (F := Ideal) c i arg3 harg3 arg4 harg4 arg5 harg5 arg6 harg6 arg7 harg7 arg8 harg8 arg9 harg9 arg10 harg10 arg11 harg11 arg12 harg12 arg13 harg13 arg14 harg14 x0 x1 x2 x3) = rd arg13 5 inb_S8x512x128_S1x512x128_5_0_0 (base1 c i arg3 harg3 arg4 harg4 arg5 harg5 arg6 harg6 arg7 harg7 arg8 harg8 arg9 harg9 arg10 harg10 arg11 harg11 arg12 harg12 arg13 harg13 arg14 harg14 x0 x1 x2 x3) := by
    unfold rd
    rw [diag1_4, View.readCov_skip _ _ _ _ _ (by rfl)]
    rw [diag1_3, View.readCov_skip _ _ _ _ _ (by rfl)]
    rw [diag1_2, View.readCov_skip _ _ _ _ _ (by rfl)]
    rw [diag1_1, View.readCov_skip _ _ _ _ _ (by rfl)]
    rw [diag1_0, View.readCov_skip _ _ _ _ _ (by rfl)]
  have s2 : rd arg14 5 inb_S8x512x128_S1x512x128_5_0_0 (kernelRun0_A.sl.HS2_5 (F := Ideal) c i arg3 harg3 arg4 harg4 arg5 harg5 arg6 harg6 arg7 harg7 arg8 harg8 arg9 harg9 arg10 harg10 arg11 harg11 arg12 harg12 arg13 harg13 arg14 harg14 x0 x1 x2 x3) = rd arg14 5 inb_S8x512x128_S1x512x128_5_0_0 (base2 c i arg3 harg3 arg4 harg4 arg5 harg5 arg6 harg6 arg7 harg7 arg8 harg8 arg9 harg9 arg10 harg10 arg11 harg11 arg12 harg12 arg13 harg13 arg14 harg14 x0 x1 x2 x3) := by
    unfold rd
    rw [diag2_4, View.readCov_skip _ _ _ _ _ (by rfl)]
    rw [diag2_3, View.readCov_skip _ _ _ _ _ (by rfl)]
    rw [diag2_2, View.readCov_skip _ _ _ _ _ (by rfl)]
    rw [diag2_1, View.readCov_skip _ _ _ _ _ (by rfl)]
    rw [diag2_0, View.readCov_skip _ _ _ _ _ (by rfl)]
  have e1 : rd arg13 5 inb_S8x512x128_S1x512x128_5_0_0 (kernelRun0_A.sl.HS1_8 (F := Ideal) c i arg3 harg3 arg4 harg4 arg5 harg5 arg6 harg6 arg7 harg7 arg8 harg8 arg9 harg9 arg10 harg10 arg11 harg11 arg12 harg12 arg13 harg13 arg14 harg14 x0 x1 x2 x3) = rd arg13 5 inb_S8x512x128_S1x512x128_5_0_0 (kernelRun0_A.sl.HS1_6 (F := Ideal) c i arg3 harg3 arg4 harg4 arg5 harg5 arg6 harg6 arg7 harg7 arg8 harg8 arg9 harg9 arg10 harg10 arg11 harg11 arg12 harg12 arg13 harg13 arg14 harg14 x0 x1 x2 x3) := by
    unfold rd
    rw [diag1_7, View.readCov_skip _ _ _ _ _ (by rfl)]
    rw [diag1_6, View.readCov_skip _ _ _ _ _ (by rfl)]
  have e2 : rd arg14 5 inb_S8x512x128_S1x512x128_5_0_0 (kernelRun0_A.sl.HS2_8 (F := Ideal) c i arg3 harg3 arg4 harg4 arg5 harg5 arg6 harg6 arg7 harg7 arg8 harg8 arg9 harg9 arg10 harg10 arg11 harg11 arg12 harg12 arg13 harg13 arg14 harg14 x0 x1 x2 x3) = rd arg14 5 inb_S8x512x128_S1x512x128_5_0_0 (kernelRun0_A.sl.HS2_6 (F := Ideal) c i arg3 harg3 arg4 harg4 arg5 harg5 arg6 harg6 arg7 harg7 arg8 harg8 arg9 harg9 arg10 harg10 arg11 harg11 arg12 harg12 arg13 harg13 arg14 harg14 x0 x1 x2 x3) := by
    unfold rd
    rw [diag2_7, View.readCov_skip _ _ _ _ _ (by rfl)]
    rw [diag2_6, View.readCov_skip _ _ _ _ _ (by rfl)]
  rw [e1, e2, diag1_5, diag2_5]
  unfold rd at s0 s1 s2 ⊢
  rw [View.readCov_cons_toLoadRect, View.readCov_cons_toLoadRect, s0, s1, s2]
  refine ⟨_, stepD8 hf hi (by decide) (by decide) (by omega) ?_ ?_ ?_ ?_ h5 rfl rfl⟩
  · intro r k; rw [load_at2]; rfl
  · intro c n; rw [load_at2, k0_off14_eq]; rfl
  · intro c n; rw [load_at2, k0_off12_eq]; exact congrArg _ (Nat.zero_add _)
  · intro c n; rw [load_at2, k0_off14_eq]; rfl

/-- Chain 6 after the last block. -/
theorem end_6 : ∃ m, Ch x0 x1 x2 x3 (i 2).val 3 0 (1024 * (i 2).val + 512) m (rd arg13 6 inb_S8x512x128_S1x512x128_6_0_0 (kernelRun0_A.sl.HS1_8 (F := Ideal) c i arg3 harg3 arg4 harg4 arg5 harg5 arg6 harg6 arg7 harg7 arg8 harg8 arg9 harg9 arg10 harg10 arg11 harg11 arg12 harg12 arg13 harg13 arg14 harg14 x0 x1 x2 x3)) (rd arg14 6 inb_S8x512x128_S1x512x128_6_0_0 (kernelRun0_A.sl.HS2_8 (F := Ideal) c i arg3 harg3 arg4 harg4 arg5 harg5 arg6 harg6 arg7 harg7 arg8 harg8 arg9 harg9 arg10 harg10 arg11 harg11 arg12 harg12 arg13 harg13 arg14 harg14 x0 x1 x2 x3)) := by
  have hi : (i 2).val < 4 := (i 2).isLt
  obtain ⟨h0, h1, h2, h3, h4, h5, h6, h7⟩ := base_all c i arg3 harg3 arg4 harg4 arg5 harg5 arg6 harg6 arg7 harg7 arg8 harg8 arg9 harg9 arg10 harg10 arg11 harg11 arg12 harg12 arg13 harg13 arg14 harg14 x0 x1 x2 x3 hf
  have s0 : rd arg12 6 inb_S8x512x128_S1x512x128_6_0_0 (kernelRun0_A.sl.HS0_6 (F := Ideal) c i arg3 harg3 arg4 harg4 arg5 harg5 arg6 harg6 arg7 harg7 arg8 harg8 arg9 harg9 arg10 harg10 arg11 harg11 arg12 harg12 arg13 harg13 arg14 harg14 x0 x1 x2 x3) = rd arg12 6 inb_S8x512x128_S1x512x128_6_0_0 (base0 c i arg3 harg3 arg4 harg4 arg5 harg5 arg6 harg6 arg7 harg7 arg8 harg8 arg9 harg9 arg10 harg10 arg11 harg11 arg12 harg12 arg13 harg13 arg14 harg14 x0 x1 x2 x3) := by
    unfold rd
    rw [diag0_5, View.readCov_skip _ _ _ _ _ (by rfl)]
    rw [diag0_4, View.readCov_skip _ _ _ _ _ (by rfl)]
    rw [diag0_3, View.readCov_skip _ _ _ _ _ (by rfl)]
    rw [diag0_2, View.readCov_skip _ _ _ _ _ (by rfl)]
    rw [diag0_1, View.readCov_skip _ _ _ _ _ (by rfl)]
    rw [diag0_0, View.readCov_skip _ _ _ _ _ (by rfl)]
  have s1 : rd arg13 6 inb_S8x512x128_S1x512x128_6_0_0 (kernelRun0_A.sl.HS1_6 (F := Ideal) c i arg3 harg3 arg4 harg4 arg5 harg5 arg6 harg6 arg7 harg7 arg8 harg8 arg9 harg9 arg10 harg10 arg11 harg11 arg12 harg12 arg13 harg13 arg14 harg14 x0 x1 x2 x3) = rd arg13 6 inb_S8x512x128_S1x512x128_6_0_0 (base1 c i arg3 harg3 arg4 harg4 arg5 harg5 arg6 harg6 arg7 harg7 arg8 harg8 arg9 harg9 arg10 harg10 arg11 harg11 arg12 harg12 arg13 harg13 arg14 harg14 x0 x1 x2 x3) := by
    unfold rd
    rw [diag1_5, View.readCov_skip _ _ _ _ _ (by rfl)]
    rw [diag1_4, View.readCov_skip _ _ _ _ _ (by rfl)]
    rw [diag1_3, View.readCov_skip _ _ _ _ _ (by rfl)]
    rw [diag1_2, View.readCov_skip _ _ _ _ _ (by rfl)]
    rw [diag1_1, View.readCov_skip _ _ _ _ _ (by rfl)]
    rw [diag1_0, View.readCov_skip _ _ _ _ _ (by rfl)]
  have s2 : rd arg14 6 inb_S8x512x128_S1x512x128_6_0_0 (kernelRun0_A.sl.HS2_6 (F := Ideal) c i arg3 harg3 arg4 harg4 arg5 harg5 arg6 harg6 arg7 harg7 arg8 harg8 arg9 harg9 arg10 harg10 arg11 harg11 arg12 harg12 arg13 harg13 arg14 harg14 x0 x1 x2 x3) = rd arg14 6 inb_S8x512x128_S1x512x128_6_0_0 (base2 c i arg3 harg3 arg4 harg4 arg5 harg5 arg6 harg6 arg7 harg7 arg8 harg8 arg9 harg9 arg10 harg10 arg11 harg11 arg12 harg12 arg13 harg13 arg14 harg14 x0 x1 x2 x3) := by
    unfold rd
    rw [diag2_5, View.readCov_skip _ _ _ _ _ (by rfl)]
    rw [diag2_4, View.readCov_skip _ _ _ _ _ (by rfl)]
    rw [diag2_3, View.readCov_skip _ _ _ _ _ (by rfl)]
    rw [diag2_2, View.readCov_skip _ _ _ _ _ (by rfl)]
    rw [diag2_1, View.readCov_skip _ _ _ _ _ (by rfl)]
    rw [diag2_0, View.readCov_skip _ _ _ _ _ (by rfl)]
  have e1 : rd arg13 6 inb_S8x512x128_S1x512x128_6_0_0 (kernelRun0_A.sl.HS1_8 (F := Ideal) c i arg3 harg3 arg4 harg4 arg5 harg5 arg6 harg6 arg7 harg7 arg8 harg8 arg9 harg9 arg10 harg10 arg11 harg11 arg12 harg12 arg13 harg13 arg14 harg14 x0 x1 x2 x3) = rd arg13 6 inb_S8x512x128_S1x512x128_6_0_0 (kernelRun0_A.sl.HS1_7 (F := Ideal) c i arg3 harg3 arg4 harg4 arg5 harg5 arg6 harg6 arg7 harg7 arg8 harg8 arg9 harg9 arg10 harg10 arg11 harg11 arg12 harg12 arg13 harg13 arg14 harg14 x0 x1 x2 x3) := by
    unfold rd
    rw [diag1_7, View.readCov_skip _ _ _ _ _ (by rfl)]
  have e2 : rd arg14 6 inb_S8x512x128_S1x512x128_6_0_0 (kernelRun0_A.sl.HS2_8 (F := Ideal) c i arg3 harg3 arg4 harg4 arg5 harg5 arg6 harg6 arg7 harg7 arg8 harg8 arg9 harg9 arg10 harg10 arg11 harg11 arg12 harg12 arg13 harg13 arg14 harg14 x0 x1 x2 x3) = rd arg14 6 inb_S8x512x128_S1x512x128_6_0_0 (kernelRun0_A.sl.HS2_7 (F := Ideal) c i arg3 harg3 arg4 harg4 arg5 harg5 arg6 harg6 arg7 harg7 arg8 harg8 arg9 harg9 arg10 harg10 arg11 harg11 arg12 harg12 arg13 harg13 arg14 harg14 x0 x1 x2 x3) := by
    unfold rd
    rw [diag2_7, View.readCov_skip _ _ _ _ _ (by rfl)]
  rw [e1, e2, diag1_6, diag2_6]
  unfold rd at s0 s1 s2 ⊢
  rw [View.readCov_cons_toLoadRect, View.readCov_cons_toLoadRect, s0, s1, s2]
  refine ⟨_, stepD4 hf hi (by decide) (by decide) (by omega) ?_ ?_ ?_ ?_ h6 rfl rfl⟩
  · intro r k; rw [load_at2]; rfl
  · intro c n; rw [load_at2, k0_off15_eq]; rfl
  · intro c n; rw [load_at2, k0_off12_eq]; exact congrArg _ (Nat.zero_add _)
  · intro c n; rw [load_at2, k0_off15_eq]; rfl

/-- Chain 7 after the last block. -/
theorem end_7 : ∃ m, Ch x0 x1 x2 x3 (i 2).val 3 1 (1024 * (i 2).val + 1024) m (rd arg13 7 inb_S8x512x128_S1x512x128_7_0_0 (kernelRun0_A.sl.HS1_8 (F := Ideal) c i arg3 harg3 arg4 harg4 arg5 harg5 arg6 harg6 arg7 harg7 arg8 harg8 arg9 harg9 arg10 harg10 arg11 harg11 arg12 harg12 arg13 harg13 arg14 harg14 x0 x1 x2 x3)) (rd arg14 7 inb_S8x512x128_S1x512x128_7_0_0 (kernelRun0_A.sl.HS2_8 (F := Ideal) c i arg3 harg3 arg4 harg4 arg5 harg5 arg6 harg6 arg7 harg7 arg8 harg8 arg9 harg9 arg10 harg10 arg11 harg11 arg12 harg12 arg13 harg13 arg14 harg14 x0 x1 x2 x3)) := by
  have hi : (i 2).val < 4 := (i 2).isLt
  obtain ⟨h0, h1, h2, h3, h4, h5, h6, h7⟩ := base_all c i arg3 harg3 arg4 harg4 arg5 harg5 arg6 harg6 arg7 harg7 arg8 harg8 arg9 harg9 arg10 harg10 arg11 harg11 arg12 harg12 arg13 harg13 arg14 harg14 x0 x1 x2 x3 hf
  have s0 : rd arg12 7 inb_S8x512x128_S1x512x128_7_0_0 (kernelRun0_A.sl.HS0_7 (F := Ideal) c i arg3 harg3 arg4 harg4 arg5 harg5 arg6 harg6 arg7 harg7 arg8 harg8 arg9 harg9 arg10 harg10 arg11 harg11 arg12 harg12 arg13 harg13 arg14 harg14 x0 x1 x2 x3) = rd arg12 7 inb_S8x512x128_S1x512x128_7_0_0 (base0 c i arg3 harg3 arg4 harg4 arg5 harg5 arg6 harg6 arg7 harg7 arg8 harg8 arg9 harg9 arg10 harg10 arg11 harg11 arg12 harg12 arg13 harg13 arg14 harg14 x0 x1 x2 x3) := by
    unfold rd
    rw [diag0_6, View.readCov_skip _ _ _ _ _ (by rfl)]
    rw [diag0_5, View.readCov_skip _ _ _ _ _ (by rfl)]
    rw [diag0_4, View.readCov_skip _ _ _ _ _ (by rfl)]
    rw [diag0_3, View.readCov_skip _ _ _ _ _ (by rfl)]
    rw [diag0_2, View.readCov_skip _ _ _ _ _ (by rfl)]
    rw [diag0_1, View.readCov_skip _ _ _ _ _ (by rfl)]
    rw [diag0_0, View.readCov_skip _ _ _ _ _ (by rfl)]
  have s1 : rd arg13 7 inb_S8x512x128_S1x512x128_7_0_0 (kernelRun0_A.sl.HS1_7 (F := Ideal) c i arg3 harg3 arg4 harg4 arg5 harg5 arg6 harg6 arg7 harg7 arg8 harg8 arg9 harg9 arg10 harg10 arg11 harg11 arg12 harg12 arg13 harg13 arg14 harg14 x0 x1 x2 x3) = rd arg13 7 inb_S8x512x128_S1x512x128_7_0_0 (base1 c i arg3 harg3 arg4 harg4 arg5 harg5 arg6 harg6 arg7 harg7 arg8 harg8 arg9 harg9 arg10 harg10 arg11 harg11 arg12 harg12 arg13 harg13 arg14 harg14 x0 x1 x2 x3) := by
    unfold rd
    rw [diag1_6, View.readCov_skip _ _ _ _ _ (by rfl)]
    rw [diag1_5, View.readCov_skip _ _ _ _ _ (by rfl)]
    rw [diag1_4, View.readCov_skip _ _ _ _ _ (by rfl)]
    rw [diag1_3, View.readCov_skip _ _ _ _ _ (by rfl)]
    rw [diag1_2, View.readCov_skip _ _ _ _ _ (by rfl)]
    rw [diag1_1, View.readCov_skip _ _ _ _ _ (by rfl)]
    rw [diag1_0, View.readCov_skip _ _ _ _ _ (by rfl)]
  have s2 : rd arg14 7 inb_S8x512x128_S1x512x128_7_0_0 (kernelRun0_A.sl.HS2_7 (F := Ideal) c i arg3 harg3 arg4 harg4 arg5 harg5 arg6 harg6 arg7 harg7 arg8 harg8 arg9 harg9 arg10 harg10 arg11 harg11 arg12 harg12 arg13 harg13 arg14 harg14 x0 x1 x2 x3) = rd arg14 7 inb_S8x512x128_S1x512x128_7_0_0 (base2 c i arg3 harg3 arg4 harg4 arg5 harg5 arg6 harg6 arg7 harg7 arg8 harg8 arg9 harg9 arg10 harg10 arg11 harg11 arg12 harg12 arg13 harg13 arg14 harg14 x0 x1 x2 x3) := by
    unfold rd
    rw [diag2_6, View.readCov_skip _ _ _ _ _ (by rfl)]
    rw [diag2_5, View.readCov_skip _ _ _ _ _ (by rfl)]
    rw [diag2_4, View.readCov_skip _ _ _ _ _ (by rfl)]
    rw [diag2_3, View.readCov_skip _ _ _ _ _ (by rfl)]
    rw [diag2_2, View.readCov_skip _ _ _ _ _ (by rfl)]
    rw [diag2_1, View.readCov_skip _ _ _ _ _ (by rfl)]
    rw [diag2_0, View.readCov_skip _ _ _ _ _ (by rfl)]
  have e1 : rd arg13 7 inb_S8x512x128_S1x512x128_7_0_0 (kernelRun0_A.sl.HS1_8 (F := Ideal) c i arg3 harg3 arg4 harg4 arg5 harg5 arg6 harg6 arg7 harg7 arg8 harg8 arg9 harg9 arg10 harg10 arg11 harg11 arg12 harg12 arg13 harg13 arg14 harg14 x0 x1 x2 x3) = rd arg13 7 inb_S8x512x128_S1x512x128_7_0_0 (kernelRun0_A.sl.HS1_8 (F := Ideal) c i arg3 harg3 arg4 harg4 arg5 harg5 arg6 harg6 arg7 harg7 arg8 harg8 arg9 harg9 arg10 harg10 arg11 harg11 arg12 harg12 arg13 harg13 arg14 harg14 x0 x1 x2 x3) := rfl
  have e2 : rd arg14 7 inb_S8x512x128_S1x512x128_7_0_0 (kernelRun0_A.sl.HS2_8 (F := Ideal) c i arg3 harg3 arg4 harg4 arg5 harg5 arg6 harg6 arg7 harg7 arg8 harg8 arg9 harg9 arg10 harg10 arg11 harg11 arg12 harg12 arg13 harg13 arg14 harg14 x0 x1 x2 x3) = rd arg14 7 inb_S8x512x128_S1x512x128_7_0_0 (kernelRun0_A.sl.HS2_8 (F := Ideal) c i arg3 harg3 arg4 harg4 arg5 harg5 arg6 harg6 arg7 harg7 arg8 harg8 arg9 harg9 arg10 harg10 arg11 harg11 arg12 harg12 arg13 harg13 arg14 harg14 x0 x1 x2 x3) := rfl
  rw [e1, e2, diag1_7, diag2_7]
  unfold rd at s0 s1 s2 ⊢
  rw [View.readCov_cons_toLoadRect, View.readCov_cons_toLoadRect, s0, s1, s2]
  refine ⟨_, stepD8 hf hi (by decide) (by decide) (by omega) ?_ ?_ ?_ ?_ h7 rfl rfl⟩
  · intro r k; rw [load_at2]; rfl
  · intro c n; rw [load_at2, k0_off15_eq]; rfl
  · intro c n; rw [load_at2, k0_off12_eq]; exact congrArg _ (Nat.zero_add _)
  · intro c n; rw [load_at2, k0_off15_eq]; rfl

end Cert.KernelIdeal.Mla
-- ==== Proof.Out.lean ====
/-
  The tile of the attention's output that one grid point stores.
-/
module

public import proofs.«01_k».proof.Proof.Inv
public import proofs.«01_k».proof.Proof.Fin
public import Idealize.ShloMosaic.Lib.Pipeline.ReadBack
public import Idealize.ShloMosaic.Lib.Pipeline.ValueKit.Tiles

@[expose] public section

set_option maxRecDepth 16384

noncomputable section

namespace Cert.KernelIdeal.Mla

open Idealize.ShloMosaic Idealize.ShloMosaic.TcCoe Cert.KernelIdeal Cert.KernelIdeal.Gen

open Softmax

variable (c : Dev nD) (i : grid0.Coords) (arg3 : Memref sig .tc .vmem S1024x1024 .bf16) (harg3 : arg3.IsWhole) (arg4 : Memref sig .tc .vmem S4096x512 .bf16) (harg4 : arg4.IsWhole) (arg5 : Memref sig .tc .vmem S4096x128 .bf16) (harg5 : arg5.IsWhole) (arg6 : Memref sig .tc .vmem S4096x512 .bf16) (harg6 : arg6.IsWhole) (arg7 : Memref sig .tc .vmem S64x11008 .f32) (harg7 : arg7.IsWhole) (arg8 : Memref sig .tc .vmem S64x11008 .f32) (harg8 : arg8.IsWhole) (arg9 : Memref sig .tc .vmem S1024x512 .bf16) (harg9 : arg9.IsWhole) (arg10 : Memref sig .tc .vmem S64x11008 .bf16) (harg10 : arg10.IsWhole) (arg11 : Memref sig .tc .vmem S64x11008 .bf16) (harg11 : arg11.IsWhole) (arg12 : Memref sig .tc .vmem S8x512x128 .f32) (harg12 : arg12.IsWhole) (arg13 : Memref sig .tc .vmem S8x512x128 .f32) (harg13 : arg13.IsWhole) (arg14 : Memref sig .tc .vmem S8x512x128 .f32) (harg14 : arg14.IsWhole)
    (x0 : Vec Ideal S1024x1024 .bf16) (x1 : Vec Ideal S4096x512 .bf16) (x2 : Vec Ideal S4096x128 .bf16) (x3 : Vec Ideal S4096x512 .bf16)

/-- The eight stores of the output tile: every one the quotient of its chain's numerator and denominator. -/
theorem pieces6 (x4 : Vec Ideal S64x11008 .f32) (x5 : Vec Ideal S64x11008 .f32) : (kernelRun0_A (F := Ideal) c i arg3 harg3 arg4 harg4 arg5 harg5 arg6 harg6 arg7 harg7 arg8 harg8 arg9 harg9 arg10 harg10 arg11 harg11 arg12 harg12 arg13 harg13 arg14 harg14 x0 x1 x2 x3 x4 x5).1 = [
    ⟨Rect.unit (s := S1024x512) ![512, 384] ![512, 128] inb_S1024x512_S512x128_512_384, fin (rd arg13 7 inb_S8x512x128_S1x512x128_7_0_0 (kernelRun0_A.sl.HS1_8 (F := Ideal) c i arg3 harg3 arg4 harg4 arg5 harg5 arg6 harg6 arg7 harg7 arg8 harg8 arg9 harg9 arg10 harg10 arg11 harg11 arg12 harg12 arg13 harg13 arg14 harg14 x0 x1 x2 x3)) (rd arg14 7 inb_S8x512x128_S1x512x128_7_0_0 (kernelRun0_A.sl.HS2_8 (F := Ideal) c i arg3 harg3 arg4 harg4 arg5 harg5 arg6 harg6 arg7 harg7 arg8 harg8 arg9 harg9 arg10 harg10 arg11 harg11 arg12 harg12 arg13 harg13 arg14 harg14 x0 x1 x2 x3))⟩,
    ⟨Rect.unit (s := S1024x512) ![0, 384] ![512, 128] inb_S1024x512_S512x128_0_384, fin (rd arg13 6 inb_S8x512x128_S1x512x128_6_0_0 (kernelRun0_A.sl.HS1_8 (F := Ideal) c i arg3 harg3 arg4 harg4 arg5 harg5 arg6 harg6 arg7 harg7 arg8 harg8 arg9 harg9 arg10 harg10 arg11 harg11 arg12 harg12 arg13 harg13 arg14 harg14 x0 x1 x2 x3)) (rd arg14 6 inb_S8x512x128_S1x512x128_6_0_0 (kernelRun0_A.sl.HS2_8 (F := Ideal) c i arg3 harg3 arg4 harg4 arg5 harg5 arg6 harg6 arg7 harg7 arg8 harg8 arg9 harg9 arg10 harg10 arg11 harg11 arg12 harg12 arg13 harg13 arg14 harg14 x0 x1 x2 x3))⟩,
    ⟨Rect.unit (s := S1024x512) ![512, 256] ![512, 128] inb_S1024x512_S512x128_512_256, fin (rd arg13 5 inb_S8x512x128_S1x512x128_5_0_0 (kernelRun0_A.sl.HS1_8 (F := Ideal) c i arg3 harg3 arg4 harg4 arg5 harg5 arg6 harg6 arg7 harg7 arg8 harg8 arg9 harg9 arg10 harg10 arg11 harg11 arg12 harg12 arg13 harg13 arg14 harg14 x0 x1 x2 x3)) (rd arg14 5 inb_S8x512x128_S1x512x128_5_0_0 (kernelRun0_A.sl.HS2_8 (F := Ideal) c i arg3 harg3 arg4 harg4 arg5 harg5 arg6 harg6 arg7 harg7 arg8 harg8 arg9 harg9 arg10 harg10 arg11 harg11 arg12 harg12 arg13 harg13 arg14 harg14 x0 x1 x2 x3))⟩,
    ⟨Rect.unit (s := S1024x512) ![0, 256] ![512, 128] inb_S1024x512_S512x128_0_256, fin (rd arg13 4 inb_S8x512x128_S1x512x128_4_0_0 (kernelRun0_A.sl.HS1_8 (F := Ideal) c i arg3 harg3 arg4 harg4 arg5 harg5 arg6 harg6 arg7 harg7 arg8 harg8 arg9 harg9 arg10 harg10 arg11 harg11 arg12 harg12 arg13 harg13 arg14 harg14 x0 x1 x2 x3)) (rd arg14 4 inb_S8x512x128_S1x512x128_4_0_0 (kernelRun0_A.sl.HS2_8 (F := Ideal) c i arg3 harg3 arg4 harg4 arg5 harg5 arg6 harg6 arg7 harg7 arg8 harg8 arg9 harg9 arg10 harg10 arg11 harg11 arg12 harg12 arg13 harg13 arg14 harg14 x0 x1 x2 x3))⟩,
    ⟨Rect.unit (s := S1024x512) ![512, 128] ![512, 128] inb_S1024x512_S512x128_512_128, fin (rd arg13 3 inb_S8x512x128_S1x512x128_3_0_0 (kernelRun0_A.sl.HS1_8 (F := Ideal) c i arg3 harg3 arg4 harg4 arg5 harg5 arg6 harg6 arg7 harg7 arg8 harg8 arg9 harg9 arg10 harg10 arg11 harg11 arg12 harg12 arg13 harg13 arg14 harg14 x0 x1 x2 x3)) (rd arg14 3 inb_S8x512x128_S1x512x128_3_0_0 (kernelRun0_A.sl.HS2_8 (F := Ideal) c i arg3 harg3 arg4 harg4 arg5 harg5 arg6 harg6 arg7 harg7 arg8 harg8 arg9 harg9 arg10 harg10 arg11 harg11 arg12 harg12 arg13 harg13 arg14 harg14 x0 x1 x2 x3))⟩,
    ⟨Rect.unit (s := S1024x512) ![0, 128] ![512, 128] inb_S1024x512_S512x128_0_128, fin (rd arg13 2 inb_S8x512x128_S1x512x128_2_0_0 (kernelRun0_A.sl.HS1_8 (F := Ideal) c i arg3 harg3 arg4 harg4 arg5 harg5 arg6 harg6 arg7 harg7 arg8 harg8 arg9 harg9 arg10 harg10 arg11 harg11 arg12 harg12 arg13 harg13 arg14 harg14 x0 x1 x2 x3)) (rd arg14 2 inb_S8x512x128_S1x512x128_2_0_0 (kernelRun0_A.sl.HS2_8 (F := Ideal) c i arg3 harg3 arg4 harg4 arg5 harg5 arg6 harg6 arg7 harg7 arg8 harg8 arg9 harg9 arg10 harg10 arg11 harg11 arg12 harg12 arg13 harg13 arg14 harg14 x0 x1 x2 x3))⟩,
    ⟨Rect.unit (s := S1024x512) ![512, 0] ![512, 128] inb_S1024x512_S512x128_512_0, fin (rd arg13 1 inb_S8x512x128_S1x512x128_1_0_0 (kernelRun0_A.sl.HS1_8 (F := Ideal) c i arg3 harg3 arg4 harg4 arg5 harg5 arg6 harg6 arg7 harg7 arg8 harg8 arg9 harg9 arg10 harg10 arg11 harg11 arg12 harg12 arg13 harg13 arg14 harg14 x0 x1 x2 x3)) (rd arg14 1 inb_S8x512x128_S1x512x128_1_0_0 (kernelRun0_A.sl.HS2_8 (F := Ideal) c i arg3 harg3 arg4 harg4 arg5 harg5 arg6 harg6 arg7 harg7 arg8 harg8 arg9 harg9 arg10 harg10 arg11 harg11 arg12 harg12 arg13 harg13 arg14 harg14 x0 x1 x2 x3))⟩,
    ⟨Rect.unit (s := S1024x512) ![0, 0] ![512, 128] inb_S1024x512_S512x128_0_0, fin (rd arg13 0 inb_S8x512x128_S1x512x128_0_0_0 (kernelRun0_A.sl.HS1_8 (F := Ideal) c i arg3 harg3 arg4 harg4 arg5 harg5 arg6 harg6 arg7 harg7 arg8 harg8 arg9 harg9 arg10 harg10 arg11 harg11 arg12 harg12 arg13 harg13 arg14 harg14 x0 x1 x2 x3)) (rd arg14 0 inb_S8x512x128_S1x512x128_0_0_0 (kernelRun0_A.sl.HS2_8 (F := Ideal) c i arg3 harg3 arg4 harg4 arg5 harg5 arg6 harg6 arg7 harg7 arg8 harg8 arg9 harg9 arg10 harg10 arg11 harg11 arg12 harg12 arg13 harg13 arg14 harg14 x0 x1 x2 x3))⟩] := by
  unfold kernelRun0_A
  rfl

/-- The output tile at row `p 0` and column `p 1`: the weighted sum of the values' column over the sum of the weights, of the
    row's masked scores over all 4096 keys. -/
def tile (x0 : Vec Ideal S1024x1024 .bf16) (x1 : Vec Ideal S4096x512 .bf16) (x2 : Vec Ideal S4096x128 .bf16) (x3 : Vec Ideal S4096x512 .bf16)
    (qi row col : ℕ) : EReal :=
  Ideal.div (osum (Finset.range 4096) (scr x0 x1 x2 qi (col / 128) row) fun c => at2 x3 c col)
    (osum (Finset.range 4096) (scr x0 x1 x2 qi (col / 128) row) fun _ => 1)

/-- A finished chain's quotient is its part of the tile. -/
theorem Ch.tile {x0 : Vec Ideal S1024x1024 .bf16} {x1 : Vec Ideal S4096x512 .bf16} {x2 : Vec Ideal S4096x128 .bf16} {x3 : Vec Ideal S4096x512 .bf16}
    {qi h t : ℕ} {m l a : B} (hqi : qi < 4) (ht : t < 2) (H : Ch x0 x1 x2 x3 qi h t (1024 * qi + 512 * (t + 1)) m l a) (r : Fin 512) (n : Fin 128) :
    fin l a (ix2 r n) = tile x0 x1 x2 x3 qi (512 * t + r.val) (128 * h + n.val) := by
  rw [fin_apply (H r) n]
  unfold Mla.tile
  have e : (128 * h + n.val) / 128 = h := by omega
  rw [e]
  have hs : ∀ c ∈ Finset.range 4096, c ∉ Finset.range (1024 * qi + 512 * (t + 1)) → scr x0 x1 x2 qi h (512 * t + r.val) c = ⊥ := by
    intro c _ hc
    rw [Finset.mem_range] at hc
    unfold scr
    rw [if_neg (by omega)]
  have hA : Finset.range (1024 * qi + 512 * (t + 1)) ⊆ Finset.range 4096 := Finset.range_subset_range.2 (by omega)
  rw [osum_extend hA _ _ hs, osum_extend hA _ _ hs]

/-- The same at any place of the tile. -/
theorem piece_eq {x0 : Vec Ideal S1024x1024 .bf16} {x1 : Vec Ideal S4096x512 .bf16} {x2 : Vec Ideal S4096x128 .bf16} {x3 : Vec Ideal S4096x512 .bf16}
    {qi h t : ℕ} {m l a : B} (H : Ch x0 x1 x2 x3 qi h t (1024 * qi + 512 * (t + 1)) m l a) (hqi : qi < 4) (ht : t < 2) (x : S512x128.Idx)
    (y : S1024x512.Idx) (h0 : (y 0).val = 512 * t + 1 * (x 0).val) (h1 : (y 1).val = 128 * h + 1 * (x 1).val) :
    fin l a x = tile x0 x1 x2 x3 qi (y 0).val (y 1).val := by
  idx_vars x
  rw [Ch.tile hqi ht H, h0, h1]
  simp only [Nat.one_mul]

variable (hf : Fine x0 x1 x2)
include hf

/-- What a grid point stores at output 6. -/
theorem out6_apply (x4 : Vec Ideal S64x11008 .f32) (x5 : Vec Ideal S64x11008 .f32) (r : Fin 1024) (n : Fin 512) :
    out0_A_6 (F := Ideal) c i arg3 harg3 arg4 harg4 arg5 harg5 arg6 harg6 arg7 harg7 arg8 harg8 arg9 harg9 arg10 harg10 arg11 harg11 arg12 harg12 arg13 harg13 arg14 harg14 x0 x1 x2 x3 x4 x5 (ix2 r n) = tile x0 x1 x2 x3 (i 2).val r.val n.val := by
  have hi : (i 2).val < 4 := (i 2).isLt
  unfold out0_A_6
  refine View.read_writes_apply_of_pieces _ _ (fun p : S1024x512.Idx => tile x0 x1 x2 x3 (i 2).val (p 0).val (p 1).val) _ ?_ _
    (cover0_A_6 (F := Ideal) c i arg3 harg3 arg4 harg4 arg5 harg5 arg6 harg6 arg7 harg7 arg8 harg8 arg9 harg9 arg10 harg10 arg11 harg11 arg12 harg12 arg13 harg13 arg14 harg14 x0 x1 x2 x3 x4 x5 _)
  rw [pieces6]
  obtain ⟨m0, h0⟩ := end_0 c i arg3 harg3 arg4 harg4 arg5 harg5 arg6 harg6 arg7 harg7 arg8 harg8 arg9 harg9 arg10 harg10 arg11 harg11 arg12 harg12 arg13 harg13 arg14 harg14 x0 x1 x2 x3 hf
  obtain ⟨m1, h1⟩ := end_1 c i arg3 harg3 arg4 harg4 arg5 harg5 arg6 harg6 arg7 harg7 arg8 harg8 arg9 harg9 arg10 harg10 arg11 harg11 arg12 harg12 arg13 harg13 arg14 harg14 x0 x1 x2 x3 hf
  obtain ⟨m2, h2⟩ := end_2 c i arg3 harg3 arg4 harg4 arg5 harg5 arg6 harg6 arg7 harg7 arg8 harg8 arg9 harg9 arg10 harg10 arg11 harg11 arg12 harg12 arg13 harg13 arg14 harg14 x0 x1 x2 x3 hf
  obtain ⟨m3, h3⟩ := end_3 c i arg3 harg3 arg4 harg4 arg5 harg5 arg6 harg6 arg7 harg7 arg8 harg8 arg9 harg9 arg10 harg10 arg11 harg11 arg12 harg12 arg13 harg13 arg14 harg14 x0 x1 x2 x3 hf
  obtain ⟨m4, h4⟩ := end_4 c i arg3 harg3 arg4 harg4 arg5 harg5 arg6 harg6 arg7 harg7 arg8 harg8 arg9 harg9 arg10 harg10 arg11 harg11 arg12 harg12 arg13 harg13 arg14 harg14 x0 x1 x2 x3 hf
  obtain ⟨m5, h5⟩ := end_5 c i arg3 harg3 arg4 harg4 arg5 harg5 arg6 harg6 arg7 harg7 arg8 harg8 arg9 harg9 arg10 harg10 arg11 harg11 arg12 harg12 arg13 harg13 arg14 harg14 x0 x1 x2 x3 hf
  obtain ⟨m6, h6⟩ := end_6 c i arg3 harg3 arg4 harg4 arg5 harg5 arg6 harg6 arg7 harg7 arg8 harg8 arg9 harg9 arg10 harg10 arg11 harg11 arg12 harg12 arg13 harg13 arg14 harg14 x0 x1 x2 x3 hf
  obtain ⟨m7, h7⟩ := end_7 c i arg3 harg3 arg4 harg4 arg5 harg5 arg6 harg6 arg7 harg7 arg8 harg8 arg9 harg9 arg10 harg10 arg11 harg11 arg12 harg12 arg13 harg13 arg14 harg14 x0 x1 x2 x3 hf
  simp only [List.mem_cons, List.not_mem_nil, or_false, forall_eq_or_imp, forall_eq]
  refine ⟨?_, ?_, ?_, ?_, ?_, ?_, ?_, ?_⟩
  · intro x; exact piece_eq h7 hi (by decide) x _ (by rfl) (by rfl)
  · intro x; exact piece_eq h6 hi (by decide) x _ (by rfl) (by rfl)
  · intro x; exact piece_eq h5 hi (by decide) x _ (by rfl) (by rfl)
  · intro x; exact piece_eq h4 hi (by decide) x _ (by rfl) (by rfl)
  · intro x; exact piece_eq h3 hi (by decide) x _ (by rfl) (by rfl)
  · intro x; exact piece_eq h2 hi (by decide) x _ (by rfl) (by rfl)
  · intro x; exact piece_eq h1 hi (by decide) x _ (by rfl) (by rfl)
  · intro x; exact piece_eq h0 hi (by decide) x _ (by rfl) (by rfl)

end Cert.KernelIdeal.Mla
-- ==== Proof.Spec.lean ====
/-
  The attention in plain mathematics: a score, and the softmax of a row of scores summed against a column of values.
-/
module

public import Idealize.ShloMosaic.PureOps
public import Idealize.ShloMosaic.PureOps.Ideal.Laws

@[expose] public section

noncomputable section

namespace Cert.Mla

open Idealize.ShloMosaic

/-- The scale `192 ^ (-1/2)`, as the programs spell it. -/
def W : EReal := Ideal.ofBits .f32 0x3D93CD3A#32

theorem W_real : ∃ w : ℝ, W = (w : EReal) := by
  unfold W
  simp only [Ideal.ofBits, Ideal.ieee]
  norm_num
  exact ⟨_, rfl⟩

/-- The score of one query and one key: the product of the first parts plus that of the rotary parts, scaled. -/
def score (q : Fin 192 → EReal) (kn : Fin 128 → EReal) (kp : Fin 64 → EReal) : EReal :=
  (∑ k : Fin 128, q ⟨k, by omega⟩ * kn k + ∑ k : Fin 64, q ⟨128 + k, by omega⟩ * kp k) * W

/-- The softmax of the row `x` of scores, summed against the values `v`. -/
def attn (x v : Fin 4096 → EReal) : EReal :=
  ∑ c, v c * Ideal.div (Ideal.exp (x c - Finset.univ.sup x)) (∑ c', Ideal.exp (x c' - Finset.univ.sup x))

theorem two : Ideal.ofBits .f32 0x40000000#32 = ((2 : ℝ) : EReal) := by
  simp [Ideal.ofBits, Ideal.ieee]
  norm_cast
  norm_num

/-- The factor the kernel's host lines multiply the queries by. -/
theorem factor : ∃ w : ℝ, W = (w : EReal) ∧
    Ideal.div W (Ideal.log (Ideal.ofBits .f32 0x40000000#32)) = ((w * (1 / Real.log 2) : ℝ) : EReal) := by
  obtain ⟨w, hw⟩ := W_real
  refine ⟨w, hw, ?_⟩
  have hl : Real.log 2 ≠ 0 := (Real.log_pos (by norm_num)).ne'
  rw [hw, two, Ideal.log_coe, if_neg (by norm_num), Ideal.div_coe hl]
  rfl

theorem sum_coe {n : ℕ} (f : Fin n → ℝ) : ((∑ k, f k : ℝ) : EReal) = ∑ k, (f k : EReal) :=
  map_sum (⟨⟨Real.toEReal, EReal.coe_zero⟩, EReal.coe_add⟩ : ℝ →+ EReal) f Finset.univ

/-- A finite score is a real number. -/
theorem score_real {q : Fin 192 → EReal} {kn : Fin 128 → EReal} {kp : Fin 64 → EReal} (hq : ∀ k, q k ≠ ⊤ ∧ q k ≠ ⊥) (hn : ∀ k, kn k ≠ ⊤ ∧ kn k ≠ ⊥)
    (hp : ∀ k, kp k ≠ ⊤ ∧ kp k ≠ ⊥) : score q kn kp ≠ ⊤ ∧ score q kn kp ≠ ⊥ := by
  obtain ⟨w, hw⟩ := W_real
  lift q to Fin 192 → ℝ using hq
  lift kn to Fin 128 → ℝ using hn
  lift kp to Fin 64 → ℝ using hp
  unfold score
  rw [hw]
  simp only [← EReal.coe_mul, ← EReal.coe_add, ← sum_coe]
  exact ⟨EReal.coe_ne_top _, EReal.coe_ne_bot _⟩

/-- THE KERNEL'S SCORE: over the 256 padded columns, the query scaled by `W / log 2`, it is the score over `log 2`. -/
theorem score_pad {q : Fin 192 → EReal} {kn : Fin 128 → EReal} {kp : Fin 64 → EReal} (hq : ∀ k, q k ≠ ⊤ ∧ q k ≠ ⊥) (hn : ∀ k, kn k ≠ ⊤ ∧ kn k ≠ ⊥)
    (hp : ∀ k, kp k ≠ ⊤ ∧ kp k ≠ ⊥) (a b : Fin 256 → EReal)
    (ha : ∀ k : Fin 256, a k = if h : k.val < 192 then q ⟨k, h⟩ * Ideal.div W (Ideal.log (Ideal.ofBits .f32 0x40000000#32)) else 0)
    (hb0 : ∀ k : Fin 128, b ⟨k, by omega⟩ = kn k) (hb1 : ∀ k : Fin 64, b ⟨128 + k, by omega⟩ = kp k) :
    ∑ k, a k * b k = score q kn kp * ((1 / Real.log 2 : ℝ) : EReal) := by
  obtain ⟨w, hw, hf⟩ := factor
  have h1 : ∑ k, a k * b k = ∑ k : Fin 128, a ⟨k, by omega⟩ * b ⟨k, by omega⟩ + (∑ k : Fin 64, a ⟨128 + k, by omega⟩ * b ⟨128 + k, by omega⟩
      + ∑ k : Fin 64, a ⟨128 + (64 + k), by omega⟩ * b ⟨128 + (64 + k), by omega⟩) := by
    have e1 := Fin.sum_univ_add (a := 128) (b := 128) fun k => a k * b k
    have e2 := Fin.sum_univ_add (a := 64) (b := 64) fun k : Fin 128 => a ⟨128 + k, by omega⟩ * b ⟨128 + k, by omega⟩
    exact e1.trans (congrArg (_ + ·) e2)
  have h2 : ∑ k : Fin 64, a ⟨128 + (64 + k), by omega⟩ * b ⟨128 + (64 + k), by omega⟩ = 0 :=
    Finset.sum_eq_zero fun k _ => by rw [ha, dif_neg (by show ¬ 128 + (64 + k.val) < 192; omega), zero_mul]
  have h3 : ∑ k : Fin 128, a ⟨k, by omega⟩ * b ⟨k, by omega⟩ = ∑ k : Fin 128, q ⟨k, by omega⟩ * ((w * (1 / Real.log 2) : ℝ) : EReal) * kn k :=
    Finset.sum_congr rfl fun k _ => by rw [ha, hb0, dif_pos (by show k.val < 192; omega), hf]
  have h4 : ∑ k : Fin 64, a ⟨128 + k, by omega⟩ * b ⟨128 + k, by omega⟩ = ∑ k : Fin 64, q ⟨128 + k, by omega⟩ * ((w * (1 / Real.log 2) : ℝ) : EReal) * kp k :=
    Finset.sum_congr rfl fun k _ => by rw [ha, hb1, dif_pos (by show 128 + k.val < 192; omega), hf]
  rw [h1, h2, h3, h4, add_zero]
  unfold score
  rw [hw]
  lift q to Fin 192 → ℝ using hq
  lift kn to Fin 128 → ℝ using hn
  lift kp to Fin 64 → ℝ using hp
  simp only [← EReal.coe_mul, ← EReal.coe_add, ← sum_coe]
  congr 1
  rw [mul_assoc, add_mul, Finset.sum_mul, Finset.sum_mul]
  congr 1 <;> exact Finset.sum_congr rfl fun k _ => by ring

end Cert.Mla
-- ==== Proof.Tile.lean ====
/-
  The tile of one grid point is the attention of its query row.
-/
module

public import proofs.«01_k».proof.Proof.Out
public import proofs.«01_k».proof.Proof.Spec

@[expose] public section

noncomputable section

namespace Cert.KernelIdeal.Mla

open Idealize.ShloMosaic Idealize.ShloMosaic.TcCoe Cert.KernelIdeal Cert.KernelIdeal.Gen Softmax Cert.Mla

/-- A sum over the first `n` numbers is one over `Fin n`. -/
theorem osum_range (n : ℕ) (s w : ℕ → EReal) : osum (Finset.range n) s w = osum (Finset.univ : Finset (Fin n)) (fun c => s c) fun c => w c := by
  have h : (Finset.range n).sup s = (Finset.univ : Finset (Fin n)).sup fun c => s c := by
    apply le_antisymm
    · exact Finset.sup_le fun c hc => Finset.le_sup (f := fun c : Fin n => s c) (Finset.mem_univ ⟨c, Finset.mem_range.1 hc⟩)
    · exact Finset.sup_le fun c _ => Finset.le_sup (f := s) (Finset.mem_range.2 c.isLt)
  unfold osum
  rw [h, Finset.sum_range]

variable {x0 : Vec Ideal S1024x1024 .bf16} {x1 : Vec Ideal S4096x512 .bf16} {x2 : Vec Ideal S4096x128 .bf16} {x3 : Vec Ideal S4096x512 .bf16}
  {q : Fin 192 → EReal} {kn : Fin 128 → EReal} {kp : Fin 64 → EReal}

/-- The kernel's score, from what its blocks hold. -/
theorem raw_eq {h row c : ℕ} (hq : ∀ k, q k ≠ ⊤ ∧ q k ≠ ⊥) (hn : ∀ k, kn k ≠ ⊤ ∧ kn k ≠ ⊥) (hp : ∀ k, kp k ≠ ⊤ ∧ kp k ≠ ⊥)
    (h0 : ∀ k : Fin 256, at2 x0 row (256 * h + k) = if h : k.val < 192 then q ⟨k, h⟩ * Ideal.div W (Ideal.log (Ideal.ofBits .f32 0x40000000#32)) else 0)
    (h1 : ∀ k : Fin 128, at2 x1 c (128 * h + k) = kn k) (h2 : ∀ k : Fin 64, at2 x2 c k = kp k) :
    raw x0 x1 x2 h row c = score q kn kp * ((1 / Real.log 2 : ℝ) : EReal) := by
  unfold raw
  refine score_pad hq hn hp (fun k => at2 x0 row (256 * h + k.val)) (fun k => if k.val < 128 then at2 x1 c (128 * h + k.val) else at2 x2 c (k.val - 128)) h0 ?_ ?_
  · intro k
    show (if k.val < 128 then _ else _) = _
    rw [if_pos k.isLt, h1]
  · intro k
    show (if 128 + k.val < 128 then _ else _) = _
    rw [if_neg (by omega), Nat.add_sub_cancel_left, h2]

theorem mul_log_real {x : EReal} (h : x ≠ ⊤ ∧ x ≠ ⊥) : x * ((1 / Real.log 2 : ℝ) : EReal) ≠ ⊤ ∧ x * ((1 / Real.log 2 : ℝ) : EReal) ≠ ⊥ := by
  lift x to ℝ using h
  rw [← EReal.coe_mul]
  exact ⟨EReal.coe_ne_top _, EReal.coe_ne_bot _⟩

/-- THE TILE at row `row` and column `col`: the attention of the query row, of the score row masked past `s`. -/
theorem tile_eq {KN : Fin 4096 → Fin 128 → EReal} {KP : Fin 4096 → Fin 64 → EReal} {v : Fin 4096 → EReal} {qi row col s : ℕ} (hs : s = 1024 * qi + row)
    (hq : ∀ k, q k ≠ ⊤ ∧ q k ≠ ⊥) (hn : ∀ c k, KN c k ≠ ⊤ ∧ KN c k ≠ ⊥) (hp : ∀ c k, KP c k ≠ ⊤ ∧ KP c k ≠ ⊥)
    (h0 : ∀ k : Fin 256, at2 x0 row (256 * (col / 128) + k) = if h : k.val < 192 then q ⟨k, h⟩ * Ideal.div W (Ideal.log (Ideal.ofBits .f32 0x40000000#32)) else 0)
    (h1 : ∀ (c : Fin 4096) (k : Fin 128), at2 x1 c (128 * (col / 128) + k) = KN c k) (h2 : ∀ (c : Fin 4096) (k : Fin 64), at2 x2 c k = KP c k)
    (h3 : ∀ c : Fin 4096, at2 x3 c col = v c) :
    tile x0 x1 x2 x3 qi row col = attn (fun c => if c.val ≤ s then score q (KN c) (KP c) else ⊥) v := by
  have e : ∀ c : Fin 4096, scr x0 x1 x2 qi (col / 128) row c
      = (if c.val ≤ s then score q (KN c) (KP c) else ⊥) * ((1 / Real.log 2 : ℝ) : EReal) := by
    intro c
    unfold scr
    rw [← hs]
    by_cases hc : c.val ≤ s
    · rw [if_pos hc, if_pos hc]
      exact raw_eq hq (hn c) (hp c) h0 (h1 c) (h2 c)
    · rw [if_neg hc, if_neg hc, EReal.bot_mul_coe_of_pos (one_div_pos.mpr (Real.log_pos (by norm_num)))]
  unfold tile attn
  rw [osum_range, osum_range]
  simp only [e, h3]
  refine osum_final _ _ ?_ ⟨0, ?_⟩
  · intro c
    show (if c.val ≤ s then _ else _) ≠ _
    split_ifs
    · exact (score_real hq (hn c) (hp c)).1
    · exact bot_ne_top
  · show (if (0 : Fin 4096).val ≤ s then _ else _) ≠ _
    rw [if_pos (show ((0 : Fin 4096) : ℕ) ≤ s from Nat.zero_le _)]
    exact (score_real hq (hn 0) (hp 0)).2

end Cert.KernelIdeal.Mla
-- ==== Proof.Host.lean ====
/-
  The arrays the kernel's call reads, from the arguments: the queries scaled and padded with zeros, the keys beside the
  values, the rotary keys padded with zeros.
-/
module

public import proofs.«01_k».proof.Proof.Gen.KernelIdeal.Value
public import Idealize.ShloMosaic.Lib.Pointwise
public import proofs.«01_k».proof.Proof.Block

@[expose] public section

noncomputable section

namespace Cert.KernelIdeal.Mla

open Idealize.ShloMosaic Idealize.ShloMosaic.TcCoe Cert.KernelIdeal Cert.KernelIdeal.Gen

/-- The queries as the call reads them. -/
def hq (q : FVec Ideal S4x4096x16x192 .f32) : FVec Ideal S16384x4096 .bf16 :=
  truncf .bf16 (shapeCast S16384x4096 (concatenate S4x4096x16x256 3 [⟨S4x4096x16x192, mulf q (broadcastInDim S4x4096x16x192 ![] bcast_S_S4x4096x16x192
      (Host.divf (constant S_ .f32 0x3D93CD3A#32) (Host.log (constant S_ .f32 0x40000000#32))))⟩,
    ⟨S4x4096x16x64, broadcastInDim S4x4096x16x64 ![] bcast_S_S4x4096x16x64 (constant S_ .f32 0x00000000#32)⟩]
    concatenates_S4x4096x16x192_S4x4096x16x64_S4x4096x16x256_d3) shapeCasts_S4x4096x16x256_S16384x4096) bitsLt_bf16_f32

/-- The keys' first parts beside the values. -/
def hkv (kn v : FVec Ideal S4x4096x16x128 .f32) : FVec Ideal S16384x4096 .bf16 :=
  truncf .bf16 (concatenate S16384x4096 1 [⟨S16384x2048, shapeCast S16384x2048 kn shapeCasts_S4x4096x16x128_S16384x2048⟩,
    ⟨S16384x2048, shapeCast S16384x2048 v shapeCasts_S4x4096x16x128_S16384x2048⟩] concatenates_S16384x2048_S16384x2048_S16384x4096_d1) bitsLt_bf16_f32

/-- The rotary keys padded with zeros. -/
def hkp (kp : FVec Ideal S4x4096x64 .f32) : FVec Ideal S16384x128 .bf16 :=
  truncf .bf16 (concatenate S16384x128 1 [⟨S16384x64, shapeCast S16384x64 kp shapeCasts_S4x4096x64_S16384x64⟩,
    ⟨S16384x64, broadcastInDim S16384x64 ![] bcast_S_S16384x64 (constant S_ .f32 0x00000000#32)⟩] concatenates_S16384x64_S16384x64_S16384x128_d1) bitsLt_bf16_f32

variable (m : (ℓ : Loc nD τ sig) → Buf (Elt Ideal) ℓ) (c : Dev nD)

theorem V_v8 : V (F := Ideal) m c main_v8 = hq (m ((c : Thread nD τ).loc main_arg0)) := by
  show StableHlo.after hostOps0 _ (Proc.devRef .tc main_v8) = _
  after_results
  rfl

theorem V_v12 : V (F := Ideal) m c main_v12 = hkv (m ((c : Thread nD τ).loc main_arg1)) (m ((c : Thread nD τ).loc main_arg3)) := by
  show StableHlo.after hostOps0 _ (Proc.devRef .tc main_v12) = _
  after_results
  rfl

theorem V_v16 : V (F := Ideal) m c main_v16 = hkp (m ((c : Thread nD τ).loc main_arg2)) := by
  show StableHlo.after hostOps0 _ (Proc.devRef .tc main_v16) = _
  after_results
  rfl

/-- A query's column `C`: of head `C / 256`, scaled, zero from column 192 on. -/
theorem hq_apply (q : FVec Ideal S4x4096x16x192 .f32) (R : Fin 16384) (C : Fin 4096) : hq q (ix2 R C)
    = if h : C.val % 256 < 192 then q (ix4 (⟨R.val / 4096, by omega⟩ : Fin 4) (⟨R.val % 4096, by omega⟩ : Fin 4096) (⟨C.val / 256, by omega⟩ : Fin 16) (⟨C.val % 256, h⟩ : Fin 192))
        * Ideal.div (Ideal.ofBits .f32 0x3D93CD3A#32) (Ideal.log (Ideal.ofBits .f32 0x40000000#32)) else 0 := by
  pointwise [hq]

/-- The keys' first parts in the first half of the columns, the values in the second. -/
theorem hkv_apply (kn v : FVec Ideal S4x4096x16x128 .f32) (R : Fin 16384) (C : Fin 4096) : hkv kn v (ix2 R C)
    = if h : C.val < 2048 then kn (ix4 (⟨R.val / 4096, by omega⟩ : Fin 4) (⟨R.val % 4096, by omega⟩ : Fin 4096) (⟨C.val / 128, by omega⟩ : Fin 16) (⟨C.val % 128, by omega⟩ : Fin 128))
      else v (ix4 (⟨R.val / 4096, by omega⟩ : Fin 4) (⟨R.val % 4096, by omega⟩ : Fin 4096) (⟨(C.val - 2048) / 128, by omega⟩ : Fin 16) (⟨(C.val - 2048) % 128, by omega⟩ : Fin 128)) := by
  pointwise [hkv]

/-- The rotary keys' columns, zero from column 64 on. -/
theorem hkp_apply (kp : FVec Ideal S4x4096x64 .f32) (R : Fin 16384) (C : Fin 128) : hkp kp (ix2 R C)
    = if h : C.val < 64 then kp (ix3 (⟨R.val / 4096, by omega⟩ : Fin 4) (⟨R.val % 4096, by omega⟩ : Fin 4096) (⟨C.val, h⟩ : Fin 64)) else 0 := by
  pointwise [hkp]

end Cert.KernelIdeal.Mla
-- ==== Proof.Arr.lean ====
/-
  The three result arrays of the attention's call.
-/
module

public import proofs.«01_k».proof.Proof.Tile
public import proofs.«01_k».proof.Proof.Host

@[expose] public section

set_option maxRecDepth 16384

noncomputable section

namespace Cert.KernelIdeal.Mla

open Idealize.ShloMosaic Idealize.ShloMosaic.TcCoe Cert.KernelIdeal Cert.KernelIdeal.Gen Cert.KernelIdeal.Value Cert.Mla

/-- The queries as launched. -/
abbrev argQ (m : (ℓ : Loc nD τ sig) → Buf (Elt Ideal) ℓ) (c : Dev nD) : FVec Ideal S4x4096x16x192 .f32 := m ((c : Thread nD τ).loc main_arg0)

/-- The grid coordinates of point `t`: batch, group of heads, tile of queries. -/
abbrev gb (t : Fin cfg0.N) : ℕ := (grid0.coords t 0).val
abbrev gh (t : Fin cfg0.N) : ℕ := (grid0.coords t 1).val
abbrev gi (t : Fin cfg0.N) : ℕ := (grid0.coords t 2).val

theorem g_lt (t : Fin cfg0.N) : gb t < 4 ∧ gh t < 4 ∧ gi t < 4 := ⟨(grid0.coords t 0).isLt, (grid0.coords t 1).isLt, (grid0.coords t 2).isLt⟩

theorem idx0 : ∀ t : Fin cfg0.N, win0_0.index t (0 : Fin 2) = 4 * gb t + gi t ∧ win0_0.index t (1 : Fin 2) = gh t := (by decide +kernel : ∀ t : Fin grid0.N, _)
theorem idx1 : ∀ t : Fin cfg0.N, win0_1.index t (0 : Fin 2) = gb t ∧ win0_1.index t (1 : Fin 2) = gh t := (by decide +kernel : ∀ t : Fin grid0.N, _)
theorem idx2 : ∀ t : Fin cfg0.N, win0_2.index t (0 : Fin 2) = gb t ∧ win0_2.index t (1 : Fin 2) = 0 := (by decide +kernel : ∀ t : Fin grid0.N, _)
theorem idx3 : ∀ t : Fin cfg0.N, win0_3.index t (0 : Fin 2) = gb t ∧ win0_3.index t (1 : Fin 2) = 4 + gh t := (by decide +kernel : ∀ t : Fin grid0.N, _)
theorem idx6 : ∀ t : Fin cfg0.N, win0_6.index t (0 : Fin 2) = 4 * gb t + gi t ∧ win0_6.index t (1 : Fin 2) = gh t := (by decide +kernel : ∀ t : Fin grid0.N, _)

/-- Every row tile and column group is some point's. -/
theorem point6 : ∀ (a : Fin 16) (b : Fin 4), ∃ t : Fin cfg0.N, win0_6.index t (0 : Fin 2) = a.val ∧ win0_6.index t (1 : Fin 2) = b.val :=
  (by decide +kernel : ∀ (a : Fin 16) (b : Fin 4), ∃ t : Fin grid0.N, _)

variable (m : (ℓ : Loc nD τ sig) → Buf (Elt Ideal) ℓ) (c : Dev nD)

theorem blk0 (t : Fin cfg0.N) (r k : Fin 1024) : iblk m c 0 t (ix2 r k)
    = hq (m ((c : Thread nD τ).loc main_arg0)) (ix2 (⟨(4 * gb t + gi t) * 1024 + r, by have := g_lt t; omega⟩ : Fin 16384) (⟨gh t * 1024 + k, by have := g_lt t; omega⟩ : Fin 4096)) := by
  obtain ⟨e0, e1⟩ := idx0 t
  rw [← V_v8]
  show V (F := Ideal) m c main_v8 (((cfg0.win 0).blk t).view.emb (ix2 r k)) = _
  congr 1
  funext a; apply Fin.ext
  match a with
  | ⟨0, _⟩ => show win0_0.index t (0 : Fin 2) * 1024 + 1 * r.val = (4 * gb t + gi t) * 1024 + r.val; rw [e0, Nat.one_mul]
  | ⟨1, _⟩ => show win0_0.index t (1 : Fin 2) * 1024 + 1 * k.val = gh t * 1024 + k.val; rw [e1, Nat.one_mul]

theorem blk1 (t : Fin cfg0.N) (r : Fin 4096) (k : Fin 512) : iblk m c 1 t (ix2 r k)
    = hkv (m ((c : Thread nD τ).loc main_arg1)) (m ((c : Thread nD τ).loc main_arg3)) (ix2 (⟨gb t * 4096 + r, by have := g_lt t; omega⟩ : Fin 16384) (⟨gh t * 512 + k, by have := g_lt t; omega⟩ : Fin 4096)) := by
  obtain ⟨e0, e1⟩ := idx1 t
  rw [← V_v12]
  show V (F := Ideal) m c main_v12 (((cfg0.win 1).blk t).view.emb (ix2 r k)) = _
  congr 1
  funext a; apply Fin.ext
  match a with
  | ⟨0, _⟩ => show win0_1.index t (0 : Fin 2) * 4096 + 1 * r.val = gb t * 4096 + r.val; rw [e0, Nat.one_mul]
  | ⟨1, _⟩ => show win0_1.index t (1 : Fin 2) * 512 + 1 * k.val = gh t * 512 + k.val; rw [e1, Nat.one_mul]

theorem blk2 (t : Fin cfg0.N) (r : Fin 4096) (k : Fin 128) : iblk m c 2 t (ix2 r k)
    = hkp (m ((c : Thread nD τ).loc main_arg2)) (ix2 (⟨gb t * 4096 + r, by have := g_lt t; omega⟩ : Fin 16384) k) := by
  obtain ⟨e0, e1⟩ := idx2 t
  rw [← V_v16]
  show V (F := Ideal) m c main_v16 (((cfg0.win 2).blk t).view.emb (ix2 r k)) = _
  congr 1
  funext a; apply Fin.ext
  match a with
  | ⟨0, _⟩ => show win0_2.index t (0 : Fin 2) * 4096 + 1 * r.val = gb t * 4096 + r.val; rw [e0, Nat.one_mul]
  | ⟨1, _⟩ => show win0_2.index t (1 : Fin 2) * 128 + 1 * k.val = k.val; rw [e1, Nat.one_mul, Nat.zero_mul, Nat.zero_add]

theorem blk3 (t : Fin cfg0.N) (r : Fin 4096) (k : Fin 512) : iblk m c 3 t (ix2 r k)
    = hkv (m ((c : Thread nD τ).loc main_arg1)) (m ((c : Thread nD τ).loc main_arg3)) (ix2 (⟨gb t * 4096 + r, by have := g_lt t; omega⟩ : Fin 16384) (⟨(4 + gh t) * 512 + k, by have := g_lt t; omega⟩ : Fin 4096)) := by
  obtain ⟨e0, e1⟩ := idx3 t
  rw [← V_v12]
  show V (F := Ideal) m c main_v12 (((cfg0.win 3).blk t).view.emb (ix2 r k)) = _
  congr 1
  funext a; apply Fin.ext
  match a with
  | ⟨0, _⟩ => show win0_3.index t (0 : Fin 2) * 4096 + 1 * r.val = gb t * 4096 + r.val; rw [e0, Nat.one_mul]
  | ⟨1, _⟩ => show win0_3.index t (1 : Fin 2) * 512 + 1 * k.val = (4 + gh t) * 512 + k.val; rw [e1, Nat.one_mul]

/-- The attention's result at row `R` and column `C`. -/
def res (q : FVec Ideal S4x4096x16x192 .f32) (kn : FVec Ideal S4x4096x16x128 .f32) (kp : FVec Ideal S4x4096x64 .f32) (v : FVec Ideal S4x4096x16x128 .f32) (R : Fin 16384) (C : Fin 2048) : EReal :=
  attn (fun c => if c.val ≤ R.val % 4096 then score
          (fun k => q (ix4 (⟨R.val / 4096, by omega⟩ : Fin 4) (⟨R.val % 4096, by omega⟩ : Fin 4096) (⟨C.val / 128, by omega⟩ : Fin 16) k))
          (fun k => kn (ix4 (⟨R.val / 4096, by omega⟩ : Fin 4) c (⟨C.val / 128, by omega⟩ : Fin 16) k))
          (fun k => kp (ix3 (⟨R.val / 4096, by omega⟩ : Fin 4) c k)) else ⊥)
        fun c => v (ix4 (⟨R.val / 4096, by omega⟩ : Fin 4) c (⟨C.val / 128, by omega⟩ : Fin 16) (⟨C.val % 128, by omega⟩ : Fin 128))

variable (hq' : ∀ i, m ((c : Thread nD τ).loc main_arg0) i ≠ (⊤ : EReal) ∧ m ((c : Thread nD τ).loc main_arg0) i ≠ (⊥ : EReal))
  (hn' : ∀ i, m ((c : Thread nD τ).loc main_arg1) i ≠ (⊤ : EReal) ∧ m ((c : Thread nD τ).loc main_arg1) i ≠ (⊥ : EReal))
  (hp' : ∀ i, m ((c : Thread nD τ).loc main_arg2) i ≠ (⊤ : EReal) ∧ m ((c : Thread nD τ).loc main_arg2) i ≠ (⊥ : EReal))

theorem at0 (t : Fin cfg0.N) {row h : ℕ} (hr : row < 1024) (hh : h < 4) {s H b : ℕ} (hs : s = 1024 * gi t + row) (hH : H = 4 * gh t + h) (hb : b = gb t)
    (k : Fin 256) : at2 (iblk m c 0 t) row (256 * h + k)
      = if hk : k.val < 192 then argQ m c (ix4 (⟨b, by have := g_lt t; omega⟩ : Fin 4) (⟨s, by have := g_lt t; omega⟩ : Fin 4096) (⟨H, by have := g_lt t; omega⟩ : Fin 16) (⟨k.val, hk⟩ : Fin 192))
          * Ideal.div W (Ideal.log (Ideal.ofBits .f32 0x40000000#32)) else 0 := by
  have g := g_lt t
  have e := at2_ix2 (iblk m c 0 t) (⟨row, hr⟩ : Fin 1024) (⟨256 * h + k.val, by omega⟩ : Fin 1024)
  refine e.trans ((blk0 m c t _ _).trans ((hq_apply _ _ _).trans ?_))
  have e1 : (gh t * 1024 + (256 * h + k.val)) % 256 = k.val := by omega
  have e2 : (gh t * 1024 + (256 * h + k.val)) / 256 = H := by omega
  have e3 : ((4 * gb t + gi t) * 1024 + row) / 4096 = b := by omega
  have e4 : ((4 * gb t + gi t) * 1024 + row) % 4096 = s := by omega
  simp only [e1, e2, e3, e4]
  rfl

theorem at1 (t : Fin cfg0.N) {h : ℕ} (hh : h < 4) {H b : ℕ} (hH : H = 4 * gh t + h) (hb : b = gb t) (r : Fin 4096) (k : Fin 128) : at2 (iblk m c 1 t) r (128 * h + k)
      = (m ((c : Thread nD τ).loc main_arg1) : FVec Ideal S4x4096x16x128 .f32) (ix4 (⟨b, by have := g_lt t; omega⟩ : Fin 4) r (⟨H, by have := g_lt t; omega⟩ : Fin 16) k) := by
  have g := g_lt t
  have e := at2_ix2 (iblk m c 1 t) r (⟨128 * h + k.val, by omega⟩ : Fin 512)
  refine e.trans ((blk1 m c t _ _).trans ((hkv_apply _ _ _ _).trans ?_))
  have e1 : (gh t * 512 + (128 * h + k.val)) % 128 = k.val := by omega
  have e2 : (gh t * 512 + (128 * h + k.val)) / 128 = H := by omega
  have e3 : (gb t * 4096 + r.val) / 4096 = b := by omega
  have e4 : (gb t * 4096 + r.val) % 4096 = r.val := by omega
  rw [dif_pos (by show gh t * 512 + (128 * h + k.val) < 2048; omega)]
  simp only [e1, e2, e3, e4]

theorem at2' (t : Fin cfg0.N) {b : ℕ} (hb : b = gb t) (r : Fin 4096) (k : Fin 64) : at2 (iblk m c 2 t) r k
      = (m ((c : Thread nD τ).loc main_arg2) : FVec Ideal S4x4096x64 .f32) (ix3 (⟨b, by have := g_lt t; omega⟩ : Fin 4) r k) := by
  have g := g_lt t
  have e := at2_ix2 (iblk m c 2 t) r (⟨k.val, by omega⟩ : Fin 128)
  refine e.trans ((blk2 m c t _ _).trans ((hkp_apply _ _ _).trans ?_))
  have e3 : (gb t * 4096 + r.val) / 4096 = b := by omega
  have e4 : (gb t * 4096 + r.val) % 4096 = r.val := by omega
  rw [dif_pos k.isLt]
  simp only [e3, e4]

theorem at3 (t : Fin cfg0.N) {col : ℕ} {H b n : ℕ} (hc : col < 512) (hH : H = 4 * gh t + col / 128) (hb : b = gb t) (hn : n = col % 128) (r : Fin 4096) : at2 (iblk m c 3 t) r col
      = (m ((c : Thread nD τ).loc main_arg3) : FVec Ideal S4x4096x16x128 .f32) (ix4 (⟨b, by have := g_lt t; omega⟩ : Fin 4) r (⟨H, by have := g_lt t; omega⟩ : Fin 16) (⟨n, by omega⟩ : Fin 128)) := by
  have g := g_lt t
  have e := at2_ix2 (iblk m c 3 t) r (⟨col, hc⟩ : Fin 512)
  refine e.trans ((blk3 m c t _ _).trans ((hkv_apply _ _ _ _).trans ?_))
  have e1 : ((4 + gh t) * 512 + col - 2048) % 128 = n := by omega
  have e2 : ((4 + gh t) * 512 + col - 2048) / 128 = H := by omega
  have e3 : (gb t * 4096 + r.val) / 4096 = b := by omega
  have e4 : (gb t * 4096 + r.val) % 4096 = r.val := by omega
  rw [dif_neg (by show ¬ (4 + gh t) * 512 + col < 2048; omega)]
  simp only [e1, e2, e3, e4]

include hq' hn' hp' in
/-- A grid point's scores are finite. -/
theorem fine (t : Fin cfg0.N) : Fine (iblk m c 0 t) (iblk m c 1 t) (iblk m c 2 t) := by
  have g := g_lt t
  intro h row cc hh hr hc
  rw [raw_eq (q := fun k => argQ m c (ix4 (⟨gb t, by omega⟩ : Fin 4) (⟨1024 * gi t + row, by omega⟩ : Fin 4096) (⟨4 * gh t + h, by omega⟩ : Fin 16) k)) (fun _ => hq' _) (fun _ => hn' _) (fun _ => hp' _) (at0 m c t hr hh rfl rfl rfl) (at1 m c t hh rfl rfl ⟨cc, hc⟩) (at2' m c t rfl ⟨cc, hc⟩)]
  exact mul_log_real (score_real (fun _ => hq' _) (fun _ => hn' _) (fun _ => hp' _))

include hq' hn' hp' in
/-- THE ATTENTION'S ARRAY after the run: at every place the attention of its query row. -/
theorem final6 : (dats m 0 c).arrAt 6 cfg0.N = fun p : S16384x2048.Idx =>
    res (m ((c : Thread nD τ).loc main_arg0)) (m ((c : Thread nD τ).loc main_arg1)) (m ((c : Thread nD τ).loc main_arg2)) (m ((c : Thread nD τ).loc main_arg3)) (p 0) (p 1) := by
  refine (dats m 0 c).arrAt_eq_of_cover 6 _ (fun t _ => ?_) (fun i => ?_)
  · obtain ⟨e0, e1⟩ := idx6 t
    have g := g_lt t
    rw [flushed6_A]
    funext j
    obtain ⟨r, n, rfl⟩ : ∃ (r : Fin 1024) (n : Fin 512), ix2 r n = (j : S1024x512.Idx) := ⟨(j : S1024x512.Idx) 0, (j : S1024x512.Idx) 1, funext fun a => by match a with | ⟨0, _⟩ => rfl | ⟨1, _⟩ => rfl⟩
    refine Eq.trans (b := tile (iblk m c 0 t) (iblk m c 1 t) (iblk m c 2 t) (iblk m c 3 t) (gi t) r.val n.val) ?_ ?_
    · apply out6_apply
      exact fine m c hq' hn' hp' t
    have p0 : (((cfg0.win 6).blk t).view.emb (ix2 r n) (0 : Fin 2)).val = (4 * gb t + gi t) * 1024 + r.val := by
      show win0_6.index t (0 : Fin 2) * 1024 + 1 * r.val = _; rw [e0, Nat.one_mul]
    have p1 : (((cfg0.win 6).blk t).view.emb (ix2 r n) (1 : Fin 2)).val = gh t * 512 + n.val := by
      show win0_6.index t (1 : Fin 2) * 512 + 1 * n.val = _; rw [e1, Nat.one_mul]
    show _ = res _ _ _ _ (((cfg0.win 6).blk t).view.emb (ix2 r n) (0 : Fin 2)) (((cfg0.win 6).blk t).view.emb (ix2 r n) (1 : Fin 2))
    generalize ((cfg0.win 6).blk t).view.emb (ix2 r n) (0 : Fin 2) = R at p0 ⊢
    generalize ((cfg0.win 6).blk t).view.emb (ix2 r n) (1 : Fin 2) = C at p1 ⊢
    replace p0 : (R : Fin 16384).val = _ := p0
    replace p1 : (C : Fin 2048).val = _ := p1
    exact tile_eq (by omega) (fun _ => hq' _) (fun _ _ => hn' _) (fun _ _ => hp' _)
      (at0 m c t r.isLt (by omega) (by omega) (by omega) (by omega)) (at1 m c t (by omega) (by omega) (by omega))
      (at2' m c t (by omega)) (at3 m c t n.isLt (by omega) (by omega) (by omega))
  · obtain ⟨R, C, rfl⟩ : ∃ (R : Fin 16384) (C : Fin 2048), ix2 R C = (i : S16384x2048.Idx) := ⟨(i : S16384x2048.Idx) 0, (i : S16384x2048.Idx) 1, funext fun a => by match a with | ⟨0, _⟩ => rfl | ⟨1, _⟩ => rfl⟩
    obtain ⟨t, h0, h1⟩ := point6 ⟨R.val / 1024, by omega⟩ ⟨C.val / 512, by omega⟩
    refine ⟨t, flush0_6 _, ?_⟩
    have h := ((cfg0.win 6).blk t).view.emb_mem_set (ix2 (⟨R.val % 1024, by omega⟩ : Fin 1024) (⟨C.val % 512, by omega⟩ : Fin 512))
    convert h using 1
    funext a; apply Fin.ext
    match a with
    | ⟨0, _⟩ => show R.val = win0_6.index t (0 : Fin 2) * 1024 + 1 * (R.val % 1024); rw [h0]; show _ = R.val / 1024 * 1024 + _; omega
    | ⟨1, _⟩ => show C.val = win0_6.index t (1 : Fin 2) * 512 + 1 * (C.val % 512); rw [h1]; show _ = C.val / 512 * 512 + _; omega

end Cert.KernelIdeal.Mla
-- ==== Proof.Casts.lean ====
/-
  The two result arrays of the attention's call that hold the cast weights.
-/
module

public import proofs.«01_k».proof.Proof.Gen.KernelIdeal.Value
public import Idealize.ShloMosaic.Lib.Pointwise

@[expose] public section

set_option maxRecDepth 16384

noncomputable section

namespace Cert.KernelIdeal.Mla

open Idealize.ShloMosaic Idealize.ShloMosaic.TcCoe Cert.KernelIdeal Cert.KernelIdeal.Gen Cert.KernelIdeal.Value

/-- The weights, cast. -/
abbrev castW (x : FVec Ideal S4096x11008 .f32) : FVec Ideal S4096x11008 .bf16 := truncf .bf16 x bitsLt_bf16_f32

theorem hz : (![0, 0] : Fin 2 → Nat) = fun _ => 0 := funext fun a => by fin_cases a <;> rfl

variable (m : (ℓ : Loc nD τ sig) → Buf (Elt Ideal) ℓ) (c : Dev nD)

theorem out7_eq (d : Dev nD) (i : grid0.Coords) (arg3 : Memref sig .tc .vmem S1024x1024 .bf16) (harg3 : arg3.IsWhole) (arg4 : Memref sig .tc .vmem S4096x512 .bf16) (harg4 : arg4.IsWhole) (arg5 : Memref sig .tc .vmem S4096x128 .bf16) (harg5 : arg5.IsWhole) (arg6 : Memref sig .tc .vmem S4096x512 .bf16) (harg6 : arg6.IsWhole) (arg7 : Memref sig .tc .vmem S64x11008 .f32) (harg7 : arg7.IsWhole) (arg8 : Memref sig .tc .vmem S64x11008 .f32) (harg8 : arg8.IsWhole) (arg9 : Memref sig .tc .vmem S1024x512 .bf16) (harg9 : arg9.IsWhole) (arg10 : Memref sig .tc .vmem S64x11008 .bf16) (harg10 : arg10.IsWhole) (arg11 : Memref sig .tc .vmem S64x11008 .bf16) (harg11 : arg11.IsWhole) (arg12 : Memref sig .tc .vmem S8x512x128 .f32) (harg12 : arg12.IsWhole) (arg13 : Memref sig .tc .vmem S8x512x128 .f32) (harg13 : arg13.IsWhole) (arg14 : Memref sig .tc .vmem S8x512x128 .f32) (harg14 : arg14.IsWhole)
    (x0 : Vec Ideal S1024x1024 .bf16) (x1 : Vec Ideal S4096x512 .bf16) (x2 : Vec Ideal S4096x128 .bf16) (x3 : Vec Ideal S4096x512 .bf16) (x4 : Vec Ideal S64x11008 .f32) (x5 : Vec Ideal S64x11008 .f32) :
    out0_A_7 (F := Ideal) d i arg3 harg3 arg4 harg4 arg5 harg5 arg6 harg6 arg7 harg7 arg8 harg8 arg9 harg9 arg10 harg10 arg11 harg11 arg12 harg12 arg13 harg13 arg14 harg14 x0 x1 x2 x3 x4 x5 = x4 := by
  unfold out0_A_7
  rw [View.read_writes_junk_eq_canon]
  show View.canon ([⟨Rect.unit ![0, 0] S64x11008.size inb_S64x11008_S64x11008_0_0, k0_pay404
      (View.readAt (Elt Ideal) arg7.view (Rect.unit ![0, 0] S64x11008.size inb_S64x11008_S64x11008_0_0).toLoadRect (harg7.unread x4))⟩] :
      List (View.Piece (Elt Ideal) S64x11008 .bf16)) = _
  rw [View.canon_unit_zero hz, View.readAt_eq_ld, harg7.read_unread, View.ld_unit_zero hz]
  rfl

theorem idx7 : ∀ t : Fin cfg0.N, win0_7.index t (0 : Fin 2) = win0_4.index t (0 : Fin 2) ∧ win0_7.index t (1 : Fin 2) = win0_4.index t (1 : Fin 2) := (by decide +kernel : ∀ t : Fin grid0.N, _)
theorem zero7 : ∀ t : Fin cfg0.N, win0_7.index t (1 : Fin 2) = 0 := (by decide +kernel : ∀ t : Fin grid0.N, _)
theorem point7 : ∀ a : Fin 64, ∃ t : Fin cfg0.N, win0_7.index t (0 : Fin 2) = a.val :=
  (by decide +kernel : ∀ a : Fin 64, ∃ t : Fin grid0.N, _)

/-- Result 1: the weights, cast. -/
theorem final7 : (dats m 0 c).arrAt 7 cfg0.N = castW (m ((c : Thread nD τ).loc main_arg4)) := by
  refine (dats m 0 c).arrAt_eq_of_cover 7 _ (fun t _ => ?_) (fun i => ?_)
  · obtain ⟨e0, e1⟩ := idx7 t
    rw [flushed7_A, out7_eq]
    funext j
    show iblk m c 4 t j = m ((c : Thread nD τ).loc main_arg4) (((cfg0.win 7).blk t).view.emb j)
    rw [← V_main_arg4 m c]
    show V (F := Ideal) m c main_arg4 (((cfg0.win 4).blk t).view.emb j) = V (F := Ideal) m c main_arg4 (((cfg0.win 7).blk t).view.emb j)
    congr 1
  · obtain ⟨R, C, rfl⟩ : ∃ (R : Fin 4096) (C : Fin 11008), ix2 R C = (i : S4096x11008.Idx) := ⟨(i : S4096x11008.Idx) 0, (i : S4096x11008.Idx) 1, funext fun a => by match a with | ⟨0, _⟩ => rfl | ⟨1, _⟩ => rfl⟩
    obtain ⟨t, h0⟩ := point7 ⟨R.val / 64, by omega⟩
    have h1 := zero7 t
    refine ⟨t, flush0_7 _, ?_⟩
    have h := ((cfg0.win 7).blk t).view.emb_mem_set (ix2 (⟨R.val % 64, by omega⟩ : Fin 64) C)
    convert h using 1
    funext a; apply Fin.ext
    match a with
    | ⟨0, _⟩ => show R.val = win0_7.index t (0 : Fin 2) * 64 + 1 * (R.val % 64); rw [h0]; show _ = R.val / 64 * 64 + _; omega
    | ⟨1, _⟩ => show C.val = win0_7.index t (1 : Fin 2) * 11008 + 1 * C.val; rw [h1]; omega

theorem out8_eq (d : Dev nD) (i : grid0.Coords) (arg3 : Memref sig .tc .vmem S1024x1024 .bf16) (harg3 : arg3.IsWhole) (arg4 : Memref sig .tc .vmem S4096x512 .bf16) (harg4 : arg4.IsWhole) (arg5 : Memref sig .tc .vmem S4096x128 .bf16) (harg5 : arg5.IsWhole) (arg6 : Memref sig .tc .vmem S4096x512 .bf16) (harg6 : arg6.IsWhole) (arg7 : Memref sig .tc .vmem S64x11008 .f32) (harg7 : arg7.IsWhole) (arg8 : Memref sig .tc .vmem S64x11008 .f32) (harg8 : arg8.IsWhole) (arg9 : Memref sig .tc .vmem S1024x512 .bf16) (harg9 : arg9.IsWhole) (arg10 : Memref sig .tc .vmem S64x11008 .bf16) (harg10 : arg10.IsWhole) (arg11 : Memref sig .tc .vmem S64x11008 .bf16) (harg11 : arg11.IsWhole) (arg12 : Memref sig .tc .vmem S8x512x128 .f32) (harg12 : arg12.IsWhole) (arg13 : Memref sig .tc .vmem S8x512x128 .f32) (harg13 : arg13.IsWhole) (arg14 : Memref sig .tc .vmem S8x512x128 .f32) (harg14 : arg14.IsWhole)
    (x0 : Vec Ideal S1024x1024 .bf16) (x1 : Vec Ideal S4096x512 .bf16) (x2 : Vec Ideal S4096x128 .bf16) (x3 : Vec Ideal S4096x512 .bf16) (x4 : Vec Ideal S64x11008 .f32) (x5 : Vec Ideal S64x11008 .f32) :
    out0_A_8 (F := Ideal) d i arg3 harg3 arg4 harg4 arg5 harg5 arg6 harg6 arg7 harg7 arg8 harg8 arg9 harg9 arg10 harg10 arg11 harg11 arg12 harg12 arg13 harg13 arg14 harg14 x0 x1 x2 x3 x4 x5 = x5 := by
  unfold out0_A_8
  rw [View.read_writes_junk_eq_canon]
  show View.canon ([⟨Rect.unit ![0, 0] S64x11008.size inb_S64x11008_S64x11008_0_0, k0_pay405
      (View.readAt (Elt Ideal) arg8.view (Rect.unit ![0, 0] S64x11008.size inb_S64x11008_S64x11008_0_0).toLoadRect (harg8.unread x5))⟩] :
      List (View.Piece (Elt Ideal) S64x11008 .bf16)) = _
  rw [View.canon_unit_zero hz, View.readAt_eq_ld, harg8.read_unread, View.ld_unit_zero hz]
  rfl

theorem idx8 : ∀ t : Fin cfg0.N, win0_8.index t (0 : Fin 2) = win0_5.index t (0 : Fin 2) ∧ win0_8.index t (1 : Fin 2) = win0_5.index t (1 : Fin 2) := (by decide +kernel : ∀ t : Fin grid0.N, _)
theorem zero8 : ∀ t : Fin cfg0.N, win0_8.index t (1 : Fin 2) = 0 := (by decide +kernel : ∀ t : Fin grid0.N, _)
theorem point8 : ∀ a : Fin 64, ∃ t : Fin cfg0.N, win0_8.index t (0 : Fin 2) = a.val :=
  (by decide +kernel : ∀ a : Fin 64, ∃ t : Fin grid0.N, _)

/-- Result 2: the weights, cast. -/
theorem final8 : (dats m 0 c).arrAt 8 cfg0.N = castW (m ((c : Thread nD τ).loc main_arg5)) := by
  refine (dats m 0 c).arrAt_eq_of_cover 8 _ (fun t _ => ?_) (fun i => ?_)
  · obtain ⟨e0, e1⟩ := idx8 t
    rw [flushed8_A, out8_eq]
    funext j
    show iblk m c 5 t j = m ((c : Thread nD τ).loc main_arg5) (((cfg0.win 8).blk t).view.emb j)
    rw [← V_main_arg5 m c]
    show V (F := Ideal) m c main_arg5 (((cfg0.win 5).blk t).view.emb j) = V (F := Ideal) m c main_arg5 (((cfg0.win 8).blk t).view.emb j)
    congr 1
  · obtain ⟨R, C, rfl⟩ : ∃ (R : Fin 4096) (C : Fin 11008), ix2 R C = (i : S4096x11008.Idx) := ⟨(i : S4096x11008.Idx) 0, (i : S4096x11008.Idx) 1, funext fun a => by match a with | ⟨0, _⟩ => rfl | ⟨1, _⟩ => rfl⟩
    obtain ⟨t, h0⟩ := point8 ⟨R.val / 64, by omega⟩
    have h1 := zero8 t
    refine ⟨t, flush0_8 _, ?_⟩
    have h := ((cfg0.win 8).blk t).view.emb_mem_set (ix2 (⟨R.val % 64, by omega⟩ : Fin 64) C)
    convert h using 1
    funext a; apply Fin.ext
    match a with
    | ⟨0, _⟩ => show R.val = win0_8.index t (0 : Fin 2) * 64 + 1 * (R.val % 64); rw [h0]; show _ = R.val / 64 * 64 + _; omega
    | ⟨1, _⟩ => show C.val = win0_8.index t (1 : Fin 2) * 11008 + 1 * C.val; rw [h1]; omega

end Cert.KernelIdeal.Mla
-- ==== Proof.Finite.lean ====
/-
  What the precondition says: every query and key is a real number.
-/
module

public import proofs.«01_k».proof.Pre_keys_finite
public import Idealize.ShloMosaic.Lib.Pointwise

@[expose] public section

noncomputable section

namespace Cert.Pre_keys_finite

open Idealize.ShloMosaic

/-- The shape relations the predicate takes. -/
theorem facts_hold : Facts where
  bcast_S_S4x4096x16x192 := by decide
  bcast_S_S4x4096x16x128 := by decide
  bcast_S_S4x4096x64 := by decide

/-- Below infinity in absolute value is real. -/
theorem real_of_lt (x : Ideal .f32) (h : FloatOps.cmpf (F := Ideal) .olt (FloatOps.hostAbsf (F := Ideal) x) (FloatOps.ofBits (F := Ideal) .f32 0x7F800000#32) = 1#1) : x ≠ (⊤ : EReal) ∧ x ≠ (⊥ : EReal) := by
  have e : FloatOps.ofBits (F := Ideal) .f32 0x7F800000#32 = (⊤ : EReal) := by show Ideal.ofBits _ _ = _; simp [Ideal.ofBits, Ideal.ieee]
  rw [e] at h
  constructor
  · rintro rfl
    revert h
    show (BitVec.ofBool (decide (max (⊤ : EReal) (-⊤) < ⊤)) = 1#1) → False
    simp
  · rintro rfl
    revert h
    show (BitVec.ofBool (decide (max (⊥ : EReal) (-⊥) < ⊤)) = 1#1) → False
    simp

variable [Facts]

theorem real0 (x0 : FVec Ideal S4x4096x16x192 .f32) (x1 : FVec Ideal S4x4096x16x128 .f32) (x2 : FVec Ideal S4x4096x64 .f32) (x3 : FVec Ideal S4x4096x16x128 .f32) (x4 x5 : FVec Ideal S4096x11008 .f32)
    (h : (fn (F := Ideal) x0 x1 x2 x3 x4 x5).1 = fun _ => 1#1) (i : S4x4096x16x192.Idx) : x0 i ≠ (⊤ : EReal) ∧ x0 i ≠ (⊥ : EReal) :=
  real_of_lt _ (congrFun h i)

theorem real1 (x0 : FVec Ideal S4x4096x16x192 .f32) (x1 : FVec Ideal S4x4096x16x128 .f32) (x2 : FVec Ideal S4x4096x64 .f32) (x3 : FVec Ideal S4x4096x16x128 .f32) (x4 x5 : FVec Ideal S4096x11008 .f32)
    (h : (fn (F := Ideal) x0 x1 x2 x3 x4 x5).2.1 = fun _ => 1#1) (i : S4x4096x16x128.Idx) : x1 i ≠ (⊤ : EReal) ∧ x1 i ≠ (⊥ : EReal) :=
  real_of_lt _ (congrFun h i)

theorem real2 (x0 : FVec Ideal S4x4096x16x192 .f32) (x1 : FVec Ideal S4x4096x16x128 .f32) (x2 : FVec Ideal S4x4096x64 .f32) (x3 : FVec Ideal S4x4096x16x128 .f32) (x4 x5 : FVec Ideal S4096x11008 .f32)
    (h : (fn (F := Ideal) x0 x1 x2 x3 x4 x5).2.2 = fun _ => 1#1) (i : S4x4096x64.Idx) : x2 i ≠ (⊤ : EReal) ∧ x2 i ≠ (⊥ : EReal) :=
  real_of_lt _ (congrFun h i)

end Cert.Pre_keys_finite
-- ==== Proof.RefMax.lean ====
/-
  The row maximum as the reference takes it.
-/
module

public import proofs.«01_k».proof.Proof.Gen.ReferenceIdeal.Read
public import Idealize.ShloMosaic.Lib.Pointwise

@[expose] public section

noncomputable section

namespace Cert.ReferenceIdeal.Mla

open Idealize.ShloMosaic Idealize.ShloMosaic.TcCoe Cert.ReferenceIdeal Cert.ReferenceIdeal.Gen Cert.ReferenceIdeal.Read

theorem ninf : Ideal.ofBits FTy.f32 4286578688#32 = ⊥ := by simp [Ideal.ofBits, Ideal.ieee]

/-- The maximum over the keys, begun at −∞, is the supremum of the row. -/
theorem rmax (X : FVec Ideal S4x16x4096x4096 .f32) (I : FVec Ideal S_ .f32) (hI : ∀ i, I i = ⊥) (b : Fin 4) (h : Fin 16) (s : Fin 4096) :
    Host.reduce FloatOps.maximumf X I reducesTo_S4x16x4096x4096_S4x16x4096_d3 h_S_ (ix3 b h s) = Finset.univ.sup fun c => X (ix4 b h s c) := by
  pointwise
  rw [hI]
  rfl

/-- A row's weights before the division: the exponential of the score less the row's maximum. -/
theorem v20_apply (q : FVec Ideal S4x4096x16x192 .f32) (kn : FVec Ideal S4x4096x16x128 .f32) (kp : FVec Ideal S4x4096x64 .f32) (b : Fin 4) (h : Fin 16) (s c : Fin 4096) :
    val_main_v20 (F := Ideal) q kn kp (ix4 b h s c) = Ideal.exp (val_main_v13 (F := Ideal) q kn kp (ix4 b h s c)
      - Finset.univ.sup fun c => val_main_v13 (F := Ideal) q kn kp (ix4 b h s c)) := by
  rw [val_main_v20_apply, val_main_v19_apply, val_main_v18_apply, val_main_v17_apply, val_main_v16_apply, val_main_v15_apply]
  rw [show idx_main_v17 (idx_main_v18 (ix4 b h s c)) = ix3 b h s from funext fun a => by match a with | ⟨0, _⟩ => rfl | ⟨1, _⟩ => rfl | ⟨2, _⟩ => rfl]
  unfold val_main_v14
  rw [rmax _ _ (fun i => (val_main_cst_1_apply (F := Ideal) i).trans ninf)]
  generalize val_main_v13 (F := Ideal) q kn kp = X
  show Ideal.exp (X _ - max (val_main_cst_2 (F := Ideal) _) _) = _
  rw [show val_main_cst_2 (F := Ideal) _ = (⊥ : EReal) from (val_main_cst_2_apply (F := Ideal) _).trans ninf, max_eq_right bot_le]

end Cert.ReferenceIdeal.Mla
-- ==== Proof.RefRead.lean ====
/-
  The reference's attention at one place of its result.
-/
module

public import proofs.«01_k».proof.Proof.RefMax
public import proofs.«01_k».proof.Proof.Spec

@[expose] public section

noncomputable section

namespace Cert.ReferenceIdeal.Mla

open Idealize.ShloMosaic Idealize.ShloMosaic.TcCoe Cert.ReferenceIdeal Cert.ReferenceIdeal.Gen Cert.ReferenceIdeal.Read

variable (q : FVec Ideal S4x4096x16x192 .f32) (kn : FVec Ideal S4x4096x16x128 .f32) (kp : FVec Ideal S4x4096x64 .f32) (v : FVec Ideal S4x4096x16x128 .f32)

/-- The masked score of the reference. -/
theorem v13_apply (b : Fin 4) (h : Fin 16) (s c : Fin 4096) : val_main_v13 (F := Ideal) q kn kp (ix4 b h s c)
      = if c.val ≤ s.val then Cert.Mla.score (fun k => q (ix4 b s h k)) (fun k => kn (ix4 b c h k)) (fun k => kp (ix3 b c k)) else ⊥ := by
  pointwise [val_main_v13, val_main_v12, val_main_v11, val_main_v10, val_main_v9, val_main_v8,val_main_v7, val_main_v6,val_main_v5,val_main_v4,val_main_v3,val_main_v2,val_main_v1,val_main_v0,val_main_cst, val_main_cst_0,val_main_call0_v0,val_main_call0_v1,val_main_call0_v2]
  have e : (IntOp.cmpi CmpIPredicate.sle (BitVec.ofNat 32 c.val) (BitVec.ofNat 32 s.val)) = BitVec.ofBool (decide (c.val ≤ s.val)) := by
    show BitVec.ofBool (BitVec.sle (BitVec.ofNat 32 c.val) (BitVec.ofNat 32 s.val)) = _
    congr 1
    have h1 : (BitVec.ofNat 32 c.val).toNat = c.val := by rw [BitVec.toNat_ofNat]; omega
    have h2 : (BitVec.ofNat 32 s.val).toNat = s.val := by rw [BitVec.toNat_ofNat]; omega
    rw [BitVec.sle_eq_decide, BitVec.toInt_eq_toNat_of_lt (by omega), BitVec.toInt_eq_toNat_of_lt (by omega), h1, h2]
    simp only [Nat.cast_le]
  rw [e]
  by_cases hc : c.val ≤ s.val
  · rw [if_pos hc, decide_eq_true hc]; rfl
  · rw [if_neg hc, decide_eq_false hc]; exact ninf

/-- THE REFERENCE'S RESULT: the softmax of the row's masked scores summed against the values. -/
theorem v28_apply (R : Fin 16384) (C : Fin 2048) : val_main_v28 (F := Ideal) q kn kp v (ix2 R C)
    = Cert.Mla.attn (fun c => if c.val ≤ R.val % 4096 then Cert.Mla.score
          (fun k => q (ix4 (⟨R.val / 4096, by omega⟩ : Fin 4) (⟨R.val % 4096, by omega⟩ : Fin 4096) (⟨C.val / 128, by omega⟩ : Fin 16) k))
          (fun k => kn (ix4 (⟨R.val / 4096, by omega⟩ : Fin 4) c (⟨C.val / 128, by omega⟩ : Fin 16) k))
          (fun k => kp (ix3 (⟨R.val / 4096, by omega⟩ : Fin 4) c k)) else ⊥)
        fun c => v (ix4 (⟨R.val / 4096, by omega⟩ : Fin 4) c (⟨C.val / 128, by omega⟩ : Fin 16) (⟨C.val % 128, by omega⟩ : Fin 128)) := by
  have z : val_main_cst_3 (F := Ideal) (Shape.Idx.first h_S_) = (0 : EReal) := by
    rw [val_main_cst_3_apply]
    exact Ideal.ofBits_zero _
  pointwise [val_main_v28, val_main_v27, val_main_v26, val_main_v25, val_main_v24, val_main_v23, val_main_v22, val_main_v21]
  simp only [v20_apply, v13_apply, z, zero_add]
  rfl

end Cert.ReferenceIdeal.Mla
-- ==== Proof.AttnClaim.lean ====
/-
  The claims about the attention's call.
-/
module

public import proofs.«01_k».proof.Defs
public import proofs.«01_k».proof.Proof.Arr
public import proofs.«01_k».proof.Proof.Casts
public import proofs.«01_k».proof.Proof.Finite
public import proofs.«01_k».proof.Proof.RefRead
public import proofs.«01_k».proof.Proof.Gen.Kernel.Frame

@[expose] public section

noncomputable section

namespace Cert.Proof

open Idealize.ShloMosaic Idealize.ShloMosaic.TcCoe Idealize.SL.Sem

/-- The kernel's name for its mask is −∞. -/
theorem preserves_mla : Cert.preserves_Kernel_KernelIdeal :=
  IdealRules.named_const.statement Cert.KernelIdeal.κ "mask" .f32 0xFF7F0000#32 ⊥ rfl

attribute [local instance] Cert.Pre_keys_finite.facts_hold

variable (m : (ℓ : Loc Cert.KernelIdeal.nD Cert.KernelIdeal.τ Cert.KernelIdeal.sig) → Buf (Elt Ideal) ℓ) (g : Dev Cert.KernelIdeal.nD → PrngReg)

section
open Cert.KernelIdeal

/-- The attention's result of the arguments `m` holds. -/
def out0 (c : Dev nD) : Buf (Elt Ideal) ((c : Thread nD τ).loc main_v17_0) := fun p : S16384x2048.Idx =>
  Cert.KernelIdeal.Mla.res (m ((c : Thread nD τ).loc main_arg0)) (m ((c : Thread nD τ).loc main_arg1)) (m ((c : Thread nD τ).loc main_arg2)) (m ((c : Thread nD τ).loc main_arg3)) (p 0) (p 1)
def out1 (c : Dev nD) : Buf (Elt Ideal) ((c : Thread nD τ).loc main_v17_1) := Cert.KernelIdeal.Mla.castW (m ((c : Thread nD τ).loc main_arg4))
def out2 (c : Dev nD) : Buf (Elt Ideal) ((c : Thread nD τ).loc main_v17_2) := Cert.KernelIdeal.Mla.castW (m ((c : Thread nD τ).loc main_arg5))
end

/-- The reference's attention is the same function of the arguments. -/
theorem ref_res (q : FVec Ideal Cert.ReferenceIdeal.S4x4096x16x192 .f32) (kn : FVec Ideal Cert.ReferenceIdeal.S4x4096x16x128 .f32) (kp : FVec Ideal Cert.ReferenceIdeal.S4x4096x64 .f32) (v : FVec Ideal Cert.ReferenceIdeal.S4x4096x16x128 .f32) :
    Cert.ReferenceIdeal.Read.val_main_v28 (F := Ideal) q kn kp v = fun p : Cert.ReferenceIdeal.S16384x2048.Idx => Cert.KernelIdeal.Mla.res q kn kp v (p 0) (p 1) := by
  funext p
  obtain ⟨R, C, rfl⟩ : ∃ (R : Fin 16384) (C : Fin 2048), ix2 R C = p := ⟨p 0, p 1, funext fun a => by match a with | ⟨0, _⟩ => rfl | ⟨1, _⟩ => rfl⟩
  exact Cert.ReferenceIdeal.Mla.v28_apply q kn kp v R C

/-- THE VALUE CLAIM of the attention. -/
theorem algebraic_mla : Cert.algebraic_KernelIdeal_ReferenceIdeal_pre_keys_finite (hKernelIdeal := Cert.KernelIdeal.Gen.facts)
    (hReferenceIdeal := Cert.ReferenceIdeal.Gen.facts) (hPre_keys_finite := Cert.Pre_keys_finite.facts_hold) :=
  fun m ρ m' ρ' hpre hag => ⟨out0 m, out1 m, out2 m,
    (θ_run _ _ _).mono (fun _ h c => ⟨(h c).1.trans (Cert.KernelIdeal.Mla.final6 m c
        (Cert.Pre_keys_finite.real0 _ _ _ _ _ _ (hpre c).1) (Cert.Pre_keys_finite.real1 _ _ _ _ _ _ (hpre c).2.1) (Cert.Pre_keys_finite.real2 _ _ _ _ _ _ (hpre c).2.2)),
      (h c).2.1.trans (Cert.KernelIdeal.Mla.final7 m c), (h c).2.2.1.trans (Cert.KernelIdeal.Mla.final8 m c), (h c).2.2.2⟩)
      (Cert.KernelIdeal.Value.run_blocks m ρ),
    (θ_run _ _ _).mono (fun _ h c => ⟨(h c).1.trans ((Cert.ReferenceIdeal.Read.val_main_v28_eq m' c).trans (by
          obtain ⟨h0, h1, h2, h3, h4, h5⟩ := hag c
          rw [h0, h1, h2, h3]
          exact ref_res _ _ _ _)),
      (h c).2.1.trans (by rw [(hag c).2.2.2.2.1]; rfl), (h c).2.2.1.trans (by rw [(hag c).2.2.2.2.2]; rfl), (h c).2.2.2⟩)
      (Cert.ReferenceIdeal.Value.run m' ρ')⟩

end Cert.Proof
-- ==== Proof.FfnVals.lean ====
/-
  What the feed-forward kernel computes on one tile of 512 rows, as functions of the blocks it reads: the
  normalised tile, one update of the accumulator by a chunk of the inner features, and the finishing step.
-/
module

public import proofs.«01_k».proof.Proof.Gen.Kernel2Ideal.Skeleton
public import Idealize.ShloMosaic.Lib.Pointwise

@[expose] public section

set_option maxRecDepth 16384

noncomputable section

namespace Cert.Kernel2Ideal.Ffn

open Idealize.ShloMosaic Idealize.ShloMosaic.TcCoe Cert.Kernel2Ideal Cert.Kernel2Ideal.Gen

variable {F : FTy → Type} [FloatOps F]

/-- Rows `64 k … 64 k + 63` of a tile. -/
def rows64 {e : EltTy} (x : Vec F S512x4096 e) (k : ℕ) : Vec F S64x4096 e :=
  fun z => x (ix2 ⟨(64 * k + (z (0 : Fin 2)).val) % 512, Nat.mod_lt _ (by decide)⟩ (z (1 : Fin 2)))

/-- Columns `1024 q … 1024 q + 1023` of a tile of the accumulator. -/
def colsO (x : Vec F S512x4096 .f32) (q : ℕ) : Vec F S512x1024 .f32 :=
  fun z => x (ix2 (z (0 : Fin 2)) ⟨(1024 * q + (z (1 : Fin 2)).val) % 4096, Nat.mod_lt _ (by decide)⟩)

/-- Columns `1024 q … 1024 q + 1023` of a chunk of the down projection. -/
def colsW (x : Vec F S256x4096 .bf16) (q : ℕ) : Vec F S256x1024 .bf16 :=
  fun z => x (ix2 (z (0 : Fin 2)) ⟨(1024 * q + (z (1 : Fin 2)).val) % 4096, Nat.mod_lt _ (by decide)⟩)

/-- The tile before the projections: the rows of `h`, normalised and scaled, 64 rows at a time. -/
def preF (h : Vec F S512x4096 .f32) (g : Vec F S1x4096 .f32) : Vec F S512x4096 .bf16 :=
  fun y => k0_pay4 (rows64 h ((y (0 : Fin 2)).val / 64)) g (ix2 ⟨(y (0 : Fin 2)).val % 64, Nat.mod_lt _ (by decide)⟩ (y (1 : Fin 2)))

/-- The accumulator at the start. -/
def zeroO : Vec F S512x4096 .f32 := fun _ => Scalar.ofBits .f32 0x00000000#32

/-- The accumulator after one chunk of the inner features, 1024 columns at a time. -/
def upd (f : Vec F S512x4096 .bf16) (wg wu : Vec F S4096x256 .bf16) (wd : Vec F S256x4096 .bf16) (o : Vec F S512x4096 .f32) : Vec F S512x4096 .f32 :=
  fun y => k0_pay1 (k0_pay6 f wg wu) (colsO o ((y (1 : Fin 2)).val / 1024)) (colsW wd ((y (1 : Fin 2)).val / 1024))
    (ix2 (y (0 : Fin 2)) ⟨(y (1 : Fin 2)).val % 1024, Nat.mod_lt _ (by decide)⟩)

/-- The finished tile: the accumulator's rows normalised and scaled, added to the rows of `h`. -/
def finF (h o : Vec F S512x4096 .f32) (g : Vec F S1x4096 .f32) : Vec F S512x4096 .f32 :=
  fun y => k0_pay3 (rows64 h ((y (0 : Fin 2)).val / 64)) (rows64 o ((y (0 : Fin 2)).val / 64)) g
    (ix2 ⟨(y (0 : Fin 2)).val % 64, Nat.mod_lt _ (by decide)⟩ (y (1 : Fin 2)))

end Cert.Kernel2Ideal.Ffn

end
-- ==== Proof.FfnLoops.lean ====
/-
  What the feed-forward kernel's two loops over the rows of a tile leave in the buffers they write.
-/
module

public import proofs.«01_k».proof.Proof.FfnVals
public import proofs.«01_k».proof.Proof.Gen.Kernel2Ideal.Loops
public import Idealize.ShloMosaic.Lib.WritesUnit
public import Idealize.ShloMosaic.Lib.VecWindow

@[expose] public section

set_option maxRecDepth 16384

noncomputable section

namespace Cert.Kernel2Ideal.Ffn

open Idealize.ShloMosaic Idealize.ShloMosaic.TcCoe Cert.Kernel2Ideal Cert.Kernel2Ideal.Gen

variable {F : FTy → Type} [FloatOps F]

variable (𝒱 : Variants) (c : Dev nD) (bd : Option 𝒱.V) (i : grid0.Coords) (arg2 : Memref sig .tc .vmem S512x4096 .f32) (harg2 : arg2.IsWhole) (arg3 : Memref sig .tc .vmem S1x4096 .f32) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x4096 .bf16) (harg6 : arg6.IsWhole) (arg7 : Memref sig .tc .vmem S1x4096 .f32) (harg7 : arg7.IsWhole) (arg8 : Memref sig .tc .vmem S512x4096 .f32) (harg8 : arg8.IsWhole) (arg9 : Memref sig .tc .vmem S512x4096 .bf16) (harg9 : arg9.IsWhole)

unseal trip_k0_t1 in
/-- The first loop's trip stores zeros in its 64 rows of the accumulator. -/
theorem trip1_o (k0_h1 : k0_cond1 i = 1#1) (X2 : BufTy.Contents (Elt F) arg2.view.ty) (X3 : BufTy.Contents (Elt F) arg3.view.ty) (k : Fin k0_t1_loop.trips) :
    (trip_k0_t1 (F := F) 𝒱 c bd i arg2 harg2 arg3 harg3 arg4 harg4 arg5 harg5 arg6 harg6 arg7 harg7 arg8 harg8 arg9 harg9 k0_h1 X2 X3 k).1 =
      [⟨Rect.unit (s := S512x4096) (k0_off1 k) S64x4096.size (k0_off1_inb i k k0_h1), k0_pay5⟩] := by
  unfold trip_k0_t1; dsimp only

unseal trip_k0_t1 in
/-- The first loop's trip stores the normalised rows in its 64 rows of the scratch. -/
theorem trip1_f (k0_h1 : k0_cond1 i = 1#1) (X2 : BufTy.Contents (Elt F) arg2.view.ty) (X3 : BufTy.Contents (Elt F) arg3.view.ty) (k : Fin k0_t1_loop.trips) :
    (trip_k0_t1 (F := F) 𝒱 c bd i arg2 harg2 arg3 harg3 arg4 harg4 arg5 harg5 arg6 harg6 arg7 harg7 arg8 harg8 arg9 harg9 k0_h1 X2 X3 k).2.1 =
      [⟨Rect.unit (s := S512x4096) (k0_off1 k) S64x4096.size (k0_off1_inb i k k0_h1),
        k0_pay4 (View.readAt (Elt F) arg2.view (Rect.unit (s := S512x4096) (k0_off1 k) S64x4096.size (k0_off1_inb i k k0_h1)).toLoadRect X2)
          (View.readAt (Elt F) arg3.view (Rect.unit (s := S1x4096) ![0, 0] S1x4096.size inb_S1x4096_S1x4096_0_0).toLoadRect X3)⟩] := by
  unfold trip_k0_t1; dsimp only

unseal trip_k0_t2 in
/-- The second loop's trip stores the finished rows in its 64 rows of the accumulator. -/
theorem trip2_o (k0_h2 : k0_cond2 i = 1#1) (X2 : BufTy.Contents (Elt F) arg2.view.ty) (X7 : BufTy.Contents (Elt F) arg7.view.ty) (k : Fin k0_t2_loop.trips) (f8 : BufTy.Contents (Elt F) arg8.view.ty) :
    (trip_k0_t2 (F := F) 𝒱 c bd i arg2 harg2 arg3 harg3 arg4 harg4 arg5 harg5 arg6 harg6 arg7 harg7 arg8 harg8 arg9 harg9 k0_h2 X2 X7 k).1 f8 =
      [⟨Rect.unit (s := S512x4096) (k0_off2 k) S64x4096.size (k0_off2_inb i k k0_h2),
        k0_pay3 (View.readAt (Elt F) arg2.view (Rect.unit (s := S512x4096) (k0_off2 k) S64x4096.size (k0_off2_inb i k k0_h2)).toLoadRect X2)
          (View.readAt (Elt F) arg8.view (Rect.unit (s := S512x4096) (k0_off2 k) S64x4096.size (k0_off2_inb i k k0_h2)).toLoadRect f8)
          (View.readAt (Elt F) arg7.view (Rect.unit (s := S1x4096) ![0, 0] S1x4096.size inb_S1x4096_S1x4096_0_0).toLoadRect X7)⟩] := by
  unfold trip_k0_t2; dsimp only

theorem trips1 : k0_t1_loop.trips = 8 := by decide +kernel
theorem trips2 : k0_t2_loop.trips = 8 := by decide +kernel

/-- The rows of a trip, read through the buffer. -/
theorem readRows {e : EltTy} (v : View sig .tc .vmem S512x4096 e) (f : v.ty.Contents (Elt F)) {off : Fin 2 → ℕ} (k : ℕ) (hk : k < 8)
    (hoff : off = ![64 * k, 0]) (inb : ∀ a, off a + S64x4096.size a ≤ S512x4096.size a) :
    View.readAt (Elt F) v (Rect.unit (s := S512x4096) off S64x4096.size inb).toLoadRect f = rows64 (v.read (Elt F) f) k := by
  subst hoff
  funext z
  have h0 : (z (0 : Fin 2)).val < 64 := (z (0 : Fin 2)).isLt
  show v.read (Elt F) f ((Rect.unit (s := S512x4096) ![64 * k, 0] S64x4096.size inb).emb z) = _
  unfold rows64
  congr 1
  funext a
  refine Fin.ext ?_
  fin_cases a
  · show 64 * k + 1 * (z (0 : Fin 2)).val = (64 * k + (z (0 : Fin 2)).val) % 512
    omega
  · show 0 + 1 * (z (1 : Fin 2)).val = (z (1 : Fin 2)).val
    omega

/-- A whole vector of scales, read through the buffer. -/
theorem readScale (v : View sig .tc .vmem S1x4096 .f32) (f : v.ty.Contents (Elt F)) :
    View.readAt (Elt F) v (Rect.unit (s := S1x4096) ![0, 0] S1x4096.size inb_S1x4096_S1x4096_0_0).toLoadRect f = v.read (Elt F) f := by
  funext z
  show v.read (Elt F) f ((Rect.unit (s := S1x4096) ![0, 0] S1x4096.size inb_S1x4096_S1x4096_0_0).emb z) = _
  congr 1
  funext a
  refine Fin.ext ?_
  fin_cases a
  · show 0 + 1 * (z (0 : Fin 2)).val = (z (0 : Fin 2)).val
    omega
  · show 0 + 1 * (z (1 : Fin 2)).val = (z (1 : Fin 2)).val
    omega

/-- One piece of 64 rows over a buffer: its rows read the payload, the others what was there. -/
theorem rows_step {e : EltTy} (v : View sig .tc .vmem S512x4096 e) (f : v.ty.Contents (Elt F)) {off : Fin 2 → ℕ} (k : ℕ)
    (hoff : off = ![64 * k, 0]) (inb : ∀ a, off a + S64x4096.size a ≤ S512x4096.size a) (w : Vec F S64x4096 e) (L : List (View.Piece (Elt F) S512x4096 e))
    (y : S512x4096.Idx) :
    v.read (Elt F) (v.writes (Elt F) f ([⟨Rect.unit (s := S512x4096) off S64x4096.size inb, w⟩] ++ L)) y =
      if (y (0 : Fin 2)).val / 64 = k then w (ix2 ⟨(y (0 : Fin 2)).val % 64, Nat.mod_lt _ (by decide)⟩ (y (1 : Fin 2)))
      else v.read (Elt F) (v.writes (Elt F) f L) y := by
  split
  · next h =>
    exact View.read_writes_cons_rows_of_mem v f inb w L y (ix2 ⟨(y (0 : Fin 2)).val % 64, Nat.mod_lt _ (by decide)⟩ (y (1 : Fin 2))) hoff
      (by show (y (0 : Fin 2)).val = 64 * k + (y (0 : Fin 2)).val % 64; omega) rfl
  · next h =>
    exact View.read_writes_cons_rows_of_not_mem v f inb w L y hoff (W := 64) rfl (by omega)

/-- The accumulator after the first `n` trips of the first loop. -/
theorem loop1_o (k0_h1 : k0_cond1 i = 1#1) (X2 : BufTy.Contents (Elt F) arg2.view.ty) (X3 : BufTy.Contents (Elt F) arg3.view.ty) (G : BufTy.Contents (Elt F) arg8.view.ty) (n : ℕ) (hn : n ≤ 8) (y : S512x4096.Idx)
    (hy : (y (0 : Fin 2)).val / 64 < n) :
    arg8.view.read (Elt F) (arg8.view.writes (Elt F) G (pb_k0_t1 (F := F) 𝒱 c bd i arg2 harg2 arg3 harg3 arg4 harg4 arg5 harg5 arg6 harg6 arg7 harg7 arg8 harg8 arg9 harg9 k0_h1 X2 X3 n).1) y = zeroO y := by
  induction n with
  | zero => omega
  | succ n ih =>
    have hs := pb_k0_t1_succ (F := F) 𝒱 c bd i arg2 harg2 arg3 harg3 arg4 harg4 arg5 harg5 arg6 harg6 arg7 harg7 arg8 harg8 arg9 harg9 k0_h1 X2 X3 ⟨n, by rw [trips1]; omega⟩
    rw [hs]
    dsimp only [tripL_k0_t1]
    rw [trip1_o, rows_step _ _ n (k0_off1_eq _)]
    split
    · rfl
    · exact ih (by omega) (by omega)

/-- The scratch after the first `n` trips of the first loop. -/
theorem loop1_f (k0_h1 : k0_cond1 i = 1#1) (X2 : BufTy.Contents (Elt F) arg2.view.ty) (X3 : BufTy.Contents (Elt F) arg3.view.ty) (G : BufTy.Contents (Elt F) arg9.view.ty) (n : ℕ) (hn : n ≤ 8) (y : S512x4096.Idx)
    (hy : (y (0 : Fin 2)).val / 64 < n) :
    arg9.view.read (Elt F) (arg9.view.writes (Elt F) G (pb_k0_t1 (F := F) 𝒱 c bd i arg2 harg2 arg3 harg3 arg4 harg4 arg5 harg5 arg6 harg6 arg7 harg7 arg8 harg8 arg9 harg9 k0_h1 X2 X3 n).2) y =
      preF (arg2.view.read (Elt F) X2) (arg3.view.read (Elt F) X3) y := by
  induction n with
  | zero => omega
  | succ n ih =>
    have hs := pb_k0_t1_succ (F := F) 𝒱 c bd i arg2 harg2 arg3 harg3 arg4 harg4 arg5 harg5 arg6 harg6 arg7 harg7 arg8 harg8 arg9 harg9 k0_h1 X2 X3 ⟨n, by rw [trips1]; omega⟩
    rw [hs]
    dsimp only [tripL_k0_t1]
    rw [trip1_f, rows_step _ _ n (k0_off1_eq _), readRows _ _ n (by omega) (k0_off1_eq _), readScale]
    split
    · next h => unfold preF; rw [h]
    · exact ih (by omega) (by omega)

/-- The accumulator after the first `n` trips of the second loop. -/
theorem loop2_o (k0_h2 : k0_cond2 i = 1#1) (X2 : BufTy.Contents (Elt F) arg2.view.ty) (X7 : BufTy.Contents (Elt F) arg7.view.ty) (G : BufTy.Contents (Elt F) arg8.view.ty) (n : ℕ) (hn : n ≤ 8) (y : S512x4096.Idx) :
    arg8.view.read (Elt F) (arg8.view.writes (Elt F) G (pb_k0_t2 (F := F) 𝒱 c bd i arg2 harg2 arg3 harg3 arg4 harg4 arg5 harg5 arg6 harg6 arg7 harg7 arg8 harg8 arg9 harg9 k0_h2 X2 X7 G n)) y =
      if (y (0 : Fin 2)).val / 64 < n then finF (arg2.view.read (Elt F) X2) (arg8.view.read (Elt F) G) (arg7.view.read (Elt F) X7) y
      else arg8.view.read (Elt F) G y := by
  induction n generalizing y with
  | zero => rw [if_neg (by omega)]; rfl
  | succ n ih =>
    have hs := pb_k0_t2_succ (F := F) 𝒱 c bd i arg2 harg2 arg3 harg3 arg4 harg4 arg5 harg5 arg6 harg6 arg7 harg7 arg8 harg8 arg9 harg9 k0_h2 X2 X7 G ⟨n, by rw [trips2]; omega⟩
    rw [hs]
    dsimp only [tripL_k0_t2]
    rw [trip2_o, rows_step _ _ n (k0_off2_eq _), readRows _ _ n (by omega) (k0_off2_eq _), readRows _ _ n (by omega) (k0_off2_eq _), readScale]
    have hr : rows64 (arg8.view.read (Elt F) (arg8.view.writes (Elt F) G (pb_k0_t2 (F := F) 𝒱 c bd i arg2 harg2 arg3 harg3 arg4 harg4 arg5 harg5 arg6 harg6 arg7 harg7 arg8 harg8 arg9 harg9 k0_h2 X2 X7 G n))) n
        = rows64 (arg8.view.read (Elt F) G) n := by
      funext z
      have h0 : (z (0 : Fin 2)).val < 64 := (z (0 : Fin 2)).isLt
      unfold rows64
      rw [ih (by omega), if_neg]
      show ¬ ((64 * n + (z (0 : Fin 2)).val) % 512) / 64 < n
      omega
    rw [hr]
    split
    · next h => rw [if_pos (by omega)]; unfold finF; rw [h]
    · next h =>
      rw [ih (by omega)]
      by_cases h' : (y (0 : Fin 2)).val / 64 < n
      · rw [if_pos h', if_pos (by omega)]
      · rw [if_neg h', if_neg (by omega)]

end Cert.Kernel2Ideal.Ffn

end
-- ==== Proof.FfnChunks.lean ====
/-
  The four column chunks of one update of the feed-forward kernel's accumulator, stored one after another.
-/
module

public import proofs.«01_k».proof.Proof.FfnVals
public import Idealize.ShloMosaic.Lib.WritesUnit
public import Idealize.ShloMosaic.Lib.VecWindow

@[expose] public section

set_option maxRecDepth 16384

noncomputable section

namespace Cert.Kernel2Ideal.Ffn

open Idealize.ShloMosaic Idealize.ShloMosaic.TcCoe Cert.Kernel2Ideal Cert.Kernel2Ideal.Gen

variable {F : FTy → Type} [FloatOps F]

/-- The columns of a chunk, read through the accumulator's buffer. -/
theorem readColsO (v : View sig .tc .vmem S512x4096 .f32) (f : v.ty.Contents (Elt F)) {off : Fin 2 → ℕ} (q : ℕ) (hq : q < 4)
    (hoff : off = ![0, 1024 * q]) (inb : ∀ a, off a + S512x1024.size a ≤ S512x4096.size a) :
    View.readAt (Elt F) v (Rect.unit (s := S512x4096) off S512x1024.size inb).toLoadRect f = colsO (v.read (Elt F) f) q := by
  subst hoff
  funext z
  have h0 : (z (1 : Fin 2)).val < 1024 := (z (1 : Fin 2)).isLt
  show v.read (Elt F) f ((Rect.unit (s := S512x4096) ![0, 1024 * q] S512x1024.size inb).emb z) = _
  unfold colsO
  congr 1
  funext a
  refine Fin.ext ?_
  fin_cases a
  · show 0 + 1 * (z (0 : Fin 2)).val = (z (0 : Fin 2)).val
    omega
  · show 1024 * q + 1 * (z (1 : Fin 2)).val = (1024 * q + (z (1 : Fin 2)).val) % 4096
    omega

/-- The columns of a chunk, read through the down projection's buffer. -/
theorem readColsW (v : View sig .tc .vmem S256x4096 .bf16) (f : v.ty.Contents (Elt F)) {off : Fin 2 → ℕ} (q : ℕ) (hq : q < 4)
    (hoff : off = ![0, 1024 * q]) (inb : ∀ a, off a + S256x1024.size a ≤ S256x4096.size a) :
    View.readAt (Elt F) v (Rect.unit (s := S256x4096) off S256x1024.size inb).toLoadRect f = colsW (v.read (Elt F) f) q := by
  subst hoff
  funext z
  have h0 : (z (1 : Fin 2)).val < 1024 := (z (1 : Fin 2)).isLt
  show v.read (Elt F) f ((Rect.unit (s := S256x4096) ![0, 1024 * q] S256x1024.size inb).emb z) = _
  unfold colsW
  congr 1
  funext a
  refine Fin.ext ?_
  fin_cases a
  · show 0 + 1 * (z (0 : Fin 2)).val = (z (0 : Fin 2)).val
    omega
  · show 1024 * q + 1 * (z (1 : Fin 2)).val = (1024 * q + (z (1 : Fin 2)).val) % 4096
    omega

/-- One piece of 1024 columns over a buffer: its columns read the payload, the others what was there. -/
theorem cols_step (v : View sig .tc .vmem S512x4096 .f32) (f : v.ty.Contents (Elt F)) {off : Fin 2 → ℕ} (q : ℕ)
    (hoff : off = ![0, 1024 * q]) (inb : ∀ a, off a + S512x1024.size a ≤ S512x4096.size a) (w : Vec F S512x1024 .f32) (L : List (View.Piece (Elt F) S512x4096 .f32))
    (y : S512x4096.Idx) :
    v.read (Elt F) (v.writes (Elt F) f (⟨Rect.unit (s := S512x4096) off S512x1024.size inb, w⟩ :: L)) y =
      if (y (1 : Fin 2)).val / 1024 = q then w (ix2 (y (0 : Fin 2)) ⟨(y (1 : Fin 2)).val % 1024, Nat.mod_lt _ (by decide)⟩)
      else v.read (Elt F) (v.writes (Elt F) f L) y := by
  split
  · next h =>
    refine View.read_writes_cons_unit_of_mem v f inb w L y (ix2 (y (0 : Fin 2)) ⟨(y (1 : Fin 2)).val % 1024, Nat.mod_lt _ (by decide)⟩) hoff
      (Fin.forall_fin_two.mpr ⟨?_, ?_⟩)
    · show (y (0 : Fin 2)).val = 0 + (y (0 : Fin 2)).val
      omega
    · show (y (1 : Fin 2)).val = 1024 * q + (y (1 : Fin 2)).val % 1024
      omega
  · next h =>
    refine View.read_writes_cons_unit_of_not_mem v f inb w L y hoff (1 : Fin 2) ?_
    show (y (1 : Fin 2)).val < 1024 * q ∨ 1024 * q + 1024 ≤ (y (1 : Fin 2)).val
    omega

/-- The accumulator with its first `n` chunks updated. -/
def updN (act : Vec F S512x256 .bf16) (wd : Vec F S256x4096 .bf16) (o : Vec F S512x4096 .f32) (n : ℕ) : Vec F S512x4096 .f32 :=
  fun y => if (y (1 : Fin 2)).val / 1024 < n then
      k0_pay1 act (colsO o ((y (1 : Fin 2)).val / 1024)) (colsW wd ((y (1 : Fin 2)).val / 1024))
        (ix2 (y (0 : Fin 2)) ⟨(y (1 : Fin 2)).val % 1024, Nat.mod_lt _ (by decide)⟩)
    else o y

/-- One chunk more. -/
theorem updN_step (v : View sig .tc .vmem S512x4096 .f32) (f : v.ty.Contents (Elt F)) (v6 : View sig .tc .vmem S256x4096 .bf16) (f6 : v6.ty.Contents (Elt F))
    (act : Vec F S512x256 .bf16) (o : Vec F S512x4096 .f32) (n : ℕ) (hn : n < 4)
    {off off6 : Fin 2 → ℕ} (hoff : off = ![0, 1024 * n]) (hoff6 : off6 = ![0, 1024 * n])
    (inb : ∀ a, off a + S512x1024.size a ≤ S512x4096.size a) (inb6 : ∀ a, off6 a + S256x1024.size a ≤ S256x4096.size a)
    (L : List (View.Piece (Elt F) S512x4096 .f32))
    (h : v.read (Elt F) (v.writes (Elt F) f L) = updN act (v6.read (Elt F) f6) o n) :
    v.read (Elt F) (v.writes (Elt F) f (⟨Rect.unit (s := S512x4096) off S512x1024.size inb,
        k0_pay1 act (View.readAt (Elt F) v (Rect.unit (s := S512x4096) off S512x1024.size inb).toLoadRect (v.writes (Elt F) f L))
          (View.readAt (Elt F) v6 (Rect.unit (s := S256x4096) off6 S256x1024.size inb6).toLoadRect f6)⟩ :: L))
      = updN act (v6.read (Elt F) f6) o (n + 1) := by
  rw [readColsO v _ n hn hoff, readColsW v6 _ n hn hoff6, h]
  have hc : colsO (updN act (v6.read (Elt F) f6) o n) n = colsO o n := by
    funext z
    have h0 : (z (1 : Fin 2)).val < 1024 := (z (1 : Fin 2)).isLt
    show (if ((1024 * n + (z (1 : Fin 2)).val) % 4096) / 1024 < n then _ else _) = _
    rw [if_neg (by omega)]
    rfl
  rw [hc]
  funext y
  rw [cols_step v f n hoff, h]
  unfold updN
  by_cases h1 : (y (1 : Fin 2)).val / 1024 = n
  · rw [if_pos h1, if_pos (by omega), h1]
  · by_cases h2 : (y (1 : Fin 2)).val / 1024 < n
    · rw [if_neg h1, if_pos h2, if_pos (by omega)]
    · rw [if_neg h1, if_neg h2, if_neg (by omega)]

theorem updN_zero (act : Vec F S512x256 .bf16) (wd : Vec F S256x4096 .bf16) (o : Vec F S512x4096 .f32) : updN act wd o 0 = o := by
  funext y; exact if_neg (by omega)

theorem updN_four (f : Vec F S512x4096 .bf16) (wg wu : Vec F S4096x256 .bf16) (wd : Vec F S256x4096 .bf16) (o : Vec F S512x4096 .f32) :
    updN (k0_pay6 f wg wu) wd o 4 = upd f wg wu wd o := by
  funext y
  have h : (y (1 : Fin 2)).val < 4096 := (y (1 : Fin 2)).isLt
  exact if_pos (by omega)

/-- The four chunks stored one after another, over what the buffer held. -/
theorem chunks4 (v : View sig .tc .vmem S512x4096 .f32) (f : v.ty.Contents (Elt F)) (v6 : View sig .tc .vmem S256x4096 .bf16) (f6 : v6.ty.Contents (Elt F))
    (act : Vec F S512x256 .bf16) (x : Vec F S512x4096 .bf16) (wg wu : Vec F S4096x256 .bf16) (hact : act = k0_pay6 x wg wu)
    (L L1 L2 L3 L4 : List (View.Piece (Elt F) S512x4096 .f32))
    (h1 : L1 = ⟨Rect.unit (s := S512x4096) ![0, 0] S512x1024.size inb_S512x4096_S512x1024_0_0,
        k0_pay1 act (View.readAt (Elt F) v (Rect.unit (s := S512x4096) ![0, 0] S512x1024.size inb_S512x4096_S512x1024_0_0).toLoadRect (v.writes (Elt F) f L))
          (View.readAt (Elt F) v6 (Rect.unit (s := S256x4096) ![0, 0] S256x1024.size inb_S256x4096_S256x1024_0_0).toLoadRect f6)⟩ :: L)
    (h2 : L2 = ⟨Rect.unit (s := S512x4096) ![0, 1024] S512x1024.size inb_S512x4096_S512x1024_0_1024,
        k0_pay1 act (View.readAt (Elt F) v (Rect.unit (s := S512x4096) ![0, 1024] S512x1024.size inb_S512x4096_S512x1024_0_1024).toLoadRect (v.writes (Elt F) f L1))
          (View.readAt (Elt F) v6 (Rect.unit (s := S256x4096) ![0, 1024] S256x1024.size inb_S256x4096_S256x1024_0_1024).toLoadRect f6)⟩ :: L1)
    (h3 : L3 = ⟨Rect.unit (s := S512x4096) ![0, 2048] S512x1024.size inb_S512x4096_S512x1024_0_2048,
        k0_pay1 act (View.readAt (Elt F) v (Rect.unit (s := S512x4096) ![0, 2048] S512x1024.size inb_S512x4096_S512x1024_0_2048).toLoadRect (v.writes (Elt F) f L2))
          (View.readAt (Elt F) v6 (Rect.unit (s := S256x4096) ![0, 2048] S256x1024.size inb_S256x4096_S256x1024_0_2048).toLoadRect f6)⟩ :: L2)
    (h4 : L4 = ⟨Rect.unit (s := S512x4096) ![0, 3072] S512x1024.size inb_S512x4096_S512x1024_0_3072,
        k0_pay2 act (View.readAt (Elt F) v (Rect.unit (s := S512x4096) ![0, 3072] S512x1024.size inb_S512x4096_S512x1024_0_3072).toLoadRect (v.writes (Elt F) f L3))
          (View.readAt (Elt F) v6 (Rect.unit (s := S256x4096) ![0, 3072] S256x1024.size inb_S256x4096_S256x1024_0_3072).toLoadRect f6)⟩ :: L3) :
    v.read (Elt F) (v.writes (Elt F) f L4) = upd x wg wu (v6.read (Elt F) f6) (v.read (Elt F) (v.writes (Elt F) f L)) := by
  have e1 := updN_step v f v6 f6 act (v.read (Elt F) (v.writes (Elt F) f L)) 0 (by decide) (off := ![0, 0]) (off6 := ![0, 0]) rfl rfl
    inb_S512x4096_S512x1024_0_0 inb_S256x4096_S256x1024_0_0 L (updN_zero _ _ _).symm
  rw [← h1] at e1
  have e2 := updN_step v f v6 f6 act _ 1 (by decide) (off := ![0, 1024]) (off6 := ![0, 1024]) rfl rfl
    inb_S512x4096_S512x1024_0_1024 inb_S256x4096_S256x1024_0_1024 L1 e1
  rw [← h2] at e2
  have e3 := updN_step v f v6 f6 act _ 2 (by decide) (off := ![0, 2048]) (off6 := ![0, 2048]) rfl rfl
    inb_S512x4096_S512x1024_0_2048 inb_S256x4096_S256x1024_0_2048 L2 e2
  rw [← h3] at e3
  have e4 := updN_step v f v6 f6 act _ 3 (by decide) (off := ![0, 3072]) (off6 := ![0, 3072]) rfl rfl
    inb_S512x4096_S512x1024_0_3072 inb_S256x4096_S256x1024_0_3072 L3 e3
  rw [h4]
  subst hact
  exact e4.trans (updN_four _ _ _ _ _)

/-- The same with every chunk read before the stores: over any contents, the update of what the buffer held. -/
theorem chunks4_plain (v : View sig .tc .vmem S512x4096 .f32) (f g : v.ty.Contents (Elt F)) (v6 : View sig .tc .vmem S256x4096 .bf16) (f6 : v6.ty.Contents (Elt F))
    (act : Vec F S512x256 .bf16) (x : Vec F S512x4096 .bf16) (wg wu : Vec F S4096x256 .bf16) (hact : act = k0_pay6 x wg wu) :
    v.read (Elt F) (v.writes (Elt F) g [⟨Rect.unit (s := S512x4096) ![0, 3072] S512x1024.size inb_S512x4096_S512x1024_0_3072,
        k0_pay2 act (View.readAt (Elt F) v (Rect.unit (s := S512x4096) ![0, 3072] S512x1024.size inb_S512x4096_S512x1024_0_3072).toLoadRect f)
          (View.readAt (Elt F) v6 (Rect.unit (s := S256x4096) ![0, 3072] S256x1024.size inb_S256x4096_S256x1024_0_3072).toLoadRect f6)⟩,
      ⟨Rect.unit (s := S512x4096) ![0, 2048] S512x1024.size inb_S512x4096_S512x1024_0_2048,
        k0_pay1 act (View.readAt (Elt F) v (Rect.unit (s := S512x4096) ![0, 2048] S512x1024.size inb_S512x4096_S512x1024_0_2048).toLoadRect f)
          (View.readAt (Elt F) v6 (Rect.unit (s := S256x4096) ![0, 2048] S256x1024.size inb_S256x4096_S256x1024_0_2048).toLoadRect f6)⟩,
      ⟨Rect.unit (s := S512x4096) ![0, 1024] S512x1024.size inb_S512x4096_S512x1024_0_1024,
        k0_pay1 act (View.readAt (Elt F) v (Rect.unit (s := S512x4096) ![0, 1024] S512x1024.size inb_S512x4096_S512x1024_0_1024).toLoadRect f)
          (View.readAt (Elt F) v6 (Rect.unit (s := S256x4096) ![0, 1024] S256x1024.size inb_S256x4096_S256x1024_0_1024).toLoadRect f6)⟩,
      ⟨Rect.unit (s := S512x4096) ![0, 0] S512x1024.size inb_S512x4096_S512x1024_0_0,
        k0_pay1 act (View.readAt (Elt F) v (Rect.unit (s := S512x4096) ![0, 0] S512x1024.size inb_S512x4096_S512x1024_0_0).toLoadRect f)
          (View.readAt (Elt F) v6 (Rect.unit (s := S256x4096) ![0, 0] S256x1024.size inb_S256x4096_S256x1024_0_0).toLoadRect f6)⟩]) = upd x wg wu (v6.read (Elt F) f6) (v.read (Elt F) f) := by
  funext y
  have h : (y (1 : Fin 2)).val < 4096 := (y (1 : Fin 2)).isLt
  rw [cols_step v g 3 (off := ![0, 3072]) rfl inb_S512x4096_S512x1024_0_3072, cols_step v g 2 (off := ![0, 2048]) rfl inb_S512x4096_S512x1024_0_2048,
    cols_step v g 1 (off := ![0, 1024]) rfl inb_S512x4096_S512x1024_0_1024, cols_step v g 0 (off := ![0, 0]) rfl inb_S512x4096_S512x1024_0_0]
  rw [readColsO v f 3 (by decide) (off := ![0, 3072]) rfl, readColsO v f 2 (by decide) (off := ![0, 2048]) rfl,
    readColsO v f 1 (by decide) (off := ![0, 1024]) rfl, readColsO v f 0 (by decide) (off := ![0, 0]) rfl,
    readColsW v6 f6 3 (by decide) (off := ![0, 3072]) rfl, readColsW v6 f6 2 (by decide) (off := ![0, 2048]) rfl,
    readColsW v6 f6 1 (by decide) (off := ![0, 1024]) rfl, readColsW v6 f6 0 (by decide) (off := ![0, 0]) rfl]
  subst hact
  unfold upd
  split
  · next e => rw [e]; rfl
  split
  · next e => rw [e]
  split
  · next e => rw [e]
  split
  · next e => rw [e]
  · omega

/-- A whole tile of the scratch, read through the buffer. -/
theorem readWholeF (v : View sig .tc .vmem S512x4096 .bf16) (f : v.ty.Contents (Elt F)) :
    View.readAt (Elt F) v (Rect.unit (s := S512x4096) ![0, 0] S512x4096.size inb_S512x4096_S512x4096_0_0).toLoadRect f = v.read (Elt F) f := by
  funext z
  show v.read (Elt F) f ((Rect.unit (s := S512x4096) ![0, 0] S512x4096.size inb_S512x4096_S512x4096_0_0).emb z) = _
  congr 1
  funext a
  refine Fin.ext ?_
  fin_cases a
  · show 0 + 1 * (z (0 : Fin 2)).val = (z (0 : Fin 2)).val
    omega
  · show 0 + 1 * (z (1 : Fin 2)).val = (z (1 : Fin 2)).val
    omega

/-- A whole chunk of a projection, read through the buffer. -/
theorem readWholeW (v : View sig .tc .vmem S4096x256 .bf16) (f : v.ty.Contents (Elt F)) :
    View.readAt (Elt F) v (Rect.unit (s := S4096x256) ![0, 0] S4096x256.size inb_S4096x256_S4096x256_0_0).toLoadRect f = v.read (Elt F) f := by
  funext z
  show v.read (Elt F) f ((Rect.unit (s := S4096x256) ![0, 0] S4096x256.size inb_S4096x256_S4096x256_0_0).emb z) = _
  congr 1
  funext a
  refine Fin.ext ?_
  fin_cases a
  · show 0 + 1 * (z (0 : Fin 2)).val = (z (0 : Fin 2)).val
    omega
  · show 0 + 1 * (z (1 : Fin 2)).val = (z (1 : Fin 2)).val
    omega

end Cert.Kernel2Ideal.Ffn

end
-- ==== Proof.FfnBody.lean ====
/-
  The feed-forward kernel's body on one tile, in its three cases: the first chunk, a middle chunk, the last chunk.
-/
module

public import proofs.«01_k».proof.Proof.FfnLoops
public import proofs.«01_k».proof.Proof.FfnChunks
public import proofs.«01_k».proof.Proof.Gen.Kernel2Ideal.Frame

@[expose] public section

set_option maxRecDepth 16384

noncomputable section

namespace Cert.Kernel2Ideal.Ffn

open Idealize.ShloMosaic Idealize.ShloMosaic.TcCoe Cert.Kernel2Ideal Cert.Kernel2Ideal.Gen

open Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem scratch_all (c : Dev nD) (i : grid0.Coords) (arg2 : Memref sig .tc .vmem S512x4096 .f32) (harg2 : arg2.IsWhole) (arg3 : Memref sig .tc .vmem S1x4096 .f32) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x4096 .bf16) (harg6 : arg6.IsWhole) (arg7 : Memref sig .tc .vmem S1x4096 .f32) (harg7 : arg7.IsWhole) (arg8 : Memref sig .tc .vmem S512x4096 .f32) (harg8 : arg8.IsWhole) (arg9 : Memref sig .tc .vmem S512x4096 .bf16) (harg9 : arg9.IsWhole) (hc1 : k0_cond1 i = 1#1) (X2 : BufTy.Contents (Elt F) arg2.view.ty) (X3 : BufTy.Contents (Elt F) arg3.view.ty) (G : BufTy.Contents (Elt F) arg9.view.ty) (y : S512x4096.Idx) :
    arg9.view.read (Elt F) (arg9.view.writes (Elt F) G (pb_k0_t1 (F := F) Variants.none c none i arg2 harg2 arg3 harg3 arg4 harg4 arg5 harg5 arg6 harg6 arg7 harg7 arg8 harg8 arg9 harg9 hc1 X2 X3 (Scf.trips k0_t1_loop.lb k0_t1_loop.ub k0_t1_loop.st)).2) y =
      preF (arg2.view.read (Elt F) X2) (arg3.view.read (Elt F) X3) y := by
  rw [show Scf.trips k0_t1_loop.lb k0_t1_loop.ub k0_t1_loop.st = 8 from trips1]
  have h : (y (0 : Fin 2)).val < 512 := (y (0 : Fin 2)).isLt
  exact loop1_f _ _ _ _ _ _ _ _ _ _ _ _ _ _ _ _ _ _ _ _ _ _ _ _ 8 le_rfl y (by omega)

theorem acc_all (c : Dev nD) (i : grid0.Coords) (arg2 : Memref sig .tc .vmem S512x4096 .f32) (harg2 : arg2.IsWhole) (arg3 : Memref sig .tc .vmem S1x4096 .f32) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x4096 .bf16) (harg6 : arg6.IsWhole) (arg7 : Memref sig .tc .vmem S1x4096 .f32) (harg7 : arg7.IsWhole) (arg8 : Memref sig .tc .vmem S512x4096 .f32) (harg8 : arg8.IsWhole) (arg9 : Memref sig .tc .vmem S512x4096 .bf16) (harg9 : arg9.IsWhole) (hc1 : k0_cond1 i = 1#1) (X2 : BufTy.Contents (Elt F) arg2.view.ty) (X3 : BufTy.Contents (Elt F) arg3.view.ty) (G : BufTy.Contents (Elt F) arg8.view.ty) (y : S512x4096.Idx) :
    arg8.view.read (Elt F) (arg8.view.writes (Elt F) G (pb_k0_t1 (F := F) Variants.none c none i arg2 harg2 arg3 harg3 arg4 harg4 arg5 harg5 arg6 harg6 arg7 harg7 arg8 harg8 arg9 harg9 hc1 X2 X3 (Scf.trips k0_t1_loop.lb k0_t1_loop.ub k0_t1_loop.st)).1) y = zeroO y := by
  rw [show Scf.trips k0_t1_loop.lb k0_t1_loop.ub k0_t1_loop.st = 8 from trips1]
  have h : (y (0 : Fin 2)).val < 512 := (y (0 : Fin 2)).isLt
  exact loop1_o _ _ _ _ _ _ _ _ _ _ _ _ _ _ _ _ _ _ _ _ _ _ _ _ 8 le_rfl y (by omega)

theorem fin_all (c : Dev nD) (i : grid0.Coords) (arg2 : Memref sig .tc .vmem S512x4096 .f32) (harg2 : arg2.IsWhole) (arg3 : Memref sig .tc .vmem S1x4096 .f32) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x4096 .bf16) (harg6 : arg6.IsWhole) (arg7 : Memref sig .tc .vmem S1x4096 .f32) (harg7 : arg7.IsWhole) (arg8 : Memref sig .tc .vmem S512x4096 .f32) (harg8 : arg8.IsWhole) (arg9 : Memref sig .tc .vmem S512x4096 .bf16) (harg9 : arg9.IsWhole) (hc2 : k0_cond2 i = 1#1) (X2 : BufTy.Contents (Elt F) arg2.view.ty) (X7 : BufTy.Contents (Elt F) arg7.view.ty) (G : BufTy.Contents (Elt F) arg8.view.ty) :
    arg8.view.read (Elt F) (arg8.view.writes (Elt F) G (pb_k0_t2 (F := F) Variants.none c none i arg2 harg2 arg3 harg3 arg4 harg4 arg5 harg5 arg6 harg6 arg7 harg7 arg8 harg8 arg9 harg9 hc2 X2 X7 G (Scf.trips k0_t2_loop.lb k0_t2_loop.ub k0_t2_loop.st))) =
      finF (arg2.view.read (Elt F) X2) (arg8.view.read (Elt F) G) (arg7.view.read (Elt F) X7) := by
  rw [show Scf.trips k0_t2_loop.lb k0_t2_loop.ub k0_t2_loop.st = 8 from trips2]
  funext y
  have h : (y (0 : Fin 2)).val < 512 := (y (0 : Fin 2)).isLt
  rw [loop2_o _ _ _ _ _ _ _ _ _ _ _ _ _ _ _ _ _ _ _ _ _ _ _ _ 8 le_rfl y, if_pos (by omega)]

set_option maxHeartbeats 2000000 in
/-- The first chunk: the tile is normalised into the scratch, the accumulator starts from zero. -/
theorem run_first (c : Dev nD) (i : grid0.Coords) (arg2 : Memref sig .tc .vmem S512x4096 .f32) (harg2 : arg2.IsWhole) (arg3 : Memref sig .tc .vmem S1x4096 .f32) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x4096 .bf16) (harg6 : arg6.IsWhole) (arg7 : Memref sig .tc .vmem S1x4096 .f32) (harg7 : arg7.IsWhole) (arg8 : Memref sig .tc .vmem S512x4096 .f32) (harg8 : arg8.IsWhole) (arg9 : Memref sig .tc .vmem S512x4096 .bf16) (harg9 : arg9.IsWhole)
    (hc1 : k0_cond1 i = 1#1) (hc2 : ¬ k0_cond2 i = 1#1) (x2 : Vec F S512x4096 .f32) (x3 : Vec F S1x4096 .f32) (x4 : Vec F S4096x256 .bf16) (x5 : Vec F S4096x256 .bf16) (x6 : Vec F S256x4096 .bf16) (x7 : Vec F S1x4096 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (upd (preF x2 x3) x4 x5 x6 zeroO) ∗ owns (c : Thread nD τ) arg9 fullShare (preF x2 x3)) -∗ K ⟨⟩))
      ⊢ wp frame (wpE (defs₀ (F := F)) Variants.none c none) E (cc0_ffn i arg2 harg2 arg3 harg3 arg4 harg4 arg5 harg5 arg6 harg6 arg7 harg7 arg8 harg8 arg9 harg9) K := by
  simp only [cc0_ffn_eq_skeleton]; unfold cc0_ffn_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, %hf8, H8⟩, ⟨%d9, %f9, %hf9, H9⟩, Hk⟩
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; swap; · iexact H8
    ipureintro
    subst hf2 hf3 hf4 hf5 hf6 hf7
    refine (chunks4 arg8.view f8 arg6.view f6 _ (preF (arg2.view.read (Elt F) f2) (arg3.view.read (Elt F) f3)) (arg4.view.read (Elt F) f4)
      (arg5.view.read (Elt F) f5) ?_ _ _ _ _ _ rfl rfl rfl rfl).trans ?_
    · refine Eq.trans (b := k0_pay6 (View.readAt (Elt F) arg9.view (Rect.unit (s := S512x4096) ![0, 0] S512x4096.size inb_S512x4096_S512x4096_0_0).toLoadRect
          (arg9.view.writes (Elt F) f9 (pb_k0_t1 (F := F) Variants.none c none i arg2 harg2 arg3 harg3 arg4 harg4 arg5 harg5 arg6 harg6 arg7 harg7 arg8 harg8 arg9 harg9 hc1 f2 f3 (Scf.trips k0_t1_loop.lb k0_t1_loop.ub k0_t1_loop.st)).2)) _ _) rfl ?_
      rw [readWholeF, readWholeW, readWholeW]
      congr 1
      exact funext fun y => scratch_all c i arg2 harg2 arg3 harg3 arg4 harg4 arg5 harg5 arg6 harg6 arg7 harg7 arg8 harg8 arg9 harg9 hc1 f2 f3 f9 y
    · congr 1
      exact funext fun y => acc_all c i arg2 harg2 arg3 harg3 arg4 harg4 arg5 harg5 arg6 harg6 arg7 harg7 arg8 harg8 arg9 harg9 hc1 f2 f3 f8 y
  · iexists _; isplitr; swap; · iexact H9
    ipureintro
    subst hf2 hf3 hf4 hf5 hf6 hf7
    exact funext fun y => scratch_all c i arg2 harg2 arg3 harg3 arg4 harg4 arg5 harg5 arg6 harg6 arg7 harg7 arg8 harg8 arg9 harg9 hc1 f2 f3 f9 y

set_option maxHeartbeats 2000000 in
/-- A middle chunk: the accumulator is updated from the scratch. -/
theorem run_middle (c : Dev nD) (i : grid0.Coords) (arg2 : Memref sig .tc .vmem S512x4096 .f32) (harg2 : arg2.IsWhole) (arg3 : Memref sig .tc .vmem S1x4096 .f32) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x4096 .bf16) (harg6 : arg6.IsWhole) (arg7 : Memref sig .tc .vmem S1x4096 .f32) (harg7 : arg7.IsWhole) (arg8 : Memref sig .tc .vmem S512x4096 .f32) (harg8 : arg8.IsWhole) (arg9 : Memref sig .tc .vmem S512x4096 .bf16) (harg9 : arg9.IsWhole)
    (hc1 : ¬ k0_cond1 i = 1#1) (hc2 : ¬ k0_cond2 i = 1#1) (x8 : Vec F S512x4096 .f32) (x9 : Vec F S512x4096 .bf16) (x2 : Vec F S512x4096 .f32) (x3 : Vec F S1x4096 .f32) (x4 : Vec F S4096x256 .bf16) (x5 : Vec F S4096x256 .bf16) (x6 : Vec F S256x4096 .bf16) (x7 : Vec F S1x4096 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (upd x9 x4 x5 x6 x8) ∗ owns (c : Thread nD τ) arg9 fullShare (x9)) -∗ K ⟨⟩))
      ⊢ wp frame (wpE (defs₀ (F := F)) Variants.none c none) E (cc0_ffn i arg2 harg2 arg3 harg3 arg4 harg4 arg5 harg5 arg6 harg6 arg7 harg7 arg8 harg8 arg9 harg9) K := by
  simp only [cc0_ffn_eq_skeleton]; unfold cc0_ffn_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; swap; · iexact H8
    ipureintro
    subst hf2 hf3 hf4 hf5 hf6 hf7
    subst hf8 hf9
    refine (chunks4_plain arg8.view f8 _ arg6.view f6 _ (arg9.view.read (Elt F) f9) (arg4.view.read (Elt F) f4)
      (arg5.view.read (Elt F) f5) ?_)
    refine Eq.trans (b := k0_pay6 (View.readAt (Elt F) arg9.view (Rect.unit (s := S512x4096) ![0, 0] S512x4096.size inb_S512x4096_S512x4096_0_0).toLoadRect f9) _ _) rfl ?_
    rw [readWholeF, readWholeW, readWholeW]
  · iexists _; isplitr; swap; · iexact H9
    ipureintro
    exact hf9

set_option maxHeartbeats 2000000 in
/-- The last chunk: the accumulator is updated and the tile finished. -/
theorem run_last (c : Dev nD) (i : grid0.Coords) (arg2 : Memref sig .tc .vmem S512x4096 .f32) (harg2 : arg2.IsWhole) (arg3 : Memref sig .tc .vmem S1x4096 .f32) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x4096 .bf16) (harg6 : arg6.IsWhole) (arg7 : Memref sig .tc .vmem S1x4096 .f32) (harg7 : arg7.IsWhole) (arg8 : Memref sig .tc .vmem S512x4096 .f32) (harg8 : arg8.IsWhole) (arg9 : Memref sig .tc .vmem S512x4096 .bf16) (harg9 : arg9.IsWhole)
    (hc1 : ¬ k0_cond1 i = 1#1) (hc2 : k0_cond2 i = 1#1) (x8 : Vec F S512x4096 .f32) (x9 : Vec F S512x4096 .bf16) (x2 : Vec F S512x4096 .f32) (x3 : Vec F S1x4096 .f32) (x4 : Vec F S4096x256 .bf16) (x5 : Vec F S4096x256 .bf16) (x6 : Vec F S256x4096 .bf16) (x7 : Vec F S1x4096 .f32) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (finF x2 (upd x9 x4 x5 x6 x8) x7) ∗ owns (c : Thread nD τ) arg9 fullShare (x9)) -∗ K ⟨⟩))
      ⊢ wp frame (wpE (defs₀ (F := F)) Variants.none c none) E (cc0_ffn i arg2 harg2 arg3 harg3 arg4 harg4 arg5 harg5 arg6 harg6 arg7 harg7 arg8 harg8 arg9 harg9) K := by
  simp only [cc0_ffn_eq_skeleton]; unfold cc0_ffn_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  sl_exec (disch := first | exact hc1 | exact hc2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; swap; · iexact H8
    ipureintro
    subst hf2 hf3 hf4 hf5 hf6 hf7
    subst hf8 hf9
    rw [View.writes_append]
    refine (fin_all c i arg2 harg2 arg3 harg3 arg4 harg4 arg5 harg5 arg6 harg6 arg7 harg7 arg8 harg8 arg9 harg9 hc2 f2 f7 _).trans ?_
    congr 1
    refine (chunks4_plain arg8.view f8 _ arg6.view f6 _ (arg9.view.read (Elt F) f9) (arg4.view.read (Elt F) f4)
      (arg5.view.read (Elt F) f5) ?_)
    refine Eq.trans (b := k0_pay6 (View.readAt (Elt F) arg9.view (Rect.unit (s := S512x4096) ![0, 0] S512x4096.size inb_S512x4096_S512x4096_0_0).toLoadRect f9) _ _) rfl ?_
    rw [readWholeF, readWholeW, readWholeW]
  · iexists _; isplitr; swap; · iexact H9
    ipureintro
    exact hf9

end Cert.Kernel2Ideal.Ffn

end
-- ==== Proof.FfnFrame.lean ====
/-
  The feed-forward kernel's whole run: the pipeline's proof data, its body obligation at every point, and the frame.
-/
module

public import proofs.«01_k».proof.Proof.FfnBody
public import Idealize.ShloMosaic.Lib.Claim

@[expose] public section

set_option maxRecDepth 16384

noncomputable section

namespace Cert.Kernel2Ideal.Ffn

open Idealize.ShloMosaic Idealize.ShloMosaic.TcCoe Cert.Kernel2Ideal Cert.Kernel2Ideal.Gen

open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratch and the output's buffer hold after each point -/

/-- The scratch and the accumulator after point `t`, from those after the point before it. -/
def next (c : Dev nD) (t : Fin cfg0.N) (prev : Vec F S512x4096 .bf16 × Vec F S512x4096 .f32) : Vec F S512x4096 .bf16 × Vec F S512x4096 .f32 :=
  if t.val % 43 = 0 then
    (preF (iblk m c 0 t) (iblk m c 1 t), upd (preF (iblk m c 0 t) (iblk m c 1 t)) (iblk m c 2 t) (iblk m c 3 t) (iblk m c 4 t) zeroO)
  else if t.val % 43 = 42 then
    (prev.1, finF (iblk m c 0 t) (upd prev.1 (iblk m c 2 t) (iblk m c 3 t) (iblk m c 4 t) prev.2) (iblk m c 5 t))
  else (prev.1, upd prev.1 (iblk m c 2 t) (iblk m c 3 t) (iblk m c 4 t) prev.2)

/-- The same at a point given by its number; past the last point nothing changes. -/
def nextN (c : Dev nD) (n : ℕ) (prev : Vec F S512x4096 .bf16 × Vec F S512x4096 .f32) : Vec F S512x4096 .bf16 × Vec F S512x4096 .f32 :=
  if h : n < cfg0.N then next m c ⟨n, h⟩ prev else prev

/-- The scratch and the accumulator after point `n`. -/
def st (c : Dev nD) : ℕ → Vec F S512x4096 .bf16 × Vec F S512x4096 .f32
  | 0 => nextN m c 0 (fun _ => Scalar.ofBits .bf16 0#16, zeroO)
  | n + 1 => nextN m c (n + 1) (st c n)

/-- The first point of a tile starts afresh. -/
theorem st_first (c : Dev nD) (t : Fin cfg0.N) (h : t.val % 43 = 0) :
    st m c t.val = (preF (iblk m c 0 t) (iblk m c 1 t), upd (preF (iblk m c 0 t) (iblk m c 1 t)) (iblk m c 2 t) (iblk m c 3 t) (iblk m c 4 t) zeroO) := by
  obtain ⟨n, hn⟩ := t
  cases n with
  | zero => unfold st nextN; rw [dif_pos hn]; exact if_pos h
  | succ n => unfold st nextN; rw [dif_pos hn]; exact if_pos h

/-- Any other point but the last of a tile. -/
theorem st_middle (c : Dev nD) (t : Fin cfg0.N) (h : t.val % 43 ≠ 0) (h' : t.val % 43 ≠ 42) :
    st m c t.val = ((st m c (t.val - 1)).1, upd (st m c (t.val - 1)).1 (iblk m c 2 t) (iblk m c 3 t) (iblk m c 4 t) (st m c (t.val - 1)).2) := by
  obtain ⟨n, hn⟩ := t
  cases n with
  | zero => exact absurd rfl h
  | succ n => rw [st]; unfold nextN; rw [dif_pos hn]; unfold next; rw [if_neg h, if_neg h']; rfl

/-- The last point of a tile. -/
theorem st_last (c : Dev nD) (t : Fin cfg0.N) (h' : t.val % 43 = 42) :
    st m c t.val = ((st m c (t.val - 1)).1,
      finF (iblk m c 0 t) (upd (st m c (t.val - 1)).1 (iblk m c 2 t) (iblk m c 3 t) (iblk m c 4 t) (st m c (t.val - 1)).2) (iblk m c 5 t)) := by
  obtain ⟨n, hn⟩ := t
  cases n with
  | zero => exact absurd (show (0 : ℕ) % 43 = 42 from h') (by decide)
  | succ n =>
    have h : (n + 1) % 43 ≠ 0 := by dsimp only at h'; omega
    rw [st]; unfold nextN; rw [dif_pos hn]; unfold next; rw [if_neg h, if_pos h']; rfl

attribute [irreducible] st

/-- The first condition holds at the first chunk of a tile. -/
theorem cond1_iff : ∀ t : Fin grid0.N, k0_cond1 (grid0.coords t) = 1#1 ↔ t.val % 43 = 0 := by decide +kernel
/-- The second condition holds at the last chunk of a tile. -/
theorem cond2_iff : ∀ t : Fin grid0.N, k0_cond2 (grid0.coords t) = 1#1 ↔ t.val % 43 = 42 := by decide +kernel

/-- The scratch buffer. -/
abbrev scM : Memref sig .tc .vmem S512x4096 .bf16 := Memref.whole cc0_scratch0

/-! ## The pipeline's proof data -/

/-- The proof data: the inputs' buffers at their blocks, the output's at the accumulator after the point; between points
the scratch at the normalised tile (before a tile's first point, at anything). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (st m c t.val).2
  Φ t := iprop((∃ f, owns (c : Thread nD τ) scM fullShare f ∗ ⌜t.val % 43 ≠ 0 → f = (st m c (t.val - 1)).1⌝) ∗ (∃ r, prngReg c r))
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (st m c t.val).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- Past a tile's first point the output's buffer holds the accumulator after the point before. -/
theorem before0_6 (c : Dev nD) (t : Fin cfg0.N) (h : t.val % 43 ≠ 0) (d) : (dats m 0 c).before 6 t d = (st m c (t.val - 1)).2 := by
  have ht : t.val ≠ 0 := fun e => h (by rw [e])
  rw [(dats m 0 c).before_out_kept 6 rfl t ht (Bool.eq_false_iff.mpr fun e => by
      have := (flush0_6 _).mp e
      dsimp only at this
      omega) (fun _ => rfl) (fun _ _ => rfl) d, after0_6]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
  )

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
  )

theorem Phi_pre (c : Dev nD) (t : Fin cfg0.N) : (dats m 0 c).Φ t.castSucc =
    iprop((∃ f, owns (c : Thread nD τ) scM fullShare f ∗ ⌜t.val % 43 ≠ 0 → f = (st m c (t.val - 1)).1⌝) ∗ (∃ r, prngReg c r)) := rfl

theorem Phi_post (c : Dev nD) (t : Fin cfg0.N) : (dats m 0 c).Φ t.succ =
    iprop((∃ f, owns (c : Thread nD τ) scM fullShare f ∗ ⌜(t.val + 1) % 43 ≠ 0 → f = (st m c t.val).1⌝) ∗ (∃ r, prngReg c r)) := rfl

set_option maxHeartbeats 1200000 in
/-- The body at a tile's first point. -/
theorem sound_first (c : Dev nD) (t : Fin cfg0.N) (h : t.val % 43 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6, Phi_pre, Phi_post, st_first m c t h]
  iintro ⟨⟨⟨%fs, HS, %hfs⟩, Hg⟩, Ho, ⟨%d0, H0⟩, ⟨%d1, H1⟩, ⟨%d2, H2⟩, ⟨%d3, H3⟩, ⟨%d4, H4⟩, ⟨%d5, H5⟩, ⟨%d6, H6⟩⟩
  iapply (run_first c (grid0.coords t) _ _ _ _ _ _ _ _ _ _ _ _ _ _ _ _ ((cond1_iff t).mpr h) (fun e => by have := (cond2_iff t).mp e; omega) (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS]; · iexists _; iexact HS
  iintro ⟨H0, H1, H2, H3, H4, H5, H6, HS⟩
  isplitl [HS Hg]
  · isplitl [HS]
    · iexists _
      isplitl [HS]; · iexact HS
      ipureintro
      exact fun _ => rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 1200000 in
/-- The body at a tile's middle points. -/
theorem sound_middle (c : Dev nD) (t : Fin cfg0.N) (h : t.val % 43 ≠ 0) (h' : t.val % 43 ≠ 42) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6 m c t h]
  rw [show (dats m 0 c).owesAt () t.succ = (dats m 0 c).owesAt () t.castSucc from rfl,
    after0_0, after0_1, after0_2, after0_3, after0_4, after0_5, after0_6, Phi_pre, Phi_post, st_middle m c t h h']
  iintro ⟨⟨⟨%fs, HS, %hfs⟩, Hg⟩, Ho, ⟨%d0, H0⟩, ⟨%d1, H1⟩, ⟨%d2, H2⟩, ⟨%d3, H3⟩, ⟨%d4, H4⟩, ⟨%d5, H5⟩, ⟨%d6, H6⟩⟩
  obtain rfl := hfs h
  iapply (run_middle c (grid0.coords t) _ _ _ _ _ _ _ _ _ _ _ _ _ _ _ _ (fun e => h ((cond1_iff t).mp e)) (fun e => h' ((cond2_iff t).mp e)) (st m c (t.val - 1)).2 (st m c (t.val - 1)).1 (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  iintro ⟨H0, H1, H2, H3, H4, H5, H6, HS⟩
  isplitl [HS Hg]
  · isplitl [HS]
    · iexists _
      isplitl [HS]; · iexact HS
      ipureintro
      exact fun _ => rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 1200000 in
/-- The body at a tile's last point. -/
theorem sound_last (c : Dev nD) (t : Fin cfg0.N) (h : t.val % 43 ≠ 0) (h' : t.val % 43 = 42) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6 m c t h]
  rw [show (dats m 0 c).owesAt () t.succ = (dats m 0 c).owesAt () t.castSucc from rfl,
    after0_0, after0_1, after0_2, after0_3, after0_4, after0_5, after0_6, Phi_pre, Phi_post, st_last m c t h']
  iintro ⟨⟨⟨%fs, HS, %hfs⟩, Hg⟩, Ho, ⟨%d0, H0⟩, ⟨%d1, H1⟩, ⟨%d2, H2⟩, ⟨%d3, H3⟩, ⟨%d4, H4⟩, ⟨%d5, H5⟩, ⟨%d6, H6⟩⟩
  obtain rfl := hfs h
  iapply (run_last c (grid0.coords t) _ _ _ _ _ _ _ _ _ _ _ _ _ _ _ _ (fun e => h ((cond1_iff t).mp e)) ((cond2_iff t).mpr h') (st m c (t.val - 1)).2 (st m c (t.val - 1)).1 (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS]; · iexact HS
  iintro ⟨H0, H1, H2, H3, H4, H5, H6, HS⟩
  isplitl [HS Hg]
  · isplitl [HS]
    · iexists _
      isplitl [HS]; · iexact HS
      ipureintro
      exact fun _ => rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h : t.val % 43 = 0
  · exact sound_first m c t h
  · by_cases h' : t.val % 43 = 42
    · exact sound_last m c t h h'
    · exact sound_middle m c t h h'

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- What the launch hands the first point: the scratch at anything, and the generator register. -/
theorem PhiA_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

theorem Phi_in (c : Dev nD) : (Pipeline.ΦA spec0 c : sProp 𝕄) ⊢ (dats m 0 c).Φ 0 := by
  rw [PhiA_eq, show (dats m 0 c).Φ 0 = iprop((∃ f, owns (c : Thread nD τ) scM fullShare f ∗ ⌜0 % 43 ≠ 0 → f = (st m c (0 - 1)).1⌝) ∗ (∃ r, prngReg c r)) from rfl]
  iintro ⟨⟨%d, HS⟩, Hg⟩
  isplitl [HS]
  · iexists _
    isplitl [HS]; · iexact HS
    ipureintro
    exact fun e => absurd rfl e
  iexact Hg

theorem Phi_out (c : Dev nD) : (dats m 0 c).Φ (Fin.last cfg0.N) ⊢ (Pipeline.ΦA spec0 c : sProp 𝕄) := by
  rw [PhiA_eq, show (dats m 0 c).Φ (Fin.last cfg0.N) = iprop((∃ f, owns (c : Thread nD τ) scM fullShare f ∗ ⌜cfg0.N % 43 ≠ 0 → f = (st m c (cfg0.N - 1)).1⌝) ∗ (∃ r, prngReg c r)) from rfl]
  iintro ⟨⟨%d, HS, -⟩, Hg⟩
  isplitl [HS]
  · iexists _
    iexact HS
  iexact Hg

set_option backward.isDefEq.respectTransparency.types false in
/-- The launch: every fair execution ends, the arrays at what the proof data says and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c w => ite_self fullShare)
    (howed := fun _ _ => rfl) (V := V m) (hmain := hmain m Variants.none) (hA := A_eq m) (hin := Phi_in m) (hout := Phi_out m)

/-- The same without the semaphores. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged, every semaphore at zero. -/
theorem frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ) ∧ r.2.sem = fun _ => 0) :=
  θ_run_and (frame_of m ρ (dats m) (A_eq m) (run_main m ρ)) ((θ_run defs _ _).mono (fun _ h => h.2) (run_main_quiescent m ρ))

end Cert.Kernel2Ideal.Ffn

end
-- ==== Proof.FfnBits.lean ====
/-
  The feed-forward kernel's frame at the machine's floats: the machine's program and the idealised one have one text, and
  the frame holds of it over any floats.
-/
module

public import proofs.«01_k».proof.Proof.FfnFrame
public import proofs.«01_k».proof.Proof.Gen.Kernel2.Frame
public import proofs.«01_k».proof.Defs

@[expose] public section

set_option maxRecDepth 65536

namespace Cert.Kernel2Ideal.Ffn

open Idealize.ShloMosaic

variable {F : FTy → Type} [FloatOps F]

/-- The kernels' tables of bodies agree. -/
theorem defs0_eq : Cert.Kernel2.defs₀ (F := F) = Cert.Kernel2Ideal.defs₀ (F := F) := by
  unfold Cert.Kernel2.defs₀ Cert.Kernel2Ideal.defs₀
  congr 1
  funext l x
  match l, x with
  | 0, (t, s) => rfl
  | ⟨_ + 1, h⟩, _ => exact absurd h (Nat.not_lt.2 (Nat.le_add_left _ _))

/-- The programs' tables agree. -/
theorem defs_eq : Cert.Kernel2.defs (F := F) = Cert.Kernel2Ideal.defs (F := F) := by
  unfold Cert.Kernel2.defs Cert.Kernel2Ideal.defs
  rw [defs0_eq]; rfl

/-- The frame of the machine's program. -/
theorem frame_bits : quiescent_Kernel2 (hKernel2 := Cert.Kernel2.Gen.facts) := fun m g _ => by
  rw [defs_eq]
  exact Cert.Kernel2Ideal.Ffn.frame (F := Bits) m g

end Cert.Kernel2Ideal.Ffn
-- ==== Proof.FfnSpec.lean ====
/-
  The feed-forward sub-layer's mathematics over the extended reals: the normalisation of a row, one inner feature,
  and the result.
-/
module

public import Idealize.ShloMosaic.Lib.Pointwise

@[expose] public section

noncomputable section

namespace Cert.Ffn

open Idealize.ShloMosaic

/-- A row divided by the root of its mean square (plus the small constant), scaled: its element `k`. -/
def norm (x g : Fin 4096 → EReal) (k : Fin 4096) : EReal :=
  x k * Ideal.rsqrt (Ideal.div (∑ j, x j * x j) (Ideal.ofBits FTy.f32 0x45800000#32) + Ideal.ofBits FTy.f32 0x358637BD#32) * g k

/-- One inner feature of a row: the gate times its logistic, times the other projection. -/
def act (f wg wu : Fin 4096 → EReal) : EReal :=
  (∑ x, f x * wg x) * Ideal.logistic (∑ x, f x * wg x) * ∑ x, f x * wu x

/-- The result of one row: the row, plus its inner features projected down, normalised and scaled. -/
def out (h g gp : Fin 4096 → EReal) (wg wu : Fin 4096 → Fin 11008 → EReal) (wd : Fin 11008 → Fin 4096 → EReal) (n : Fin 4096) : EReal :=
  h n + norm (fun n => ∑ k, act (norm h g) (fun x => wg x k) (fun x => wu x k) * wd k n) gp n

end Cert.Ffn

end
-- ==== Proof.FfnPay.lean ====
/-
  The feed-forward kernel's tile functions over the extended reals, element by element.
-/
module

public import proofs.«01_k».proof.Proof.FfnVals
public import proofs.«01_k».proof.Proof.FfnSpec

@[expose] public section

noncomputable section

namespace Cert.Kernel2Ideal.Ffn

open Idealize.ShloMosaic Idealize.ShloMosaic.TcCoe Cert.Kernel2Ideal Cert.Kernel2Ideal.Gen Cert.Ffn

theorem pay4 (x : Vec Ideal S64x4096 .f32) (g : Vec Ideal S1x4096 .f32) (r : Fin 64) (k : Fin 4096) :
    k0_pay4 x g (ix2 r k) = norm (fun j => x (ix2 r j)) (fun j => g (ix2 (0 : Fin 1) j)) k := by
  pointwise [k0_pay4]
  rfl

theorem pay3 (h x : Vec Ideal S64x4096 .f32) (g : Vec Ideal S1x4096 .f32) (r : Fin 64) (k : Fin 4096) :
    k0_pay3 h x g (ix2 r k) = h (ix2 r k) + norm (fun j => x (ix2 r j)) (fun j => g (ix2 (0 : Fin 1) j)) k := by
  pointwise [k0_pay3]
  rfl

theorem pay1 (a : Vec Ideal S512x256 .bf16) (o : Vec Ideal S512x1024 .f32) (w : Vec Ideal S256x1024 .bf16) (r : Fin 512) (k : Fin 1024) :
    k0_pay1 a o w (ix2 r k) = o (ix2 r k) + ∑ x : Fin 256, a (ix2 r x) * w (ix2 x k) := by
  pointwise [k0_pay1]

theorem pay6 (f : Vec Ideal S512x4096 .bf16) (wg wu : Vec Ideal S4096x256 .bf16) (r : Fin 512) (k : Fin 256) :
    k0_pay6 f wg wu (ix2 r k) = act (fun x => f (ix2 r x)) (fun x => wg (ix2 x k)) (fun x => wu (ix2 x k)) := by
  pointwise [k0_pay6]
  rfl

/-- The rows of a tile, 64 at a time, are the tile's rows. -/
theorem rows64_apply {e : EltTy} (x : Vec Ideal S512x4096 e) (r : Fin 512) (j : Fin 4096) :
    rows64 x (r.val / 64) (ix2 (⟨r.val % 64, Nat.mod_lt _ (by decide)⟩ : Fin 64) j) = x (ix2 r j) := by
  show x (ix2 ⟨(64 * (r.val / 64) + r.val % 64) % 512, _⟩ j) = _
  congr 2
  apply Fin.ext
  show (64 * (r.val / 64) + r.val % 64) % 512 = r.val
  have := r.isLt
  omega

theorem preF_apply (h : Vec Ideal S512x4096 .f32) (g : Vec Ideal S1x4096 .f32) (r : Fin 512) (k : Fin 4096) :
    preF h g (ix2 r k) = norm (fun j => h (ix2 r j)) (fun j => g (ix2 (0 : Fin 1) j)) k := by
  show k0_pay4 (rows64 h (r.val / 64)) g (ix2 (⟨r.val % 64, _⟩ : Fin 64) k) = _
  rw [pay4]
  simp only [rows64_apply]

theorem finF_apply (h o : Vec Ideal S512x4096 .f32) (g : Vec Ideal S1x4096 .f32) (r : Fin 512) (k : Fin 4096) :
    finF h o g (ix2 r k) = h (ix2 r k) + norm (fun j => o (ix2 r j)) (fun j => g (ix2 (0 : Fin 1) j)) k := by
  show k0_pay3 (rows64 h (r.val / 64)) (rows64 o (r.val / 64)) g (ix2 (⟨r.val % 64, _⟩ : Fin 64) k) = _
  rw [pay3]
  simp only [rows64_apply]

theorem upd_apply (f : Vec Ideal S512x4096 .bf16) (wg wu : Vec Ideal S4096x256 .bf16) (wd : Vec Ideal S256x4096 .bf16) (o : Vec Ideal S512x4096 .f32)
    (r : Fin 512) (n : Fin 4096) :
    upd f wg wu wd o (ix2 r n) = o (ix2 r n) + ∑ k : Fin 256, act (fun x => f (ix2 r x)) (fun x => wg (ix2 x k)) (fun x => wu (ix2 x k)) * wd (ix2 k n) := by
  show k0_pay1 (k0_pay6 f wg wu) (colsO o (n.val / 1024)) (colsW wd (n.val / 1024)) (ix2 r (⟨n.val % 1024, _⟩ : Fin 1024)) = _
  rw [pay1]
  have e : (⟨(1024 * (n.val / 1024) + n.val % 1024) % 4096, Nat.mod_lt _ (by decide)⟩ : Fin 4096) = n := by
    apply Fin.ext
    show (1024 * (n.val / 1024) + n.val % 1024) % 4096 = n.val
    have := n.isLt
    omega
  refine congrArg₂ (· + ·) (congrArg (fun z => o (ix2 r z)) e) (Finset.sum_congr rfl fun k _ => congrArg₂ (· * ·) (pay6 f wg wu r k) (congrArg (fun z => wd (ix2 k z)) e))

theorem zeroO_apply (r : Fin 512) (n : Fin 4096) : zeroO (F := Ideal) (ix2 r n) = (0 : EReal) := by
  show Ideal.ofBits .f32 0#32 = (0 : EReal)
  exact Ideal.ofBits_zero _

end Cert.Kernel2Ideal.Ffn

end
-- ==== Proof.FfnVal.lean ====
/-
  The feed-forward kernel's values over the extended reals: its blocks as parts of the arguments, what the scratch and
  the accumulator hold after each grid point, and the result array.
-/
module

public import proofs.«01_k».proof.Proof.FfnFrame
public import proofs.«01_k».proof.Proof.FfnPay
public import Idealize.ShloMosaic.Lib.Pipeline.Value

@[expose] public section

set_option maxRecDepth 16384

noncomputable section

namespace Cert.Kernel2Ideal.Ffn

open Idealize.ShloMosaic Idealize.ShloMosaic.TcCoe Cert.Kernel2Ideal Cert.Kernel2Ideal.Gen Cert.Ffn
open Idealize.SL.Sem

variable (m : (ℓ : Loc nD τ sig) → Buf (Elt Ideal) ℓ) (c : Dev nD)

/-! ## The arguments -/

abbrev aH : FVec Ideal S4x4096x4096 .f32 := m ((c : Thread nD τ).loc main_arg0)
abbrev aG : FVec Ideal S4096 .f32 := m ((c : Thread nD τ).loc main_arg1)
abbrev aWg : FVec Ideal S4096x11008 .f32 := m ((c : Thread nD τ).loc main_arg2)
abbrev aWu : FVec Ideal S4096x11008 .f32 := m ((c : Thread nD τ).loc main_arg3)
abbrev aWd : FVec Ideal S11008x4096 .f32 := m ((c : Thread nD τ).loc main_arg4)
abbrev aGp : FVec Ideal S4096 .f32 := m ((c : Thread nD τ).loc main_arg5)

/-- Row `R` of `h`. -/
def row (R : ℕ) (j : Fin 4096) : EReal := aH m c (ix3 (⟨R / 4096 % 4, Nat.mod_lt _ (by decide)⟩ : Fin 4) (⟨R % 4096, Nat.mod_lt _ (by decide)⟩ : Fin 4096) j)
/-- The two scales. -/
def sc (j : Fin 4096) : EReal := aG m c (ix1 j)
def scp (j : Fin 4096) : EReal := aGp m c (ix1 j)

/-- Inner feature `i`'s contribution to column `n` of row `R`. -/
def term (R : ℕ) (n : Fin 4096) (i : ℕ) : EReal :=
  if h : i < 11008 then act (norm (row m c R) (sc m c)) (fun x => aWg m c (ix2 x (⟨i, h⟩ : Fin 11008))) (fun x => aWu m c (ix2 x (⟨i, h⟩ : Fin 11008)))
    * aWd m c (ix2 (⟨i, h⟩ : Fin 11008) n) else 0

/-- The result at row `R` and column `n`. -/
def res (R : ℕ) (n : Fin 4096) : EReal :=
  out (row m c R) (sc m c) (scp m c) (fun x k => aWg m c (ix2 x k)) (fun x k => aWu m c (ix2 x k)) (fun k n => aWd m c (ix2 k n)) n

/-! ## The blocks -/

theorem V_v0 : V (F := Ideal) m c main_v0 = shapeCast S16384x4096 (aH m c) shapeCasts_S4x4096x4096_S16384x4096 := by
  show StableHlo.after hostOps0 _ (Proc.devRef .tc main_v0) = _
  after_results
  rfl
theorem V_v1 : V (F := Ideal) m c main_v1 = shapeCast S1x4096 (aG m c) shapeCasts_S4096_S1x4096 := by
  show StableHlo.after hostOps0 _ (Proc.devRef .tc main_v1) = _
  after_results
  rfl
theorem V_v2 : V (F := Ideal) m c main_v2 = truncf (F := Ideal) .bf16 (aWg m c) bitsLt_bf16_f32 := by
  show StableHlo.after hostOps0 _ (Proc.devRef .tc main_v2) = _
  after_results
theorem V_v3 : V (F := Ideal) m c main_v3 = truncf (F := Ideal) .bf16 (aWu m c) bitsLt_bf16_f32 := by
  show StableHlo.after hostOps0 _ (Proc.devRef .tc main_v3) = _
  after_results
theorem V_v4 : V (F := Ideal) m c main_v4 = truncf (F := Ideal) .bf16 (aWd m c) bitsLt_bf16_f32 := by
  show StableHlo.after hostOps0 _ (Proc.devRef .tc main_v4) = _
  after_results
theorem V_v5 : V (F := Ideal) m c main_v5 = shapeCast S1x4096 (aGp m c) shapeCasts_S4096_S1x4096 := by
  show StableHlo.after hostOps0 _ (Proc.devRef .tc main_v5) = _
  after_results
  rfl

theorem idx0 : ∀ t : Fin cfg0.N, win0_0.index t (0 : Fin 2) = t.val / 43 ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = t.val % 43 := (by decide +kernel : ∀ t : Fin grid0.N, _)
theorem idx3 : ∀ t : Fin cfg0.N, win0_3.index t (0 : Fin 2) = 0 ∧ win0_3.index t (1 : Fin 2) = t.val % 43 := (by decide +kernel : ∀ t : Fin grid0.N, _)
theorem idx4 : ∀ t : Fin cfg0.N, win0_4.index t (0 : Fin 2) = t.val % 43 ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = t.val / 43 ∧ win0_6.index t (1 : Fin 2) = 0 := (by decide +kernel : ∀ t : Fin grid0.N, _)

theorem N_eq (t : Fin cfg0.N) : t.val < 1376 := lt_of_lt_of_eq t.isLt (by decide +kernel : grid0.N = 1376)

theorem blk0 (t : Fin cfg0.N) (r : Fin 512) (k : Fin 4096) : iblk m c 0 t (ix2 r k) = row m c (512 * (t.val / 43) + r.val) k := by
  obtain ⟨e0, e1⟩ := idx0 t
  have ht := N_eq t
  have e : ((cfg0.win 0).blk t).view.emb (ix2 r k) = ix2 (⟨512 * (t.val / 43) + r.val, by omega⟩ : Fin 16384) k := by
    funext a; apply Fin.ext
    match a with
    | ⟨0, _⟩ => show win0_0.index t (0 : Fin 2) * 512 + 1 * r.val = 512 * (t.val / 43) + r.val; rw [e0]; omega
    | ⟨1, _⟩ => show win0_0.index t (1 : Fin 2) * 4096 + 1 * k.val = k.val; rw [e1]; omega
  show V (F := Ideal) m c main_v0 (((cfg0.win 0).blk t).view.emb (ix2 r k)) = _
  rw [e, V_v0]
  pointwise
  show _ = aH m c _
  congr 2
  apply Fin.ext
  show (512 * (t.val / 43) + r.val) / 4096 = (512 * (t.val / 43) + r.val) / 4096 % 4
  omega

theorem blk1 (t : Fin cfg0.N) (k : Fin 4096) : iblk m c 1 t (ix2 (0 : Fin 1) k) = sc m c k := by
  obtain ⟨e0, e1⟩ := idx1 t
  have e : ((cfg0.win 1).blk t).view.emb (ix2 (0 : Fin 1) k) = ix2 (0 : Fin 1) k := by
    funext a; apply Fin.ext
    match a with
    | ⟨0, _⟩ => show win0_1.index t (0 : Fin 2) * 1 + 1 * 0 = 0; rw [e0]
    | ⟨1, _⟩ => show win0_1.index t (1 : Fin 2) * 4096 + 1 * k.val = k.val; rw [e1]; omega
  show V (F := Ideal) m c main_v1 (((cfg0.win 1).blk t).view.emb (ix2 (0 : Fin 1) k)) = _
  rw [e, V_v1]
  pointwise
  rfl

theorem blk5 (t : Fin cfg0.N) (k : Fin 4096) : iblk m c 5 t (ix2 (0 : Fin 1) k) = scp m c k := by
  obtain ⟨e0, e1⟩ := idx5 t
  have e : ((cfg0.win 5).blk t).view.emb (ix2 (0 : Fin 1) k) = ix2 (0 : Fin 1) k := by
    funext a; apply Fin.ext
    match a with
    | ⟨0, _⟩ => show win0_5.index t (0 : Fin 2) * 1 + 1 * 0 = 0; rw [e0]
    | ⟨1, _⟩ => show win0_5.index t (1 : Fin 2) * 4096 + 1 * k.val = k.val; rw [e1]; omega
  show V (F := Ideal) m c main_v5 (((cfg0.win 5).blk t).view.emb (ix2 (0 : Fin 1) k)) = _
  rw [e, V_v5]
  pointwise
  rfl

theorem blk2 (t : Fin cfg0.N) (x : Fin 4096) (k : Fin 256) :
    iblk m c 2 t (ix2 x k) = aWg m c (ix2 x (⟨256 * (t.val % 43) + k.val, by omega⟩ : Fin 11008)) := by
  obtain ⟨e0, e1⟩ := idx2 t
  have e : ((cfg0.win 2).blk t).view.emb (ix2 x k) = ix2 x (⟨256 * (t.val % 43) + k.val, by omega⟩ : Fin 11008) := by
    funext a; apply Fin.ext
    match a with
    | ⟨0, _⟩ => show win0_2.index t (0 : Fin 2) * 4096 + 1 * x.val = x.val; rw [e0]; omega
    | ⟨1, _⟩ => show win0_2.index t (1 : Fin 2) * 256 + 1 * k.val = 256 * (t.val % 43) + k.val; rw [e1]; omega
  show V (F := Ideal) m c main_v2 (((cfg0.win 2).blk t).view.emb (ix2 x k)) = _
  rw [e, V_v2]
  rfl

theorem blk3 (t : Fin cfg0.N) (x : Fin 4096) (k : Fin 256) :
    iblk m c 3 t (ix2 x k) = aWu m c (ix2 x (⟨256 * (t.val % 43) + k.val, by omega⟩ : Fin 11008)) := by
  obtain ⟨e0, e1⟩ := idx3 t
  have e : ((cfg0.win 3).blk t).view.emb (ix2 x k) = ix2 x (⟨256 * (t.val % 43) + k.val, by omega⟩ : Fin 11008) := by
    funext a; apply Fin.ext
    match a with
    | ⟨0, _⟩ => show win0_3.index t (0 : Fin 2) * 4096 + 1 * x.val = x.val; rw [e0]; omega
    | ⟨1, _⟩ => show win0_3.index t (1 : Fin 2) * 256 + 1 * k.val = 256 * (t.val % 43) + k.val; rw [e1]; omega
  show V (F := Ideal) m c main_v3 (((cfg0.win 3).blk t).view.emb (ix2 x k)) = _
  rw [e, V_v3]
  rfl

theorem blk4 (t : Fin cfg0.N) (k : Fin 256) (n : Fin 4096) :
    iblk m c 4 t (ix2 k n) = aWd m c (ix2 (⟨256 * (t.val % 43) + k.val, by omega⟩ : Fin 11008) n) := by
  obtain ⟨e0, e1⟩ := idx4 t
  have e : ((cfg0.win 4).blk t).view.emb (ix2 k n) = ix2 (⟨256 * (t.val % 43) + k.val, by omega⟩ : Fin 11008) n := by
    funext a; apply Fin.ext
    match a with
    | ⟨0, _⟩ => show win0_4.index t (0 : Fin 2) * 256 + 1 * k.val = 256 * (t.val % 43) + k.val; rw [e0]; omega
    | ⟨1, _⟩ => show win0_4.index t (1 : Fin 2) * 4096 + 1 * n.val = n.val; rw [e1]; omega
  show V (F := Ideal) m c main_v4 (((cfg0.win 4).blk t).view.emb (ix2 k n)) = _
  rw [e, V_v4]
  rfl

/-! ## The scratch and the accumulator after a point -/

/-- The scratch at a tile's first point. -/
theorem pre_eq (t : Fin cfg0.N) (r : Fin 512) (k : Fin 4096) :
    preF (iblk m c 0 t) (iblk m c 1 t) (ix2 r k) = norm (row m c (512 * (t.val / 43) + r.val)) (sc m c) k := by
  rw [preF_apply]
  simp only [blk0, blk1]

/-- One update adds the chunk's contributions. -/
theorem upd_eq (t : Fin cfg0.N) (f : Vec Ideal S512x4096 .bf16) (o : Vec Ideal S512x4096 .f32) (r : Fin 512) (n : Fin 4096)
    (hf : ∀ k, f (ix2 r k) = norm (row m c (512 * (t.val / 43) + r.val)) (sc m c) k)
    (ho : o (ix2 r n) = ∑ i ∈ Finset.range (256 * (t.val % 43)), term m c (512 * (t.val / 43) + r.val) n i) :
    upd f (iblk m c 2 t) (iblk m c 3 t) (iblk m c 4 t) o (ix2 r n)
      = ∑ i ∈ Finset.range (256 * (t.val % 43 + 1)), term m c (512 * (t.val / 43) + r.val) n i := by
  rw [upd_apply, ho, Nat.mul_succ, Finset.sum_range_add, Finset.sum_range (n := 256)]
  simp only [hf, blk2, blk3, blk4]
  refine congrArg₂ (· + ·) rfl (Finset.sum_congr rfl fun k _ => ?_)
  unfold term
  rw [dif_pos (by omega)]

/-- All the contributions, as one sum. -/
theorem sum_all (R : ℕ) (n : Fin 4096) : ∑ i ∈ Finset.range (256 * (42 + 1)), term m c R n i
    = ∑ k : Fin 11008, act (norm (row m c R) (sc m c)) (fun x => aWg m c (ix2 x k)) (fun x => aWu m c (ix2 x k)) * aWd m c (ix2 k n) := by
  rw [show 256 * (42 + 1) = 11008 from rfl, Finset.sum_range]
  refine Finset.sum_congr rfl fun k _ => ?_
  unfold term
  rw [dif_pos k.isLt]

/-- After point `n`: the scratch holds the tile's normalised rows; the accumulator the contributions of the chunks so
far, or at a tile's last point the result. -/
theorem st_eq : ∀ (n : ℕ) (hn : n < cfg0.N) (r : Fin 512),
    (∀ k, (st m c n).1 (ix2 r k) = norm (row m c (512 * (n / 43) + r.val)) (sc m c) k)
    ∧ (n % 43 ≠ 42 → ∀ k, (st m c n).2 (ix2 r k) = ∑ i ∈ Finset.range (256 * (n % 43 + 1)), term m c (512 * (n / 43) + r.val) k i)
    ∧ (n % 43 = 42 → ∀ k, (st m c n).2 (ix2 r k) = res m c (512 * (n / 43) + r.val) k) := by
  intro n
  induction n with
  | zero =>
    intro hn r
    rw [st_first m c ⟨0, hn⟩ rfl]
    refine ⟨fun k => pre_eq m c ⟨0, hn⟩ r k, fun _ k => upd_eq m c ⟨0, hn⟩ _ _ r k (fun k => pre_eq m c ⟨0, hn⟩ r k) ?_, fun h => absurd h (by decide)⟩
    rw [zeroO_apply]; rfl
  | succ n ih =>
    intro hn r
    by_cases h : (n + 1) % 43 = 0
    · have e := st_first m c ⟨n + 1, hn⟩ h
      dsimp only at e
      rw [e]
      refine ⟨fun k => pre_eq m c ⟨n + 1, hn⟩ r k, fun _ k => upd_eq m c ⟨n + 1, hn⟩ _ _ r k (fun k => pre_eq m c ⟨n + 1, hn⟩ r k) ?_, fun h' => by omega⟩
      rw [zeroO_apply, h]; rfl
    · obtain ⟨i1, i2, -⟩ := ih (by omega) r
      have q : n / 43 = (n + 1) / 43 := by omega
      have q' : n % 43 + 1 = (n + 1) % 43 := by omega
      rw [q] at i1 i2
      rw [q'] at i2
      have i2 := i2 (by omega)
      by_cases h' : (n + 1) % 43 = 42
      · have e : st m c (n + 1) = ((st m c n).1, finF (iblk m c 0 ⟨n + 1, hn⟩) (upd (st m c n).1 (iblk m c 2 ⟨n + 1, hn⟩) (iblk m c 3 ⟨n + 1, hn⟩)
            (iblk m c 4 ⟨n + 1, hn⟩) (st m c n).2) (iblk m c 5 ⟨n + 1, hn⟩)) := st_last m c ⟨n + 1, hn⟩ h'
        rw [e]
        refine ⟨i1, fun h => absurd h' h, fun _ k => ?_⟩
        have u : ∀ j, upd (st m c n).1 (iblk m c 2 ⟨n + 1, hn⟩) (iblk m c 3 ⟨n + 1, hn⟩) (iblk m c 4 ⟨n + 1, hn⟩) (st m c n).2 (ix2 r j) = _ :=
          fun j => upd_eq m c ⟨n + 1, hn⟩ _ _ r j i1 (i2 j)
        dsimp only at u ⊢
        rw [finF_apply]
        simp only [u, blk0, blk5, h', sum_all]
        rfl
      · have e : st m c (n + 1) = ((st m c n).1, upd (st m c n).1 (iblk m c 2 ⟨n + 1, hn⟩) (iblk m c 3 ⟨n + 1, hn⟩)
            (iblk m c 4 ⟨n + 1, hn⟩) (st m c n).2) := st_middle m c ⟨n + 1, hn⟩ h h'
        rw [e]
        exact ⟨i1, fun _ k => upd_eq m c ⟨n + 1, hn⟩ _ _ r k i1 (i2 k), fun h => absurd h h'⟩

/-! ## The result array -/

/-- The result array, as a function of the arguments. -/
def resArr : FVec Ideal S16384x4096 .f32 := fun p => res m c (p (0 : Fin 2)).val (p (1 : Fin 2))

theorem final6 : (dats m 0 c).arrAt 6 cfg0.N = resArr m c := by
  refine (dats m 0 c).arrAt_eq_of_cover 6 _ (fun t ht => ?_) (fun i => ?_)
  · obtain ⟨e0, e1⟩ := idx6 t
    have h42 := (flush0_6 t).mp ht
    show (cfg0.win 6).cut (grid0.coords t) ((dats m 0 c).after 6 t) = _
    rw [after0_6]
    funext j
    obtain ⟨r, n, rfl⟩ : ∃ (r : Fin 512) (n : Fin 4096), ix2 r n = (j : S512x4096.Idx) := ⟨(j : S512x4096.Idx) 0, (j : S512x4096.Idx) 1, funext fun a => by match a with | ⟨0, _⟩ => rfl | ⟨1, _⟩ => rfl⟩
    have s := (st_eq m c t.val t.isLt r).2.2 h42 n
    have p0 : (((cfg0.win 6).blk t).view.emb (ix2 r n) (0 : Fin 2)).val = 512 * (t.val / 43) + r.val := by
      show win0_6.index t (0 : Fin 2) * 512 + 1 * r.val = _; rw [e0]; omega
    have p1 : ((cfg0.win 6).blk t).view.emb (ix2 r n) (1 : Fin 2) = n := by
      apply Fin.ext
      show win0_6.index t (1 : Fin 2) * 4096 + 1 * n.val = _; rw [e1]; omega
    refine Eq.trans s ?_
    show _ = res m c (((cfg0.win 6).blk t).view.emb (ix2 r n) (0 : Fin 2)).val (((cfg0.win 6).blk t).view.emb (ix2 r n) (1 : Fin 2))
    rw [p0, p1]
  · obtain ⟨R, C, rfl⟩ : ∃ (R : Fin 16384) (C : Fin 4096), ix2 R C = (i : S16384x4096.Idx) := ⟨(i : S16384x4096.Idx) 0, (i : S16384x4096.Idx) 1, funext fun a => by match a with | ⟨0, _⟩ => rfl | ⟨1, _⟩ => rfl⟩
    have hN : grid0.N = 1376 := by decide +kernel
    refine ⟨⟨43 * (R.val / 512) + 42, lt_of_lt_of_eq (b := 1376) (by omega) hN.symm⟩, (flush0_6 _).mpr (by show (43 * (R.val / 512) + 42) % 43 = 42; omega), ?_⟩
    generalize hT : (⟨43 * (R.val / 512) + 42, lt_of_lt_of_eq (b := 1376) (by omega) hN.symm⟩ : Fin cfg0.N) = t
    obtain ⟨e0, e1⟩ := idx6 t
    have e2 : t.val = 43 * (R.val / 512) + 42 := by rw [← hT]
    have h := ((cfg0.win 6).blk t).view.emb_mem_set (ix2 (⟨R.val % 512, by omega⟩ : Fin 512) C)
    convert h using 1
    funext a; apply Fin.ext
    match a with
    | ⟨0, _⟩ => show R.val = win0_6.index t (0 : Fin 2) * 512 + 1 * (R.val % 512); rw [e0, e2]; omega
    | ⟨1, _⟩ => show C.val = win0_6.index t (1 : Fin 2) * 4096 + 1 * C.val; rw [e1]; omega

/-- The run: the result array is `resArr`, the arguments end unchanged. -/
theorem run_value (ρ : Dev nD → PrngReg) : θ_run defs (onTc (τ := τ) (main (F := Ideal))) ⟨m, fun _ => 0, ρ⟩ fun r => ∀ c : Dev nD,
      r.2.mem ((c : Thread nD τ).loc main_v6) = resArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) := by
  exact (θ_run defs _ _).mono (fun r h c => ⟨((h.1 c).1 6).trans (final6 m c), h.2 c⟩)
    (θ_run_and (run_main m ρ) (frame_of m ρ (dats m) (A_eq m) (run_main m ρ)))

end Cert.Kernel2Ideal.Ffn

end
-- ==== Proof.FfnRef.lean ====
/-
  The reference's feed-forward sub-layer, element by element.
-/
module

public import proofs.«01_k».proof.Proof.Gen.Reference2Ideal.Read
public import proofs.«01_k».proof.Proof.FfnSpec

@[expose] public section

noncomputable section

namespace Cert.Reference2Ideal.Ffn

open Idealize.ShloMosaic Idealize.ShloMosaic.TcCoe Cert.Reference2Ideal Cert.Reference2Ideal.Gen Cert.Reference2Ideal.Read Cert.Ffn

variable (x : FVec Ideal S4x4096x4096 .f32) (g : FVec Ideal S4096 .f32) (wg wu : FVec Ideal S4096x11008 .f32) (wd : FVec Ideal S11008x4096 .f32) (gp : FVec Ideal S4096 .f32)

theorem zero0 : val_main_cst (F := Ideal) (Shape.Idx.first h_S_) = (0 : EReal) := by rw [val_main_cst_apply]; exact Ideal.ofBits_zero _
theorem zero2 : val_main_cst_2 (F := Ideal) (Shape.Idx.first h_S_) = (0 : EReal) := by rw [val_main_cst_2_apply]; exact Ideal.ofBits_zero _

/-- The normalised input. -/
theorem v12_apply (b : Fin 4) (s k : Fin 4096) : val_main_v12 (F := Ideal) x g (ix3 b s k) = norm (fun j => x (ix3 b s j)) (fun j => g (ix1 j)) k := by
  pointwise [val_main_v12, val_main_v11, val_main_v10, val_main_v9, val_main_v8, val_main_v7, val_main_v6, val_main_v5, val_main_v4, val_main_v3, val_main_v2, val_main_v1, val_main_v0]
  rw [zero0, zero_add]
  rfl

theorem one0 (i) : val_main_call0_cst (F := Ideal) i = (1 : EReal) := by rw [val_main_call0_cst_apply]; exact Ideal.ofBits_one_f32
theorem one1 (i) : val_main_call0_cst_0 (F := Ideal) i = (1 : EReal) := by rw [val_main_call0_cst_0_apply]; exact Ideal.ofBits_one_f32

/-- The inner features. -/
theorem v16_apply (b : Fin 4) (s : Fin 4096) (k : Fin 11008) : val_main_v16 (F := Ideal) x g wg wu (ix3 b s k)
    = act (norm (fun j => x (ix3 b s j)) (fun j => g (ix1 j))) (fun j => wg (ix2 j k)) (fun j => wu (ix2 j k)) := by
  pointwise [val_main_v16, val_main_v15, val_main_v14, val_main_v13, val_main_call0_v5, val_main_call0_v4, val_main_call0_v3, val_main_call0_v2, val_main_call0_v1, val_main_call0_v0]
  simp only [v12_apply, one0, one1]
  rfl

/-- The result before the last reshape. -/
theorem v31_apply (b : Fin 4) (s n : Fin 4096) : val_main_v31 (F := Ideal) x g wg wu wd gp (ix3 b s n)
    = out (fun j => x (ix3 b s j)) (fun j => g (ix1 j)) (fun j => gp (ix1 j)) (fun j k => wg (ix2 j k)) (fun j k => wu (ix2 j k)) (fun k n => wd (ix2 k n)) n := by
  pointwise [val_main_v31, val_main_v30, val_main_v29, val_main_v28, val_main_v27, val_main_v26, val_main_v25, val_main_v24, val_main_v23, val_main_v22, val_main_v21, val_main_v20, val_main_v19, val_main_v18, val_main_v17]
  simp only [v16_apply, zero2, zero_add]
  rfl

/-- THE REFERENCE'S RESULT. -/
theorem v32_apply (R : Fin 16384) (n : Fin 4096) : val_main_v32 (F := Ideal) x g wg wu wd gp (ix2 R n)
    = out (fun j => x (ix3 (⟨R.val / 4096, by omega⟩ : Fin 4) (⟨R.val % 4096, by omega⟩ : Fin 4096) j)) (fun j => g (ix1 j)) (fun j => gp (ix1 j))
      (fun j k => wg (ix2 j k)) (fun j k => wu (ix2 j k)) (fun k n => wd (ix2 k n)) n := by
  rw [val_main_v32_apply, ← v31_apply]
  congr 1
  funext a
  apply Fin.ext
  match a with
  | ⟨0, _⟩ => show (R.val * 4096 + n.val) / 16777216 = R.val / 4096; omega
  | ⟨1, _⟩ => show (R.val * 4096 + n.val) / 4096 % 4096 = R.val % 4096; omega
  | ⟨2, _⟩ => show (R.val * 4096 + n.val) % 4096 = n.val; omega

end Cert.Reference2Ideal.Ffn

end
-- ==== Proof.FfnClaim.lean ====
/-
  The claims about the feed-forward sub-layer's call.
-/
module

public import proofs.«01_k».proof.Defs
public import proofs.«01_k».proof.Proof.FfnVal
public import proofs.«01_k».proof.Proof.FfnRef
public import proofs.«01_k».proof.Proof.Gen.Reference2Ideal.Run

@[expose] public section

noncomputable section

namespace Cert.Proof

open Idealize.ShloMosaic Idealize.ShloMosaic.TcCoe Idealize.SL.Sem

/-- The reference's result is the same function of the arguments. -/
theorem ref2_res (m : (ℓ : Loc Cert.Kernel2Ideal.nD Cert.Kernel2Ideal.τ Cert.Kernel2Ideal.sig) → Buf (Elt Ideal) ℓ) (c : Dev Cert.Kernel2Ideal.nD) :
    Cert.Reference2Ideal.Read.val_main_v32 (F := Ideal) (Cert.Kernel2Ideal.Ffn.aH m c) (Cert.Kernel2Ideal.Ffn.aG m c) (Cert.Kernel2Ideal.Ffn.aWg m c)
      (Cert.Kernel2Ideal.Ffn.aWu m c) (Cert.Kernel2Ideal.Ffn.aWd m c) (Cert.Kernel2Ideal.Ffn.aGp m c) = Cert.Kernel2Ideal.Ffn.resArr m c := by
  funext p
  obtain ⟨R, C, rfl⟩ : ∃ (R : Fin 16384) (C : Fin 4096), ix2 R C = p := ⟨p 0, p 1, funext fun a => by match a with | ⟨0, _⟩ => rfl | ⟨1, _⟩ => rfl⟩
  rw [Cert.Reference2Ideal.Ffn.v32_apply]
  show _ = Cert.Kernel2Ideal.Ffn.res m c R.val C
  unfold Cert.Kernel2Ideal.Ffn.res
  have e : Cert.Kernel2Ideal.Ffn.row m c R.val = fun j => Cert.Kernel2Ideal.Ffn.aH m c (ix3 (⟨R.val / 4096, by omega⟩ : Fin 4) (⟨R.val % 4096, by omega⟩ : Fin 4096) j) := by
    funext j
    unfold Cert.Kernel2Ideal.Ffn.row
    congr 2
    apply Fin.ext
    show R.val / 4096 % 4 = R.val / 4096
    omega
  rw [e]
  rfl

/-- THE VALUE CLAIM of the feed-forward sub-layer. -/
theorem algebraic_ffn : Cert.algebraic_Kernel2Ideal_Reference2Ideal (hKernel2Ideal := Cert.Kernel2Ideal.Gen.facts) (hReference2Ideal := Cert.Reference2Ideal.Gen.facts) :=
  fun m ρ m' ρ' _ hag => ⟨Cert.Kernel2Ideal.Ffn.resArr m,
    Cert.Kernel2Ideal.Ffn.run_value m ρ,
    (θ_run _ _ _).mono (fun _ h c => ⟨(h c).1.trans ((Cert.Reference2Ideal.Read.val_main_v32_eq m' c).trans (by
          obtain ⟨h0, h1, h2, h3, h4, h5⟩ := hag c
          rw [h0, h1, h2, h3, h4, h5]
          exact ref2_res m c)), (h c).2⟩)
      (Cert.Reference2Ideal.Value.run m' ρ')⟩

end Cert.Proof

end
-- ==== Proof.Rows.lean ====
/-
  A row divided by the root of its mean square, scaled, and projected on a column: the factor common to the row may be
  applied after the projection, over the extended reals and for any row.
-/
module

public import Idealize.ShloMosaic.Lib.Pointwise

@[expose] public section

noncomputable section

namespace Cert.Rows

open Idealize.ShloMosaic

/-- The factor of a row: one over the root of the mean of its squares (over `d`) plus the small constant. -/
def fac {n : ℕ} (d : EReal) (x : Fin n → EReal) : EReal :=
  Ideal.rsqrt (Ideal.div (∑ j, x j * x j) d + Ideal.ofBits FTy.f32 0x358637BD#32)

/-- A row times its factor and the scale: its element `k`. -/
def norm {n : ℕ} (d : EReal) (x g : Fin n → EReal) (k : Fin n) : EReal := x k * fac d x * g k

/-- The normalised row's product with a column. -/
def proj {n : ℕ} (d : EReal) (x g w : Fin n → EReal) : EReal := ∑ k, norm d x g k * w k

/-- 4096 and 2048, as the programs write them. -/
abbrev d4096 : EReal := Ideal.ofBits FTy.f32 0x45800000#32
abbrev d2048 : EReal := Ideal.ofBits FTy.f32 0x45000000#32

theorem d4096_eq : d4096 = ((4096 : ℝ) : EReal) := by
  show Ideal.ofBits .f32 0x45800000#32 = _
  simp [Ideal.ofBits, Ideal.ieee]
  rw [← EReal.coe_mul]
  norm_num
theorem d2048_eq : d2048 = ((2048 : ℝ) : EReal) := by
  show Ideal.ofBits .f32 0x45000000#32 = _
  simp [Ideal.ofBits, Ideal.ieee]
  rw [← EReal.coe_mul]
  norm_num

/-- The small constant is a positive real. -/
theorem eps_pos : ∃ e : ℝ, 0 < e ∧ Ideal.ofBits FTy.f32 0x358637BD#32 = (e : EReal) := by
  simp [Ideal.ofBits, Ideal.ieee]
  rw [← EReal.coe_mul]
  refine ⟨_, ?_, rfl⟩
  positivity

/-- A square is not negative. -/
theorem sq_nonneg (x : EReal) : 0 ≤ x * x := by
  induction x with
  | bot => simp
  | top => simp
  | coe x => rw [← EReal.coe_mul]; exact_mod_cast mul_self_nonneg x

/-- The factor of a row is a real that is not negative. -/
theorem fac_real {n : ℕ} (d : EReal) (hd : ∃ e : ℝ, 0 < e ∧ d = (e : EReal)) (x : Fin n → EReal) : 0 ≤ fac d x ∧ fac d x ≠ ⊤ := by
  obtain ⟨e, he, h⟩ := eps_pos
  obtain ⟨d', hd', rfl⟩ := hd
  have hs : 0 ≤ ∑ j, x j * x j := Finset.sum_nonneg fun j _ => sq_nonneg _
  unfold fac
  rw [h]
  generalize (∑ j, x j * x j) = s at hs
  have hq : Ideal.div s (d' : EReal) = s * ((d'⁻¹ : ℝ) : EReal) := by
    have h0 : ((d' : ℝ) : EReal) ≠ 0 := by exact_mod_cast hd'.ne'
    unfold Ideal.div
    rw [if_neg h0, EReal.coe_inv]
  rw [hq]
  induction s with
  | bot => exact absurd hs (by simp)
  | top =>
    rw [EReal.top_mul_coe_of_pos (inv_pos.mpr hd'), EReal.top_add_coe]
    have : Ideal.rsqrt ⊤ = 0 := rfl
    rw [this]
    exact ⟨le_refl _, EReal.zero_ne_top⟩
  | coe s =>
    have hs' : (0 : ℝ) ≤ s := by exact_mod_cast hs
    rw [← EReal.coe_mul, ← EReal.coe_add]
    have hp : 0 < s * d'⁻¹ + e := by positivity
    generalize s * d'⁻¹ + e = z at hp
    have : Ideal.rsqrt ((z : ℝ) : EReal) = (((Real.sqrt z)⁻¹ : ℝ) : EReal) := by
      show (if z < 0 then (⊥ : EReal) else if z = 0 then ⊤ else (((Real.sqrt z)⁻¹ : ℝ) : EReal)) = _
      rw [if_neg (not_lt.mpr hp.le), if_neg hp.ne']
    rw [this]
    exact ⟨by exact_mod_cast inv_nonneg.mpr (Real.sqrt_nonneg z), EReal.coe_ne_top _⟩

/-- A real factor that is not negative distributes over a sum. -/
theorem sum_mul {ι : Type} [DecidableEq ι] (s : Finset ι) (f : ι → EReal) (r : EReal) (h : 0 ≤ r) (h' : r ≠ ⊤) : (∑ i ∈ s, f i) * r = ∑ i ∈ s, f i * r := by
  induction s using Finset.induction_on with
  | empty => simp
  | insert a s ha ih => rw [Finset.sum_insert ha, Finset.sum_insert ha, EReal.right_distrib_of_nonneg_of_ne_top h h', ih]

/-- The factor applied after the projection. -/
theorem proj_eq {n : ℕ} (d : EReal) (hd : ∃ e : ℝ, 0 < e ∧ d = (e : EReal)) (x g w : Fin n → EReal) :
    (∑ k, x k * g k * w k) * fac d x = proj d x g w := by
  obtain ⟨h, h'⟩ := fac_real d hd x
  rw [sum_mul _ _ _ h h']
  exact Finset.sum_congr rfl fun k _ => by
    unfold norm
    generalize fac d x = r
    rw [mul_assoc (x k) (g k), mul_assoc (x k), mul_comm (g k * w k), mul_assoc (x k) r, mul_assoc (x k), mul_assoc r]

theorem proj4096 (x g w : Fin 4096 → EReal) : (∑ k, x k * g k * w k) * fac d4096 x = proj d4096 x g w :=
  proj_eq _ ⟨4096, by norm_num, d4096_eq⟩ x g w
theorem proj2048 (x g w : Fin 2048 → EReal) : (∑ k, x k * g k * w k) * fac d2048 x = proj d2048 x g w :=
  proj_eq _ ⟨2048, by norm_num, d2048_eq⟩ x g w

end Cert.Rows

end
-- ==== Proof.InpVal.lean ====
/-
  The sliding-window layer's input projection: the kernel's tile functions over the extended reals, its blocks as parts
  of the arguments, and the two result arrays.
-/
module

public import proofs.«01_k».proof.Proof.Gen.Kernel3Ideal.Value
public import proofs.«01_k».proof.Proof.Rows
public import Idealize.ShloMosaic.Lib.Pipeline.Value

@[expose] public section

set_option maxRecDepth 16384

noncomputable section

namespace Cert.Kernel3Ideal.Inp

open Idealize.ShloMosaic Idealize.ShloMosaic.TcCoe Cert.Kernel3Ideal Cert.Kernel3Ideal.Gen Cert.Rows
open Idealize.SL.Sem

theorem hz : (![0, 0] : Fin 2 → Nat) = fun _ => 0 := funext fun a => by match a with | ⟨0, _⟩ => rfl | ⟨1, _⟩ => rfl

/-- The scale of the queries. -/
abbrev cq : EReal := Ideal.ofBits FTy.f32 0x3E38AA3B#32

section
variable (x : Vec Ideal S256x4096 .f32) (g : Vec Ideal S1x4096 .f32) (w : Vec Ideal S4096x1024 .bf16) (r : Fin 256) (n : Fin 1024)

/-- One chunk of 1024 columns: two of the queries, one of the keys and values. -/
theorem pay7 : k0_pay7 x g w (ix2 r n) = proj d4096 (fun j => x (ix2 r j)) (fun j => g (ix2 (0 : Fin 1) j)) (fun j => w (ix2 j n)) * cq := by
  rw [← proj4096, mul_assoc]
  pointwise [k0_pay7, k0_pay6, k0_pay5, k0_pay4, k0_pay3]
  rfl
theorem pay8 : k0_pay8 x g w (ix2 r n) = proj d4096 (fun j => x (ix2 r j)) (fun j => g (ix2 (0 : Fin 1) j)) (fun j => w (ix2 j n)) * cq := by
  rw [← proj4096, mul_assoc]
  pointwise [k0_pay8, k0_pay6, k0_pay5, k0_pay4, k0_pay3]
  rfl
theorem pay1 : k0_pay1 (k0_pay4 x) (k0_pay5 x g) w (ix2 r n) = proj d4096 (fun j => x (ix2 r j)) (fun j => g (ix2 (0 : Fin 1) j)) (fun j => w (ix2 j n)) := by
  rw [← proj4096]
  pointwise [k0_pay1, k0_pay5, k0_pay4, k0_pay3]
  rfl
end

/-- One column of the result of a row: a query's, scaled, or a key's or value's. -/
def col (x g : Fin 4096 → EReal) (wq : Fin 4096 → Fin 2048 → EReal) (wk : Fin 4096 → Fin 1024 → EReal) (n : Fin 3072) : EReal :=
  if h : n.val < 2048 then proj d4096 x g (fun j => wq j ⟨n.val, h⟩) * cq else proj d4096 x g (fun j => wk j ⟨n.val - 2048, by omega⟩)

theorem col_q (x g : Fin 4096 → EReal) (wq : Fin 4096 → Fin 2048 → EReal) (wk : Fin 4096 → Fin 1024 → EReal) (n : Fin 3072) (h : n.val < 2048) :
    col x g wq wk n = proj d4096 x g (fun j => wq j ⟨n.val, h⟩) * cq := dif_pos h
theorem col_k (x g : Fin 4096 → EReal) (wq : Fin 4096 → Fin 2048 → EReal) (wk : Fin 4096 → Fin 1024 → EReal) (n : Fin 1024) :
    col x g wq wk ⟨2048 + n.val, by omega⟩ = proj d4096 x g (fun j => wk j n) := by
  have e : (⟨2048 + n.val - 2048, by omega⟩ : Fin 1024) = n := Fin.ext (by show 2048 + n.val - 2048 = n.val; omega)
  unfold col
  rw [dif_neg (by show ¬ 2048 + n.val < 2048; omega)]
  simp only [e]

/-- The tile as one function of its place. -/
def tileF (x0 : Vec Ideal S256x4096 .f32) (x1 : Vec Ideal S1x4096 .f32) (x2 : Vec Ideal S4096x2048 .bf16) (x3 : Vec Ideal S4096x1024 .bf16) : S256x3072.Idx → Elt Ideal .bf16 :=
  fun y => col (fun j => x0 (ix2 (y 0 : Fin 256) j)) (fun j => x1 (ix2 (0 : Fin 1) j)) (fun j n => x2 (ix2 j n)) (fun j n => x3 (ix2 j n)) (y 1 : Fin 3072)

/-- Where the chunks lie. -/
theorem emb_8 (r : Fin 256) (n : Fin 1024) : r0_8.emb (ix2 r n) = ix2 r (⟨2048 + n.val, by omega⟩ : Fin 3072) := by
  funext a; apply Fin.ext
  match a with
  | ⟨0, _⟩ => show 0 + 1 * r.val = r.val; omega
  | ⟨1, _⟩ => show 2048 + 1 * n.val = 2048 + n.val; omega
theorem emb_5 (k : Fin 4096) (n : Fin 1024) : r0_5.emb (ix2 k n) = ix2 k (⟨1024 + n.val, by omega⟩ : Fin 2048) := by
  funext a; apply Fin.ext
  match a with
  | ⟨0, _⟩ => show 0 + 1 * k.val = k.val; omega
  | ⟨1, _⟩ => show 1024 + 1 * n.val = 1024 + n.val; omega
theorem emb_6 (r : Fin 256) (n : Fin 1024) : r0_6.emb (ix2 r n) = ix2 r (⟨1024 + n.val, by omega⟩ : Fin 3072) := by
  funext a; apply Fin.ext
  match a with
  | ⟨0, _⟩ => show 0 + 1 * r.val = r.val; omega
  | ⟨1, _⟩ => show 1024 + 1 * n.val = 1024 + n.val; omega
theorem emb_3 (k : Fin 4096) (n : Fin 1024) : r0_3.emb (ix2 k n) = ix2 k (⟨0 + n.val, by omega⟩ : Fin 2048) := by
  funext a; apply Fin.ext
  match a with
  | ⟨0, _⟩ => show 0 + 1 * k.val = k.val; omega
  | ⟨1, _⟩ => show 0 + 1 * n.val = 0 + n.val; omega
theorem emb_4 (r : Fin 256) (n : Fin 1024) : r0_4.emb (ix2 r n) = ix2 r (⟨0 + n.val, by omega⟩ : Fin 3072) := by
  funext a; apply Fin.ext
  match a with
  | ⟨0, _⟩ => show 0 + 1 * r.val = r.val; omega
  | ⟨1, _⟩ => show 0 + 1 * n.val = 0 + n.val; omega

/-- The three chunks are its columns. -/
theorem out5_eq (x0 : Vec Ideal S256x4096 .f32) (x1 : Vec Ideal S1x4096 .f32) (x2 : Vec Ideal S4096x2048 .bf16) (x3 : Vec Ideal S4096x1024 .bf16) (x4 : Vec Ideal S64x4096 .f32) :
    out0_5 x0 x1 x2 x3 x4 = tileF x0 x1 x2 x3 := by
  funext y
  refine View.canon_apply_of_pieces (tileF x0 x1 x2 x3) _ (fun p hp x => ?_) y (cover0_5 _ _ _ y)
  rw [View.ld_unit_zero hz, View.ld_unit_zero hz, View.ld_unit_zero hz] at hp
  simp only [List.mem_cons, List.not_mem_nil, or_false] at hp
  have sp : ∀ x : S256x1024.Idx, ∃ (r : Fin 256) (n : Fin 1024), ix2 r n = x := fun x => ⟨x 0, x 1, funext fun a => by match a with | ⟨0, _⟩ => rfl | ⟨1, _⟩ => rfl⟩
  rcases hp with rfl | rfl | rfl
  · obtain ⟨r, n, rfl⟩ := sp x
    refine (pay1 _ _ _ r n).trans ?_
    show _ = tileF x0 x1 x2 x3 (r0_8.emb (ix2 r n))
    rw [emb_8]
    show _ = col (fun j => x0 (ix2 r j)) (fun j => x1 (ix2 (0 : Fin 1) j)) (fun j n => x2 (ix2 j n)) (fun j n => x3 (ix2 j n)) (⟨2048 + n.val, by omega⟩ : Fin 3072)
    exact (col_k (fun j => x0 (ix2 r j)) (fun j => x1 (ix2 (0 : Fin 1) j)) (fun j n => x2 (ix2 j n)) (fun j n => x3 (ix2 j n)) n).symm
  · obtain ⟨r, n, rfl⟩ := sp x
    refine (pay8 _ _ _ r n).trans ?_
    show proj d4096 (fun j => x0 (ix2 r j)) (fun j => x1 (ix2 (0 : Fin 1) j)) (fun j => x2 (r0_5.emb (ix2 j n))) * cq = tileF x0 x1 x2 x3 (r0_6.emb (ix2 r n))
    rw [emb_6]
    simp only [emb_5]
    show _ = col (fun j => x0 (ix2 r j)) (fun j => x1 (ix2 (0 : Fin 1) j)) (fun j n => x2 (ix2 j n)) (fun j n => x3 (ix2 j n)) (⟨1024 + n.val, by omega⟩ : Fin 3072)
    exact (col_q (fun j => x0 (ix2 r j)) (fun j => x1 (ix2 (0 : Fin 1) j)) (fun j n => x2 (ix2 j n)) (fun j n => x3 (ix2 j n)) (⟨1024 + n.val, by omega⟩ : Fin 3072) (by show 1024 + n.val < 2048; omega)).symm
  · obtain ⟨r, n, rfl⟩ := sp x
    refine (pay7 _ _ _ r n).trans ?_
    show proj d4096 (fun j => x0 (ix2 r j)) (fun j => x1 (ix2 (0 : Fin 1) j)) (fun j => x2 (r0_3.emb (ix2 j n))) * cq = tileF x0 x1 x2 x3 (r0_4.emb (ix2 r n))
    rw [emb_4]
    simp only [emb_3]
    show _ = col (fun j => x0 (ix2 r j)) (fun j => x1 (ix2 (0 : Fin 1) j)) (fun j n => x2 (ix2 j n)) (fun j n => x3 (ix2 j n)) (⟨0 + n.val, by omega⟩ : Fin 3072)
    exact (col_q (fun j => x0 (ix2 r j)) (fun j => x1 (ix2 (0 : Fin 1) j)) (fun j n => x2 (ix2 j n)) (fun j n => x3 (ix2 j n)) (⟨0 + n.val, by omega⟩ : Fin 3072) (by show 0 + n.val < 2048; omega)).symm

/-- The weights' slab is only cast. -/
theorem out6_eq (x0 : Vec Ideal S256x4096 .f32) (x1 : Vec Ideal S1x4096 .f32) (x2 : Vec Ideal S4096x2048 .bf16) (x3 : Vec Ideal S4096x1024 .bf16) (x4 : Vec Ideal S64x4096 .f32) (y) :
    out0_6 x0 x1 x2 x3 x4 y = x4 y := by
  have e : out0_6 x0 x1 x2 x3 x4 = k0_pay2 x4 := by
    show View.canon [_] = _
    rw [View.canon_unit_zero hz, View.ld_unit_zero hz]
  rw [e]
  rfl

variable (m : (ℓ : Loc nD τ sig) → Buf (Elt Ideal) ℓ) (c : Dev nD)

/-! ## The arguments -/

abbrev aX : FVec Ideal S4x4096x4096 .f32 := m ((c : Thread nD τ).loc main_arg0)
abbrev aG : FVec Ideal S4096 .f32 := m ((c : Thread nD τ).loc main_arg1)
abbrev aQ : FVec Ideal S4096x2048 .f32 := m ((c : Thread nD τ).loc main_arg2)
abbrev aK : FVec Ideal S4096x1024 .f32 := m ((c : Thread nD τ).loc main_arg3)
abbrev aO : FVec Ideal S4096x4096 .f32 := m ((c : Thread nD τ).loc main_arg4)

/-- Row `R` of `x`, and the scale. -/
def row (R : ℕ) (j : Fin 4096) : EReal := aX m c (ix3 (⟨R / 4096 % 4, Nat.mod_lt _ (by decide)⟩ : Fin 4) (⟨R % 4096, Nat.mod_lt _ (by decide)⟩ : Fin 4096) j)
def sc (j : Fin 4096) : EReal := aG m c (ix1 j)

/-- The first result at row `R` and column `n`. -/
def resA (R : ℕ) (n : Fin 3072) : EReal := col (row m c R) (sc m c) (fun j n => aQ m c (ix2 j n)) (fun j n => aK m c (ix2 j n)) n

/-- The row of the output weights that row `Q` of the second result holds: the second half's slabs of 64 rows, eight by
four, are taken four by eight. -/
def src (Q : ℕ) : ℕ := if Q < 2048 then Q else 2048 + (((Q - 2048) / 64 % 8) * 4 + (Q - 2048) / 64 / 8) * 64 + Q % 64
theorem src_lt (Q : ℕ) (h : Q < 4096) : src Q < 4096 := by unfold src; split <;> omega

/-- The second result at row `Q` and column `n`. -/
def resB (Q : Fin 4096) (n : Fin 4096) : EReal := aO m c (ix2 (⟨src Q.val, src_lt _ Q.isLt⟩ : Fin 4096) n)

/-! ## The blocks -/

theorem V_v0 : V (F := Ideal) m c main_v0 = shapeCast S16384x4096 (aX m c) shapeCasts_S4x4096x4096_S16384x4096 := by
  show StableHlo.after hostOps0 _ (Proc.devRef .tc main_v0) = _
  after_results
  rfl
theorem V_v1 : V (F := Ideal) m c main_v1 = shapeCast S1x4096 (aG m c) shapeCasts_S4096_S1x4096 := by
  show StableHlo.after hostOps0 _ (Proc.devRef .tc main_v1) = _
  after_results
  rfl
theorem V_v2 : V (F := Ideal) m c main_v2 = truncf (F := Ideal) .bf16 (aQ m c) bitsLt_bf16_f32 := by
  show StableHlo.after hostOps0 _ (Proc.devRef .tc main_v2) = _
  after_results
theorem V_v3 : V (F := Ideal) m c main_v3 = truncf (F := Ideal) .bf16 (aK m c) bitsLt_bf16_f32 := by
  show StableHlo.after hostOps0 _ (Proc.devRef .tc main_v3) = _
  after_results

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = t.val ∧ win0_4.index t (1 : Fin 2) = 0 := (by decide +kernel : ∀ t : Fin grid0.N, _)
theorem idx5 : ∀ t : Fin cfg0.N, win0_5.index t (0 : Fin 2) = t.val ∧ win0_5.index t (1 : Fin 2) = 0 := (by decide +kernel : ∀ t : Fin grid0.N, _)
theorem idx6 : ∀ t : Fin cfg0.N, win0_6.index t (0 : Fin 2) = (if t.val < 32 then t.val else 32 + 8 * ((t.val - 32) % 4) + (t.val - 32) / 4) ∧ win0_6.index t (1 : Fin 2) = 0 := (by decide +kernel : ∀ t : Fin grid0.N, _)
/-- Every point writes its tiles back. -/
theorem flush5 : ∀ t : Fin cfg0.N, (cfg0.win 5).flush t = true := (by decide +kernel : ∀ t : Fin grid0.N, win0_5.flush t = true)
theorem flush6 : ∀ t : Fin cfg0.N, (cfg0.win 6).flush t = true := (by decide +kernel : ∀ t : Fin grid0.N, win0_6.flush t = true)

theorem N_lt (t : Fin cfg0.N) : t.val < 64 := lt_of_lt_of_eq t.isLt (by decide +kernel : grid0.N = 64)

theorem blk0 (t : Fin cfg0.N) (r : Fin 256) (k : Fin 4096) : iblk m c 0 t (ix2 r k) = row m c (256 * t.val + r.val) k := by
  obtain ⟨e0, e1⟩ := idx0 t
  have ht := N_lt t
  have e : ((cfg0.win 0).blk t).view.emb (ix2 r k) = ix2 (⟨256 * t.val + r.val, by omega⟩ : Fin 16384) k := by
    funext a; apply Fin.ext
    match a with
    | ⟨0, _⟩ => show win0_0.index t (0 : Fin 2) * 256 + 1 * r.val = 256 * t.val + r.val; rw [e0]; omega
    | ⟨1, _⟩ => show win0_0.index t (1 : Fin 2) * 4096 + 1 * k.val = k.val; rw [e1]; omega
  show V (F := Ideal) m c main_v0 (((cfg0.win 0).blk t).view.emb (ix2 r k)) = _
  rw [e, V_v0]
  pointwise
  show _ = aX m c _
  congr 2
  apply Fin.ext
  show (256 * t.val + r.val) / 4096 = (256 * t.val + r.val) / 4096 % 4
  omega

theorem blk1 (t : Fin cfg0.N) (k : Fin 4096) : iblk m c 1 t (ix2 (0 : Fin 1) k) = sc m c k := by
  obtain ⟨e0, e1⟩ := idx1 t
  have e : ((cfg0.win 1).blk t).view.emb (ix2 (0 : Fin 1) k) = ix2 (0 : Fin 1) k := by
    funext a; apply Fin.ext
    match a with
    | ⟨0, _⟩ => show win0_1.index t (0 : Fin 2) * 1 + 1 * 0 = 0; rw [e0]
    | ⟨1, _⟩ => show win0_1.index t (1 : Fin 2) * 4096 + 1 * k.val = k.val; rw [e1]; omega
  show V (F := Ideal) m c main_v1 (((cfg0.win 1).blk t).view.emb (ix2 (0 : Fin 1) k)) = _
  rw [e, V_v1]
  pointwise
  rfl

theorem blk2 (t : Fin cfg0.N) (x : Fin 4096) (k : Fin 2048) : iblk m c 2 t (ix2 x k) = aQ m c (ix2 x k) := by
  obtain ⟨e0, e1⟩ := idx2 t
  have e : ((cfg0.win 2).blk t).view.emb (ix2 x k) = ix2 x k := by
    funext a; apply Fin.ext
    match a with
    | ⟨0, _⟩ => show win0_2.index t (0 : Fin 2) * 4096 + 1 * x.val = x.val; rw [e0]; omega
    | ⟨1, _⟩ => show win0_2.index t (1 : Fin 2) * 2048 + 1 * k.val = k.val; rw [e1]; omega
  show V (F := Ideal) m c main_v2 (((cfg0.win 2).blk t).view.emb (ix2 x k)) = _
  rw [e, V_v2]
  rfl

theorem blk3 (t : Fin cfg0.N) (x : Fin 4096) (k : Fin 1024) : iblk m c 3 t (ix2 x k) = aK m c (ix2 x k) := by
  obtain ⟨e0, e1⟩ := idx3 t
  have e : ((cfg0.win 3).blk t).view.emb (ix2 x k) = ix2 x k := by
    funext a; apply Fin.ext
    match a with
    | ⟨0, _⟩ => show win0_3.index t (0 : Fin 2) * 4096 + 1 * x.val = x.val; rw [e0]; omega
    | ⟨1, _⟩ => show win0_3.index t (1 : Fin 2) * 1024 + 1 * k.val = k.val; rw [e1]; omega
  show V (F := Ideal) m c main_v3 (((cfg0.win 3).blk t).view.emb (ix2 x k)) = _
  rw [e, V_v3]
  rfl

theorem blk4 (t : Fin cfg0.N) (r : Fin 64) (k : Fin 4096) : iblk m c 4 t (ix2 r k) = aO m c (ix2 (⟨64 * t.val + r.val, by have := N_lt t; omega⟩ : Fin 4096) k) := by
  obtain ⟨e0, e1⟩ := idx4 t
  have ht := N_lt t
  have e : ((cfg0.win 4).blk t).view.emb (ix2 r k) = ix2 (⟨64 * t.val + r.val, by omega⟩ : Fin 4096) k := by
    funext a; apply Fin.ext
    match a with
    | ⟨0, _⟩ => show win0_4.index t (0 : Fin 2) * 64 + 1 * r.val = 64 * t.val + r.val; rw [e0]; omega
    | ⟨1, _⟩ => show win0_4.index t (1 : Fin 2) * 4096 + 1 * k.val = k.val; rw [e1]; omega
  show V (F := Ideal) m c main_arg4 (((cfg0.win 4).blk t).view.emb (ix2 r k)) = _
  rw [e, V_main_arg4]

/-! ## The result arrays -/

/-- The result arrays, as functions of the arguments. -/
def arrA : FVec Ideal S16384x3072 .bf16 := fun p => resA m c (p (0 : Fin 2)).val (p (1 : Fin 2))
def arrB : FVec Ideal S4096x4096 .bf16 := fun p => resB m c (p (0 : Fin 2)) (p (1 : Fin 2))

theorem tile5 (t : Fin cfg0.N) (r : Fin 256) (n : Fin 3072) :
    out0_5 (iblk m c 0 t) (iblk m c 1 t) (iblk m c 2 t) (iblk m c 3 t) (iblk m c 4 t) (ix2 r n) = resA m c (256 * t.val + r.val) n := by
  rw [out5_eq]
  show col (fun j => iblk m c 0 t (ix2 r j)) (fun j => iblk m c 1 t (ix2 (0 : Fin 1) j)) (fun j n => iblk m c 2 t (ix2 j n)) (fun j n => iblk m c 3 t (ix2 j n)) n = _
  simp only [blk0, blk1, blk2, blk3]
  rfl

theorem final5 : (dats m 0 c).arrAt 5 cfg0.N = arrA m c := by
  refine (dats m 0 c).arrAt_eq_of_cover 5 _ (fun t ht => ?_) (fun i => ?_)
  · obtain ⟨e0, e1⟩ := idx5 t
    rw [Cert.Kernel3Ideal.Value.flushed5]
    funext j
    obtain ⟨r, n, rfl⟩ : ∃ (r : Fin 256) (n : Fin 3072), ix2 r n = (j : S256x3072.Idx) := ⟨(j : S256x3072.Idx) 0, (j : S256x3072.Idx) 1, funext fun a => by match a with | ⟨0, _⟩ => rfl | ⟨1, _⟩ => rfl⟩
    have p0 : (((cfg0.win 5).blk t).view.emb (ix2 r n) (0 : Fin 2)).val = 256 * t.val + r.val := by
      show win0_5.index t (0 : Fin 2) * 256 + 1 * r.val = _; rw [e0]; omega
    have p1 : ((cfg0.win 5).blk t).view.emb (ix2 r n) (1 : Fin 2) = n := by
      apply Fin.ext
      show win0_5.index t (1 : Fin 2) * 3072 + 1 * n.val = _; rw [e1]; omega
    refine Eq.trans (tile5 m c t r n) ?_
    show _ = resA m c (((cfg0.win 5).blk t).view.emb (ix2 r n) (0 : Fin 2)).val (((cfg0.win 5).blk t).view.emb (ix2 r n) (1 : Fin 2))
    rw [p0, p1]
  · obtain ⟨R, C, rfl⟩ : ∃ (R : Fin 16384) (C : Fin 3072), ix2 R C = (i : S16384x3072.Idx) := ⟨(i : S16384x3072.Idx) 0, (i : S16384x3072.Idx) 1, funext fun a => by match a with | ⟨0, _⟩ => rfl | ⟨1, _⟩ => rfl⟩
    have hN : grid0.N = 64 := by decide +kernel
    refine ⟨⟨R.val / 256, lt_of_lt_of_eq (b := 64) (by omega) hN.symm⟩, flush5 _, ?_⟩
    generalize hT : (⟨R.val / 256, lt_of_lt_of_eq (b := 64) (by omega) hN.symm⟩ : Fin cfg0.N) = t
    obtain ⟨e0, e1⟩ := idx5 t
    have e2 : t.val = R.val / 256 := by rw [← hT]
    have h := ((cfg0.win 5).blk t).view.emb_mem_set (ix2 (⟨R.val % 256, by omega⟩ : Fin 256) C)
    convert h using 1
    funext a; apply Fin.ext
    match a with
    | ⟨0, _⟩ => show R.val = win0_5.index t (0 : Fin 2) * 256 + 1 * (R.val % 256); rw [e0, e2]; omega
    | ⟨1, _⟩ => show C.val = win0_5.index t (1 : Fin 2) * 3072 + 1 * C.val; rw [e1]; omega

theorem final6 : (dats m 0 c).arrAt 6 cfg0.N = arrB m c := by
  refine (dats m 0 c).arrAt_eq_of_cover 6 _ (fun t ht => ?_) (fun i => ?_)
  · obtain ⟨e0, e1⟩ := idx6 t
    have hN := N_lt t
    rw [Cert.Kernel3Ideal.Value.flushed6]
    funext j
    obtain ⟨r, n, rfl⟩ : ∃ (r : Fin 64) (n : Fin 4096), ix2 r n = (j : S64x4096.Idx) := ⟨(j : S64x4096.Idx) 0, (j : S64x4096.Idx) 1, funext fun a => by match a with | ⟨0, _⟩ => rfl | ⟨1, _⟩ => rfl⟩
    have p0 : src (((cfg0.win 6).blk t).view.emb (ix2 r n) (0 : Fin 2)).val = 64 * t.val + r.val := by
      show src (win0_6.index t (0 : Fin 2) * 64 + 1 * r.val) = _
      rw [e0]
      have hr := r.isLt
      unfold src
      by_cases h : t.val < 32
      · rw [if_pos h, if_pos (by omega)]; omega
      · rw [if_neg h, if_neg (by omega)]
        have q : (32 + 8 * ((t.val - 32) % 4) + (t.val - 32) / 4) * 64 + 1 * r.val - 2048 = (8 * ((t.val - 32) % 4) + (t.val - 32) / 4) * 64 + r.val := by omega
        have q1 : ((8 * ((t.val - 32) % 4) + (t.val - 32) / 4) * 64 + r.val) / 64 = 8 * ((t.val - 32) % 4) + (t.val - 32) / 4 := by omega
        have q2 : ((32 + 8 * ((t.val - 32) % 4) + (t.val - 32) / 4) * 64 + 1 * r.val) % 64 = r.val := by omega
        rw [q, q1, q2]
        omega
    have p1 : ((cfg0.win 6).blk t).view.emb (ix2 r n) (1 : Fin 2) = n := by
      apply Fin.ext
      show win0_6.index t (1 : Fin 2) * 4096 + 1 * n.val = _; rw [e1]; omega
    refine Eq.trans ((out6_eq _ _ _ _ _ (ix2 r n)).trans (blk4 m c t r n)) ?_
    show _ = aO m c (ix2 (⟨src (((cfg0.win 6).blk t).view.emb (ix2 r n) (0 : Fin 2)).val, _⟩ : Fin 4096) (((cfg0.win 6).blk t).view.emb (ix2 r n) (1 : Fin 2)))
    simp only [p0, p1]
  · obtain ⟨R, C, rfl⟩ : ∃ (R : Fin 4096) (C : Fin 4096), ix2 R C = (i : S4096x4096.Idx) := ⟨(i : S4096x4096.Idx) 0, (i : S4096x4096.Idx) 1, funext fun a => by match a with | ⟨0, _⟩ => rfl | ⟨1, _⟩ => rfl⟩
    have hN : grid0.N = 64 := by decide +kernel
    have hs := src_lt R.val R.isLt
    refine ⟨⟨src R.val / 64, lt_of_lt_of_eq (b := 64) (by omega) hN.symm⟩, flush6 _, ?_⟩
    generalize hT : (⟨src R.val / 64, lt_of_lt_of_eq (b := 64) (by omega) hN.symm⟩ : Fin cfg0.N) = t
    obtain ⟨e0, e1⟩ := idx6 t
    have e2 : t.val = src R.val / 64 := by rw [← hT]
    have h := ((cfg0.win 6).blk t).view.emb_mem_set (ix2 (⟨R.val % 64, by omega⟩ : Fin 64) C)
    convert h using 1
    funext a; apply Fin.ext
    match a with
    | ⟨0, _⟩ =>
      show R.val = win0_6.index t (0 : Fin 2) * 64 + 1 * (R.val % 64)
      rw [e0, e2]
      have hR := R.isLt
      unfold src
      by_cases h : R.val < 2048
      · rw [if_pos h, if_pos (by omega)]; omega
      · rw [if_neg h]
        have q : (2048 + ((R.val - 2048) / 64 % 8 * 4 + (R.val - 2048) / 64 / 8) * 64 + R.val % 64) / 64 = 32 + ((R.val - 2048) / 64 % 8 * 4 + (R.val - 2048) / 64 / 8) := by omega
        rw [q, if_neg (by omega)]
        omega
    | ⟨1, _⟩ => show C.val = win0_6.index t (1 : Fin 2) * 4096 + 1 * C.val; rw [e1]; omega

end Cert.Kernel3Ideal.Inp

end
-- ==== Proof.InpRef.lean ====
/-
  The reference's input projection of the sliding-window layer, element by element.
-/
module

public import proofs.«01_k».proof.Proof.Gen.Reference3Ideal.Read
public import proofs.«01_k».proof.Proof.Rows

@[expose] public section

noncomputable section

namespace Cert.Reference3Ideal.Inp

open Idealize.ShloMosaic Idealize.ShloMosaic.TcCoe Cert.Reference3Ideal Cert.Reference3Ideal.Gen Cert.Reference3Ideal.Read Cert.Rows

variable (x : FVec Ideal S4x4096x4096 .f32) (g : FVec Ideal S4096 .f32) (wq : FVec Ideal S4096x2048 .f32) (wk : FVec Ideal S4096x1024 .f32) (wo : FVec Ideal S4096x4096 .f32)

theorem zero0 : val_main_cst (F := Ideal) (Shape.Idx.first h_S_) = (0 : EReal) := by rw [val_main_cst_apply]; exact Ideal.ofBits_zero _

/-- The normalised input. -/
theorem v12_apply (b : Fin 4) (s k : Fin 4096) : val_main_v12 (F := Ideal) x g (ix3 b s k) = norm d4096 (fun j => x (ix3 b s j)) (fun j => g (ix1 j)) k := by
  pointwise [val_main_v12, val_main_v11, val_main_v10, val_main_v9, val_main_v8, val_main_v7, val_main_v6, val_main_v5, val_main_v4, val_main_v3, val_main_v2, val_main_v1, val_main_v0]
  rw [zero0, zero_add]
  rfl

/-- The queries, scaled, and the keys and values. -/
theorem v15_apply (b : Fin 4) (s : Fin 4096) (n : Fin 2048) : val_main_v15 (F := Ideal) x g wq (ix3 b s n)
    = proj d4096 (fun j => x (ix3 b s j)) (fun j => g (ix1 j)) (fun j => wq (ix2 j n)) * Ideal.ofBits FTy.f32 0x3E38AA3B#32 := by
  pointwise [val_main_v15, val_main_v14, val_main_v13]
  simp only [v12_apply]
  rfl
theorem v20_apply (b : Fin 4) (s : Fin 4096) (n : Fin 1024) : val_main_v20 (F := Ideal) x g wk (ix3 b s n)
    = proj d4096 (fun j => x (ix3 b s j)) (fun j => g (ix1 j)) (fun j => wk (ix2 j n)) := by
  pointwise [val_main_v20]
  simp only [v12_apply]
  rfl

/-- The two side by side. -/
theorem v21_apply (b : Fin 4) (s : Fin 4096) (n : Fin 3072) : val_main_v21 (F := Ideal) x g wq wk (ix3 b s n)
    = if h : n.val < 2048 then proj d4096 (fun j => x (ix3 b s j)) (fun j => g (ix1 j)) (fun j => wq (ix2 j (⟨n.val, h⟩ : Fin 2048))) * Ideal.ofBits FTy.f32 0x3E38AA3B#32
      else proj d4096 (fun j => x (ix3 b s j)) (fun j => g (ix1 j)) (fun j => wk (ix2 j (⟨n.val - 2048, by omega⟩ : Fin 1024))) := by
  pointwise [val_main_v21]
  simp only [v15_apply, v20_apply]

/-- THE REFERENCE'S FIRST RESULT. -/
theorem v23_apply (R : Fin 16384) (n : Fin 3072) : val_main_v23 (F := Ideal) x g wq wk (ix2 R n)
    = if h : n.val < 2048 then proj d4096 (fun j => x (ix3 (⟨R.val / 4096, by omega⟩ : Fin 4) (⟨R.val % 4096, by omega⟩ : Fin 4096) j)) (fun j => g (ix1 j)) (fun j => wq (ix2 j (⟨n.val, h⟩ : Fin 2048))) * Ideal.ofBits FTy.f32 0x3E38AA3B#32
      else proj d4096 (fun j => x (ix3 (⟨R.val / 4096, by omega⟩ : Fin 4) (⟨R.val % 4096, by omega⟩ : Fin 4096) j)) (fun j => g (ix1 j)) (fun j => wk (ix2 j (⟨n.val - 2048, by omega⟩ : Fin 1024))) := by
  show val_main_v22 (F := Ideal) x g wq wk (ix2 R n) = _
  rw [val_main_v22_apply, ← v21_apply]
  congr 1
  funext a
  apply Fin.ext
  match a with
  | ⟨0, _⟩ => show (R.val * 3072 + n.val) / 12582912 = R.val / 4096; omega
  | ⟨1, _⟩ => show (R.val * 3072 + n.val) / 3072 % 4096 = R.val % 4096; omega
  | ⟨2, _⟩ => show (R.val * 3072 + n.val) % 3072 = n.val; omega

/-- The weights' second half, its slabs taken in the other order. -/
theorem v19_apply (Q : Fin 2048) (n : Fin 4096) : val_main_v19 (F := Ideal) wo (ix2 Q n)
    = wo (ix2 (⟨2048 + ((Q.val / 64 % 8) * 4 + Q.val / 64 / 8) * 64 + Q.val % 64, by omega⟩ : Fin 4096) n) := by
  rw [val_main_v19_apply, val_main_v18_apply, val_main_v17_apply, val_main_v16_apply]
  congr 1
  have hQ := Q.isLt
  have hn := n.isLt
  have e0 : (Q.val * 4096 + n.val) / 2097152 = Q.val / 64 / 8 := by omega
  have e1 : (Q.val * 4096 + n.val) / 262144 % 8 = Q.val / 64 % 8 := by omega
  have e2 : (Q.val * 4096 + n.val) / 4096 % 64 = Q.val % 64 := by omega
  have e3 : (Q.val * 4096 + n.val) % 4096 = n.val := by omega
  funext a
  apply Fin.ext
  match a with
  | ⟨0, _⟩ =>
    show 2048 + (((((Q.val * 4096 + n.val) / 262144 % 8) * 4 + (Q.val * 4096 + n.val) / 2097152) * 64 + (Q.val * 4096 + n.val) / 4096 % 64) * 4096 + (Q.val * 4096 + n.val) % 4096) / 4096 = 2048 + ((Q.val / 64 % 8) * 4 + Q.val / 64 / 8) * 64 + Q.val % 64
    rw [e0, e1, e2, e3]
    clear e0 e1 e2 e3
    rw [Nat.mul_comm _ 4096, Nat.mul_add_div (by decide), Nat.div_eq_of_lt hn, Nat.add_zero, Nat.add_assoc]
  | ⟨1, _⟩ =>
    show (((((Q.val * 4096 + n.val) / 262144 % 8) * 4 + (Q.val * 4096 + n.val) / 2097152) * 64 + (Q.val * 4096 + n.val) / 4096 % 64) * 4096 + (Q.val * 4096 + n.val) % 4096) % 4096 = n.val
    rw [e0, e1, e2, e3]
    clear e0 e1 e2 e3
    rw [Nat.mul_comm _ 4096, Nat.mul_add_mod, Nat.mod_eq_of_lt hn]

theorem v24_apply (Q : Fin 2048) (n : Fin 4096) : val_main_v24 (F := Ideal) wo (ix2 Q n) = wo (ix2 (⟨Q.val, by omega⟩ : Fin 4096) n) := by
  rw [val_main_v24_apply]
  congr 1
  funext a
  apply Fin.ext
  match a with
  | ⟨0, _⟩ => rfl
  | ⟨1, _⟩ => rfl

/-- THE REFERENCE'S SECOND RESULT. -/
theorem v26_apply (Q n : Fin 4096) : val_main_v26 (F := Ideal) wo (ix2 Q n)
    = if h : Q.val < 2048 then wo (ix2 Q n) else wo (ix2 (⟨2048 + (((Q.val - 2048) / 64 % 8) * 4 + (Q.val - 2048) / 64 / 8) * 64 + (Q.val - 2048) % 64, by omega⟩ : Fin 4096) n) := by
  show val_main_v25 (F := Ideal) wo (ix2 Q n) = _
  pointwise [val_main_v25]
  simp only [v24_apply, v19_apply]

end Cert.Reference3Ideal.Inp

end
-- ==== Proof.InpClaim.lean ====
/-
  The value claim about the sliding-window layer's input projection.
-/
module

public import proofs.«01_k».proof.Defs
public import proofs.«01_k».proof.Proof.InpVal
public import proofs.«01_k».proof.Proof.InpRef
public import proofs.«01_k».proof.Proof.Gen.Reference3Ideal.Run

@[expose] public section

noncomputable section

namespace Cert.Proof

open Idealize.ShloMosaic Idealize.ShloMosaic.TcCoe Idealize.SL.Sem

section
open Cert.Kernel3Ideal Cert.Kernel3Ideal.Inp

variable (m : (ℓ : Loc nD τ sig) → Buf (Elt Ideal) ℓ) (c : Dev nD)

/-- Row `R` of the kernel's text is the reference's. -/
theorem row3 (R : Fin 16384) : row m c R.val = fun j => aX m c (ix3 (⟨R.val / 4096, by omega⟩ : Fin 4) (⟨R.val % 4096, by omega⟩ : Fin 4096) j) := by
  funext j
  unfold row
  congr 2
  apply Fin.ext
  show R.val / 4096 % 4 = R.val / 4096
  omega

/-- The reference's results are the same functions of the arguments. -/
theorem ref3_A : Cert.Reference3Ideal.Read.val_main_v23 (F := Ideal) (aX m c) (aG m c) (aQ m c) (aK m c) = arrA m c := by
  funext p
  obtain ⟨R, C, rfl⟩ : ∃ (R : Fin 16384) (C : Fin 3072), ix2 R C = p := ⟨p 0, p 1, funext fun a => by match a with | ⟨0, _⟩ => rfl | ⟨1, _⟩ => rfl⟩
  rw [Cert.Reference3Ideal.Inp.v23_apply]
  show _ = resA m c R.val C
  unfold resA
  rw [row3]
  rfl
theorem ref3_B : Cert.Reference3Ideal.Read.val_main_v26 (F := Ideal) (aO m c) = arrB m c := by
  funext p
  obtain ⟨Q, C, rfl⟩ : ∃ (Q : Fin 4096) (C : Fin 4096), ix2 Q C = p := ⟨p 0, p 1, funext fun a => by match a with | ⟨0, _⟩ => rfl | ⟨1, _⟩ => rfl⟩
  rw [Cert.Reference3Ideal.Inp.v26_apply]
  show _ = aO m c (ix2 (⟨src Q.val, _⟩ : Fin 4096) C)
  have hQ := Q.isLt
  by_cases h : Q.val < 2048
  · rw [dif_pos h]
    congr 2
    apply Fin.ext
    show Q.val = src Q.val
    unfold src
    rw [if_pos h]
  · rw [dif_neg h]
    have e : 2048 + (((Q.val - 2048) / 64 % 8) * 4 + (Q.val - 2048) / 64 / 8) * 64 + (Q.val - 2048) % 64 = src Q.val := by
      have e' : (Q.val - 2048) % 64 = Q.val % 64 := by omega
      unfold src
      rw [if_neg h, e']
    simp only [e]
end

/-- THE VALUE CLAIM of the sliding-window layer's input projection. -/
theorem algebraic_inp : Cert.algebraic_Kernel3Ideal_Reference3Ideal (hKernel3Ideal := Cert.Kernel3Ideal.Gen.facts) (hReference3Ideal := Cert.Reference3Ideal.Gen.facts) :=
  fun m ρ m' ρ' _ hag => ⟨Cert.Kernel3Ideal.Inp.arrA m, Cert.Kernel3Ideal.Inp.arrB m,
    (θ_run _ _ _).mono (fun _ h c => ⟨(h c).1.trans (Cert.Kernel3Ideal.Inp.final5 m c), (h c).2.1.trans (Cert.Kernel3Ideal.Inp.final6 m c), (h c).2.2⟩)
      (Cert.Kernel3Ideal.Value.run_blocks m ρ),
    (θ_run _ _ _).mono (fun _ h c => ⟨(h c).1.trans ((Cert.Reference3Ideal.Read.val_main_v23_eq _ _ _ _).trans (by
          obtain ⟨h0, h1, h2, h3, h4⟩ := hag c
          rw [h0, h1, h2, h3]
          exact ref3_A m c)),
        (h c).2.1.trans ((Cert.Reference3Ideal.Read.val_main_v26_eq _).trans (by
          obtain ⟨h0, h1, h2, h3, h4⟩ := hag c
          rw [h4]
          exact ref3_B m c)), (h c).2.2⟩)
      (Cert.Reference3Ideal.Value.run m' ρ')⟩

end Cert.Proof

end
-- ==== Proof.OaVal.lean ====
/-
  The first half of the output projection: the kernel's tile functions over the extended reals, its blocks as parts of
  the arguments, and the result array.
-/
module

public import proofs.«01_k».proof.Proof.Gen.Kernel4Ideal.Value
public import proofs.«01_k».proof.Proof.Rows
public import Idealize.ShloMosaic.Lib.Pipeline.Value

@[expose] public section

set_option maxRecDepth 16384

noncomputable section

namespace Cert.Kernel4Ideal.Oa

open Idealize.ShloMosaic Idealize.ShloMosaic.TcCoe Cert.Kernel4Ideal Cert.Kernel4Ideal.Gen Cert.Rows
open Idealize.SL.Sem

theorem hz : (![0, 0] : Fin 2 → Nat) = fun _ => 0 := funext fun a => by match a with | ⟨0, _⟩ => rfl | ⟨1, _⟩ => rfl

section
variable (x : Vec Ideal S512x2048 .bf16) (g : Vec Ideal S1x2048 .f32) (w : Vec Ideal S2048x1024 .bf16) (r : Fin 512) (n : Fin 1024)

/-- One chunk of 1024 columns. -/
theorem pay5 : k0_pay5 x g w (ix2 r n) = proj d2048 (fun j => x (ix2 r j)) (fun j => g (ix2 (0 : Fin 1) j)) (fun j => w (ix2 j n)) := by
  rw [← proj2048]
  pointwise [k0_pay5, k0_pay4, k0_pay3, k0_pay2]
  rfl
theorem pay6 : k0_pay6 x g w (ix2 r n) = proj d2048 (fun j => x (ix2 r j)) (fun j => g (ix2 (0 : Fin 1) j)) (fun j => w (ix2 j n)) := by
  rw [← proj2048]
  pointwise [k0_pay6, k0_pay4, k0_pay3, k0_pay2]
  rfl
theorem pay7 : k0_pay7 x g w (ix2 r n) = proj d2048 (fun j => x (ix2 r j)) (fun j => g (ix2 (0 : Fin 1) j)) (fun j => w (ix2 j n)) := by
  rw [← proj2048]
  pointwise [k0_pay7, k0_pay4, k0_pay3, k0_pay2]
  rfl
theorem pay1 : k0_pay1 (k0_pay3 x) (k0_pay4 x g) w (ix2 r n) = proj d2048 (fun j => x (ix2 r j)) (fun j => g (ix2 (0 : Fin 1) j)) (fun j => w (ix2 j n)) := by
  rw [← proj2048]
  pointwise [k0_pay1, k0_pay4, k0_pay3, k0_pay2]
  rfl
end

/-- The tile as one function of its place. -/
def tileF (x0 : Vec Ideal S512x2048 .bf16) (x1 : Vec Ideal S1x2048 .f32) (x2 : Vec Ideal S2048x4096 .bf16) : S512x4096.Idx → Elt Ideal .f32 :=
  fun y => proj d2048 (fun j => x0 (ix2 (y 0 : Fin 512) j)) (fun j => x1 (ix2 (0 : Fin 1) j)) (fun j => x2 (ix2 j (y 1 : Fin 4096)))

/-- Where the chunks lie. -/
theorem emb_8 (k : Fin 2048) (n : Fin 1024) : r0_8.emb (ix2 k n) = ix2 k (⟨3072 + n.val, by omega⟩ : Fin 4096) := by
  funext a; apply Fin.ext
  match a with
  | ⟨0, _⟩ => show 0 + 1 * k.val = k.val; omega
  | ⟨1, _⟩ => show 3072 + 1 * n.val = 3072 + n.val; omega
theorem emb_9 (r : Fin 512) (n : Fin 1024) : r0_9.emb (ix2 r n) = ix2 r (⟨3072 + n.val, by omega⟩ : Fin 4096) := by
  funext a; apply Fin.ext
  match a with
  | ⟨0, _⟩ => show 0 + 1 * r.val = r.val; omega
  | ⟨1, _⟩ => show 3072 + 1 * n.val = 3072 + n.val; omega
theorem emb_6 (k : Fin 2048) (n : Fin 1024) : r0_6.emb (ix2 k n) = ix2 k (⟨2048 + n.val, by omega⟩ : Fin 4096) := by
  funext a; apply Fin.ext
  match a with
  | ⟨0, _⟩ => show 0 + 1 * k.val = k.val; omega
  | ⟨1, _⟩ => show 2048 + 1 * n.val = 2048 + n.val; omega
theorem emb_7 (r : Fin 512) (n : Fin 1024) : r0_7.emb (ix2 r n) = ix2 r (⟨2048 + n.val, by omega⟩ : Fin 4096) := by
  funext a; apply Fin.ext
  match a with
  | ⟨0, _⟩ => show 0 + 1 * r.val = r.val; omega
  | ⟨1, _⟩ => show 2048 + 1 * n.val = 2048 + n.val; omega
theorem emb_4 (k : Fin 2048) (n : Fin 1024) : r0_4.emb (ix2 k n) = ix2 k (⟨1024 + n.val, by omega⟩ : Fin 4096) := by
  funext a; apply Fin.ext
  match a with
  | ⟨0, _⟩ => show 0 + 1 * k.val = k.val; omega
  | ⟨1, _⟩ => show 1024 + 1 * n.val = 1024 + n.val; omega
theorem emb_5 (r : Fin 512) (n : Fin 1024) : r0_5.emb (ix2 r n) = ix2 r (⟨1024 + n.val, by omega⟩ : Fin 4096) := by
  funext a; apply Fin.ext
  match a with
  | ⟨0, _⟩ => show 0 + 1 * r.val = r.val; omega
  | ⟨1, _⟩ => show 1024 + 1 * n.val = 1024 + n.val; omega
theorem emb_2 (k : Fin 2048) (n : Fin 1024) : r0_2.emb (ix2 k n) = ix2 k (⟨0 + n.val, by omega⟩ : Fin 4096) := by
  funext a; apply Fin.ext
  match a with
  | ⟨0, _⟩ => show 0 + 1 * k.val = k.val; omega
  | ⟨1, _⟩ => show 0 + 1 * n.val = 0 + n.val; omega
theorem emb_3 (r : Fin 512) (n : Fin 1024) : r0_3.emb (ix2 r n) = ix2 r (⟨0 + n.val, by omega⟩ : Fin 4096) := by
  funext a; apply Fin.ext
  match a with
  | ⟨0, _⟩ => show 0 + 1 * r.val = r.val; omega
  | ⟨1, _⟩ => show 0 + 1 * n.val = 0 + n.val; omega

/-- The four chunks are its columns. -/
theorem out3_eq (x0 : Vec Ideal S512x2048 .bf16) (x1 : Vec Ideal S1x2048 .f32) (x2 : Vec Ideal S2048x4096 .bf16) : out0_3 x0 x1 x2 = tileF x0 x1 x2 := by
  funext y
  refine View.canon_apply_of_pieces (tileF x0 x1 x2) _ (fun p hp x => ?_) y (cover0_3 _ _ _ _ y)
  rw [View.ld_unit_zero hz, View.ld_unit_zero hz] at hp
  simp only [List.mem_cons, List.not_mem_nil, or_false] at hp
  have sp : ∀ x : S512x1024.Idx, ∃ (r : Fin 512) (n : Fin 1024), ix2 r n = x := fun x => ⟨x 0, x 1, funext fun a => by match a with | ⟨0, _⟩ => rfl | ⟨1, _⟩ => rfl⟩
  rcases hp with rfl | rfl | rfl | rfl
  · obtain ⟨r, n, rfl⟩ := sp x
    refine (pay1 _ _ _ r n).trans ?_
    show proj d2048 (fun j => x0 (ix2 r j)) (fun j => x1 (ix2 (0 : Fin 1) j)) (fun j => x2 (r0_8.emb (ix2 j n))) = tileF x0 x1 x2 (r0_9.emb (ix2 r n))
    rw [emb_9]
    simp only [emb_8]
    rfl
  · obtain ⟨r, n, rfl⟩ := sp x
    refine (pay7 _ _ _ r n).trans ?_
    show proj d2048 (fun j => x0 (ix2 r j)) (fun j => x1 (ix2 (0 : Fin 1) j)) (fun j => x2 (r0_6.emb (ix2 j n))) = tileF x0 x1 x2 (r0_7.emb (ix2 r n))
    rw [emb_7]
    simp only [emb_6]
    rfl
  · obtain ⟨r, n, rfl⟩ := sp x
    refine (pay6 _ _ _ r n).trans ?_
    show proj d2048 (fun j => x0 (ix2 r j)) (fun j => x1 (ix2 (0 : Fin 1) j)) (fun j => x2 (r0_4.emb (ix2 j n))) = tileF x0 x1 x2 (r0_5.emb (ix2 r n))
    rw [emb_5]
    simp only [emb_4]
    rfl
  · obtain ⟨r, n, rfl⟩ := sp x
    refine (pay5 _ _ _ r n).trans ?_
    show proj d2048 (fun j => x0 (ix2 r j)) (fun j => x1 (ix2 (0 : Fin 1) j)) (fun j => x2 (r0_2.emb (ix2 j n))) = tileF x0 x1 x2 (r0_3.emb (ix2 r n))
    rw [emb_3]
    simp only [emb_2]
    rfl

variable (m : (ℓ : Loc nD τ sig) → Buf (Elt Ideal) ℓ) (c : Dev nD)

/-! ## The arguments -/

abbrev aO : FVec Ideal S4x4096x2048 .f32 := m ((c : Thread nD τ).loc main_arg0)
abbrev aG : FVec Ideal S2048 .f32 := m ((c : Thread nD τ).loc main_arg1)
abbrev aW : FVec Ideal S4096x4096 .f32 := m ((c : Thread nD τ).loc main_arg2)

/-- Row `R` of the first half of the mixture, and the scale. -/
def row (R : ℕ) (j : Fin 2048) : EReal := aO m c (ix3 (⟨R / 4096 % 4, Nat.mod_lt _ (by decide)⟩ : Fin 4) (⟨R % 4096, Nat.mod_lt _ (by decide)⟩ : Fin 4096) j)
def sc (j : Fin 2048) : EReal := aG m c (ix1 j)

/-- The result at row `R` and column `n`: only the first 2048 rows of the weights are read. -/
def res (R : ℕ) (n : Fin 4096) : EReal := proj d2048 (row m c R) (sc m c) (fun j => aW m c (ix2 (⟨j.val, by omega⟩ : Fin 4096) n))

/-! ## The blocks -/

theorem V_v1 : V (F := Ideal) m c main_v1 = truncf (F := Ideal) .bf16 (shapeCast S16384x2048 (aO m c) shapeCasts_S4x4096x2048_S16384x2048) bitsLt_bf16_f32 := by
  show StableHlo.after hostOps0 _ (Proc.devRef .tc main_v1) = _
  after_results
  rfl
theorem V_v2 : V (F := Ideal) m c main_v2 = shapeCast S1x2048 (aG m c) shapeCasts_S2048_S1x2048 := by
  show StableHlo.after hostOps0 _ (Proc.devRef .tc main_v2) = _
  after_results
  rfl
theorem V_v3 : V (F := Ideal) m c main_v3 = truncf (F := Ideal) .bf16 (aW m c) bitsLt_bf16_f32 := by
  show StableHlo.after hostOps0 _ (Proc.devRef .tc main_v3) = _
  after_results

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = t.val ∧ win0_3.index t (1 : Fin 2) = 0 := (by decide +kernel : ∀ t : Fin grid0.N, _)
/-- Every point writes its tile back. -/
theorem flush3 : ∀ t : Fin cfg0.N, (cfg0.win 3).flush t = true := (by decide +kernel : ∀ t : Fin grid0.N, win0_3.flush t = true)

theorem N_lt (t : Fin cfg0.N) : t.val < 32 := lt_of_lt_of_eq t.isLt (by decide +kernel : grid0.N = 32)

theorem blk0 (t : Fin cfg0.N) (r : Fin 512) (k : Fin 2048) : iblk m c 0 t (ix2 r k) = row m c (512 * t.val + r.val) k := by
  obtain ⟨e0, e1⟩ := idx0 t
  have ht := N_lt t
  have e : ((cfg0.win 0).blk t).view.emb (ix2 r k) = ix2 (⟨512 * t.val + r.val, by omega⟩ : Fin 16384) k := by
    funext a; apply Fin.ext
    match a with
    | ⟨0, _⟩ => show win0_0.index t (0 : Fin 2) * 512 + 1 * r.val = 512 * t.val + r.val; rw [e0]; omega
    | ⟨1, _⟩ => show win0_0.index t (1 : Fin 2) * 2048 + 1 * k.val = k.val; rw [e1]; omega
  show V (F := Ideal) m c main_v1 (((cfg0.win 0).blk t).view.emb (ix2 r k)) = _
  rw [e, V_v1]
  pointwise
  show _ = aO m c _
  congr 2
  apply Fin.ext
  show (512 * t.val + r.val) / 4096 = (512 * t.val + r.val) / 4096 % 4
  omega

theorem blk1 (t : Fin cfg0.N) (k : Fin 2048) : iblk m c 1 t (ix2 (0 : Fin 1) k) = sc m c k := by
  obtain ⟨e0, e1⟩ := idx1 t
  have e : ((cfg0.win 1).blk t).view.emb (ix2 (0 : Fin 1) k) = ix2 (0 : Fin 1) k := by
    funext a; apply Fin.ext
    match a with
    | ⟨0, _⟩ => show win0_1.index t (0 : Fin 2) * 1 + 1 * 0 = 0; rw [e0]
    | ⟨1, _⟩ => show win0_1.index t (1 : Fin 2) * 2048 + 1 * k.val = k.val; rw [e1]; omega
  show V (F := Ideal) m c main_v2 (((cfg0.win 1).blk t).view.emb (ix2 (0 : Fin 1) k)) = _
  rw [e, V_v2]
  pointwise
  rfl

theorem blk2 (t : Fin cfg0.N) (x : Fin 2048) (k : Fin 4096) : iblk m c 2 t (ix2 x k) = aW m c (ix2 (⟨x.val, by omega⟩ : Fin 4096) k) := by
  obtain ⟨e0, e1⟩ := idx2 t
  have e : ((cfg0.win 2).blk t).view.emb (ix2 x k) = ix2 (⟨x.val, by omega⟩ : Fin 4096) k := by
    funext a; apply Fin.ext
    match a with
    | ⟨0, _⟩ => show win0_2.index t (0 : Fin 2) * 2048 + 1 * x.val = x.val; rw [e0]; omega
    | ⟨1, _⟩ => show win0_2.index t (1 : Fin 2) * 4096 + 1 * k.val = k.val; rw [e1]; omega
  show V (F := Ideal) m c main_v3 (((cfg0.win 2).blk t).view.emb (ix2 x k)) = _
  rw [e, V_v3]
  rfl

/-! ## The result array -/

/-- The result array, as a function of the arguments. -/
def arr : FVec Ideal S16384x4096 .f32 := fun p => res m c (p (0 : Fin 2)).val (p (1 : Fin 2))

theorem tile3 (t : Fin cfg0.N) (r : Fin 512) (n : Fin 4096) :
    out0_3 (iblk m c 0 t) (iblk m c 1 t) (iblk m c 2 t) (ix2 r n) = res m c (512 * t.val + r.val) n := by
  rw [out3_eq]
  show proj d2048 (fun j => iblk m c 0 t (ix2 r j)) (fun j => iblk m c 1 t (ix2 (0 : Fin 1) j)) (fun j => iblk m c 2 t (ix2 j n)) = _
  simp only [blk0, blk1, blk2]
  rfl

theorem final3 : (dats m 0 c).arrAt 3 cfg0.N = arr m c := by
  refine (dats m 0 c).arrAt_eq_of_cover 3 _ (fun t ht => ?_) (fun i => ?_)
  · obtain ⟨e0, e1⟩ := idx3 t
    rw [Cert.Kernel4Ideal.Value.flushed3]
    funext j
    obtain ⟨r, n, rfl⟩ : ∃ (r : Fin 512) (n : Fin 4096), ix2 r n = (j : S512x4096.Idx) := ⟨(j : S512x4096.Idx) 0, (j : S512x4096.Idx) 1, funext fun a => by match a with | ⟨0, _⟩ => rfl | ⟨1, _⟩ => rfl⟩
    have p0 : (((cfg0.win 3).blk t).view.emb (ix2 r n) (0 : Fin 2)).val = 512 * t.val + r.val := by
      show win0_3.index t (0 : Fin 2) * 512 + 1 * r.val = _; rw [e0]; omega
    have p1 : ((cfg0.win 3).blk t).view.emb (ix2 r n) (1 : Fin 2) = n := by
      apply Fin.ext
      show win0_3.index t (1 : Fin 2) * 4096 + 1 * n.val = _; rw [e1]; omega
    refine Eq.trans (tile3 m c t r n) ?_
    show _ = res m c (((cfg0.win 3).blk t).view.emb (ix2 r n) (0 : Fin 2)).val (((cfg0.win 3).blk t).view.emb (ix2 r n) (1 : Fin 2))
    rw [p0, p1]
  · obtain ⟨R, C, rfl⟩ : ∃ (R : Fin 16384) (C : Fin 4096), ix2 R C = (i : S16384x4096.Idx) := ⟨(i : S16384x4096.Idx) 0, (i : S16384x4096.Idx) 1, funext fun a => by match a with | ⟨0, _⟩ => rfl | ⟨1, _⟩ => rfl⟩
    have hN : grid0.N = 32 := by decide +kernel
    refine ⟨⟨R.val / 512, lt_of_lt_of_eq (b := 32) (by omega) hN.symm⟩, flush3 _, ?_⟩
    generalize hT : (⟨R.val / 512, lt_of_lt_of_eq (b := 32) (by omega) hN.symm⟩ : Fin cfg0.N) = t
    obtain ⟨e0, e1⟩ := idx3 t
    have e2 : t.val = R.val / 512 := by rw [← hT]
    have h := ((cfg0.win 3).blk t).view.emb_mem_set (ix2 (⟨R.val % 512, by omega⟩ : Fin 512) C)
    convert h using 1
    funext a; apply Fin.ext
    match a with
    | ⟨0, _⟩ => show R.val = win0_3.index t (0 : Fin 2) * 512 + 1 * (R.val % 512); rw [e0, e2]; omega
    | ⟨1, _⟩ => show C.val = win0_3.index t (1 : Fin 2) * 4096 + 1 * C.val; rw [e1]; omega

end Cert.Kernel4Ideal.Oa

end
-- ==== Proof.OaRef.lean ====
/-
  The reference's first half of the output projection, element by element.
-/
module

public import proofs.«01_k».proof.Proof.Gen.Reference4Ideal.Read
public import proofs.«01_k».proof.Proof.Rows

@[expose] public section

noncomputable section

namespace Cert.Reference4Ideal.Oa

open Idealize.ShloMosaic Idealize.ShloMosaic.TcCoe Cert.Reference4Ideal Cert.Reference4Ideal.Gen Cert.Reference4Ideal.Read Cert.Rows

variable (x : FVec Ideal S4x4096x2048 .f32) (g : FVec Ideal S2048 .f32) (w : FVec Ideal S4096x4096 .f32)

theorem zero0 : val_main_cst (F := Ideal) (Shape.Idx.first h_S_) = (0 : EReal) := by rw [val_main_cst_apply]; exact Ideal.ofBits_zero _

/-- The normalised input. -/
theorem v12_apply (b : Fin 4) (s : Fin 4096) (k : Fin 2048) : val_main_v12 (F := Ideal) x g (ix3 b s k) = norm d2048 (fun j => x (ix3 b s j)) (fun j => g (ix1 j)) k := by
  pointwise [val_main_v12, val_main_v11, val_main_v10, val_main_v9, val_main_v8, val_main_v7, val_main_v6, val_main_v5, val_main_v4, val_main_v3, val_main_v2, val_main_v1, val_main_v0]
  rw [zero0, zero_add]
  rfl

/-- The weights' first half. -/
theorem v13_apply (k : Fin 2048) (n : Fin 4096) : val_main_v13 (F := Ideal) w (ix2 k n) = w (ix2 (⟨k.val, by omega⟩ : Fin 4096) n) := by
  rw [val_main_v13_apply]
  congr 1
  funext a
  apply Fin.ext
  match a with
  | ⟨0, _⟩ => rfl
  | ⟨1, _⟩ => rfl

/-- The projection. -/
theorem v14_apply (b : Fin 4) (s n : Fin 4096) : val_main_v14 (F := Ideal) x g w (ix3 b s n)
    = proj d2048 (fun j => x (ix3 b s j)) (fun j => g (ix1 j)) (fun j => w (ix2 (⟨j.val, by omega⟩ : Fin 4096) n)) := by
  pointwise [val_main_v14]
  simp only [v12_apply, v13_apply]
  rfl

/-- THE REFERENCE'S RESULT. -/
theorem v15_apply (R : Fin 16384) (n : Fin 4096) : val_main_v15 (F := Ideal) x g w (ix2 R n)
    = proj d2048 (fun j => x (ix3 (⟨R.val / 4096, by omega⟩ : Fin 4) (⟨R.val % 4096, by omega⟩ : Fin 4096) j)) (fun j => g (ix1 j)) (fun j => w (ix2 (⟨j.val, by omega⟩ : Fin 4096) n)) := by
  rw [val_main_v15_apply, ← v14_apply]
  congr 1
  funext a
  apply Fin.ext
  match a with
  | ⟨0, _⟩ => show (R.val * 4096 + n.val) / 16777216 = R.val / 4096; omega
  | ⟨1, _⟩ => show (R.val * 4096 + n.val) / 4096 % 4096 = R.val % 4096; omega
  | ⟨2, _⟩ => show (R.val * 4096 + n.val) % 4096 = n.val; omega

end Cert.Reference4Ideal.Oa

end
-- ==== Proof.OaClaim.lean ====
/-
  The value claim about the first half of the output projection.
-/
module

public import proofs.«01_k».proof.Defs
public import proofs.«01_k».proof.Proof.OaVal
public import proofs.«01_k».proof.Proof.OaRef
public import proofs.«01_k».proof.Proof.Gen.Reference4Ideal.Run

@[expose] public section

noncomputable section

namespace Cert.Proof

open Idealize.ShloMosaic Idealize.ShloMosaic.TcCoe Idealize.SL.Sem

section
open Cert.Kernel4Ideal Cert.Kernel4Ideal.Oa

variable (m : (ℓ : Loc nD τ sig) → Buf (Elt Ideal) ℓ) (c : Dev nD)

/-- Row `R` of the kernel's text is the reference's. -/
theorem row4 (R : Fin 16384) : row m c R.val = fun j => aO m c (ix3 (⟨R.val / 4096, by omega⟩ : Fin 4) (⟨R.val % 4096, by omega⟩ : Fin 4096) j) := by
  funext j
  unfold row
  congr 2
  apply Fin.ext
  show R.val / 4096 % 4 = R.val / 4096
  omega

/-- The reference's result is the same function of the arguments. -/
theorem ref4_res : Cert.Reference4Ideal.Read.val_main_v15 (F := Ideal) (aO m c) (aG m c) (aW m c) = arr m c := by
  funext p
  obtain ⟨R, C, rfl⟩ : ∃ (R : Fin 16384) (C : Fin 4096), ix2 R C = p := ⟨p 0, p 1, funext fun a => by match a with | ⟨0, _⟩ => rfl | ⟨1, _⟩ => rfl⟩
  rw [Cert.Reference4Ideal.Oa.v15_apply]
  show _ = res m c R.val C
  unfold res
  rw [row4]
  rfl
end

/-- THE VALUE CLAIM of the first half of the output projection. -/
theorem algebraic_oa : Cert.algebraic_Kernel4Ideal_Reference4Ideal (hKernel4Ideal := Cert.Kernel4Ideal.Gen.facts) (hReference4Ideal := Cert.Reference4Ideal.Gen.facts) :=
  fun m ρ m' ρ' _ hag => ⟨Cert.Kernel4Ideal.Oa.arr m,
    (θ_run _ _ _).mono (fun _ h c => ⟨(h c).1.trans (Cert.Kernel4Ideal.Oa.final3 m c), (h c).2⟩)
      (Cert.Kernel4Ideal.Value.run_blocks m ρ),
    (θ_run _ _ _).mono (fun _ h c => ⟨(h c).1.trans ((Cert.Reference4Ideal.Read.val_main_v15_eq _ _ _).trans (by
          obtain ⟨h0, h1, h2⟩ := hag c
          rw [h0, h1, h2]
          exact ref4_res m c)), (h c).2⟩)
      (Cert.Reference4Ideal.Value.run m' ρ')⟩

end Cert.Proof

end
-- ==== Proof.ObPay.lean ====
/-
  The second half of the output projection: the body's values over the extended reals, place by place.
-/
module

public import proofs.«01_k».proof.Proof.Gen.Kernel5Ideal.Value
public import proofs.«01_k».proof.Proof.Rows
public import Idealize.ShloMosaic.Lib.Pipeline.Value
public import Idealize.ShloMosaic.Lib.Pointwise

@[expose] public section

set_option maxRecDepth 16384

noncomputable section

namespace Cert.Kernel5Ideal.Ob

open Idealize.ShloMosaic Idealize.ShloMosaic.TcCoe Cert.Kernel5Ideal Cert.Kernel5Ideal.Gen Cert.Rows
open Idealize.SL.Sem

/-- One over 4096 is a factor, the reference divides. -/
theorem inv4096 (s : EReal) : s * Ideal.ofBits FTy.f32 0x39800000#32 = Ideal.div s d4096 := by
  have h : Ideal.ofBits FTy.f32 0x39800000#32 = ((4096⁻¹ : ℝ) : EReal) := by
    simp [Ideal.ofBits, Ideal.ieee]
    rw [← EReal.coe_mul]
    norm_num
  have h0 : ((4096 : ℝ) : EReal) ≠ 0 := by exact_mod_cast (by norm_num : (4096 : ℝ) ≠ 0)
  rw [h, d4096_eq]
  unfold Ideal.div
  rw [if_neg h0, EReal.coe_inv]

/-- A sum over 4096 places, in four parts. -/
theorem sum4 (f : Fin 4096 → EReal) : (((0 + ∑ n : Fin 1024, f ⟨0 + n.val, by omega⟩) + ∑ n : Fin 1024, f ⟨1024 + n.val, by omega⟩)
    + ∑ n : Fin 1024, f ⟨2048 + n.val, by omega⟩) + ∑ n : Fin 1024, f ⟨3072 + n.val, by omega⟩ = ∑ n, f n := by
  have a : ∑ n, f n = (∑ n : Fin 3072, f ⟨n.val, by omega⟩) + ∑ n : Fin 1024, f ⟨3072 + n.val, by omega⟩ := Fin.sum_univ_add (a := 3072) (b := 1024) f
  have b : (∑ n : Fin 3072, f ⟨n.val, by omega⟩) = (∑ n : Fin 2048, f ⟨n.val, by omega⟩) + ∑ n : Fin 1024, f ⟨2048 + n.val, by omega⟩ :=
    Fin.sum_univ_add (a := 2048) (b := 1024) (fun n : Fin 3072 => f ⟨n.val, by omega⟩)
  have d : (∑ n : Fin 2048, f ⟨n.val, by omega⟩) = (∑ n : Fin 1024, f ⟨n.val, by omega⟩) + ∑ n : Fin 1024, f ⟨1024 + n.val, by omega⟩ :=
    Fin.sum_univ_add (a := 1024) (b := 1024) (fun n : Fin 2048 => f ⟨n.val, by omega⟩)
  rw [a, b, d, zero_add]
  simp only [Nat.zero_add]

section
variable (v0 v2 v4 v6 : Vec Ideal S1x256x512 .bf16) (v18 : Vec Ideal S1x2048 .f32) (r : Fin 256)

/-- A row of the operand, its four groups side by side. -/
def cat (j : Fin 2048) : EReal := k0_pay3 (F := Ideal) v0 v2 v4 v6 (ix2 r j)

theorem pay4 : k0_pay4 (F := Ideal) v0 v2 v4 v6 (ix2 r (0 : Fin 1)) = fac d2048 (cat v0 v2 v4 v6 r) := by
  pointwise [k0_pay4]
  rfl

theorem pay5 (k : Fin 2048) : k0_pay5 (F := Ideal) v0 v2 v4 v6 v18 (ix2 r k) = cat v0 v2 v4 v6 r k * v18 (ix2 (0 : Fin 1) k) := by
  pointwise [k0_pay5]
  rfl
end

section
variable (v17 : FVec Ideal S256x1 .f32) (v22 : FVec Ideal S256x2048 .bf16) (a : Vec Ideal S256x1024 .f32) (w : Vec Ideal S2048x1024 .bf16)
  (r : Fin 256) (n : Fin 1024) (x g : Fin 2048 → EReal)

/-- One chunk of the sums' columns. -/
theorem pay9 (h17 : v17 (ix2 r (0 : Fin 1)) = fac d2048 x) (h22 : ∀ k, v22 (ix2 r k) = x k * g k) :
    k0_pay9 v17 v22 a w (ix2 r n) = a (ix2 r n) + proj d2048 x g (fun j => w (ix2 j n)) := by
  rw [← proj2048, ← h17]
  simp only [← h22]
  pointwise [k0_pay9]
end

/-- The sum of the squares of three of the four chunks. -/
theorem pay11 (v17 : FVec Ideal S256x1 .f32) (v22 : FVec Ideal S256x2048 .bf16) (v23 v34 : FVec Ideal S256x1 .f32) (v37 : Vec Ideal S256x1024 .f32) (v39 : Vec Ideal S2048x1024 .bf16)
    (v50 : Vec Ideal S256x1024 .f32) (v52 : Vec Ideal S2048x1024 .bf16) (r : Fin 256) :
    k0_pay11 v17 v22 v23 v34 v37 v39 v50 v52 (ix2 r (0 : Fin 1)) = ((v23 (ix2 r (0 : Fin 1)) + v34 (ix2 r (0 : Fin 1)))
      + ∑ n : Fin 1024, k0_pay9 v17 v22 v37 v39 (ix2 r n) * k0_pay9 v17 v22 v37 v39 (ix2 r n))
      + ∑ n : Fin 1024, k0_pay10 v17 v22 v50 v52 (ix2 r n) * k0_pay10 v17 v22 v50 v52 (ix2 r n) := by
  pointwise [k0_pay11]

theorem pay8 (v0 v2 v4 v6 : Vec Ideal S1x256x512 .bf16) (v18 : Vec Ideal S1x2048 .f32) (v24 : Vec Ideal S256x1024 .f32) (v26 : Vec Ideal S2048x1024 .bf16) (r : Fin 256) :
    k0_pay8 v0 v2 v4 v6 v18 v24 v26 (ix2 r (0 : Fin 1)) = ∑ n : Fin 1024, k0_pay7 v0 v2 v4 v6 v18 v24 v26 (ix2 r n) * k0_pay7 v0 v2 v4 v6 v18 v24 v26 (ix2 r n) := by
  pointwise [k0_pay8]

theorem pay6 (r : Fin 256) : k0_pay6 (F := Ideal) (ix2 r (0 : Fin 1)) = 0 := by
  pointwise [k0_pay6]

/-- The factor of the row of sums. -/
theorem pay16 (v61 : FVec Ideal S256x1 .f32) (v64 v67 v68 : FVec Ideal S256x1024 .f32) (r : Fin 256) :
    k0_pay16 v61 v64 v67 v68 (ix2 r (0 : Fin 1)) = Ideal.rsqrt ((v61 (ix2 r (0 : Fin 1)) + ∑ n : Fin 1024, k0_pay15 v64 v67 v68 (ix2 r n) * k0_pay15 v64 v67 v68 (ix2 r n))
      * Ideal.ofBits FTy.f32 0x39800000#32 + Ideal.ofBits FTy.f32 0x358637BD#32) := by
  pointwise [k0_pay16]

/-- A chunk of the result. -/
theorem pay1 (v80 : FVec Ideal S256x1 .f32) (a h : Vec Ideal S256x1024 .f32) (g : Vec Ideal S1x1024 .f32) (r : Fin 256) (n : Fin 1024) :
    k0_pay1 v80 a h g (ix2 r n) = a (ix2 r n) + h (ix2 r n) * v80 (ix2 r (0 : Fin 1)) * g (ix2 (0 : Fin 1) n) := by
  pointwise [k0_pay1]

theorem pay10_eq (v17 : FVec Ideal S256x1 .f32) (v22 : FVec Ideal S256x2048 .bf16) (a : Vec Ideal S256x1024 .f32) (w : Vec Ideal S2048x1024 .bf16) : k0_pay10 v17 v22 a w = k0_pay9 v17 v22 a w := rfl
theorem pay7_eq (v0 v2 v4 v6 : Vec Ideal S1x256x512 .bf16) (v18 : Vec Ideal S1x2048 .f32) (v24 : Vec Ideal S256x1024 .f32) (v26 : Vec Ideal S2048x1024 .bf16) :
    k0_pay7 v0 v2 v4 v6 v18 v24 v26 = k0_pay9 (k0_pay4 v0 v2 v4 v6) (k0_pay5 v0 v2 v4 v6 v18) v24 v26 := rfl
theorem pay15_eq (v17 : FVec Ideal S256x1 .f32) (v22 : FVec Ideal S256x2048 .bf16) (a : Vec Ideal S256x1024 .f32) (w : Vec Ideal S2048x1024 .bf16) :
    k0_pay15 (k0_pay12 a) (k0_pay13 v22 w) (k0_pay14 v17) = k0_pay9 v17 v22 a w := rfl
theorem pay17_eq (v61 : FVec Ideal S256x1 .f32) (v64 v67 v68 : FVec Ideal S256x1024 .f32) (a h : Vec Ideal S256x1024 .f32) (g : Vec Ideal S1x1024 .f32) :
    k0_pay17 v61 v64 v67 v68 a h g = k0_pay1 (k0_pay16 v61 v64 v67 v68) a h g := rfl
theorem pay18_eq (v61 : FVec Ideal S256x1 .f32) (v64 v67 v68 : FVec Ideal S256x1024 .f32) (a h : Vec Ideal S256x1024 .f32) (g : Vec Ideal S1x1024 .f32) :
    k0_pay18 v61 v64 v67 v68 a h g = k0_pay1 (k0_pay16 v61 v64 v67 v68) a h g := rfl
theorem pay2_eq (v80 : FVec Ideal S256x1 .f32) (a h : Vec Ideal S256x1024 .f32) (g : Vec Ideal S1x1024 .f32) : k0_pay2 v80 a h g = k0_pay1 v80 a h g := rfl

/-- The operand's row, once its four groups are loaded. -/
def grp (x0 : Vec Ideal S4x256x512 .bf16) (r : Fin 256) (j : Fin 2048) : EReal :=
  x0 (ix3 (⟨j.val / 512, by omega⟩ : Fin 4) r (⟨j.val % 512, by omega⟩ : Fin 512))

/-- Where the four groups lie. -/
abbrev q0 : Rect S4x256x512 := Rect.unit (s := S4x256x512) ![0, 0, 0] S1x256x512.size inb_S4x256x512_S1x256x512_0_0_0
abbrev q1 : Rect S4x256x512 := Rect.unit (s := S4x256x512) ![1, 0, 0] S1x256x512.size inb_S4x256x512_S1x256x512_1_0_0
abbrev q2 : Rect S4x256x512 := Rect.unit (s := S4x256x512) ![2, 0, 0] S1x256x512.size inb_S4x256x512_S1x256x512_2_0_0
abbrev q3 : Rect S4x256x512 := Rect.unit (s := S4x256x512) ![3, 0, 0] S1x256x512.size inb_S4x256x512_S1x256x512_3_0_0

/-- Equal places hold equal entries. -/
theorem at3 (x0 : Vec Ideal S4x256x512 .bf16) (r : Fin 256) (a b : Fin 4) (k l : Fin 512) (h : a.val = b.val) (h' : k.val = l.val) : x0 (ix3 a r k) = x0 (ix3 b r l) := by
  rw [Fin.ext h, Fin.ext h']

/-- The row that the body loads. -/
theorem cat_eq (x0 : Vec Ideal S4x256x512 .bf16) (r : Fin 256) : cat (View.ld x0 q0) (View.ld x0 q1) (View.ld x0 q2) (View.ld x0 q3) r = grp x0 r := by
  funext j
  unfold cat grp
  pointwise [k0_pay3]
  have hj := j.isLt
  by_cases h1 : j.val < 512
  · rw [dif_pos h1]
    refine at3 x0 r _ _ _ _ ?_ ?_
    · show 0 = j.val / 512
      omega
    · show j.val = j.val % 512
      omega
  · rw [dif_neg h1]
    by_cases h2 : j.val - 512 < 512
    · rw [dif_pos h2]
      refine at3 x0 r _ _ _ _ ?_ ?_
      · show 1 = j.val / 512
        omega
      · show j.val - 512 = j.val % 512
        omega
    · rw [dif_neg h2]
      by_cases h3 : j.val - 512 - 512 < 512
      · rw [dif_pos h3]
        refine at3 x0 r _ _ _ _ ?_ ?_
        · show 2 = j.val / 512
          omega
        · show j.val - 512 - 512 = j.val % 512
          omega
      · rw [dif_neg h3]
        refine at3 x0 r _ _ _ _ ?_ ?_
        · show 3 = j.val / 512
          omega
        · show j.val - 512 - 512 - 512 = j.val % 512
          omega

end Cert.Kernel5Ideal.Ob

end
-- ==== Proof.ObTile.lean ====
/-
  The second half of the output projection: what the body leaves in the output's block, as one function of the loaded blocks.
-/
module

public import proofs.«01_k».proof.Proof.ObPay
public import Idealize.ShloMosaic.Lib.Pipeline.ReadBack
public import Idealize.ShloMosaic.Lib.Pipeline.CanonAppend

@[expose] public section

set_option maxRecDepth 16384

noncomputable section

namespace Cert.Kernel5Ideal.Ob

open Idealize.ShloMosaic Idealize.ShloMosaic.TcCoe Idealize.ShloMosaic.Tactic Cert.Kernel5Ideal Cert.Kernel5Ideal.Gen Cert.Rows
open Idealize.SL.Sem

theorem hz : (![0, 0] : Fin 2 → Nat) = fun _ => 0 := funext fun a => by match a with | ⟨0, _⟩ => rfl | ⟨1, _⟩ => rfl

/-- The four chunks of columns of the tile, of the weights and of the scale. -/
abbrev c0 : Rect S256x4096 := Rect.unit (s := S256x4096) ![0, 0] S256x1024.size inb_S256x4096_S256x1024_0_0
abbrev c1 : Rect S256x4096 := Rect.unit (s := S256x4096) ![0, 1024] S256x1024.size inb_S256x4096_S256x1024_0_1024
abbrev c2 : Rect S256x4096 := Rect.unit (s := S256x4096) ![0, 2048] S256x1024.size inb_S256x4096_S256x1024_0_2048
abbrev c3 : Rect S256x4096 := Rect.unit (s := S256x4096) ![0, 3072] S256x1024.size inb_S256x4096_S256x1024_0_3072
abbrev w0 : Rect S2048x4096 := Rect.unit (s := S2048x4096) ![0, 0] S2048x1024.size inb_S2048x4096_S2048x1024_0_0
abbrev w1 : Rect S2048x4096 := Rect.unit (s := S2048x4096) ![0, 1024] S2048x1024.size inb_S2048x4096_S2048x1024_0_1024
abbrev w2 : Rect S2048x4096 := Rect.unit (s := S2048x4096) ![0, 2048] S2048x1024.size inb_S2048x4096_S2048x1024_0_2048
abbrev w3 : Rect S2048x4096 := Rect.unit (s := S2048x4096) ![0, 3072] S2048x1024.size inb_S2048x4096_S2048x1024_0_3072
abbrev g0 : Rect S1x4096 := Rect.unit (s := S1x4096) ![0, 0] S1x1024.size inb_S1x4096_S1x1024_0_0
abbrev g1 : Rect S1x4096 := Rect.unit (s := S1x4096) ![0, 1024] S1x1024.size inb_S1x4096_S1x1024_0_1024
abbrev g2 : Rect S1x4096 := Rect.unit (s := S1x4096) ![0, 2048] S1x1024.size inb_S1x4096_S1x1024_0_2048
abbrev g3 : Rect S1x4096 := Rect.unit (s := S1x4096) ![0, 3072] S1x1024.size inb_S1x4096_S1x1024_0_3072

theorem emb_c0 (r : Fin 256) (n : Fin 1024) : c0.emb (ix2 r n) = ix2 r (⟨0 + n.val, by omega⟩ : Fin 4096) := by
  funext a; apply Fin.ext
  match a with
  | ⟨0, _⟩ => show 0 + 1 * r.val = r.val; omega
  | ⟨1, _⟩ => show 0 + 1 * n.val = 0 + n.val; omega
theorem emb_w0 (r : Fin 2048) (n : Fin 1024) : w0.emb (ix2 r n) = ix2 r (⟨0 + n.val, by omega⟩ : Fin 4096) := by
  funext a; apply Fin.ext
  match a with
  | ⟨0, _⟩ => show 0 + 1 * r.val = r.val; omega
  | ⟨1, _⟩ => show 0 + 1 * n.val = 0 + n.val; omega
theorem emb_g0 (n : Fin 1024) : g0.emb (ix2 (0 : Fin 1) n) = ix2 (0 : Fin 1) (⟨0 + n.val, by omega⟩ : Fin 4096) := by
  funext a; apply Fin.ext
  match a with
  | ⟨0, _⟩ => rfl
  | ⟨1, _⟩ => show 0 + 1 * n.val = 0 + n.val; omega
theorem emb_c1 (r : Fin 256) (n : Fin 1024) : c1.emb (ix2 r n) = ix2 r (⟨1024 + n.val, by omega⟩ : Fin 4096) := by
  funext a; apply Fin.ext
  match a with
  | ⟨0, _⟩ => show 0 + 1 * r.val = r.val; omega
  | ⟨1, _⟩ => show 1024 + 1 * n.val = 1024 + n.val; omega
theorem emb_w1 (r : Fin 2048) (n : Fin 1024) : w1.emb (ix2 r n) = ix2 r (⟨1024 + n.val, by omega⟩ : Fin 4096) := by
  funext a; apply Fin.ext
  match a with
  | ⟨0, _⟩ => show 0 + 1 * r.val = r.val; omega
  | ⟨1, _⟩ => show 1024 + 1 * n.val = 1024 + n.val; omega
theorem emb_g1 (n : Fin 1024) : g1.emb (ix2 (0 : Fin 1) n) = ix2 (0 : Fin 1) (⟨1024 + n.val, by omega⟩ : Fin 4096) := by
  funext a; apply Fin.ext
  match a with
  | ⟨0, _⟩ => rfl
  | ⟨1, _⟩ => show 1024 + 1 * n.val = 1024 + n.val; omega
theorem emb_c2 (r : Fin 256) (n : Fin 1024) : c2.emb (ix2 r n) = ix2 r (⟨2048 + n.val, by omega⟩ : Fin 4096) := by
  funext a; apply Fin.ext
  match a with
  | ⟨0, _⟩ => show 0 + 1 * r.val = r.val; omega
  | ⟨1, _⟩ => show 2048 + 1 * n.val = 2048 + n.val; omega
theorem emb_w2 (r : Fin 2048) (n : Fin 1024) : w2.emb (ix2 r n) = ix2 r (⟨2048 + n.val, by omega⟩ : Fin 4096) := by
  funext a; apply Fin.ext
  match a with
  | ⟨0, _⟩ => show 0 + 1 * r.val = r.val; omega
  | ⟨1, _⟩ => show 2048 + 1 * n.val = 2048 + n.val; omega
theorem emb_g2 (n : Fin 1024) : g2.emb (ix2 (0 : Fin 1) n) = ix2 (0 : Fin 1) (⟨2048 + n.val, by omega⟩ : Fin 4096) := by
  funext a; apply Fin.ext
  match a with
  | ⟨0, _⟩ => rfl
  | ⟨1, _⟩ => show 2048 + 1 * n.val = 2048 + n.val; omega
theorem emb_c3 (r : Fin 256) (n : Fin 1024) : c3.emb (ix2 r n) = ix2 r (⟨3072 + n.val, by omega⟩ : Fin 4096) := by
  funext a; apply Fin.ext
  match a with
  | ⟨0, _⟩ => show 0 + 1 * r.val = r.val; omega
  | ⟨1, _⟩ => show 3072 + 1 * n.val = 3072 + n.val; omega
theorem emb_w3 (r : Fin 2048) (n : Fin 1024) : w3.emb (ix2 r n) = ix2 r (⟨3072 + n.val, by omega⟩ : Fin 4096) := by
  funext a; apply Fin.ext
  match a with
  | ⟨0, _⟩ => show 0 + 1 * r.val = r.val; omega
  | ⟨1, _⟩ => show 3072 + 1 * n.val = 3072 + n.val; omega
theorem emb_g3 (n : Fin 1024) : g3.emb (ix2 (0 : Fin 1) n) = ix2 (0 : Fin 1) (⟨3072 + n.val, by omega⟩ : Fin 4096) := by
  funext a; apply Fin.ext
  match a with
  | ⟨0, _⟩ => rfl
  | ⟨1, _⟩ => show 3072 + 1 * n.val = 3072 + n.val; omega

/-- Four blocks of one function of the place, over any earlier stores, leave that function. -/
theorem canon4 (G : S256x4096.Idx → Elt Ideal .f32) (p0 p1 p2 p3 : Vec Ideal S256x1024 .f32) (L : List (View.Piece (Elt Ideal) S256x4096 .f32))
    (h0 : ∀ (r : Fin 256) (n : Fin 1024), p0 (ix2 r n) = G (ix2 r (⟨0 + n.val, by omega⟩ : Fin 4096)))
    (h1 : ∀ (r : Fin 256) (n : Fin 1024), p1 (ix2 r n) = G (ix2 r (⟨1024 + n.val, by omega⟩ : Fin 4096)))
    (h2 : ∀ (r : Fin 256) (n : Fin 1024), p2 (ix2 r n) = G (ix2 r (⟨2048 + n.val, by omega⟩ : Fin 4096)))
    (h3 : ∀ (r : Fin 256) (n : Fin 1024), p3 (ix2 r n) = G (ix2 r (⟨3072 + n.val, by omega⟩ : Fin 4096))) :
    View.canon (⟨c3, p3⟩ :: ⟨c2, p2⟩ :: ⟨c1, p1⟩ :: ⟨c0, p0⟩ :: L) = G := by
  funext y
  have sp : ∀ x : S256x1024.Idx, ∃ (r : Fin 256) (n : Fin 1024), ix2 r n = x := fun x => ⟨x 0, x 1, funext fun a => by match a with | ⟨0, _⟩ => rfl | ⟨1, _⟩ => rfl⟩
  refine View.canon_append_of_pieces G L [⟨c3, p3⟩, ⟨c2, p2⟩, ⟨c1, p1⟩, ⟨c0, p0⟩] (fun p hp x => ?_) y (View.cover_of_tiledL [⟨c3, p3⟩, ⟨c2, p2⟩, ⟨c1, p1⟩, ⟨c0, p0⟩] S256x1024.size (by sl_kernel_rfl) y)
  simp only [List.mem_cons, List.not_mem_nil, or_false] at hp
  rcases hp with rfl | rfl | rfl | rfl
  · obtain ⟨r, n, rfl⟩ := sp x
    exact (h3 r n).trans (congrArg G (emb_c3 r n).symm)
  · obtain ⟨r, n, rfl⟩ := sp x
    exact (h2 r n).trans (congrArg G (emb_c2 r n).symm)
  · obtain ⟨r, n, rfl⟩ := sp x
    exact (h1 r n).trans (congrArg G (emb_c1 r n).symm)
  · obtain ⟨r, n, rfl⟩ := sp x
    exact (h0 r n).trans (congrArg G (emb_c0 r n).symm)

variable (x0 : Vec Ideal S4x256x512 .bf16) (x1 : Vec Ideal S1x2048 .f32) (x2 : Vec Ideal S2048x4096 .bf16) (x3 x4 : Vec Ideal S256x4096 .f32) (x5 : Vec Ideal S1x4096 .f32)

/-- The sum of the two projections, at row `r` of the tile and column `n`. -/
def yF (r : Fin 256) (n : Fin 4096) : EReal :=
  x3 (ix2 r n) + proj d2048 (grp x0 r) (fun j => x1 (ix2 (0 : Fin 1) j)) (fun j => x2 (ix2 j n))

/-- The tile: the input plus the normalised sum. -/
def tileF : S256x4096.Idx → Elt Ideal .f32 := fun y =>
  x4 (ix2 (y 0 : Fin 256) (y 1 : Fin 4096)) + norm d4096 (yF x0 x1 x2 x3 (y 0 : Fin 256)) (fun n => x5 (ix2 (0 : Fin 1) n)) (y 1 : Fin 4096)

/-- The body's factor of a row, its scaled row, and its four chunks of sums. -/
abbrev F17 : FVec Ideal S256x1 .f32 := k0_pay4 (View.ld x0 q0) (View.ld x0 q1) (View.ld x0 q2) (View.ld x0 q3)
abbrev F22 : FVec Ideal S256x2048 .bf16 := k0_pay5 (View.ld x0 q0) (View.ld x0 q1) (View.ld x0 q2) (View.ld x0 q3) x1
abbrev Y0 : FVec Ideal S256x1024 .f32 := k0_pay9 (F17 x0) (F22 x0 x1) (View.ld x3 c0) (View.ld x2 w0)
abbrev Y1 : FVec Ideal S256x1024 .f32 := k0_pay9 (F17 x0) (F22 x0 x1) (View.ld x3 c1) (View.ld x2 w1)
abbrev Y2 : FVec Ideal S256x1024 .f32 := k0_pay9 (F17 x0) (F22 x0 x1) (View.ld x3 c2) (View.ld x2 w2)
abbrev Y3 : FVec Ideal S256x1024 .f32 := k0_pay9 (F17 x0) (F22 x0 x1) (View.ld x3 c3) (View.ld x2 w3)

theorem F17_eq (r : Fin 256) : F17 x0 (ix2 r (0 : Fin 1)) = fac d2048 (grp x0 r) := by unfold F17; rw [pay4, cat_eq]
theorem F22_eq (r : Fin 256) (k : Fin 2048) : F22 x0 x1 (ix2 r k) = grp x0 r k * x1 (ix2 (0 : Fin 1) k) := by unfold F22; rw [pay5, cat_eq]

theorem Y0_eq (r : Fin 256) (n : Fin 1024) : Y0 x0 x1 x2 x3 (ix2 r n) = yF x0 x1 x2 x3 r (⟨0 + n.val, by omega⟩ : Fin 4096) := by
  refine (pay9 _ _ _ _ r n (grp x0 r) (fun j => x1 (ix2 (0 : Fin 1) j)) (F17_eq x0 r) (F22_eq x0 x1 r)).trans ?_
  show x3 (c0.emb (ix2 r n)) + proj d2048 (grp x0 r) (fun j => x1 (ix2 (0 : Fin 1) j)) (fun j => x2 (w0.emb (ix2 j n))) = _
  rw [emb_c0]
  simp only [emb_w0]
  rfl
theorem Y1_eq (r : Fin 256) (n : Fin 1024) : Y1 x0 x1 x2 x3 (ix2 r n) = yF x0 x1 x2 x3 r (⟨1024 + n.val, by omega⟩ : Fin 4096) := by
  refine (pay9 _ _ _ _ r n (grp x0 r) (fun j => x1 (ix2 (0 : Fin 1) j)) (F17_eq x0 r) (F22_eq x0 x1 r)).trans ?_
  show x3 (c1.emb (ix2 r n)) + proj d2048 (grp x0 r) (fun j => x1 (ix2 (0 : Fin 1) j)) (fun j => x2 (w1.emb (ix2 j n))) = _
  rw [emb_c1]
  simp only [emb_w1]
  rfl
theorem Y2_eq (r : Fin 256) (n : Fin 1024) : Y2 x0 x1 x2 x3 (ix2 r n) = yF x0 x1 x2 x3 r (⟨2048 + n.val, by omega⟩ : Fin 4096) := by
  refine (pay9 _ _ _ _ r n (grp x0 r) (fun j => x1 (ix2 (0 : Fin 1) j)) (F17_eq x0 r) (F22_eq x0 x1 r)).trans ?_
  show x3 (c2.emb (ix2 r n)) + proj d2048 (grp x0 r) (fun j => x1 (ix2 (0 : Fin 1) j)) (fun j => x2 (w2.emb (ix2 j n))) = _
  rw [emb_c2]
  simp only [emb_w2]
  rfl
theorem Y3_eq (r : Fin 256) (n : Fin 1024) : Y3 x0 x1 x2 x3 (ix2 r n) = yF x0 x1 x2 x3 r (⟨3072 + n.val, by omega⟩ : Fin 4096) := by
  refine (pay9 _ _ _ _ r n (grp x0 r) (fun j => x1 (ix2 (0 : Fin 1) j)) (F17_eq x0 r) (F22_eq x0 x1 r)).trans ?_
  show x3 (c3.emb (ix2 r n)) + proj d2048 (grp x0 r) (fun j => x1 (ix2 (0 : Fin 1) j)) (fun j => x2 (w3.emb (ix2 j n))) = _
  rw [emb_c3]
  simp only [emb_w3]
  rfl

/-- The factor of the row of sums, as the body computes it. -/
abbrev F80 : FVec Ideal S256x1 .f32 :=
  k0_pay16 (k0_pay11 (F17 x0) (F22 x0 x1) (k0_pay6 (F := Ideal)) (k0_pay8 (View.ld x0 q0) (View.ld x0 q1) (View.ld x0 q2) (View.ld x0 q3) x1 (View.ld x3 c0) (View.ld x2 w0))
    (View.ld x3 c1) (View.ld x2 w1) (View.ld x3 c2) (View.ld x2 w2)) (k0_pay12 (View.ld x3 c3)) (k0_pay13 (F22 x0 x1) (View.ld x2 w3)) (k0_pay14 (F17 x0))

theorem F80_eq (r : Fin 256) : F80 x0 x1 x2 x3 (ix2 r (0 : Fin 1)) = fac d4096 (yF x0 x1 x2 x3 r) := by
  unfold F80
  rw [pay16, pay11, pay6, pay8, pay15_eq, pay7_eq, pay10_eq, inv4096]
  simp only [Y0_eq, Y1_eq, Y2_eq, Y3_eq]
  rw [sum4 (fun n => yF x0 x1 x2 x3 r n * yF x0 x1 x2 x3 r n)]
  rfl

/-- The four chunks of the result. -/
theorem Z0_eq (r : Fin 256) (n : Fin 1024) : k0_pay1 (F80 x0 x1 x2 x3) (View.ld x4 c0) (Y0 x0 x1 x2 x3) (View.ld x5 g0) (ix2 r n)
    = tileF x0 x1 x2 x3 x4 x5 (ix2 r (⟨0 + n.val, by omega⟩ : Fin 4096)) := by
  rw [pay1, F80_eq, Y0_eq]
  show x4 (c0.emb (ix2 r n)) + _ * _ * x5 (g0.emb (ix2 (0 : Fin 1) n)) = _
  rw [emb_c0, emb_g0]
  rfl
theorem Z1_eq (r : Fin 256) (n : Fin 1024) : k0_pay1 (F80 x0 x1 x2 x3) (View.ld x4 c1) (Y1 x0 x1 x2 x3) (View.ld x5 g1) (ix2 r n)
    = tileF x0 x1 x2 x3 x4 x5 (ix2 r (⟨1024 + n.val, by omega⟩ : Fin 4096)) := by
  rw [pay1, F80_eq, Y1_eq]
  show x4 (c1.emb (ix2 r n)) + _ * _ * x5 (g1.emb (ix2 (0 : Fin 1) n)) = _
  rw [emb_c1, emb_g1]
  rfl
theorem Z2_eq (r : Fin 256) (n : Fin 1024) : k0_pay1 (F80 x0 x1 x2 x3) (View.ld x4 c2) (Y2 x0 x1 x2 x3) (View.ld x5 g2) (ix2 r n)
    = tileF x0 x1 x2 x3 x4 x5 (ix2 r (⟨2048 + n.val, by omega⟩ : Fin 4096)) := by
  rw [pay1, F80_eq, Y2_eq]
  show x4 (c2.emb (ix2 r n)) + _ * _ * x5 (g2.emb (ix2 (0 : Fin 1) n)) = _
  rw [emb_c2, emb_g2]
  rfl
theorem Z3_eq (r : Fin 256) (n : Fin 1024) : k0_pay1 (F80 x0 x1 x2 x3) (View.ld x4 c3) (Y3 x0 x1 x2 x3) (View.ld x5 g3) (ix2 r n)
    = tileF x0 x1 x2 x3 x4 x5 (ix2 r (⟨3072 + n.val, by omega⟩ : Fin 4096)) := by
  rw [pay1, F80_eq, Y3_eq]
  show x4 (c3.emb (ix2 r n)) + _ * _ * x5 (g3.emb (ix2 (0 : Fin 1) n)) = _
  rw [emb_c3, emb_g3]
  rfl

/-- What the body leaves in the output's block. -/
theorem out_eq (c : Dev nD) (i : grid0.Coords) (arg1 : Memref sig .tc .vmem S4x256x512 .bf16) (harg1 : arg1.IsWhole) (arg2 : Memref sig .tc .vmem S1x2048 .f32) (harg2 : arg2.IsWhole)
    (arg3 : Memref sig .tc .vmem S2048x4096 .bf16) (harg3 : arg3.IsWhole) (arg4 : Memref sig .tc .vmem S256x4096 .f32) (harg4 : arg4.IsWhole)
    (arg5 : Memref sig .tc .vmem S256x4096 .f32) (harg5 : arg5.IsWhole) (arg6 : Memref sig .tc .vmem S1x4096 .f32) (harg6 : arg6.IsWhole)
    (arg7 : Memref sig .tc .vmem S256x4096 .f32) (harg7 : arg7.IsWhole) :
    out0_A_6 c i arg1 harg1 arg2 harg2 arg3 harg3 arg4 harg4 arg5 harg5 arg6 harg6 arg7 harg7 x0 x1 x2 x3 x4 x5 = tileF x0 x1 x2 x3 x4 x5 := by
  unfold out0_A_6
  rw [View.read_writes_junk_eq_canon]
  unfold kernelRun0_A
  dsimp only
  simp only [kernelRun0_A.sl.H6_7, kernelRun0_A.sl.H6_6, kernelRun0_A.sl.H6_5, kernelRun0_A.sl.H6_4,
    kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8,
    kernelRun0_A.sl.v83, kernelRun0_A.sl.v95, kernelRun0_A.sl.v107, kernelRun0_A.sl.v119]
  simp (config := {decide := true}) only [↓View.readCov_skip, View.readCov_cons_toLoadRect, View.readAt_eq_ld, Memref.IsWhole.read_unread]
  have e1 : View.ld x1 (Rect.unit (s := S1x2048) ![0, 0] ![1, 2048] inb_S1x2048_S1x2048_0_0) = x1 := View.ld_unit_zero hz _ _
  rw [e1]
  exact canon4 (tileF x0 x1 x2 x3 x4 x5) _ _ _ _ _ (Z0_eq x0 x1 x2 x3 x4 x5) (Z1_eq x0 x1 x2 x3 x4 x5) (Z2_eq x0 x1 x2 x3 x4 x5) (Z3_eq x0 x1 x2 x3 x4 x5)

end Cert.Kernel5Ideal.Ob

end
-- ==== Proof.ObVal.lean ====
/-
  The second half of the output projection: the kernel's blocks as parts of the arguments, and the result array.
-/
module

public import proofs.«01_k».proof.Proof.ObTile

@[expose] public section

set_option maxRecDepth 16384

noncomputable section

namespace Cert.Kernel5Ideal.Ob

open Idealize.ShloMosaic Idealize.ShloMosaic.TcCoe Cert.Kernel5Ideal Cert.Kernel5Ideal.Gen Cert.Rows
open Idealize.SL.Sem

variable (m : (ℓ : Loc nD τ sig) → Buf (Elt Ideal) ℓ) (c : Dev nD)

/-! ## The arguments -/

abbrev aO : FVec Ideal S4x16384x512 .f32 := m ((c : Thread nD τ).loc main_arg0)
abbrev aG : FVec Ideal S2048 .f32 := m ((c : Thread nD τ).loc main_arg1)
abbrev aW : FVec Ideal S4096x4096 .f32 := m ((c : Thread nD τ).loc main_arg2)
abbrev aY : FVec Ideal S4x4096x4096 .f32 := m ((c : Thread nD τ).loc main_arg3)
abbrev aX : FVec Ideal S4x4096x4096 .f32 := m ((c : Thread nD τ).loc main_arg4)
abbrev aP : FVec Ideal S4096 .f32 := m ((c : Thread nD τ).loc main_arg5)

/-- Row `R` of an array of rows in four batches. -/
def at4 (y : FVec Ideal S4x4096x4096 .f32) (R : ℕ) (n : Fin 4096) : EReal := y (ix3 (⟨R / 4096 % 4, Nat.mod_lt _ (by decide)⟩ : Fin 4) (⟨R % 4096, Nat.mod_lt _ (by decide)⟩ : Fin 4096) n)

/-- Row `R` of the windowed attention's output, its four groups side by side. -/
def row (R : ℕ) (j : Fin 2048) : EReal := aO m c (ix3 (⟨j.val / 512, by omega⟩ : Fin 4) (⟨R % 16384, Nat.mod_lt _ (by decide)⟩ : Fin 16384) (⟨j.val % 512, by omega⟩ : Fin 512))
def sc (j : Fin 2048) : EReal := aG m c (ix1 j)
def sp (n : Fin 4096) : EReal := aP m c (ix1 n)

/-- The sum of the two projections at row `R`: the second reads the last 2048 rows of the weights. -/
def sumR (R : ℕ) (n : Fin 4096) : EReal := at4 (aY m c) R n + proj d2048 (row m c R) (sc m c) (fun j => aW m c (ix2 (⟨2048 + j.val, by omega⟩ : Fin 4096) n))

/-- The result at row `R` and column `n`. -/
def res (R : ℕ) (n : Fin 4096) : EReal := at4 (aX m c) R n + norm d4096 (sumR m c R) (sp m c) n

/-! ## The blocks -/

theorem V_v0 : V (F := Ideal) m c main_v0 = truncf (F := Ideal) .bf16 (aO m c) bitsLt_bf16_f32 := by
  show StableHlo.after hostOps0 _ (Proc.devRef .tc main_v0) = _
  after_results
theorem V_v1 : V (F := Ideal) m c main_v1 = shapeCast S1x2048 (aG m c) shapeCasts_S2048_S1x2048 := by
  show StableHlo.after hostOps0 _ (Proc.devRef .tc main_v1) = _
  after_results
  rfl
theorem V_v2 : V (F := Ideal) m c main_v2 = truncf (F := Ideal) .bf16 (aW m c) bitsLt_bf16_f32 := by
  show StableHlo.after hostOps0 _ (Proc.devRef .tc main_v2) = _
  after_results
theorem V_v3 : V (F := Ideal) m c main_v3 = shapeCast S16384x4096 (aY m c) shapeCasts_S4x4096x4096_S16384x4096 := by
  show StableHlo.after hostOps0 _ (Proc.devRef .tc main_v3) = _
  after_results
  rfl
theorem V_v4 : V (F := Ideal) m c main_v4 = shapeCast S16384x4096 (aX m c) shapeCasts_S4x4096x4096_S16384x4096 := by
  show StableHlo.after hostOps0 _ (Proc.devRef .tc main_v4) = _
  after_results
  rfl
theorem V_v5 : V (F := Ideal) m c main_v5 = shapeCast S1x4096 (aP m c) shapeCasts_S4096_S1x4096 := by
  show StableHlo.after hostOps0 _ (Proc.devRef .tc main_v5) = _
  after_results
  rfl

theorem idx0 : ∀ t : Fin cfg0.N, win0_0.index t (0 : Fin 3) = 0 ∧ win0_0.index t (1 : Fin 3) = t.val ∧ win0_0.index t (2 : Fin 3) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 1 ∧ win0_2.index t (1 : Fin 2) = 0 := (by decide +kernel : ∀ t : Fin grid0.N, _)
theorem idx3 : ∀ t : Fin cfg0.N, win0_3.index t (0 : Fin 2) = t.val ∧ win0_3.index t (1 : Fin 2) = 0 := (by decide +kernel : ∀ t : Fin grid0.N, _)
theorem idx4 : ∀ t : Fin cfg0.N, win0_4.index t (0 : Fin 2) = t.val ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = t.val ∧ win0_6.index t (1 : Fin 2) = 0 := (by decide +kernel : ∀ t : Fin grid0.N, _)
/-- Every point writes its tile back. -/
theorem flush6 : ∀ t : Fin cfg0.N, (cfg0.win 6).flush t = true := (by decide +kernel : ∀ t : Fin grid0.N, win0_6.flush t = true)

theorem N_lt (t : Fin cfg0.N) : t.val < 64 := lt_of_lt_of_eq t.isLt (by decide +kernel : grid0.N = 64)

theorem blk0 (t : Fin cfg0.N) (b : Fin 4) (r : Fin 256) (k : Fin 512) : iblk m c 0 t (ix3 b r k) = aO m c (ix3 b (⟨(256 * t.val + r.val) % 16384, Nat.mod_lt _ (by decide)⟩ : Fin 16384) k) := by
  obtain ⟨e0, e1, e2⟩ := idx0 t
  have ht := N_lt t
  have e : ((cfg0.win 0).blk t).view.emb (ix3 b r k) = ix3 b (⟨(256 * t.val + r.val) % 16384, Nat.mod_lt _ (by decide)⟩ : Fin 16384) k := by
    funext a; apply Fin.ext
    match a with
    | ⟨0, _⟩ => show win0_0.index t (0 : Fin 3) * 4 + 1 * b.val = b.val; rw [e0]; omega
    | ⟨1, _⟩ => show win0_0.index t (1 : Fin 3) * 256 + 1 * r.val = (256 * t.val + r.val) % 16384; rw [e1]; omega
    | ⟨2, _⟩ => show win0_0.index t (2 : Fin 3) * 512 + 1 * k.val = k.val; rw [e2]; omega
  show V (F := Ideal) m c main_v0 (((cfg0.win 0).blk t).view.emb (ix3 b r k)) = _
  rw [e, V_v0]
  rfl

theorem blk1 (t : Fin cfg0.N) (k : Fin 2048) : iblk m c 1 t (ix2 (0 : Fin 1) k) = sc m c k := by
  obtain ⟨e0, e1⟩ := idx1 t
  have e : ((cfg0.win 1).blk t).view.emb (ix2 (0 : Fin 1) k) = ix2 (0 : Fin 1) k := by
    funext a; apply Fin.ext
    match a with
    | ⟨0, _⟩ => show win0_1.index t (0 : Fin 2) * 1 + 1 * 0 = 0; rw [e0]
    | ⟨1, _⟩ => show win0_1.index t (1 : Fin 2) * 2048 + 1 * k.val = k.val; rw [e1]; omega
  show V (F := Ideal) m c main_v1 (((cfg0.win 1).blk t).view.emb (ix2 (0 : Fin 1) k)) = _
  rw [e, V_v1]
  pointwise
  rfl

theorem blk5 (t : Fin cfg0.N) (k : Fin 4096) : iblk m c 5 t (ix2 (0 : Fin 1) k) = sp m c k := by
  obtain ⟨e0, e1⟩ := idx5 t
  have e : ((cfg0.win 5).blk t).view.emb (ix2 (0 : Fin 1) k) = ix2 (0 : Fin 1) k := by
    funext a; apply Fin.ext
    match a with
    | ⟨0, _⟩ => show win0_5.index t (0 : Fin 2) * 1 + 1 * 0 = 0; rw [e0]
    | ⟨1, _⟩ => show win0_5.index t (1 : Fin 2) * 4096 + 1 * k.val = k.val; rw [e1]; omega
  show V (F := Ideal) m c main_v5 (((cfg0.win 5).blk t).view.emb (ix2 (0 : Fin 1) k)) = _
  rw [e, V_v5]
  pointwise
  rfl

theorem blk2 (t : Fin cfg0.N) (x : Fin 2048) (k : Fin 4096) : iblk m c 2 t (ix2 x k) = aW m c (ix2 (⟨2048 + x.val, by omega⟩ : Fin 4096) k) := by
  obtain ⟨e0, e1⟩ := idx2 t
  have e : ((cfg0.win 2).blk t).view.emb (ix2 x k) = ix2 (⟨2048 + x.val, by omega⟩ : Fin 4096) k := by
    funext a; apply Fin.ext
    match a with
    | ⟨0, _⟩ => show win0_2.index t (0 : Fin 2) * 2048 + 1 * x.val = 2048 + x.val; rw [e0]; omega
    | ⟨1, _⟩ => show win0_2.index t (1 : Fin 2) * 4096 + 1 * k.val = k.val; rw [e1]; omega
  show V (F := Ideal) m c main_v2 (((cfg0.win 2).blk t).view.emb (ix2 x k)) = _
  rw [e, V_v2]
  rfl

theorem blk3 (t : Fin cfg0.N) (r : Fin 256) (k : Fin 4096) : iblk m c 3 t (ix2 r k) = at4 (aY m c) (256 * t.val + r.val) k := by
  obtain ⟨e0, e1⟩ := idx3 t
  have ht := N_lt t
  have e : ((cfg0.win 3).blk t).view.emb (ix2 r k) = ix2 (⟨256 * t.val + r.val, by omega⟩ : Fin 16384) k := by
    funext a; apply Fin.ext
    match a with
    | ⟨0, _⟩ => show win0_3.index t (0 : Fin 2) * 256 + 1 * r.val = 256 * t.val + r.val; rw [e0]; omega
    | ⟨1, _⟩ => show win0_3.index t (1 : Fin 2) * 4096 + 1 * k.val = k.val; rw [e1]; omega
  show V (F := Ideal) m c main_v3 (((cfg0.win 3).blk t).view.emb (ix2 r k)) = _
  rw [e, V_v3]
  pointwise
  show _ = aY m c _
  congr 2
  apply Fin.ext
  show (256 * t.val + r.val) / 4096 = (256 * t.val + r.val) / 4096 % 4
  omega

theorem blk4 (t : Fin cfg0.N) (r : Fin 256) (k : Fin 4096) : iblk m c 4 t (ix2 r k) = at4 (aX m c) (256 * t.val + r.val) k := by
  obtain ⟨e0, e1⟩ := idx4 t
  have ht := N_lt t
  have e : ((cfg0.win 4).blk t).view.emb (ix2 r k) = ix2 (⟨256 * t.val + r.val, by omega⟩ : Fin 16384) k := by
    funext a; apply Fin.ext
    match a with
    | ⟨0, _⟩ => show win0_4.index t (0 : Fin 2) * 256 + 1 * r.val = 256 * t.val + r.val; rw [e0]; omega
    | ⟨1, _⟩ => show win0_4.index t (1 : Fin 2) * 4096 + 1 * k.val = k.val; rw [e1]; omega
  show V (F := Ideal) m c main_v4 (((cfg0.win 4).blk t).view.emb (ix2 r k)) = _
  rw [e, V_v4]
  pointwise
  show _ = aX m c _
  congr 2
  apply Fin.ext
  show (256 * t.val + r.val) / 4096 = (256 * t.val + r.val) / 4096 % 4
  omega

/-! ## The result array -/

/-- The result array, as a function of the arguments. -/
def arr : FVec Ideal S16384x4096 .f32 := fun p => res m c (p (0 : Fin 2)).val (p (1 : Fin 2))

theorem tile6 (t : Fin cfg0.N) (r : Fin 256) (n : Fin 4096) : outsAt0 m c t (ix2 r n) = res m c (256 * t.val + r.val) n := by
  unfold outsAt0
  rw [out_eq]
  have hy : yF (iblk m c 0 t) (iblk m c 1 t) (iblk m c 2 t) (iblk m c 3 t) r = sumR m c (256 * t.val + r.val) := by
    funext k
    have hg : grp (iblk m c 0 t) r = row m c (256 * t.val + r.val) := funext fun j => blk0 m c t _ r _
    have h1 : (fun j => iblk m c 1 t (ix2 (0 : Fin 1) j)) = sc m c := funext (blk1 m c t)
    have h2 : (fun j => iblk m c 2 t (ix2 j k)) = fun j : Fin 2048 => aW m c (ix2 (⟨2048 + j.val, by omega⟩ : Fin 4096) k) := funext fun j => blk2 m c t j k
    exact congrArg₂ (fun a b : EReal => a + b) (blk3 m c t r k) (by rw [hg]; exact congrArg₂ (proj d2048 (row m c (256 * t.val + r.val))) h1 h2)
  have h5 : (fun k => iblk m c 5 t (ix2 (0 : Fin 1) k)) = sp m c := funext (blk5 m c t)
  exact congrArg₂ (fun a b : EReal => a + b) (blk4 m c t r n) (congrFun (congrArg₂ (norm d4096) hy h5) n)

theorem final6 : (dats m 0 c).arrAt 6 cfg0.N = arr m c := by
  refine (dats m 0 c).arrAt_eq_of_cover 6 _ (fun t ht => ?_) (fun i => ?_)
  · obtain ⟨e0, e1⟩ := idx6 t
    rw [Cert.Kernel5Ideal.Value.flushed6]
    funext j
    obtain ⟨r, n, rfl⟩ : ∃ (r : Fin 256) (n : Fin 4096), ix2 r n = (j : S256x4096.Idx) := ⟨(j : S256x4096.Idx) 0, (j : S256x4096.Idx) 1, funext fun a => by match a with | ⟨0, _⟩ => rfl | ⟨1, _⟩ => rfl⟩
    have p0 : (((cfg0.win 6).blk t).view.emb (ix2 r n) (0 : Fin 2)).val = 256 * t.val + r.val := by
      show win0_6.index t (0 : Fin 2) * 256 + 1 * r.val = _; rw [e0]; omega
    have p1 : ((cfg0.win 6).blk t).view.emb (ix2 r n) (1 : Fin 2) = n := by
      apply Fin.ext
      show win0_6.index t (1 : Fin 2) * 4096 + 1 * n.val = _; rw [e1]; omega
    refine Eq.trans (tile6 m c t r n) ?_
    show _ = res m c (((cfg0.win 6).blk t).view.emb (ix2 r n) (0 : Fin 2)).val (((cfg0.win 6).blk t).view.emb (ix2 r n) (1 : Fin 2))
    rw [p0, p1]
  · obtain ⟨R, C, rfl⟩ : ∃ (R : Fin 16384) (C : Fin 4096), ix2 R C = (i : S16384x4096.Idx) := ⟨(i : S16384x4096.Idx) 0, (i : S16384x4096.Idx) 1, funext fun a => by match a with | ⟨0, _⟩ => rfl | ⟨1, _⟩ => rfl⟩
    have hN : grid0.N = 64 := by decide +kernel
    refine ⟨⟨R.val / 256, lt_of_lt_of_eq (b := 64) (by omega) hN.symm⟩, flush6 _, ?_⟩
    generalize hT : (⟨R.val / 256, lt_of_lt_of_eq (b := 64) (by omega) hN.symm⟩ : Fin cfg0.N) = t
    obtain ⟨e0, e1⟩ := idx6 t
    have e2 : t.val = R.val / 256 := by rw [← hT]
    have h := ((cfg0.win 6).blk t).view.emb_mem_set (ix2 (⟨R.val % 256, by omega⟩ : Fin 256) C)
    convert h using 1
    funext a; apply Fin.ext
    match a with
    | ⟨0, _⟩ => show R.val = win0_6.index t (0 : Fin 2) * 256 + 1 * (R.val % 256); rw [e0, e2]; omega
    | ⟨1, _⟩ => show C.val = win0_6.index t (1 : Fin 2) * 4096 + 1 * C.val; rw [e1]; omega

end Cert.Kernel5Ideal.Ob

end
-- ==== Proof.ObRef.lean ====
/-
  The reference's second half of the output projection, element by element.
-/
module

public import proofs.«01_k».proof.Proof.Gen.Reference5Ideal.Run
public import proofs.«01_k».proof.Proof.Rows
public import Idealize.ShloMosaic.Lib.Pointwise

@[expose] public section

noncomputable section

namespace Cert.Reference5Ideal.Ob

open Idealize.ShloMosaic Idealize.ShloMosaic.TcCoe Cert.Reference5Ideal Cert.Reference5Ideal.Gen Cert.Rows

/-- The attention's output, its groups side by side. -/
def merged (o : FVec Ideal S4x16384x512 .f32) : FVec Ideal S4x4096x2048 .f32 :=
  shapeCast _ (transpose S16384x4x512 [1, 0, 2] o transposes_S4x16384x512_S16384x4x512_1_0_2) shapeCasts_S16384x4x512_S4x4096x2048

/-- A row's factor, for rows of 2048 and of 4096. -/
def scale2 (x : FVec Ideal S4x4096x2048 .f32) : FVec Ideal S4x4096x1 .f32 :=
  Host.rsqrt (addf (Host.divf (broadcastInDim S4x4096x1 ![0, 1] bcast_S4x4096_S4x4096x1_0_1
    (Host.reduceAdd (mulf x x) (constant S_ .f32 0x00000000#32) reducesTo_S4x4096x2048_S4x4096_d2 h_S_))
    (broadcastInDim S4x4096x1 ![] bcast_S_S4x4096x1 (constant S_ .f32 0x45000000#32)))
    (broadcastInDim S4x4096x1 ![] bcast_S_S4x4096x1 (constant S_ .f32 0x358637BD#32)))
def scale4 (x : FVec Ideal S4x4096x4096 .f32) : FVec Ideal S4x4096x1 .f32 :=
  Host.rsqrt (addf (Host.divf (broadcastInDim S4x4096x1 ![0, 1] bcast_S4x4096_S4x4096x1_0_1
    (Host.reduceAdd (mulf x x) (constant S_ .f32 0x00000000#32) reducesTo_S4x4096x4096_S4x4096_d2 h_S_))
    (broadcastInDim S4x4096x1 ![] bcast_S_S4x4096x1 (constant S_ .f32 0x45800000#32)))
    (broadcastInDim S4x4096x1 ![] bcast_S_S4x4096x1 (constant S_ .f32 0x358637BD#32)))

/-- The normalised rows. -/
def norm2 (x : FVec Ideal S4x4096x2048 .f32) (g : FVec Ideal S2048 .f32) : FVec Ideal S4x4096x2048 .f32 :=
  mulf (mulf x (broadcastInDim S4x4096x2048 ![0, 1, 2] bcast_S4x4096x1_S4x4096x2048_0_1_2 (scale2 x)))
    (broadcastInDim S4x4096x2048 ![0, 1, 2] bcast_S1x1x2048_S4x4096x2048_0_1_2 (broadcastInDim S1x1x2048 ![2] bcast_S2048_S1x1x2048_2 g))
def norm4 (x : FVec Ideal S4x4096x4096 .f32) (g : FVec Ideal S4096 .f32) : FVec Ideal S4x4096x4096 .f32 :=
  mulf (mulf x (broadcastInDim S4x4096x4096 ![0, 1, 2] bcast_S4x4096x1_S4x4096x4096_0_1_2 (scale4 x)))
    (broadcastInDim S4x4096x4096 ![0, 1, 2] bcast_S1x1x4096_S4x4096x4096_0_1_2 (broadcastInDim S1x1x4096 ![2] bcast_S4096_S1x1x4096_2 g))

/-- The two projections' sum. -/
def sums (o : FVec Ideal S4x16384x512 .f32) (g : FVec Ideal S2048 .f32) (w : FVec Ideal S4096x4096 .f32) (ya : FVec Ideal S4x4096x4096 .f32) : FVec Ideal S4x4096x4096 .f32 :=
  addf ya (Host.dotGeneral dot_S4x4096x2048_S2048x4096_S4x4096x4096_2_0_01_1_n_n none (norm2 (merged o) g) (extractStridedSlice S2048x4096 ![2048, 0] w slices_S4096x4096_S2048x4096_2048_0))

/-- The result. -/
def result (o : FVec Ideal S4x16384x512 .f32) (g : FVec Ideal S2048 .f32) (w : FVec Ideal S4096x4096 .f32) (ya x : FVec Ideal S4x4096x4096 .f32) (gp : FVec Ideal S4096 .f32) :
    FVec Ideal S16384x4096 .f32 :=
  shapeCast _ (addf x (norm4 (sums o g w ya) gp)) shapeCasts_S4x4096x4096_S16384x4096

variable (o : FVec Ideal S4x16384x512 .f32) (g : FVec Ideal S2048 .f32) (w : FVec Ideal S4096x4096 .f32) (ya x : FVec Ideal S4x4096x4096 .f32) (gp : FVec Ideal S4096 .f32)

/-- The merged row. -/
theorem merged_apply (b : Fin 4) (s : Fin 4096) (k : Fin 2048) : merged o (ix3 b s k)
    = o (ix3 (⟨k.val / 512, by omega⟩ : Fin 4) (⟨b.val * 4096 + s.val, by omega⟩ : Fin 16384) (⟨k.val % 512, by omega⟩ : Fin 512)) := by
  pointwise [merged]

/-- The normalised rows, place by place. -/
theorem norm2_apply (y : FVec Ideal S4x4096x2048 .f32) (b : Fin 4) (s : Fin 4096) (k : Fin 2048) :
    norm2 y g (ix3 b s k) = norm d2048 (fun j => y (ix3 b s j)) (fun j => g (ix1 j)) k := by
  pointwise [norm2, scale2]
  rfl
theorem norm4_apply (y : FVec Ideal S4x4096x4096 .f32) (b : Fin 4) (s k : Fin 4096) :
    norm4 y gp (ix3 b s k) = norm d4096 (fun j => y (ix3 b s j)) (fun j => gp (ix1 j)) k := by
  pointwise [norm4, scale4]
  rfl

/-- The sums, place by place. -/
theorem sums_apply (b : Fin 4) (s n : Fin 4096) : sums o g w ya (ix3 b s n) = ya (ix3 b s n)
    + proj d2048 (fun j => merged o (ix3 b s j)) (fun j => g (ix1 j)) (fun j => w (ix2 (⟨2048 + j.val, by omega⟩ : Fin 4096) n)) := by
  pointwise [sums]
  simp only [norm2_apply]
  rfl

/-- THE REFERENCE'S RESULT. -/
theorem result_apply (R : Fin 16384) (n : Fin 4096) : result o g w ya x gp (ix2 R n) = x (ix3 (⟨R.val / 4096, by omega⟩ : Fin 4) (⟨R.val % 4096, by omega⟩ : Fin 4096) n)
    + norm4 (sums o g w ya) gp (ix3 (⟨R.val / 4096, by omega⟩ : Fin 4) (⟨R.val % 4096, by omega⟩ : Fin 4096) n) := by
  pointwise [result]

variable (m : (ℓ : Loc nD τ sig) → Buf (Elt Ideal) ℓ) (c : Dev nD)

/-- What the reference leaves is this result of its arguments. -/
theorem res_eq : Value.res_main_v32 (F := Ideal) m c = result (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) := by
  unfold Value.res_main_v32
  rfl

end Cert.Reference5Ideal.Ob

end
-- ==== Proof.ObClaim.lean ====
/-
  The value claim about the second half of the output projection.
-/
module

public import proofs.«01_k».proof.Defs
public import proofs.«01_k».proof.Proof.ObVal
public import proofs.«01_k».proof.Proof.ObRef
public import proofs.«01_k».proof.Proof.Gen.Reference5Ideal.Run

@[expose] public section

noncomputable section

namespace Cert.Proof

open Idealize.ShloMosaic Idealize.ShloMosaic.TcCoe Idealize.SL.Sem

section
open Cert.Kernel5Ideal Cert.Kernel5Ideal.Ob Cert.Rows

variable (m : (ℓ : Loc nD τ sig) → Buf (Elt Ideal) ℓ) (c : Dev nD)

/-- Rows of the kernel's text are the reference's. -/
theorem at5 (y : FVec Ideal S4x4096x4096 .f32) (R : Fin 16384) (n : Fin 4096) : at4 y R.val n = y (ix3 (⟨R.val / 4096, by omega⟩ : Fin 4) (⟨R.val % 4096, by omega⟩ : Fin 4096) n) := by
  unfold at4
  congr 2
  apply Fin.ext
  show R.val / 4096 % 4 = R.val / 4096
  omega

/-- And so are the rows of the windowed attention's output. -/
theorem row5 (R : Fin 16384) : row m c R.val = fun j => Cert.Reference5Ideal.Ob.merged (aO m c) (ix3 (⟨R.val / 4096, by omega⟩ : Fin 4) (⟨R.val % 4096, by omega⟩ : Fin 4096) j) := by
  funext j
  rw [Cert.Reference5Ideal.Ob.merged_apply]
  unfold row
  congr 2
  apply Fin.ext
  show R.val % 16384 = R.val / 4096 * 4096 + R.val % 4096
  omega

/-- The reference's result is the same function of the arguments. -/
theorem ref5_res : Cert.Reference5Ideal.Ob.result (aO m c) (aG m c) (aW m c) (aY m c) (aX m c) (aP m c) = arr m c := by
  funext p
  obtain ⟨R, C, rfl⟩ : ∃ (R : Fin 16384) (C : Fin 4096), ix2 R C = p := ⟨p 0, p 1, funext fun a => by match a with | ⟨0, _⟩ => rfl | ⟨1, _⟩ => rfl⟩
  rw [Cert.Reference5Ideal.Ob.result_apply, Cert.Reference5Ideal.Ob.norm4_apply]
  simp only [Cert.Reference5Ideal.Ob.sums_apply]
  show _ = res m c R.val C
  unfold res
  have hs : sumR m c R.val = fun n => aY m c (ix3 (⟨R.val / 4096, by omega⟩ : Fin 4) (⟨R.val % 4096, by omega⟩ : Fin 4096) n)
      + proj d2048 (fun j => Cert.Reference5Ideal.Ob.merged (aO m c) (ix3 (⟨R.val / 4096, by omega⟩ : Fin 4) (⟨R.val % 4096, by omega⟩ : Fin 4096) j)) (fun j => aG m c (ix1 j))
        (fun j => aW m c (ix2 (⟨2048 + j.val, by omega⟩ : Fin 4096) n)) := by
    funext n
    unfold sumR
    rw [at5, row5]
    rfl
  rw [at5, hs]
  rfl
end

/-- THE VALUE CLAIM of the second half of the output projection. -/
theorem algebraic_ob : Cert.algebraic_Kernel5Ideal_Reference5Ideal (hKernel5Ideal := Cert.Kernel5Ideal.Gen.facts) (hReference5Ideal := Cert.Reference5Ideal.Gen.facts) :=
  fun m ρ m' ρ' _ hag => ⟨Cert.Kernel5Ideal.Ob.arr m,
    (θ_run _ _ _).mono (fun _ h c => ⟨(h c).1.trans (Cert.Kernel5Ideal.Ob.final6 m c), (h c).2⟩)
      (Cert.Kernel5Ideal.Value.run_blocks m ρ),
    (θ_run _ _ _).mono (fun _ h c => ⟨(h c).1.trans ((Cert.Reference5Ideal.Ob.res_eq m' c).trans (by
          obtain ⟨h0, h1, h2, h3, h4, h5⟩ := hag c
          rw [h0, h1, h2, h3, h4, h5]
          exact ref5_res m c)), (h c).2⟩)
      (Cert.Reference5Ideal.Value.run m' ρ')⟩

end Cert.Proof

end
-- ==== Proof.LatVal.lean ====
/-
  The MLA input projection's kernel over the extended reals: its tile functions, its blocks as parts of the arguments,
  and the two result arrays.
-/
module

public import proofs.«01_k».proof.Proof.Gen.Kernel6Ideal.Value
public import proofs.«01_k».proof.Proof.Rows
public import Idealize.ShloMosaic.Lib.Pipeline.Value

@[expose] public section

set_option maxRecDepth 16384

noncomputable section

namespace Cert.Kernel6Ideal.Lat

open Idealize.ShloMosaic Idealize.ShloMosaic.TcCoe Cert.Kernel6Ideal Cert.Kernel6Ideal.Gen Cert.Rows
open Idealize.SL.Sem

theorem pay4 (x : Vec Ideal S512x4096 .f32) (g : Vec Ideal S1x4096 .f32) (w : Vec Ideal S4096x1536 .bf16) (r : Fin 512) (n : Fin 1536) :
    k0_pay4 x g w (ix2 r n) = proj d4096 (fun j => x (ix2 r j)) (fun j => g (ix2 (0 : Fin 1) j)) (fun j => w (ix2 j n)) := by
  rw [← proj4096]
  pointwise [k0_pay4, k0_pay3, k0_pay2, k0_pay1]
  rfl

theorem pay5 (x : Vec Ideal S512x4096 .f32) (g : Vec Ideal S1x4096 .f32) (w : Vec Ideal S4096x128 .bf16) (r : Fin 512) (n : Fin 128) :
    k0_pay5 x g w (ix2 r n) = proj d4096 (fun j => x (ix2 r j)) (fun j => g (ix2 (0 : Fin 1) j)) (fun j => w (ix2 j n)) := by
  rw [← proj4096]
  pointwise [k0_pay5, k0_pay3, k0_pay2, k0_pay1]
  rfl

theorem hz : (![0, 0] : Fin 2 → Nat) = fun _ => 0 := funext fun a => by match a with | ⟨0, _⟩ => rfl | ⟨1, _⟩ => rfl

/-- Each result's tile is one store of its tile function. -/
theorem out4_eq (x0 : Vec Ideal S512x4096 .f32) (x1 : Vec Ideal S1x4096 .f32) (x2 : Vec Ideal S4096x1536 .bf16) (x3 : Vec Ideal S4096x128 .bf16) :
    out0_4 x0 x1 x2 x3 = k0_pay4 x0 x1 x2 := by
  show View.canon [_] = _
  rw [View.canon_unit_zero hz, View.ld_unit_zero hz, View.ld_unit_zero hz, View.ld_unit_zero hz]
theorem out5_eq (x0 : Vec Ideal S512x4096 .f32) (x1 : Vec Ideal S1x4096 .f32) (x2 : Vec Ideal S4096x1536 .bf16) (x3 : Vec Ideal S4096x128 .bf16) :
    out0_5 x0 x1 x2 x3 = k0_pay5 x0 x1 x3 := by
  show View.canon [_] = _
  rw [View.canon_unit_zero hz, View.ld_unit_zero hz, View.ld_unit_zero hz, View.ld_unit_zero hz]

variable (m : (ℓ : Loc nD τ sig) → Buf (Elt Ideal) ℓ) (c : Dev nD)

/-! ## The arguments -/

abbrev aX : FVec Ideal S4x4096x4096 .f32 := m ((c : Thread nD τ).loc main_arg0)
abbrev aG : FVec Ideal S4096 .f32 := m ((c : Thread nD τ).loc main_arg1)
abbrev aL : FVec Ideal S4096x1536 .f32 := m ((c : Thread nD τ).loc main_arg2)
abbrev aR : FVec Ideal S4096x128 .f32 := m ((c : Thread nD τ).loc main_arg3)

/-- Row `R` of `x`, and the scale. -/
def row (R : ℕ) (j : Fin 4096) : EReal := aX m c (ix3 (⟨R / 4096 % 4, Nat.mod_lt _ (by decide)⟩ : Fin 4) (⟨R % 4096, Nat.mod_lt _ (by decide)⟩ : Fin 4096) j)
def sc (j : Fin 4096) : EReal := aG m c (ix1 j)

/-- The two results at row `R` and column `n`. -/
def resL (R : ℕ) (n : Fin 1536) : EReal := proj d4096 (row m c R) (sc m c) (fun j => aL m c (ix2 j n))
def resR (R : ℕ) (n : Fin 128) : EReal := proj d4096 (row m c R) (sc m c) (fun j => aR m c (ix2 j n))

/-! ## The blocks -/

theorem V_v0 : V (F := Ideal) m c main_v0 = shapeCast S16384x4096 (aX m c) shapeCasts_S4x4096x4096_S16384x4096 := by
  show StableHlo.after hostOps0 _ (Proc.devRef .tc main_v0) = _
  after_results
  rfl
theorem V_v1 : V (F := Ideal) m c main_v1 = shapeCast S1x4096 (aG m c) shapeCasts_S4096_S1x4096 := by
  show StableHlo.after hostOps0 _ (Proc.devRef .tc main_v1) = _
  after_results
  rfl
theorem V_v2 : V (F := Ideal) m c main_v2 = truncf (F := Ideal) .bf16 (aL m c) bitsLt_bf16_f32 := by
  show StableHlo.after hostOps0 _ (Proc.devRef .tc main_v2) = _
  after_results
theorem V_v3 : V (F := Ideal) m c main_v3 = truncf (F := Ideal) .bf16 (aR m c) bitsLt_bf16_f32 := by
  show StableHlo.after hostOps0 _ (Proc.devRef .tc main_v3) = _
  after_results

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = t.val ∧ win0_4.index t (1 : Fin 2) = 0 := (by decide +kernel : ∀ t : Fin grid0.N, _)
theorem idx5 : ∀ t : Fin cfg0.N, win0_5.index t (0 : Fin 2) = t.val ∧ win0_5.index t (1 : Fin 2) = 0 := (by decide +kernel : ∀ t : Fin grid0.N, _)
/-- Every point writes its tiles back. -/
theorem flush4 : ∀ t : Fin cfg0.N, (cfg0.win 4).flush t = true := (by decide +kernel : ∀ t : Fin grid0.N, win0_4.flush t = true)
theorem flush5 : ∀ t : Fin cfg0.N, (cfg0.win 5).flush t = true := (by decide +kernel : ∀ t : Fin grid0.N, win0_5.flush t = true)

theorem N_lt (t : Fin cfg0.N) : t.val < 32 := lt_of_lt_of_eq t.isLt (by decide +kernel : grid0.N = 32)

theorem blk0 (t : Fin cfg0.N) (r : Fin 512) (k : Fin 4096) : iblk m c 0 t (ix2 r k) = row m c (512 * t.val + r.val) k := by
  obtain ⟨e0, e1⟩ := idx0 t
  have ht := N_lt t
  have e : ((cfg0.win 0).blk t).view.emb (ix2 r k) = ix2 (⟨512 * t.val + r.val, by omega⟩ : Fin 16384) k := by
    funext a; apply Fin.ext
    match a with
    | ⟨0, _⟩ => show win0_0.index t (0 : Fin 2) * 512 + 1 * r.val = 512 * t.val + r.val; rw [e0]; omega
    | ⟨1, _⟩ => show win0_0.index t (1 : Fin 2) * 4096 + 1 * k.val = k.val; rw [e1]; omega
  show V (F := Ideal) m c main_v0 (((cfg0.win 0).blk t).view.emb (ix2 r k)) = _
  rw [e, V_v0]
  pointwise
  show _ = aX m c _
  congr 2
  apply Fin.ext
  show (512 * t.val + r.val) / 4096 = (512 * t.val + r.val) / 4096 % 4
  omega

theorem blk1 (t : Fin cfg0.N) (k : Fin 4096) : iblk m c 1 t (ix2 (0 : Fin 1) k) = sc m c k := by
  obtain ⟨e0, e1⟩ := idx1 t
  have e : ((cfg0.win 1).blk t).view.emb (ix2 (0 : Fin 1) k) = ix2 (0 : Fin 1) k := by
    funext a; apply Fin.ext
    match a with
    | ⟨0, _⟩ => show win0_1.index t (0 : Fin 2) * 1 + 1 * 0 = 0; rw [e0]
    | ⟨1, _⟩ => show win0_1.index t (1 : Fin 2) * 4096 + 1 * k.val = k.val; rw [e1]; omega
  show V (F := Ideal) m c main_v1 (((cfg0.win 1).blk t).view.emb (ix2 (0 : Fin 1) k)) = _
  rw [e, V_v1]
  pointwise
  rfl

theorem blk2 (t : Fin cfg0.N) (x : Fin 4096) (k : Fin 1536) : iblk m c 2 t (ix2 x k) = aL m c (ix2 x k) := by
  obtain ⟨e0, e1⟩ := idx2 t
  have e : ((cfg0.win 2).blk t).view.emb (ix2 x k) = ix2 x k := by
    funext a; apply Fin.ext
    match a with
    | ⟨0, _⟩ => show win0_2.index t (0 : Fin 2) * 4096 + 1 * x.val = x.val; rw [e0]; omega
    | ⟨1, _⟩ => show win0_2.index t (1 : Fin 2) * 1536 + 1 * k.val = k.val; rw [e1]; omega
  show V (F := Ideal) m c main_v2 (((cfg0.win 2).blk t).view.emb (ix2 x k)) = _
  rw [e, V_v2]
  rfl

theorem blk3 (t : Fin cfg0.N) (x : Fin 4096) (k : Fin 128) : iblk m c 3 t (ix2 x k) = aR m c (ix2 x k) := by
  obtain ⟨e0, e1⟩ := idx3 t
  have e : ((cfg0.win 3).blk t).view.emb (ix2 x k) = ix2 x k := by
    funext a; apply Fin.ext
    match a with
    | ⟨0, _⟩ => show win0_3.index t (0 : Fin 2) * 4096 + 1 * x.val = x.val; rw [e0]; omega
    | ⟨1, _⟩ => show win0_3.index t (1 : Fin 2) * 128 + 1 * k.val = k.val; rw [e1]; omega
  show V (F := Ideal) m c main_v3 (((cfg0.win 3).blk t).view.emb (ix2 x k)) = _
  rw [e, V_v3]
  rfl

/-! ## The result arrays -/

/-- The result arrays, as functions of the arguments. -/
def arrL : FVec Ideal S16384x1536 .bf16 := fun p => resL m c (p (0 : Fin 2)).val (p (1 : Fin 2))
def arrR : FVec Ideal S16384x128 .f32 := fun p => resR m c (p (0 : Fin 2)).val (p (1 : Fin 2))

theorem tile4 (t : Fin cfg0.N) (r : Fin 512) (n : Fin 1536) :
    out0_4 (iblk m c 0 t) (iblk m c 1 t) (iblk m c 2 t) (iblk m c 3 t) (ix2 r n) = resL m c (512 * t.val + r.val) n := by
  rw [out4_eq]
  refine (pay4 _ _ _ r n).trans ?_
  simp only [blk0, blk1, blk2]
  rfl

theorem tile5 (t : Fin cfg0.N) (r : Fin 512) (n : Fin 128) :
    out0_5 (iblk m c 0 t) (iblk m c 1 t) (iblk m c 2 t) (iblk m c 3 t) (ix2 r n) = resR m c (512 * t.val + r.val) n := by
  rw [out5_eq]
  refine (pay5 _ _ _ r n).trans ?_
  simp only [blk0, blk1, blk3]
  rfl

theorem final4 : (dats m 0 c).arrAt 4 cfg0.N = arrL m c := by
  refine (dats m 0 c).arrAt_eq_of_cover 4 _ (fun t ht => ?_) (fun i => ?_)
  · obtain ⟨e0, e1⟩ := idx4 t
    rw [Cert.Kernel6Ideal.Value.flushed4]
    funext j
    obtain ⟨r, n, rfl⟩ : ∃ (r : Fin 512) (n : Fin 1536), ix2 r n = (j : S512x1536.Idx) := ⟨(j : S512x1536.Idx) 0, (j : S512x1536.Idx) 1, funext fun a => by match a with | ⟨0, _⟩ => rfl | ⟨1, _⟩ => rfl⟩
    have p0 : (((cfg0.win 4).blk t).view.emb (ix2 r n) (0 : Fin 2)).val = 512 * t.val + r.val := by
      show win0_4.index t (0 : Fin 2) * 512 + 1 * r.val = _; rw [e0]; omega
    have p1 : ((cfg0.win 4).blk t).view.emb (ix2 r n) (1 : Fin 2) = n := by
      apply Fin.ext
      show win0_4.index t (1 : Fin 2) * 1536 + 1 * n.val = _; rw [e1]; omega
    refine Eq.trans (tile4 m c t r n) ?_
    show _ = resL m c (((cfg0.win 4).blk t).view.emb (ix2 r n) (0 : Fin 2)).val (((cfg0.win 4).blk t).view.emb (ix2 r n) (1 : Fin 2))
    rw [p0, p1]
  · obtain ⟨R, C, rfl⟩ : ∃ (R : Fin 16384) (C : Fin 1536), ix2 R C = (i : S16384x1536.Idx) := ⟨(i : S16384x1536.Idx) 0, (i : S16384x1536.Idx) 1, funext fun a => by match a with | ⟨0, _⟩ => rfl | ⟨1, _⟩ => rfl⟩
    have hN : grid0.N = 32 := by decide +kernel
    refine ⟨⟨R.val / 512, lt_of_lt_of_eq (b := 32) (by omega) hN.symm⟩, flush4 _, ?_⟩
    generalize hT : (⟨R.val / 512, lt_of_lt_of_eq (b := 32) (by omega) hN.symm⟩ : Fin cfg0.N) = t
    obtain ⟨e0, e1⟩ := idx4 t
    have e2 : t.val = R.val / 512 := by rw [← hT]
    have h := ((cfg0.win 4).blk t).view.emb_mem_set (ix2 (⟨R.val % 512, by omega⟩ : Fin 512) C)
    convert h using 1
    funext a; apply Fin.ext
    match a with
    | ⟨0, _⟩ => show R.val = win0_4.index t (0 : Fin 2) * 512 + 1 * (R.val % 512); rw [e0, e2]; omega
    | ⟨1, _⟩ => show C.val = win0_4.index t (1 : Fin 2) * 1536 + 1 * C.val; rw [e1]; omega

theorem final5 : (dats m 0 c).arrAt 5 cfg0.N = arrR m c := by
  refine (dats m 0 c).arrAt_eq_of_cover 5 _ (fun t ht => ?_) (fun i => ?_)
  · obtain ⟨e0, e1⟩ := idx5 t
    rw [Cert.Kernel6Ideal.Value.flushed5]
    funext j
    obtain ⟨r, n, rfl⟩ : ∃ (r : Fin 512) (n : Fin 128), ix2 r n = (j : S512x128.Idx) := ⟨(j : S512x128.Idx) 0, (j : S512x128.Idx) 1, funext fun a => by match a with | ⟨0, _⟩ => rfl | ⟨1, _⟩ => rfl⟩
    have p0 : (((cfg0.win 5).blk t).view.emb (ix2 r n) (0 : Fin 2)).val = 512 * t.val + r.val := by
      show win0_5.index t (0 : Fin 2) * 512 + 1 * r.val = _; rw [e0]; omega
    have p1 : ((cfg0.win 5).blk t).view.emb (ix2 r n) (1 : Fin 2) = n := by
      apply Fin.ext
      show win0_5.index t (1 : Fin 2) * 128 + 1 * n.val = _; rw [e1]; omega
    refine Eq.trans (tile5 m c t r n) ?_
    show _ = resR m c (((cfg0.win 5).blk t).view.emb (ix2 r n) (0 : Fin 2)).val (((cfg0.win 5).blk t).view.emb (ix2 r n) (1 : Fin 2))
    rw [p0, p1]
  · obtain ⟨R, C, rfl⟩ : ∃ (R : Fin 16384) (C : Fin 128), ix2 R C = (i : S16384x128.Idx) := ⟨(i : S16384x128.Idx) 0, (i : S16384x128.Idx) 1, funext fun a => by match a with | ⟨0, _⟩ => rfl | ⟨1, _⟩ => rfl⟩
    have hN : grid0.N = 32 := by decide +kernel
    refine ⟨⟨R.val / 512, lt_of_lt_of_eq (b := 32) (by omega) hN.symm⟩, flush5 _, ?_⟩
    generalize hT : (⟨R.val / 512, lt_of_lt_of_eq (b := 32) (by omega) hN.symm⟩ : Fin cfg0.N) = t
    obtain ⟨e0, e1⟩ := idx5 t
    have e2 : t.val = R.val / 512 := by rw [← hT]
    have h := ((cfg0.win 5).blk t).view.emb_mem_set (ix2 (⟨R.val % 512, by omega⟩ : Fin 512) C)
    convert h using 1
    funext a; apply Fin.ext
    match a with
    | ⟨0, _⟩ => show R.val = win0_5.index t (0 : Fin 2) * 512 + 1 * (R.val % 512); rw [e0, e2]; omega
    | ⟨1, _⟩ => show C.val = win0_5.index t (1 : Fin 2) * 128 + 1 * C.val; rw [e1]; omega

end Cert.Kernel6Ideal.Lat

end
-- ==== Proof.LatRef.lean ====
/-
  The reference's MLA input projection, element by element.
-/
module

public import proofs.«01_k».proof.Proof.Gen.Reference6Ideal.Read
public import proofs.«01_k».proof.Proof.Rows

@[expose] public section

noncomputable section

namespace Cert.Reference6Ideal.Lat

open Idealize.ShloMosaic Idealize.ShloMosaic.TcCoe Cert.Reference6Ideal Cert.Reference6Ideal.Gen Cert.Reference6Ideal.Read Cert.Rows

variable (x : FVec Ideal S4x4096x4096 .f32) (g : FVec Ideal S4096 .f32) (wl : FVec Ideal S4096x1536 .f32) (wr : FVec Ideal S4096x128 .f32)

theorem zero0 : val_main_cst (F := Ideal) (Shape.Idx.first h_S_) = (0 : EReal) := by rw [val_main_cst_apply]; exact Ideal.ofBits_zero _

/-- The normalised input. -/
theorem v12_apply (b : Fin 4) (s k : Fin 4096) : val_main_v12 (F := Ideal) x g (ix3 b s k) = norm d4096 (fun j => x (ix3 b s j)) (fun j => g (ix1 j)) k := by
  pointwise [val_main_v12, val_main_v11, val_main_v10, val_main_v9, val_main_v8, val_main_v7, val_main_v6, val_main_v5, val_main_v4, val_main_v3, val_main_v2, val_main_v1, val_main_v0]
  rw [zero0, zero_add]
  rfl

/-- The two projections. -/
theorem v13_apply (b : Fin 4) (s : Fin 4096) (n : Fin 1536) : val_main_v13 (F := Ideal) x g wl (ix3 b s n)
    = proj d4096 (fun j => x (ix3 b s j)) (fun j => g (ix1 j)) (fun j => wl (ix2 j n)) := by
  pointwise [val_main_v13]
  simp only [v12_apply]
  rfl
theorem v16_apply (b : Fin 4) (s : Fin 4096) (n : Fin 128) : val_main_v16 (F := Ideal) x g wr (ix3 b s n)
    = proj d4096 (fun j => x (ix3 b s j)) (fun j => g (ix1 j)) (fun j => wr (ix2 j n)) := by
  pointwise [val_main_v16]
  simp only [v12_apply]
  rfl

/-- THE REFERENCE'S RESULTS. -/
theorem v15_apply (R : Fin 16384) (n : Fin 1536) : val_main_v15 (F := Ideal) x g wl (ix2 R n)
    = proj d4096 (fun j => x (ix3 (⟨R.val / 4096, by omega⟩ : Fin 4) (⟨R.val % 4096, by omega⟩ : Fin 4096) j)) (fun j => g (ix1 j)) (fun j => wl (ix2 j n)) := by
  show val_main_v14 (F := Ideal) x g wl (ix2 R n) = _
  rw [val_main_v14_apply, ← v13_apply]
  congr 1
  funext a
  apply Fin.ext
  match a with
  | ⟨0, _⟩ => show (R.val * 1536 + n.val) / 6291456 = R.val / 4096; omega
  | ⟨1, _⟩ => show (R.val * 1536 + n.val) / 1536 % 4096 = R.val % 4096; omega
  | ⟨2, _⟩ => show (R.val * 1536 + n.val) % 1536 = n.val; omega

theorem v17_apply (R : Fin 16384) (n : Fin 128) : val_main_v17 (F := Ideal) x g wr (ix2 R n)
    = proj d4096 (fun j => x (ix3 (⟨R.val / 4096, by omega⟩ : Fin 4) (⟨R.val % 4096, by omega⟩ : Fin 4096) j)) (fun j => g (ix1 j)) (fun j => wr (ix2 j n)) := by
  rw [val_main_v17_apply, ← v16_apply]
  congr 1
  funext a
  apply Fin.ext
  match a with
  | ⟨0, _⟩ => show (R.val * 128 + n.val) / 524288 = R.val / 4096; omega
  | ⟨1, _⟩ => show (R.val * 128 + n.val) / 128 % 4096 = R.val % 4096; omega
  | ⟨2, _⟩ => show (R.val * 128 + n.val) % 128 = n.val; omega

end Cert.Reference6Ideal.Lat

end
-- ==== Proof.LatClaim.lean ====
/-
  The value claim about the MLA input projection's call.
-/
module

public import proofs.«01_k».proof.Defs
public import proofs.«01_k».proof.Proof.LatVal
public import proofs.«01_k».proof.Proof.LatRef
public import proofs.«01_k».proof.Proof.Gen.Reference6Ideal.Run

@[expose] public section

noncomputable section

namespace Cert.Proof

open Idealize.ShloMosaic Idealize.ShloMosaic.TcCoe Idealize.SL.Sem

section
open Cert.Kernel6Ideal Cert.Kernel6Ideal.Lat

variable (m : (ℓ : Loc nD τ sig) → Buf (Elt Ideal) ℓ) (c : Dev nD)

/-- Row `R` of the kernel's text is the reference's. -/
theorem row6 (R : Fin 16384) : row m c R.val = fun j => aX m c (ix3 (⟨R.val / 4096, by omega⟩ : Fin 4) (⟨R.val % 4096, by omega⟩ : Fin 4096) j) := by
  funext j
  unfold row
  congr 2
  apply Fin.ext
  show R.val / 4096 % 4 = R.val / 4096
  omega

/-- The reference's results are the same functions of the arguments. -/
theorem ref6_L : Cert.Reference6Ideal.Read.val_main_v15 (F := Ideal) (aX m c) (aG m c) (aL m c) = arrL m c := by
  funext p
  obtain ⟨R, C, rfl⟩ : ∃ (R : Fin 16384) (C : Fin 1536), ix2 R C = p := ⟨p 0, p 1, funext fun a => by match a with | ⟨0, _⟩ => rfl | ⟨1, _⟩ => rfl⟩
  rw [Cert.Reference6Ideal.Lat.v15_apply]
  show _ = resL m c R.val C
  unfold resL
  rw [row6]
  rfl
theorem ref6_R : Cert.Reference6Ideal.Read.val_main_v17 (F := Ideal) (aX m c) (aG m c) (aR m c) = arrR m c := by
  funext p
  obtain ⟨R, C, rfl⟩ : ∃ (R : Fin 16384) (C : Fin 128), ix2 R C = p := ⟨p 0, p 1, funext fun a => by match a with | ⟨0, _⟩ => rfl | ⟨1, _⟩ => rfl⟩
  rw [Cert.Reference6Ideal.Lat.v17_apply]
  show _ = resR m c R.val C
  unfold resR
  rw [row6]
  rfl
end

/-- THE VALUE CLAIM of the MLA input projection. -/
theorem algebraic_lat : Cert.algebraic_Kernel6Ideal_Reference6Ideal (hKernel6Ideal := Cert.Kernel6Ideal.Gen.facts) (hReference6Ideal := Cert.Reference6Ideal.Gen.facts) :=
  fun m ρ m' ρ' _ hag => ⟨Cert.Kernel6Ideal.Lat.arrL m, Cert.Kernel6Ideal.Lat.arrR m,
    (θ_run _ _ _).mono (fun _ h c => ⟨(h c).1.trans (Cert.Kernel6Ideal.Lat.final4 m c), (h c).2.1.trans (Cert.Kernel6Ideal.Lat.final5 m c), (h c).2.2⟩)
      (Cert.Kernel6Ideal.Value.run_blocks m ρ),
    (θ_run _ _ _).mono (fun _ h c => ⟨(h c).1.trans ((Cert.Reference6Ideal.Read.val_main_v15_eq _ _ _).trans (by
          obtain ⟨h0, h1, h2, h3⟩ := hag c
          rw [h0, h1, h2]
          exact ref6_L m c)),
        (h c).2.1.trans ((Cert.Reference6Ideal.Read.val_main_v17_eq _ _ _).trans (by
          obtain ⟨h0, h1, h2, h3⟩ := hag c
          rw [h0, h1, h3]
          exact ref6_R m c)), (h c).2.2⟩)
      (Cert.Reference6Ideal.Value.run m' ρ')⟩

end Cert.Proof

end
-- ==== Proof.lean ====
/- The claims about the calls of the layer, put together: the runs' frames, the named mask and the value claims. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.AttnClaim
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.FfnBits
public import proofs.«01_k».proof.Proof.FfnClaim
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.InpClaim
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.OaClaim
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.ObClaim
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.LatClaim
public import Idealize.ShloMosaic.Adequacy
public import Idealize.ShloMosaic.Init

@[expose] public section

noncomputable section

namespace Cert.Proof

open Idealize.ShloMosaic Idealize.SL.Sem

/-- The reference of the attention runs, keeps its arguments and leaves every semaphore at zero. -/
theorem frame_reference : Cert.quiescent_ReferenceIdeal (hReferenceIdeal := Cert.ReferenceIdeal.Gen.facts) :=
  fun m ρ _ => (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

/-- So does the reference of the feed-forward sub-layer. -/
theorem frame_reference2 : Cert.quiescent_Reference2Ideal (hReference2Ideal := Cert.Reference2Ideal.Gen.facts) :=
  fun m ρ _ => (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- And the reference of the input projection of the windowed attention. -/
theorem frame_reference3 : Cert.quiescent_Reference3Ideal (hReference3Ideal := Cert.Reference3Ideal.Gen.facts) :=
  fun m ρ _ => (θ_run Cert.Reference3Ideal.defs _ _).mono
    (fun r h => ⟨fun c => (h c).2.2, Idealize.ShloMosaic.sem_eq_zero_of_no_sems (by decide) r.2⟩)
    (Cert.Reference3Ideal.Value.run (F := Ideal) m ρ)

/-- And the reference of the first output projection. -/
theorem frame_reference4 : Cert.quiescent_Reference4Ideal (hReference4Ideal := Cert.Reference4Ideal.Gen.facts) :=
  fun m ρ _ => (θ_run Cert.Reference4Ideal.defs _ _).mono
    (fun r h => ⟨fun c => (h c).2, Idealize.ShloMosaic.sem_eq_zero_of_no_sems (by decide) r.2⟩)
    (Cert.Reference4Ideal.Value.run (F := Ideal) m ρ)

/-- And the reference of the second output projection. -/
theorem frame_reference5 : Cert.quiescent_Reference5Ideal (hReference5Ideal := Cert.Reference5Ideal.Gen.facts) :=
  fun m ρ _ => (θ_run Cert.Reference5Ideal.defs _ _).mono
    (fun r h => ⟨fun c => (h c).2, Idealize.ShloMosaic.sem_eq_zero_of_no_sems (by decide) r.2⟩)
    (Cert.Reference5Ideal.Value.run (F := Ideal) m ρ)

/-- And the reference of the latent input projection. -/
theorem frame_reference6 : Cert.quiescent_Reference6Ideal (hReference6Ideal := Cert.Reference6Ideal.Gen.facts) :=
  fun m ρ _ => (θ_run Cert.Reference6Ideal.defs _ _).mono
    (fun r h => ⟨fun c => (h c).2.2, Idealize.ShloMosaic.sem_eq_zero_of_no_sems (by decide) r.2⟩)
    (Cert.Reference6Ideal.Value.run (F := Ideal) m ρ)

/-- All that is claimed. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Pre_keys_finite.facts_hold,
    fun m ρ _ => Cert.Kernel.Gen.frame m ρ,
    fun m ρ _ => Cert.KernelIdeal.Gen.frame m ρ,
    fun m ρ _ => Cert.KernelIdeal.Gen.frame m ρ,
    frame_reference,
    fun m ρ _ => (θ_run Cert.ReferenceIdeal.defs _ _).mono
      (fun r h => ⟨fun c => (h c).2.2.2, Idealize.ShloMosaic.sem_eq_zero_of_no_sems (by decide) r.2⟩)
      (Cert.ReferenceIdeal.Value.run (F := Ideal) m ρ),
    Cert.Kernel2Ideal.Ffn.frame_bits,
    fun m ρ _ => Cert.Kernel2Ideal.Ffn.frame m ρ,
    frame_reference2,
    fun m ρ _ => Cert.Kernel3.Gen.frame m ρ,
    fun m ρ _ => Cert.Kernel3Ideal.Gen.frame m ρ,
    frame_reference3,
    fun m ρ _ => Cert.Kernel4.Gen.frame m ρ,
    fun m ρ _ => Cert.Kernel4Ideal.Gen.frame m ρ,
    frame_reference4,
    fun m ρ _ => Cert.Kernel5.Gen.frame m ρ,
    fun m ρ _ => Cert.Kernel5Ideal.Gen.frame m ρ,
    frame_reference5,
    fun m ρ _ => Cert.Kernel6.Gen.frame m ρ,
    fun m ρ _ => Cert.Kernel6Ideal.Gen.frame m ρ,
    frame_reference6,
    preserves_mla, algebraic_mla, trivial, algebraic_ffn, trivial, algebraic_inp, trivial, algebraic_oa, trivial, algebraic_ob, trivial, algebraic_lat⟩

end Cert.Proof

end
